-- ==== Defs.lean ====
def Pre_Kernel [hPre_ids_sorted : Cert.Pre_ids_sorted.Facts] (m : (ℓ : Loc Cert.Kernel.nD Cert.Kernel.τ Cert.Kernel.sig) → Buf (Elt Bits) ℓ) : Prop :=
  ∀ c : Dev Cert.Kernel.nD,
    (Cert.Pre_ids_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_ids_sorted : Cert.Pre_ids_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel) (hPre_ids_sorted := hPre_ids_sorted)
    ∧ quiescent_KernelIdeal (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal (hKernelIdeal := hKernelIdeal) (hReferenceIdeal := hReferenceIdeal) (hPre_ids_sorted := hPre_ids_sorted)
-- ==== Pre_ids_sorted.lean ====
abbrev S3x1024x128256 : Shape := ⟨3, ![3, 1024, 128256]⟩
abbrev S3x1024x167 : Shape := ⟨3, ![3, 1024, 167]⟩
abbrev S3x1024x1536 : Shape := ⟨3, ![3, 1024, 1536]⟩
abbrev S3x1024 : Shape := ⟨2, ![3, 1024]⟩
abbrev S3072x1536 : Shape := ⟨2, ![3072, 1536]⟩
abbrev S3072 : Shape := ⟨1, ![3072]⟩
abbrev S128256x1536 : Shape := ⟨2, ![128256, 1536]⟩
abbrev S128256 : Shape := ⟨1, ![128256]⟩
abbrev S_ : Shape := ⟨0, ![]⟩
abbrev S1 : Shape := ⟨1, ![1]⟩
abbrev S3071 : Shape := ⟨1, ![3071]⟩

class Facts : Prop where
  bcast_S_S1 : S_.BroadcastsInDim S1 (![] : Fin 0 → Fin S1.rank)
  slices_S3072_S3071_0 : S3072.Slices ![0] S3071
  concatenates_S1_S3071_S3072_d0 : Shape.Concatenates [S1, S3071] S3072 0

variable [Facts]

def fn {F : FTy → Type} [FloatOps F] (main_arg0 : FVec F S3x1024x128256 .fp8e5m2) (main_arg1 : FVec F S3x1024x167 .f32) (main_arg2 : FVec F S3x1024x1536 .fp8e4m3) (main_arg3 : FVec F S3x1024 .f32) (main_arg4 : FVec F S3072x1536 .fp8e5m2) (main_arg5 : FVec F S3072 .f32) (main_arg6 : IVec S3072 32) (main_arg7 : FVec F S128256x1536 .fp8e4m3) (main_arg8 : FVec F S128256 .f32) : IVec S3072 1 :=
  let main_c : IVec S_ 32 := constantI S_ 32 0#32
  let main_v0 : IVec S1 32 := broadcastInDim S1 ![] bcast_S_S1 main_c
  let main_v1 : IVec S3071 32 := (extractStridedSlice S3071 ![0] · slices_S3072_S3071_0) main_arg6
  let main_v2 : IVec S3072 32 := (fun a b => concatenate S3072 0 [⟨S1, a⟩, ⟨S3071, b⟩] concatenates_S1_S3071_S3072_d0) main_v0 main_v1
  let main_v3 : IVec S3072 1 := cmpi .sge main_arg6 main_v2
  main_v3
-- ==== Kernel.lean ====
abbrev S3x1024x128256 : Shape := ⟨3, ![3, 1024, 128256]⟩
abbrev S3x1024x167 : Shape := ⟨3, ![3, 1024, 167]⟩
abbrev S3x1024x1536 : Shape := ⟨3, ![3, 1024, 1536]⟩
abbrev S3x1024 : Shape := ⟨2, ![3, 1024]⟩
abbrev S3072x1536 : Shape := ⟨2, ![3072, 1536]⟩
abbrev S3072 : Shape := ⟨1, ![3072]⟩
abbrev S128256x1536 : Shape := ⟨2, ![128256, 1536]⟩
abbrev S128256 : Shape := ⟨1, ![128256]⟩
abbrev S3072x128256 : Shape := ⟨2, ![3072, 128256]⟩
abbrev S3072x167 : Shape := ⟨2, ![3072, 167]⟩
abbrev S3072x1 : Shape := ⟨2, ![3072, 1]⟩
abbrev S1002x128 : Shape := ⟨2, ![1002, 128]⟩
abbrev S3072x768 : Shape := ⟨2, ![3072, 768]⟩
abbrev S3072x128 : Shape := ⟨2, ![3072, 128]⟩
abbrev S768x1536 : Shape := ⟨2, ![768, 1536]⟩
abbrev S1536x3072 : Shape := ⟨2, ![1536, 3072]⟩
abbrev S768x128 : Shape := ⟨2, ![768, 128]⟩
abbrev S256x1536 : Shape := ⟨2, ![256, 1536]⟩
abbrev S32x1536 : Shape := ⟨2, ![32, 1536]⟩
abbrev S_ : Shape := ⟨0, ![]⟩
abbrev S1 : Shape := ⟨1, ![1]⟩
abbrev S256x256 : Shape := ⟨2, ![256, 256]⟩
abbrev S256x1 : Shape := ⟨2, ![256, 1]⟩
abbrev S256x128 : Shape := ⟨2, ![256, 128]⟩
abbrev S128x256 : Shape := ⟨2, ![128, 256]⟩
abbrev S256x128x1 : Shape := ⟨3, ![256, 128, 1]⟩
abbrev S1x128 : Shape := ⟨2, ![1, 128]⟩
abbrev S128x128 : Shape := ⟨2, ![128, 128]⟩
abbrev S1x1536 : Shape := ⟨2, ![1, 1536]⟩

abbrev nBuf : Space → Nat
  | .hbm => 16
  | .vmem => 17
  | .smem => 3
  | _ => 0

abbrev bufTy : (tb : Table) → Fin (tcTables nBuf tb) → BufTy
  | .hbm, ⟨0, _⟩ => ⟨S3x1024x128256, .fp8e5m2⟩
  | .hbm, ⟨1, _⟩ => ⟨S3x1024x167, .f32⟩
  | .hbm, ⟨2, _⟩ => ⟨S3x1024x1536, .fp8e4m3⟩
  | .hbm, ⟨3, _⟩ => ⟨S3x1024, .f32⟩
  | .hbm, ⟨4, _⟩ => ⟨S3072x1536, .fp8e5m2⟩
  | .hbm, ⟨5, _⟩ => ⟨S3072, .f32⟩
  | .hbm, ⟨6, _⟩ => ⟨S128256x1536, .fp8e4m3⟩
  | .hbm, ⟨7, _⟩ => ⟨S128256, .f32⟩
  | .hbm, ⟨8, _⟩ => ⟨S3072x128256, .fp8e5m2⟩
  | .hbm, ⟨9, _⟩ => ⟨S3072x167, .f32⟩
  | .hbm, ⟨10, _⟩ => ⟨S3072x1536, .fp8e4m3⟩
  | .hbm, ⟨11, _⟩ => ⟨S3072x1, .f32⟩
  | .hbm, ⟨12, _⟩ => ⟨S1002x128, .f32⟩
  | .hbm, ⟨13, _⟩ => ⟨S128256x1536, .f32⟩
  | .hbm, ⟨14, _⟩ => ⟨S3072x1536, .f32⟩
  | .hbm, ⟨15, _⟩ => ⟨S3x1024x1536, .f32⟩
  | .local _ .vmem, ⟨0, _⟩ => ⟨S3072x768, .fp8e5m2⟩
  | .local _ .vmem, ⟨1, _⟩ => ⟨S3072x768, .fp8e5m2⟩
  | .local _ .vmem, ⟨2, _⟩ => ⟨S3072x128, .f32⟩
  | .local _ .vmem, ⟨3, _⟩ => ⟨S3072x128, .f32⟩
  | .local _ .vmem, ⟨4, _⟩ => ⟨S768x1536, .fp8e4m3⟩
  | .local _ .vmem, ⟨5, _⟩ => ⟨S768x1536, .fp8e4m3⟩
  | .local _ .vmem, ⟨6, _⟩ => ⟨S1002x128, .f32⟩
  | .local _ .vmem, ⟨7, _⟩ => ⟨S3072x1, .f32⟩
  | .local _ .vmem, ⟨8, _⟩ => ⟨S768x1536, .f32⟩
  | .local _ .vmem, ⟨9, _⟩ => ⟨S768x1536, .f32⟩
  | .local _ .vmem, ⟨10, _⟩ => ⟨S3072x1536, .f32⟩
  | .local _ .vmem, ⟨11, _⟩ => ⟨S1536x3072, .bf16⟩
  | .local _ .vmem, ⟨12, _⟩ => ⟨S3072x128, .bf16⟩
  | .local _ .vmem, ⟨13, _⟩ => ⟨S768x128, .bf16⟩
  | .local _ .vmem, ⟨14, _⟩ => ⟨S256x1536, .fp8e4m3⟩
  | .local _ .vmem, ⟨15, _⟩ => ⟨S32x1536, .fp8e5m2⟩
  | .local _ .vmem, ⟨16, _⟩ => ⟨S32x1536, .f32⟩
  | .local _ .smem, ⟨0, _⟩ => ⟨S3072, .i32⟩
  | .local _ .smem, ⟨1, _⟩ => ⟨S3072, .f32⟩
  | .local _ .smem, ⟨2, _⟩ => ⟨S1, .i32⟩
  | _, _ => ⟨S3x1024x128256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_arg6 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg0_0 : Ref sig .tc := ⟨.smem, 1, rfl⟩
abbrev cc0_scratch7 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![167], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_r0 : BitVec 32 := 0#32
  let v4_r0 : BitVec 1 := Scalar.cmpi .eq arg0 c0_i32_r0
  let v5_r0 : BitVec 32 := Scalar.extui v4_r0
  let c0_i32_1_r0 : BitVec 32 := 0#32
  let v6_r0 : BitVec 1 := Scalar.cmpi .ne v5_r0 c0_i32_1_r0
  v6_r0

@[reducible] def k0_t1_loop : Scf.Loop 32 :=
  let c0_i32_2355_r0 : BitVec 32 := 0#32
  let c12_i32_r0 : BitVec 32 := 12#32
  let v3108_r0 : BitVec 32 := Scalar.addi c0_i32_2355_r0 c12_i32_r0
  let c1_i32_2356_r0 : BitVec 32 := 1#32
  ⟨c0_i32_2355_r0, v3108_r0, c1_i32_2356_r0⟩
def k0_mult1 (k0_t1 : Fin k0_t1_loop.trips) : BitVec 32 :=
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  v3111_r0
def k0_off1 (k0_t1 : Fin k0_t1_loop.trips) : Fin 2 → Nat :=
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let c0_i32_2360_r0 : BitVec 32 := 0#32
  ![v3112_r0.toNat, 0]
def k0_off2 (k0_t1 : Fin k0_t1_loop.trips) : Fin 2 → Nat :=
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3115_r0 : Index := Scalar.indexCast v3112_r0
  let c0_2362_r0 : Index := 0#32
  ![v3115_r0.toNat, 0]
def k0_off3 (k0_t1 : Fin k0_t1_loop.trips) : Fin 2 → Nat :=
  let c0_2365_r0 : Index := 0#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3125_r0 : Index := Scalar.indexCast v3112_r0
  ![0, v3125_r0.toNat]
def k0_off4 (k0_t1 : Fin k0_t1_loop.trips) : Fin 2 → Nat :=
  let c128_2368_r0 : Index := 128#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3133_r0 : Index := Scalar.indexCast v3112_r0
  ![128, v3133_r0.toNat]
def k0_off5 (k0_t1 : Fin k0_t1_loop.trips) : Fin 2 → Nat :=
  let c256_2371_r0 : Index := 256#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3141_r0 : Index := Scalar.indexCast v3112_r0
  ![256, v3141_r0.toNat]
def k0_off6 (k0_t1 : Fin k0_t1_loop.trips) : Fin 2 → Nat :=
  let c384_2374_r0 : Index := 384#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3149_r0 : Index := Scalar.indexCast v3112_r0
  ![384, v3149_r0.toNat]
def k0_off7 (k0_t1 : Fin k0_t1_loop.trips) : Fin 2 → Nat :=
  let c512_2377_r0 : Index := 512#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3157_r0 : Index := Scalar.indexCast v3112_r0
  ![512, v3157_r0.toNat]
def k0_off8 (k0_t1 : Fin k0_t1_loop.trips) : Fin 2 → Nat :=
  let c640_2380_r0 : Index := 640#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3165_r0 : Index := Scalar.indexCast v3112_r0
  ![640, v3165_r0.toNat]
def k0_off9 (k0_t1 : Fin k0_t1_loop.trips) : Fin 2 → Nat :=
  let c768_2383_r0 : Index := 768#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3173_r0 : Index := Scalar.indexCast v3112_r0
  ![768, v3173_r0.toNat]
def k0_off10 (k0_t1 : Fin k0_t1_loop.trips) : Fin 2 → Nat :=
  let c896_2385_r0 : Index := 896#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3181_r0 : Index := Scalar.indexCast v3112_r0
  ![896, v3181_r0.toNat]
def k0_off11 (k0_t1 : Fin k0_t1_loop.trips) : Fin 2 → Nat :=
  let c1024_2388_r0 : Index := 1024#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3189_r0 : Index := Scalar.indexCast v3112_r0
  ![1024, v3189_r0.toNat]
def k0_off12 (k0_t1 : Fin k0_t1_loop.trips) : Fin 2 → Nat :=
  let c1152_2390_r0 : Index := 1152#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3197_r0 : Index := Scalar.indexCast v3112_r0
  ![1152, v3197_r0.toNat]
def k0_off13 (k0_t1 : Fin k0_t1_loop.trips) : Fin 2 → Nat :=
  let c1280_2393_r0 : Index := 1280#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3205_r0 : Index := Scalar.indexCast v3112_r0
  ![1280, v3205_r0.toNat]
def k0_off14 (k0_t1 : Fin k0_t1_loop.trips) : Fin 2 → Nat :=
  let c1408_2395_r0 : Index := 1408#32
  let c0_i32_2359_r0 : BitVec 32 := 0#32
  let c0_i32_2355_r0 : BitVec 32 := 0#32
  let c1_i32_2356_r0 : BitVec 32 := 1#32
  let arg20_r0 : BitVec 32 := Scf.iv c0_i32_2355_r0 c1_i32_2356_r0 k0_t1
  let c1_i32_2358_r0 : BitVec 32 := 1#32
  let v3109_r0 : BitVec 32 := Scalar.muli arg20_r0 c1_i32_2358_r0
  let v3110_r0 : BitVec 32 := Scalar.addi c0_i32_2359_r0 v3109_r0
  let c256_i32_r0 : BitVec 32 := 256#32
  let v3111_r0 : BitVec 32 := Scalar.muli v3110_r0 c256_i32_r0
  let v3112_r0 : BitVec 32 := v3111_r0
  let v3213_r0 : Index := Scalar.indexCast v3112_r0
  ![1408, v3213_r0.toNat]
def k0_off15 (i : grid0.Coords) (c0_i32_133_r0 : BitVec 32) : Fin 2 → Nat :=
  let arg0 : BitVec 32 := BitVec.ofNat 32 (i 0).val
  let c6_i32_r0 : BitVec 32 := 6#32
  let v307_r0 : BitVec 32 := Scalar.muli arg0 c6_i32_r0
  let v308_r0 : BitVec 32 := Scalar.addi v307_r0 c0_i32_133_r0
  let v309_r0 : Index := Scalar.indexCast v308_r0
  let c0_134_r0 : Index := 0#32
  ![v309_r0.toNat, 0]
def k0_off16 (arg20 : BitVec 32) : Fin 1 → Nat :=
  let c3071_i32 : BitVec 32 := 3071#32
  let v5 : BitVec 32 := Scalar.minsi arg20 c3071_i32
  let v6 : Index := Scalar.indexCast v5
  ![v6.toNat]

def k0_chk1 (arg20 : BitVec 32) : Prop :=
  (∀ a, (k0_off16 arg20) a + S1.size a ≤ S3072.size a)
theorem k0_off16_inb : ∀ (arg20 : BitVec 32) (k0_hw1 : k0_chk1 arg20), ∀ a, (k0_off16 arg20) a + S1.size a ≤ S3072.size a := fun arg20 k0_hw1 => k0_hw1

def k0_mult2 (arg20 : BitVec 32) : BitVec 32 :=
  arg20
def k0_cond2 (arg20 : BitVec 32) : BitVec 1 :=
  let c32_i32 : BitVec 32 := 32#32
  let c0_i32 : BitVec 32 := 0#32
  let v4 : BitVec 1 := Scalar.cmpi .eq c32_i32 c0_i32
  let c1_i32 : BitVec 32 := 1#32
  let v5 : BitVec 32 := Scalar.select v4 c1_i32 c32_i32
  let v6 : BitVec 32 := Scalar.remsi arg20 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c0_i32_4 : BitVec 32 := 0#32
  let v14 : BitVec 1 := Scalar.cmpi .eq v13 c0_i32_4
  let v15 : BitVec 32 := Scalar.extui v14
  let c0_i32_5 : BitVec 32 := 0#32
  let v16 : BitVec 1 := Scalar.cmpi .ne v15 c0_i32_5
  v16

def k0_off17 (arg20 : BitVec 32) : Fin 2 → Nat :=
  let v43 : BitVec 32 := arg20
  let c0_i32_16 : BitVec 32 := 0#32
  ![v43.toNat, 0]
def k0_off18 (arg20 : BitVec 32) : Fin 1 → Nat :=
  let v17 : Index := Scalar.indexCast arg20
  ![v17.toNat]
def k0_off19 (i : grid0.Coords) (v18 : BitVec 32) : Fin 2 → Nat :=
  let arg0 : BitVec 32 := BitVec.ofNat 32 (i 0).val
  let c768_i32 : BitVec 32 := 768#32
  let v0 : BitVec 32 := Scalar.muli arg0 c768_i32
  let v19 : BitVec 32 := Scalar.subi v18 v0
  let v20 : Index := Scalar.indexCast v19
  let c0_6 : Index := 0#32
  ![v20.toNat, 0]

def k0_chk3 (i : grid0.Coords) (v18 : BitVec 32) : Prop :=
  (∀ a, (k0_off19 i v18) a + S1x1536.size a ≤ S768x1536.size a)
theorem k0_off19_inb : ∀ (i : grid0.Coords) (v18 : BitVec 32) (k0_hw3 : k0_chk3 i v18), ∀ a, (k0_off19 i v18) a + S1x1536.size a ≤ S768x1536.size a := fun i v18 k0_hw3 => k0_hw3

def k0_off20 (arg20 : BitVec 32) : Fin 2 → Nat :=
  let c32_i32_7 : BitVec 32 := 32#32
  let c0_i32_8 : BitVec 32 := 0#32
  let v23 : BitVec 1 := Scalar.cmpi .eq c32_i32_7 c0_i32_8
  let c1_i32_9 : BitVec 32 := 1#32
  let v24 : BitVec 32 := Scalar.select v23 c1_i32_9 c32_i32_7
  let v25 : BitVec 32 := Scalar.remsi arg20 v24
  let c0_i32_11 : BitVec 32 := 0#32
  let v27 : BitVec 1 := Scalar.cmpi .slt v25 c0_i32_11
  let c0_i32_12 : BitVec 32 := 0#32
  let v28 : BitVec 1 := Scalar.cmpi .slt v24 c0_i32_12
  let v29 : BitVec 1 := Scalar.xori v27 v28
  let c0_i32_10 : BitVec 32 := 0#32
  let v26 : BitVec 1 := Scalar.cmpi .ne v25 c0_i32_10
  let v30 : BitVec 1 := Scalar.andi v29 v26
  let v31 : BitVec 32 := Scalar.addi v25 v24
  let v32 : BitVec 32 := Scalar.select v30 v31 v25
  let v33 : Index := Scalar.indexCast v32
  let c0_13 : Index := 0#32
  ![v33.toNat, 0]
def k0_off21 (arg20 : BitVec 32) : Fin 1 → Nat :=
  let v35 : Index := Scalar.indexCast arg20
  ![v35.toNat]

def k0_chk2 (arg20 : BitVec 32) : Prop :=
  (∀ (k0_h2 : k0_cond2 arg20 = 1#1), 32 ∣ (k0_mult2 arg20).toNat) ∧
  (∀ (k0_h2 : k0_cond2 arg20 = 1#1), ∀ a, (k0_off17 arg20) a + S32x1536.size a ≤ S3072x1536.size a) ∧
  (∀ (k0_h2 : k0_cond2 arg20 = 1#1), ∀ (hinb : ∀ a, (k0_off17 arg20) a + S32x1536.size a ≤ S3072x1536.size a), (Rect.unit (s := S3072x1536) (k0_off17 arg20) S32x1536.size hinb).WholeWords (EltTy.packing .fp8e5m2)) ∧
  (∀ a, (k0_off18 arg20) a + S1.size a ≤ S3072.size a) ∧
  (∀ a, (k0_off20 arg20) a + S1x1536.size a ≤ S32x1536.size a) ∧
  (∀ a, (k0_off21 arg20) a + S1.size a ≤ S3072.size a)
theorem k0_mult2_dvd : ∀ (arg20 : BitVec 32) (k0_hw2 : k0_chk2 arg20), ∀ (k0_h2 : k0_cond2 arg20 = 1#1), 32 ∣ (k0_mult2 arg20).toNat := fun arg20 k0_hw2 k0_h2 => k0_hw2.1 k0_h2
theorem k0_off17_inb : ∀ (arg20 : BitVec 32) (k0_hw2 : k0_chk2 arg20), ∀ (k0_h2 : k0_cond2 arg20 = 1#1), ∀ a, (k0_off17 arg20) a + S32x1536.size a ≤ S3072x1536.size a := fun arg20 k0_hw2 k0_h2 => k0_hw2.2.1 k0_h2
theorem k0_off17_wordsfp8e5m2 : ∀ (arg20 : BitVec 32) (k0_hw2 : k0_chk2 arg20), ∀ (k0_h2 : k0_cond2 arg20 = 1#1), (Rect.unit (s := S3072x1536) (k0_off17 arg20) S32x1536.size (k0_off17_inb arg20 k0_hw2 k0_h2)).WholeWords (EltTy.packing .fp8e5m2) := fun arg20 k0_hw2 k0_h2 => k0_hw2.2.2.1 k0_h2 (k0_off17_inb arg20 k0_hw2 k0_h2)
theorem k0_off18_inb : ∀ (arg20 : BitVec 32) (k0_hw2 : k0_chk2 arg20), ∀ a, (k0_off18 arg20) a + S1.size a ≤ S3072.size a := fun arg20 k0_hw2 => k0_hw2.2.2.2.1
theorem k0_off20_inb : ∀ (arg20 : BitVec 32) (k0_hw2 : k0_chk2 arg20), ∀ a, (k0_off20 arg20) a + S1x1536.size a ≤ S32x1536.size a := fun arg20 k0_hw2 => k0_hw2.2.2.2.2.1
theorem k0_off21_inb : ∀ (arg20 : BitVec 32) (k0_hw2 : k0_chk2 arg20), ∀ a, (k0_off21 arg20) a + S1.size a ≤ S3072.size a := fun arg20 k0_hw2 => k0_hw2.2.2.2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x768 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1002x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3072x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S3x1024x128256 : Shape := ⟨3, ![3, 1024, 128256]⟩
abbrev S3x1024x167 : Shape := ⟨3, ![3, 1024, 167]⟩
abbrev S3x1024x1536 : Shape := ⟨3, ![3, 1024, 1536]⟩
abbrev S3x1024 : Shape := ⟨2, ![3, 1024]⟩
abbrev S3072x1536 : Shape := ⟨2, ![3072, 1536]⟩
abbrev S3072 : Shape := ⟨1, ![3072]⟩
abbrev S128256x1536 : Shape := ⟨2, ![128256, 1536]⟩
abbrev S128256 : Shape := ⟨1, ![128256]⟩
abbrev S3x1024x167x768 : Shape := ⟨4, ![3, 1024, 167, 768]⟩
abbrev S3x1024x167x1 : Shape := ⟨4, ![3, 1024, 167, 1]⟩
abbrev S3x1024x1 : Shape := ⟨3, ![3, 1024, 1]⟩
abbrev S3072x1 : Shape := ⟨2, ![3072, 1]⟩
abbrev S_ : Shape := ⟨0, ![]⟩
abbrev S128256x1 : Shape := ⟨2, ![128256, 1]⟩

abbrev nBuf : Space → Nat
  | .hbm => 37
  | .vmem => 8
  | .smem => 0
  | _ => 0

abbrev bufTy : (tb : Table) → Fin (tcTables nBuf tb) → BufTy
  | .hbm, ⟨0, _⟩ => ⟨S3x1024x128256, .fp8e5m2⟩
  | .hbm, ⟨1, _⟩ => ⟨S3x1024x167, .f32⟩
  | .hbm, ⟨2, _⟩ => ⟨S3x1024x1536, .fp8e4m3⟩
  | .hbm, ⟨3, _⟩ => ⟨S3x1024, .f32⟩
  | .hbm, ⟨4, _⟩ => ⟨S3072x1536, .fp8e5m2⟩
  | .hbm, ⟨5, _⟩ => ⟨S3072, .f32⟩
  | .hbm, ⟨6, _⟩ => ⟨S3072, .i32⟩
  | .hbm, ⟨7, _⟩ => ⟨S128256x1536, .fp8e4m3⟩
  | .hbm, ⟨8, _⟩ => ⟨S128256, .f32⟩
  | .hbm, ⟨9, _⟩ => ⟨S3x1024x128256, .bf16⟩
  | .hbm, ⟨10, _⟩ => ⟨S3x1024x1536, .bf16⟩
  | .hbm, ⟨11, _⟩ => ⟨S3072x1536, .f32⟩
  | .hbm, ⟨12, _⟩ => ⟨S128256x1536, .bf16⟩
  | .hbm, ⟨13, _⟩ => ⟨S3x1024x167x768, .bf16⟩
  | .hbm, ⟨14, _⟩ => ⟨S3x1024x167, .bf16⟩
  | .hbm, ⟨15, _⟩ => ⟨S3x1024x167x1, .bf16⟩
  | .hbm, ⟨16, _⟩ => ⟨S3x1024x167x768, .bf16⟩
  | .hbm, ⟨17, _⟩ => ⟨S3x1024x167x768, .bf16⟩
  | .hbm, ⟨18, _⟩ => ⟨S3x1024x128256, .bf16⟩
  | .hbm, ⟨19, _⟩ => ⟨S3x1024, .bf16⟩
  | .hbm, ⟨20, _⟩ => ⟨S3x1024x1, .bf16⟩
  | .hbm, ⟨21, _⟩ => ⟨S3x1024x1536, .bf16⟩
  | .hbm, ⟨22, _⟩ => ⟨S3x1024x1536, .bf16⟩
  | .hbm, ⟨23, _⟩ => ⟨S128256x1536, .f32⟩
  | .hbm, ⟨24, _⟩ => ⟨S3072x1, .f32⟩
  | .hbm, ⟨25, _⟩ => ⟨S3072x1536, .f32⟩
  | .hbm, ⟨26, _⟩ => ⟨S3072x1536, .f32⟩
  | .hbm, ⟨27, _⟩ => ⟨S_, .f32⟩
  | .hbm, ⟨28, _⟩ => ⟨S128256x1536, .f32⟩
  | .hbm, ⟨29, _⟩ => ⟨S3072x1, .i32⟩
  | .hbm, ⟨30, _⟩ => ⟨S128256x1536, .f32⟩
  | .hbm, ⟨31, _⟩ => ⟨S128256x1536, .f32⟩
  | .hbm, ⟨32, _⟩ => ⟨S128256, .bf16⟩
  | .hbm, ⟨33, _⟩ => ⟨S128256x1, .bf16⟩
  | .hbm, ⟨34, _⟩ => ⟨S128256x1536, .bf16⟩
  | .hbm, ⟨35, _⟩ => ⟨S128256x1536, .bf16⟩
  | .hbm, ⟨36, _⟩ => ⟨S3x1024x1536, .f32⟩
  | .local _ .vmem, ⟨0, _⟩ => ⟨S3x1024x128256, .fp8e5m2⟩
  | .local _ .vmem, ⟨1, _⟩ => ⟨S3x1024x1536, .fp8e4m3⟩
  | .local _ .vmem, ⟨2, _⟩ => ⟨S3072x1536, .fp8e5m2⟩
  | .local _ .vmem, ⟨3, _⟩ => ⟨S128256x1536, .fp8e4m3⟩
  | .local _ .vmem, ⟨4, _⟩ => ⟨S3x1024x128256, .bf16⟩
  | .local _ .vmem, ⟨5, _⟩ => ⟨S3x1024x1536, .bf16⟩
  | .local _ .vmem, ⟨6, _⟩ => ⟨S3072x1536, .f32⟩
  | .local _ .vmem, ⟨7, _⟩ => ⟨S128256x1536, .bf16⟩
  | _, _ => ⟨S3x1024x128256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x1024x128256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1536 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128256x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x128256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Idx.lean ====
/-
  Indices of one- and two-axis arrays.
-/
module

public import Idealize.ShloMosaic.Lib.Pipeline

@[expose] public section

namespace Cert.Idx

open Idealize.ShloMosaic

/-- The index `p` of a one-axis array. -/
def ix1 {n : Nat} (p : Fin n) : (⟨1, ![n]⟩ : Shape).Idx := fun a => ⟨p.val, by have : a = 0 := Subsingleton.elim _ _; subst this; exact p.isLt⟩

/-- The index `p, q` of a two-axis array. -/
def ix2 {n m : Nat} (p : Fin n) (q : Fin m) : (⟨2, ![n, m]⟩ : Shape).Idx := fun
  | ⟨0, _⟩ => p
  | ⟨1, _⟩ => q

theorem ix1_val {n : Nat} (p : Fin n) (a) : ((ix1 p) a).val = p.val := rfl

theorem ext1 {n : Nat} {x y : (⟨1, ![n]⟩ : Shape).Idx} (h : (x 0).val = (y 0).val) : x = y := by
  funext a
  have : a = 0 := Subsingleton.elim _ _
  subst this
  exact Fin.ext h

theorem ext2 {n m : Nat} {x y : (⟨2, ![n, m]⟩ : Shape).Idx} (h0 : (x 0).val = (y 0).val) (h1 : (x 1).val = (y 1).val) : x = y := by
  funext a
  match a with
  | ⟨0, _⟩ => exact Fin.ext h0
  | ⟨1, _⟩ => exact Fin.ext h1

theorem eta2 {n m : Nat} (x : (⟨2, ![n, m]⟩ : Shape).Idx) : ix2 (n := n) (m := m) (x 0) (x 1) = x := ext2 rfl rfl

end Cert.Idx

end
-- ==== Proof.PreSorted.lean ====
module

public import proofs.«01_k».proof.Pre_ids_sorted
public import proofs.«01_k».proof.Proof.Gen.Pre_ids_sorted
public import proofs.«01_k».proof.Proof.Idx
public import Idealize.ShloMosaic.Lib.Pipeline.Value

/-! What the precondition says of the token ids: none is negative and they never decrease. -/

@[expose] public section

noncomputable section

namespace Cert.PreSorted

open Idealize.ShloMosaic Cert.Pre_ids_sorted Cert.Pre_ids_sorted.Facts Cert.Idx

/-- A 32-bit comparison that came out true: the left is at least the right, as signed integers. -/
theorem sge_iff (a b : BitVec 32) (h : Scalar.cmpi .sge a b = 1#1) : b.toInt ≤ a.toInt := by
  have h' : BitVec.ofBool (b.sle a) = 1#1 := h
  have h2 : b.sle a = true := by
    cases hb : b.sle a
    · rw [hb] at h'; exact absurd h' (by decide)
    · rfl
  simpa [BitVec.sle] using h2

/-- The precondition, read: the first id is not negative, and each later one is at least the one before. -/
theorem steps (x : IVec S3072 32) (hx : (cmpi .sge x (concatenate S3072 0 [⟨S1, broadcastInDim S1 ![] bcast_S_S1 (constantI S_ 32 0#32)⟩,
      ⟨S3071, extractStridedSlice S3071 ![0] x slices_S3072_S3071_0⟩] concatenates_S1_S3071_S3072_d0) : IVec S3072 1) = fun _ => 1#1) :
    0 ≤ (x (ix1 (⟨0, by decide⟩ : Fin 3072))).toInt ∧
    ∀ (p : ℕ) (hp : p + 1 < 3072), (x (ix1 (⟨p, by omega⟩ : Fin 3072))).toInt ≤ (x (ix1 (⟨p + 1, hp⟩ : Fin 3072))).toInt := by
  constructor
  · have h := congrFun hx (ix1 (⟨0, by decide⟩ : Fin 3072))
    have hc : concatenate S3072 0 [⟨S1, broadcastInDim S1 ![] bcast_S_S1 (constantI S_ 32 0#32)⟩,
      ⟨S3071, extractStridedSlice S3071 ![0] x slices_S3072_S3071_0⟩] concatenates_S1_S3071_S3072_d0 (ix1 (⟨0, by decide⟩ : Fin 3072)) = 0#32 :=
      (concatenate_pair_apply_left 0 (broadcastInDim S1 ![] bcast_S_S1 (constantI S_ 32 0#32))
        (extractStridedSlice S3071 ![0] x slices_S3072_S3071_0) concatenates_S1_S3071_S3072_d0 _ rfl
        (ix1 (⟨0, by decide⟩ : Fin 1)) (fun b => by fin_cases b; rfl)).trans rfl
    have h2 : Scalar.cmpi .sge (x (ix1 (⟨0, by decide⟩ : Fin 3072))) (concatenate S3072 0 [⟨S1, broadcastInDim S1 ![] bcast_S_S1 (constantI S_ 32 0#32)⟩,
      ⟨S3071, extractStridedSlice S3071 ![0] x slices_S3072_S3071_0⟩] concatenates_S1_S3071_S3072_d0 (ix1 (⟨0, by decide⟩ : Fin 3072))) = 1#1 := h
    rw [hc] at h2
    exact sge_iff _ _ h2
  · intro p hp
    have h := congrFun hx (ix1 (⟨p + 1, hp⟩ : Fin 3072))
    have hc : concatenate S3072 0 [⟨S1, broadcastInDim S1 ![] bcast_S_S1 (constantI S_ 32 0#32)⟩,
      ⟨S3071, extractStridedSlice S3071 ![0] x slices_S3072_S3071_0⟩] concatenates_S1_S3071_S3072_d0 (ix1 (⟨p + 1, hp⟩ : Fin 3072))
        = x (ix1 (⟨p, by omega⟩ : Fin 3072)) :=
      (concatenate_pair_apply_right 0 (broadcastInDim S1 ![] bcast_S_S1 (constantI S_ 32 0#32))
        (extractStridedSlice S3071 ![0] x slices_S3072_S3071_0) concatenates_S1_S3071_S3072_d0 _ rfl rfl
        (ix1 (⟨p, by omega⟩ : Fin 3071)) (fun b hb => absurd (Subsingleton.elim _ _) hb) rfl).trans
        (congrArg x (by
          apply ext1
          show 0 + p = p
          omega))
    have h2 : Scalar.cmpi .sge (x (ix1 (⟨p + 1, hp⟩ : Fin 3072))) (concatenate S3072 0 [⟨S1, broadcastInDim S1 ![] bcast_S_S1 (constantI S_ 32 0#32)⟩,
      ⟨S3071, extractStridedSlice S3071 ![0] x slices_S3072_S3071_0⟩] concatenates_S1_S3071_S3072_d0 (ix1 (⟨p + 1, hp⟩ : Fin 3072))) = 1#1 := h
    rw [hc] at h2
    exact sge_iff _ _ h2

/-- Under the precondition every id is below 2³¹ and the ids never decrease. -/
theorem sorted (x : IVec S3072 32) (hx : (cmpi .sge x (concatenate S3072 0 [⟨S1, broadcastInDim S1 ![] bcast_S_S1 (constantI S_ 32 0#32)⟩,
      ⟨S3071, extractStridedSlice S3071 ![0] x slices_S3072_S3071_0⟩] concatenates_S1_S3071_S3072_d0) : IVec S3072 1) = fun _ => 1#1) :
    (∀ p : Fin 3072, (x (ix1 p)).toNat < 2 ^ 31) ∧ ∀ p q : Fin 3072, p.val ≤ q.val → (x (ix1 p)).toNat ≤ (x (ix1 q)).toNat := by
  obtain ⟨h0, h1⟩ := steps x hx
  have mono : ∀ (d p : ℕ) (h : p + d < 3072), (x (ix1 (⟨p, by omega⟩ : Fin 3072))).toInt ≤ (x (ix1 (⟨p + d, h⟩ : Fin 3072))).toInt := by
    intro d
    induction d with
    | zero => intro p h; exact le_refl _
    | succ d ih => intro p h; exact (ih p (by omega)).trans (h1 (p + d) (by omega))
  have nn : ∀ p : Fin 3072, 0 ≤ (x (ix1 p)).toInt := by
    intro p
    have := mono p.val 0 (by omega)
    refine h0.trans (this.trans (le_of_eq ?_))
    congr 3
    exact Fin.ext (by simp)
  have lt : ∀ p : Fin 3072, (x (ix1 p)).toNat < 2 ^ 31 := by
    intro p
    have h := nn p
    rw [BitVec.toInt_eq_toNat_cond] at h
    have := (x (ix1 p)).isLt
    split at h <;> omega
  refine ⟨lt, fun p q hpq => ?_⟩
  have h := mono (q.val - p.val) p.val (by omega)
  have e : (⟨p.val + (q.val - p.val), by omega⟩ : Fin 3072) = q := Fin.ext (by show p.val + (q.val - p.val) = q.val; omega)
  rw [e] at h
  have hp := lt p
  have hq := lt q
  have h' : (x (ix1 p)).toInt ≤ (x (ix1 q)).toInt := h
  rw [BitVec.toInt_eq_toNat_cond, BitVec.toInt_eq_toNat_cond] at h'
  split at h' <;> split at h' <;> omega

end Cert.PreSorted

end
-- ==== Proof.Mach.lean ====
/-
  The straight-line middle of the kernel's body as a list of small operations: loads of the tiles of the staged operands,
  the elementwise preparation of a tile, the matrix unit's pushes, accumulates and pops, and the stores of the popped tiles.
  `run` is the program of such a list, over a stack of values in flight. The lemmas here are about lists and programs only.
-/
module

public import Idealize.ShloMosaic.Lib.Pipeline
public import Idealize.ShloMosaic.Lib.Scf
public import Idealize.ShloMosaic.Lib.StableHlo
public import Idealize.ShloMosaic.PureOps
public import Idealize.ShloMosaic.Lib.Mxu

@[expose] public section

noncomputable section

namespace Cert.Mach

open Idealize.ShloMosaic Idealize.SL.Sem

abbrev T2 : Shape := ⟨2, ![256, 256]⟩
abbrev Th : Shape := ⟨2, ![256, 128]⟩
abbrev SG : Shape := ⟨2, ![3072, 768]⟩
abbrev SW : Shape := ⟨2, ![768, 1536]⟩
abbrev SX : Shape := ⟨2, ![3072, 1536]⟩
abbrev SXT : Shape := ⟨2, ![1536, 3072]⟩
abbrev SGS : Shape := ⟨2, ![3072, 128]⟩
abbrev SWS : Shape := ⟨2, ![768, 128]⟩

/-- A value in flight: a tile of codes of either format, a tile or half tile in bf16, a tile in f32. -/
inductive Val (F : FTy → Type) [FloatOps F] where
  | e5 (v : FVec F T2 .fp8e5m2)
  | e4 (v : FVec F T2 .fp8e4m3)
  | bf (v : FVec F T2 .bf16)
  | sc (v : FVec F Th .bf16)
  | fl (v : FVec F T2 .f32)

/-- The operations; tile coordinates count tiles of 256, addresses of the result buffer count 64. -/
inductive Op where
  | ldG (i : Fin 12) (j : Fin 3)
  | scE
  | exE
  | ldS (i : Fin 12)
  | cat
  | mul
  | push (u r : Fin 2)
  | ldX (i : Fin 6) (j : Fin 12)
  | acc (u r : Fin 2) (a : Fin 4)
  | accL (u : Fin 2) (a : Fin 4)
  | ldW (i : Fin 3) (j : Fin 6)
  | exW
  | ldT (i : Fin 3)
  | rd (u : Fin 2) (a : Fin 4)
  | pp (u : Fin 2) (a : Fin 4)
  | tr
  | ldD (i : Fin 3) (j : Fin 6)
  | stD (i : Fin 3) (j : Fin 6)
  | ldY (i : Fin 12) (j : Fin 6)
  | scF
  | add
  | ldU (i : Fin 12) (j : Fin 6)
  | stY (i : Fin 12) (j : Fin 6)
  deriving DecidableEq

variable {F : FTy → Type} [FloatOps F]

/-- The matrix unit's state and the values in flight, the newest first. -/
structure St (F : FTy → Type) [FloatOps F] where
  m : Mxu F
  stk : List (Val F)

theorem inbG (i : Fin 12) (j : Fin 3) : ∀ a, (![256 * i.val, 256 * j.val] : Fin 2 → Nat) a + T2.size a ≤ SG.size a := by
  intro a; have := i.isLt; have := j.isLt; fin_cases a <;> simp [Shape.size] <;> omega
theorem inbS (i : Fin 12) : ∀ a, (![256 * i.val, 0] : Fin 2 → Nat) a + Th.size a ≤ SGS.size a := by
  intro a; have := i.isLt; fin_cases a <;> simp [Shape.size] <;> omega
theorem inbX (i : Fin 6) (j : Fin 12) : ∀ a, (![256 * i.val, 256 * j.val] : Fin 2 → Nat) a + T2.size a ≤ SXT.size a := by
  intro a; have := i.isLt; have := j.isLt; fin_cases a <;> simp [Shape.size] <;> omega
theorem inbW (i : Fin 3) (j : Fin 6) : ∀ a, (![256 * i.val, 256 * j.val] : Fin 2 → Nat) a + T2.size a ≤ SW.size a := by
  intro a; have := i.isLt; have := j.isLt; fin_cases a <;> simp [Shape.size] <;> omega
theorem inbT (i : Fin 3) : ∀ a, (![256 * i.val, 0] : Fin 2 → Nat) a + Th.size a ≤ SWS.size a := by
  intro a; have := i.isLt; fin_cases a <;> simp [Shape.size] <;> omega
theorem inbY (i : Fin 12) (j : Fin 6) : ∀ a, (![256 * i.val, 256 * j.val] : Fin 2 → Nat) a + T2.size a ≤ SX.size a := by
  intro a; have := i.isLt; have := j.isLt; fin_cases a <;> simp [Shape.size] <;> omega
theorem posT2 : 0 < T2.numel := by decide
theorem posTh : 0 < Th.numel := by decide
theorem fitsA (a : Fin 4) : Mxu.Fits (64 * a.val) 256 := by
  have := a.isLt; unfold Mxu.Fits; omega
theorem scT2 : T2.ShapeCasts T2 := by decide
theorem trT2 : T2.Transposes [1, 0] T2 := by decide
theorem catT2 : Shape.Concatenates [Th, Th] T2 1 := by decide
theorem ltE5 : FTy.bits .fp8e5m2 < FTy.bits .bf16 := by decide
theorem ltE4 : FTy.bits .fp8e4m3 < FTy.bits .bf16 := by decide

abbrev rG (i : Fin 12) (j : Fin 3) : Rect SG := Rect.unit (s := SG) ![256 * i.val, 256 * j.val] T2.size (inbG i j)
abbrev rS (i : Fin 12) : Rect SGS := Rect.unit (s := SGS) ![256 * i.val, 0] Th.size (inbS i)
abbrev rX (i : Fin 6) (j : Fin 12) : Rect SXT := Rect.unit (s := SXT) ![256 * i.val, 256 * j.val] T2.size (inbX i j)
abbrev rW (i : Fin 3) (j : Fin 6) : Rect SW := Rect.unit (s := SW) ![256 * i.val, 256 * j.val] T2.size (inbW i j)
abbrev rT (i : Fin 3) : Rect SWS := Rect.unit (s := SWS) ![256 * i.val, 0] Th.size (inbT i)
abbrev rY (i : Fin 12) (j : Fin 6) : Rect SX := Rect.unit (s := SX) ![256 * i.val, 256 * j.val] T2.size (inbY i j)

/-- The buffers the operations name: the codes of the gradient tile `g` and of the weights `w`, the transposed activations
    `x`, the two scale buffers `s` and `t`, and the two results' buffers `d` and `y`. -/
structure Refs (sig : RefSig) where
  g : Memref sig .tc .vmem SG .fp8e5m2
  w : Memref sig .tc .vmem SW .fp8e4m3
  d : Memref sig .tc .vmem SW .f32
  y : Memref sig .tc .vmem SX .f32
  x : Memref sig .tc .vmem SXT .bf16
  s : Memref sig .tc .vmem SGS .bf16
  t : Memref sig .tc .vmem SWS .bf16

variable {nD : Nat} {τ : Topo} {sig : RefSig} {Λ : Labels} (R : Refs sig)

/-- One operation. -/
def step (o : Op) (s : St F) : Prog (TpuEff nD τ sig (Elt F) Λ .tc) (St F) :=
  match o, s with
  | .ldG i j, ⟨m, k⟩ => do
      let v : Vec F T2 .fp8e5m2 ← Prog.lift (.load R.g (rG i j).toLoadRect (View.loadsAt_vmem posT2))
      pure ⟨m, .e5 v :: k⟩
  | .scE, ⟨m, .e5 v :: k⟩ => .ret ⟨m, .e5 (shapeCast T2 v scT2) :: k⟩
  | .exE, ⟨m, .e5 v :: k⟩ => .ret ⟨m, .bf (extf .bf16 v ltE5) :: k⟩
  | .ldS i, ⟨m, k⟩ => do
      let v : Vec F Th .bf16 ← Prog.lift (.load R.s (rS i).toLoadRect (View.loadsAt_vmem posTh))
      pure ⟨m, .sc v :: k⟩
  | .cat, ⟨m, .sc v :: k⟩ => .ret ⟨m, .bf (concatenate T2 1 [⟨Th, v⟩, ⟨Th, v⟩] catT2) :: k⟩
  | .mul, ⟨m, .bf v :: .bf w :: k⟩ => .ret ⟨m, .bf (mulf w v) :: k⟩
  | .push u r, ⟨m, .bf v :: k⟩ => (m.pushRhs u r false v).bind fun m => .ret ⟨m, k⟩
  | .ldX i j, ⟨m, k⟩ => do
      let v : Vec F T2 .bf16 ← Prog.lift (.load R.x (rX i j).toLoadRect (View.loadsAt_vmem posT2))
      pure ⟨m, .bf v :: k⟩
  | .acc u r a, ⟨m, .bf v :: k⟩ => .ret ⟨m.accLhs u r (64 * a.val) v (fitsA a), k⟩
  | .accL u a, ⟨m, .bf v :: k⟩ => (m.accLhsLoaded u (64 * a.val) v (fitsA a)).bind fun m => .ret ⟨m, k⟩
  | .ldW i j, ⟨m, k⟩ => do
      let v : Vec F T2 .fp8e4m3 ← Prog.lift (.load R.w (rW i j).toLoadRect (View.loadsAt_vmem posT2))
      pure ⟨m, .e4 v :: k⟩
  | .exW, ⟨m, .e4 v :: k⟩ => .ret ⟨m, .bf (extf .bf16 v ltE4) :: k⟩
  | .ldT i, ⟨m, k⟩ => do
      let v : Vec F Th .bf16 ← Prog.lift (.load R.t (rT i).toLoadRect (View.loadsAt_vmem posTh))
      pure ⟨m, .sc v :: k⟩
  | .rd u a, ⟨m, k⟩ => .ret ⟨m, .fl (m.read u (64 * a.val) (fitsA a)) :: k⟩
  | .pp u a, ⟨m, k⟩ => .ret ⟨m.pop u (64 * a.val) 256 (fitsA a), k⟩
  | .tr, ⟨m, .fl v :: k⟩ => .ret ⟨m, .fl (transpose T2 [1, 0] v trT2) :: k⟩
  | .ldD i j, ⟨m, k⟩ => do
      let v : Vec F T2 .f32 ← Prog.lift (.load R.d (rW i j).toLoadRect (View.loadsAt_vmem posT2))
      pure ⟨m, k⟩
  | .stD i j, ⟨m, .fl v :: k⟩ =>
      .op (.store R.d (rW i j) v Finset.univ (View.stores_vmem_bits_univ posT2 rfl) (.inl rfl)) fun _ => .ret ⟨m, k⟩
  | .ldY i j, ⟨m, k⟩ => do
      let v : Vec F T2 .f32 ← Prog.lift (.load R.y (rY i j).toLoadRect (View.loadsAt_vmem posT2))
      pure ⟨m, .fl v :: k⟩
  | .scF, ⟨m, .fl v :: k⟩ => .ret ⟨m, .fl (shapeCast T2 v scT2) :: k⟩
  | .add, ⟨m, .fl v :: .fl w :: k⟩ => .ret ⟨m, .fl (addf v w) :: k⟩
  | .ldU i j, ⟨m, k⟩ => do
      let v : Vec F T2 .f32 ← Prog.lift (.load R.y (rY i j).toLoadRect (View.loadsAt_vmem posT2))
      pure ⟨m, k⟩
  | .stY i j, ⟨m, .fl v :: k⟩ =>
      .op (.store R.y (rY i j) v Finset.univ (View.stores_vmem_bits_univ posT2 rfl) (.inl rfl)) fun _ => .ret ⟨m, k⟩
  | _, s => .ret s

/-- The operations in order. -/
def run : List Op → St F → Prog (TpuEff nD τ sig (Elt F) Λ .tc) (St F)
  | [], s => .ret s
  | o :: os, s => (step R o s).bind (run os)

theorem bassoc.{v} {E : Type → Type v} {α β γ : Type} (p : Prog E α) (f : α → Prog E β) (g : β → Prog E γ) :
    (p.bind f).bind g = p.bind fun a => (f a).bind g := Prog.bind_assoc p f g

theorem run_append (xs ys : List Op) (s : St F) :
    (run R (xs ++ ys) s : Prog (TpuEff nD τ sig (Elt F) Λ .tc) (St F)) = (run R xs s).bind (run R ys) := by
  induction xs generalizing s with
  | nil => rfl
  | cons o os ih =>
    show (step R o s).bind (run R (os ++ ys)) = ((step R o s).bind (run R os)).bind (run R ys)
    rw [show run R (os ++ ys) = fun s => (run R os s).bind (run R ys) from funext ih]
    exact (Prog.bind_assoc _ _ _).symm

end Cert.Mach

end
-- ==== Proof.Ops.lean ====
/-
  The kernel body's operations on its matrix unit, in the printed order, cut where the printed program cuts them.
-/
module

public import proofs.«01_k».proof.Proof.Mach

@[expose] public section

namespace Cert.Mach

def o12 : List Op :=
    [.ldG 0 0, .scE, .exE, .ldS 0, .cat, .mul, .push 0 0, .ldG 0 0, .scE, .exE, .ldS 0, .cat, .mul, .push 1 0,
    .ldX 0 0, .acc 0 0 0]
def o13 : List Op :=
    [.ldX 3 0, .acc 1 0 0, .ldG 1 0, .scE, .exE, .ldS 1, .cat, .mul, .push 0 1, .ldG 1 0, .scE, .exE, .ldS 1,
    .cat, .mul, .push 1 1, .ldX 1 0, .accL 0 1, .ldX 4 0, .accL 1 1, .ldX 2 0, .accL 0 2, .ldX 5 0, .accL 1 2,
    .ldX 0 1, .acc 0 1 0, .ldX 3 1, .acc 1 1 0, .ldG 2 0, .scE, .exE, .ldS 2, .cat, .mul, .push 0 0]
def o14 : List Op :=
    [.ldG 2 0, .scE, .exE, .ldS 2, .cat, .mul, .push 1 0, .ldX 1 1, .accL 0 1, .ldX 4 1, .accL 1 1, .ldX 2 1,
    .accL 0 2, .ldX 5 1, .accL 1 2, .ldX 0 2, .acc 0 0 0, .ldX 3 2, .acc 1 0 0, .ldG 3 0, .scE, .exE, .ldS 3,
    .cat, .mul, .push 0 1, .ldG 3 0, .scE, .exE, .ldS 3, .cat, .mul, .push 1 1, .ldX 1 2, .accL 0 1]
def o15 : List Op :=
    [.ldX 4 2, .accL 1 1, .ldX 2 2, .accL 0 2, .ldX 5 2, .accL 1 2, .ldX 0 3, .acc 0 1 0, .ldX 3 3, .acc 1 1 0,
    .ldG 4 0, .scE, .exE, .ldS 4, .cat, .mul, .push 0 0, .ldG 4 0, .scE, .exE, .ldS 4, .cat, .mul, .push 1 0,
    .ldX 1 3, .accL 0 1, .ldX 4 3, .accL 1 1, .ldX 2 3, .accL 0 2, .ldX 5 3, .accL 1 2]
def o16 : List Op :=
    [.ldX 0 4, .acc 0 0 0, .ldX 3 4, .acc 1 0 0, .ldG 5 0, .scE, .exE, .ldS 5, .cat, .mul, .push 0 1, .ldG 5 0,
    .scE, .exE, .ldS 5, .cat, .mul, .push 1 1, .ldX 1 4, .accL 0 1, .ldX 4 4, .accL 1 1, .ldX 2 4, .accL 0 2,
    .ldX 5 4, .accL 1 2, .ldX 0 5, .acc 0 1 0, .ldX 3 5, .acc 1 1 0, .ldG 6 0, .scE, .exE, .ldS 6]
def o17 : List Op :=
    [.cat, .mul, .push 0 0, .ldG 6 0, .scE, .exE, .ldS 6, .cat, .mul, .push 1 0, .ldX 1 5, .accL 0 1, .ldX 4 5,
    .accL 1 1, .ldX 2 5, .accL 0 2, .ldX 5 5, .accL 1 2, .ldX 0 6, .acc 0 0 0, .ldX 3 6, .acc 1 0 0, .ldG 7 0,
    .scE, .exE, .ldS 7, .cat, .mul, .push 0 1, .ldG 7 0, .scE, .exE, .ldS 7, .cat, .mul, .push 1 1]
def o18 : List Op :=
    [.ldX 1 6, .accL 0 1, .ldX 4 6, .accL 1 1, .ldX 2 6, .accL 0 2, .ldX 5 6, .accL 1 2, .ldX 0 7, .acc 0 1 0,
    .ldX 3 7, .acc 1 1 0, .ldG 8 0, .scE, .exE, .ldS 8, .cat, .mul, .push 0 0, .ldG 8 0, .scE, .exE, .ldS 8,
    .cat, .mul, .push 1 0, .ldX 1 7, .accL 0 1, .ldX 4 7, .accL 1 1, .ldX 2 7, .accL 0 2]
def o19 : List Op :=
    [.ldX 5 7, .accL 1 2, .ldX 0 8, .acc 0 0 0, .ldX 3 8, .acc 1 0 0, .ldG 9 0, .scE, .exE, .ldS 9, .cat, .mul,
    .push 0 1, .ldG 9 0, .scE, .exE, .ldS 9, .cat, .mul, .push 1 1, .ldX 1 8, .accL 0 1, .ldX 4 8, .accL 1 1,
    .ldX 2 8, .accL 0 2, .ldX 5 8, .accL 1 2, .ldX 0 9, .acc 0 1 0, .ldX 3 9, .acc 1 1 0, .ldG 10 0, .scE]
def o20 : List Op :=
    [.exE, .ldS 10, .cat, .mul, .push 0 0, .ldG 10 0, .scE, .exE, .ldS 10, .cat, .mul, .push 1 0, .ldX 1 9,
    .accL 0 1, .ldX 4 9, .accL 1 1, .ldX 2 9, .accL 0 2, .ldX 5 9, .accL 1 2, .ldX 0 10, .acc 0 0 0, .ldX 3 10,
    .acc 1 0 0, .ldG 11 0, .scE, .exE, .ldS 11, .cat, .mul, .push 0 1, .ldG 11 0, .scE, .exE]
def o21 : List Op :=
    [.ldS 11, .cat, .mul, .push 1 1, .ldX 1 10, .accL 0 1, .ldX 4 10, .accL 1 1, .ldX 2 10, .accL 0 2, .ldX 5 10,
    .accL 1 2, .ldX 0 11, .acc 0 1 0, .ldX 3 11, .acc 1 1 0, .ldG 0 1, .scE, .exE, .ldS 0, .cat, .mul, .push 0 0,
    .ldG 0 1, .scE, .exE, .ldS 0, .cat, .mul, .push 1 0, .ldX 1 11, .accL 0 1, .ldX 4 11, .accL 1 1]
def o22 : List Op :=
    [.ldX 2 11, .accL 0 2, .ldX 5 11, .accL 1 2, .ldX 0 0, .acc 0 0 3, .ldX 3 0, .acc 1 0 3, .ldG 1 1, .scE, .exE,
    .ldS 1, .cat, .mul, .push 0 1, .ldG 1 1, .scE, .exE, .ldS 1, .cat, .mul, .push 1 1, .rd 0 0, .pp 0 0, .tr,
    .ldD 0 0, .stD 0 0, .rd 1 0, .pp 1 0, .tr, .ldD 0 3, .stD 0 3, .ldX 1 0, .accL 0 0, .ldX 4 0, .accL 1 0,
    .rd 0 1, .pp 0 1]
def o23 : List Op :=
    [.tr, .ldD 0 1, .stD 0 1, .rd 1 1, .pp 1 1, .tr, .ldD 0 4, .stD 0 4, .ldX 2 0, .accL 0 1, .ldX 5 0, .accL 1 1,
    .rd 0 2, .pp 0 2, .tr, .ldD 0 2, .stD 0 2, .rd 1 2, .pp 1 2, .tr, .ldD 0 5, .stD 0 5, .ldX 0 1, .acc 0 1 3,
    .ldX 3 1, .acc 1 1 3, .ldG 2 1, .scE, .exE, .ldS 2, .cat, .mul, .push 0 0, .ldG 2 1, .scE, .exE]
def o24 : List Op :=
    [.ldS 2, .cat, .mul, .push 1 0, .ldX 1 1, .accL 0 0, .ldX 4 1, .accL 1 0, .ldX 2 1, .accL 0 1, .ldX 5 1,
    .accL 1 1, .ldX 0 2, .acc 0 0 3, .ldX 3 2, .acc 1 0 3, .ldG 3 1, .scE, .exE, .ldS 3, .cat, .mul, .push 0 1,
    .ldG 3 1, .scE, .exE, .ldS 3, .cat, .mul, .push 1 1, .ldX 1 2, .accL 0 0, .ldX 4 2, .accL 1 0]
def o25 : List Op :=
    [.ldX 2 2, .accL 0 1, .ldX 5 2, .accL 1 1, .ldX 0 3, .acc 0 1 3, .ldX 3 3, .acc 1 1 3, .ldG 4 1, .scE, .exE,
    .ldS 4, .cat, .mul, .push 0 0, .ldG 4 1, .scE, .exE, .ldS 4, .cat, .mul, .push 1 0, .ldX 1 3, .accL 0 0,
    .ldX 4 3, .accL 1 0, .ldX 2 3, .accL 0 1, .ldX 5 3, .accL 1 1, .ldX 0 4, .acc 0 0 3, .ldX 3 4, .acc 1 0 3]
def o26 : List Op :=
    [.ldG 5 1, .scE, .exE, .ldS 5, .cat, .mul, .push 0 1, .ldG 5 1, .scE, .exE, .ldS 5, .cat, .mul, .push 1 1,
    .ldX 1 4, .accL 0 0, .ldX 4 4, .accL 1 0, .ldX 2 4, .accL 0 1, .ldX 5 4, .accL 1 1, .ldX 0 5, .acc 0 1 3,
    .ldX 3 5, .acc 1 1 3, .ldG 6 1, .scE, .exE, .ldS 6, .cat, .mul, .push 0 0, .ldG 6 1]
def o27 : List Op :=
    [.scE, .exE, .ldS 6, .cat, .mul, .push 1 0, .ldX 1 5, .accL 0 0, .ldX 4 5, .accL 1 0, .ldX 2 5, .accL 0 1,
    .ldX 5 5, .accL 1 1, .ldX 0 6, .acc 0 0 3, .ldX 3 6, .acc 1 0 3, .ldG 7 1, .scE, .exE, .ldS 7, .cat, .mul,
    .push 0 1, .ldG 7 1, .scE, .exE, .ldS 7, .cat, .mul, .push 1 1, .ldX 1 6, .accL 0 0]
def o28 : List Op :=
    [.ldX 4 6, .accL 1 0, .ldX 2 6, .accL 0 1, .ldX 5 6, .accL 1 1, .ldX 0 7, .acc 0 1 3, .ldX 3 7, .acc 1 1 3,
    .ldG 8 1, .scE, .exE, .ldS 8, .cat, .mul, .push 0 0, .ldG 8 1, .scE, .exE, .ldS 8, .cat, .mul, .push 1 0,
    .ldX 1 7, .accL 0 0, .ldX 4 7, .accL 1 0, .ldX 2 7, .accL 0 1, .ldX 5 7, .accL 1 1, .ldX 0 8, .acc 0 0 3]
def o29 : List Op :=
    [.ldX 3 8, .acc 1 0 3, .ldG 9 1, .scE, .exE, .ldS 9, .cat, .mul, .push 0 1, .ldG 9 1, .scE, .exE, .ldS 9,
    .cat, .mul, .push 1 1, .ldX 1 8, .accL 0 0, .ldX 4 8, .accL 1 0, .ldX 2 8, .accL 0 1, .ldX 5 8, .accL 1 1,
    .ldX 0 9, .acc 0 1 3, .ldX 3 9, .acc 1 1 3, .ldG 10 1, .scE, .exE, .ldS 10, .cat, .mul]
def o30 : List Op :=
    [.push 0 0, .ldG 10 1, .scE, .exE, .ldS 10, .cat, .mul, .push 1 0, .ldX 1 9, .accL 0 0, .ldX 4 9, .accL 1 0,
    .ldX 2 9, .accL 0 1, .ldX 5 9, .accL 1 1, .ldX 0 10, .acc 0 0 3, .ldX 3 10, .acc 1 0 3, .ldG 11 1, .scE,
    .exE, .ldS 11, .cat, .mul, .push 0 1, .ldG 11 1, .scE, .exE, .ldS 11, .cat, .mul, .push 1 1]
def o31 : List Op :=
    [.ldX 1 10, .accL 0 0, .ldX 4 10, .accL 1 0, .ldX 2 10, .accL 0 1, .ldX 5 10, .accL 1 1, .ldX 0 11,
    .acc 0 1 3, .ldX 3 11, .acc 1 1 3, .ldG 0 2, .scE, .exE, .ldS 0, .cat, .mul, .push 0 0, .ldG 0 2, .scE, .exE,
    .ldS 0, .cat, .mul, .push 1 0, .ldX 1 11, .accL 0 0, .ldX 4 11, .accL 1 0, .ldX 2 11, .accL 0 1, .ldX 5 11,
    .accL 1 1]
def o32 : List Op :=
    [.ldX 0 0, .acc 0 0 2, .ldX 3 0, .acc 1 0 2, .ldG 1 2, .scE, .exE, .ldS 1, .cat, .mul, .push 0 1, .ldG 1 2,
    .scE, .exE, .ldS 1, .cat, .mul, .push 1 1, .rd 0 3, .pp 0 3, .tr, .ldD 1 0, .stD 1 0, .rd 1 3, .pp 1 3, .tr,
    .ldD 1 3, .stD 1 3, .ldX 1 0, .accL 0 3, .ldX 4 0, .accL 1 3, .rd 0 0, .pp 0 0, .tr, .ldD 1 1, .stD 1 1,
    .rd 1 0]
def o33 : List Op :=
    [.pp 1 0, .tr, .ldD 1 4, .stD 1 4, .ldX 2 0, .accL 0 0, .ldX 5 0, .accL 1 0, .rd 0 1, .pp 0 1, .tr, .ldD 1 2,
    .stD 1 2, .rd 1 1, .pp 1 1, .tr, .ldD 1 5, .stD 1 5, .ldX 0 1, .acc 0 1 2, .ldX 3 1, .acc 1 1 2, .ldG 2 2,
    .scE, .exE, .ldS 2, .cat, .mul, .push 0 0, .ldG 2 2, .scE, .exE, .ldS 2, .cat, .mul, .push 1 0]
def o34 : List Op :=
    [.ldX 1 1, .accL 0 3, .ldX 4 1, .accL 1 3, .ldX 2 1, .accL 0 0, .ldX 5 1, .accL 1 0, .ldX 0 2, .acc 0 0 2,
    .ldX 3 2, .acc 1 0 2, .ldG 3 2, .scE, .exE, .ldS 3, .cat, .mul, .push 0 1, .ldG 3 2, .scE, .exE, .ldS 3,
    .cat, .mul, .push 1 1, .ldX 1 2, .accL 0 3, .ldX 4 2, .accL 1 3, .ldX 2 2, .accL 0 0, .ldX 5 2, .accL 1 0]
def o35 : List Op :=
    [.ldX 0 3, .acc 0 1 2, .ldX 3 3, .acc 1 1 2, .ldG 4 2, .scE, .exE, .ldS 4, .cat, .mul, .push 0 0, .ldG 4 2,
    .scE, .exE, .ldS 4, .cat, .mul, .push 1 0, .ldX 1 3, .accL 0 3, .ldX 4 3, .accL 1 3, .ldX 2 3, .accL 0 0,
    .ldX 5 3, .accL 1 0, .ldX 0 4, .acc 0 0 2, .ldX 3 4, .acc 1 0 2, .ldG 5 2, .scE, .exE]
def o36 : List Op :=
    [.ldS 5, .cat, .mul, .push 0 1, .ldG 5 2, .scE, .exE, .ldS 5, .cat, .mul, .push 1 1, .ldX 1 4, .accL 0 3,
    .ldX 4 4, .accL 1 3, .ldX 2 4, .accL 0 0, .ldX 5 4, .accL 1 0, .ldX 0 5, .acc 0 1 2, .ldX 3 5, .acc 1 1 2,
    .ldG 6 2, .scE, .exE, .ldS 6, .cat, .mul, .push 0 0, .ldG 6 2, .scE, .exE, .ldS 6, .cat]
def o37 : List Op :=
    [.mul, .push 1 0, .ldX 1 5, .accL 0 3, .ldX 4 5, .accL 1 3, .ldX 2 5, .accL 0 0, .ldX 5 5, .accL 1 0,
    .ldX 0 6, .acc 0 0 2, .ldX 3 6, .acc 1 0 2, .ldG 7 2, .scE, .exE, .ldS 7, .cat, .mul, .push 0 1, .ldG 7 2,
    .scE, .exE, .ldS 7, .cat, .mul, .push 1 1, .ldX 1 6, .accL 0 3, .ldX 4 6, .accL 1 3, .ldX 2 6, .accL 0 0]
def o38 : List Op :=
    [.ldX 5 6, .accL 1 0, .ldX 0 7, .acc 0 1 2, .ldX 3 7, .acc 1 1 2, .ldG 8 2, .scE, .exE, .ldS 8, .cat, .mul,
    .push 0 0, .ldG 8 2, .scE, .exE, .ldS 8, .cat, .mul, .push 1 0, .ldX 1 7, .accL 0 3, .ldX 4 7, .accL 1 3,
    .ldX 2 7, .accL 0 0, .ldX 5 7, .accL 1 0, .ldX 0 8, .acc 0 0 2, .ldX 3 8, .acc 1 0 2]
def o39 : List Op :=
    [.ldG 9 2, .scE, .exE, .ldS 9, .cat, .mul, .push 0 1, .ldG 9 2, .scE, .exE, .ldS 9, .cat, .mul, .push 1 1,
    .ldX 1 8, .accL 0 3, .ldX 4 8, .accL 1 3, .ldX 2 8, .accL 0 0, .ldX 5 8, .accL 1 0, .ldX 0 9, .acc 0 1 2,
    .ldX 3 9, .acc 1 1 2, .ldG 10 2, .scE, .exE, .ldS 10, .cat, .mul, .push 0 0, .ldG 10 2, .scE, .exE]
def o40 : List Op :=
    [.ldS 10, .cat, .mul, .push 1 0, .ldX 1 9, .accL 0 3, .ldX 4 9, .accL 1 3, .ldX 2 9, .accL 0 0, .ldX 5 9,
    .accL 1 0, .ldX 0 10, .acc 0 0 2, .ldX 3 10, .acc 1 0 2, .ldG 11 2, .scE, .exE, .ldS 11, .cat, .mul,
    .push 0 1, .ldG 11 2, .scE, .exE, .ldS 11, .cat, .mul, .push 1 1, .ldX 1 10, .accL 0 3, .ldX 4 10, .accL 1 3]
def o41 : List Op :=
    [.ldX 2 10, .accL 0 0, .ldX 5 10, .accL 1 0, .ldX 0 11, .acc 0 1 2, .ldX 3 11, .acc 1 1 2, .ldW 0 0, .exW,
    .ldT 0, .cat, .mul, .push 0 0, .ldW 0 3, .exW, .ldT 0, .cat, .mul, .push 1 0, .ldX 1 11, .accL 0 3,
    .ldX 4 11, .accL 1 3, .ldX 2 11, .accL 0 0, .ldX 5 11, .accL 1 0, .ldG 0 0, .scE, .exE, .ldS 0]
def o42 : List Op :=
    [.cat, .mul, .acc 0 0 1, .ldG 0 0, .scE, .exE, .ldS 0, .cat, .mul, .acc 1 0 1, .ldW 1 0, .exW, .ldT 1, .cat,
    .mul, .push 0 1, .ldW 1 3, .exW, .ldT 1, .cat, .mul, .push 1 1, .rd 0 2, .pp 0 2, .tr, .ldD 2 0, .stD 2 0,
    .rd 1 2, .pp 1 2, .tr, .ldD 2 3, .stD 2 3, .ldG 1 0, .scE, .exE, .ldS 1, .cat, .mul, .accL 0 2]
def o43 : List Op :=
    [.ldG 1 0, .scE, .exE, .ldS 1, .cat, .mul, .accL 1 2, .rd 0 3, .pp 0 3, .tr, .ldD 2 1, .stD 2 1, .rd 1 3,
    .pp 1 3, .tr, .ldD 2 4, .stD 2 4, .ldG 2 0, .scE, .exE, .ldS 2, .cat, .mul, .accL 0 3, .ldG 2 0, .scE, .exE,
    .ldS 2, .cat, .mul, .accL 1 3, .rd 0 0, .pp 0 0, .tr, .ldD 2 2, .stD 2 2, .rd 1 0, .pp 1 0, .tr, .ldD 2 5,
    .stD 2 5]
def o44 : List Op :=
    [.ldG 0 1, .scE, .exE, .ldS 0, .cat, .mul, .acc 0 1 1, .ldG 0 1, .scE, .exE, .ldS 0, .cat, .mul, .acc 1 1 1,
    .ldW 2 0, .exW, .ldT 2, .cat, .mul, .push 0 0, .ldW 2 3, .exW, .ldT 2, .cat, .mul, .push 1 0, .ldG 1 1, .scE,
    .exE, .ldS 1, .cat, .mul, .accL 0 2, .ldG 1 1, .scE, .exE]
def o45 : List Op :=
    [.ldS 1, .cat, .mul, .accL 1 2, .ldG 2 1, .scE, .exE, .ldS 2, .cat, .mul, .accL 0 3, .ldG 2 1, .scE, .exE,
    .ldS 2, .cat, .mul, .accL 1 3, .ldG 0 2, .scE, .exE, .ldS 0, .cat, .mul, .acc 0 0 1, .ldG 0 2, .scE, .exE,
    .ldS 0, .cat, .mul, .acc 1 0 1, .ldW 0 0, .exW, .ldT 0, .cat, .mul, .push 0 1]
def o46 : List Op :=
    [.ldW 0 3, .exW, .ldT 0, .cat, .mul, .push 1 1, .ldG 1 2, .scE, .exE, .ldS 1, .cat, .mul, .accL 0 2, .ldG 1 2,
    .scE, .exE, .ldS 1, .cat, .mul, .accL 1 2, .ldG 2 2, .scE, .exE, .ldS 2, .cat, .mul, .accL 0 3, .ldG 2 2,
    .scE, .exE, .ldS 2, .cat, .mul, .accL 1 3, .ldG 3 0, .scE, .exE, .ldS 3]
def o47 : List Op :=
    [.cat, .mul, .acc 0 1 0, .ldG 3 0, .scE, .exE, .ldS 3, .cat, .mul, .acc 1 1 0, .ldW 1 0, .exW, .ldT 1, .cat,
    .mul, .push 0 0, .ldW 1 3, .exW, .ldT 1, .cat, .mul, .push 1 0, .rd 0 1, .pp 0 1, .ldY 0 0, .scF, .add,
    .ldU 0 0, .stY 0 0, .rd 1 1, .pp 1 1, .ldY 0 3, .scF, .add, .ldU 0 3, .stY 0 3, .ldG 4 0, .scE]
def o48 : List Op :=
    [.exE, .ldS 4, .cat, .mul, .accL 0 1, .ldG 4 0, .scE, .exE, .ldS 4, .cat, .mul, .accL 1 1, .rd 0 2, .pp 0 2,
    .ldY 1 0, .scF, .add, .ldU 1 0, .stY 1 0, .rd 1 2, .pp 1 2, .ldY 1 3, .scF, .add, .ldU 1 3, .stY 1 3,
    .ldG 5 0, .scE, .exE, .ldS 5, .cat, .mul, .accL 0 2, .ldG 5 0, .scE, .exE, .ldS 5, .cat]
def o49 : List Op :=
    [.mul, .accL 1 2, .rd 0 3, .pp 0 3, .ldY 2 0, .scF, .add, .ldU 2 0, .stY 2 0, .rd 1 3, .pp 1 3, .ldY 2 3,
    .scF, .add, .ldU 2 3, .stY 2 3, .ldG 3 1, .scE, .exE, .ldS 3, .cat, .mul, .acc 0 0 0, .ldG 3 1, .scE, .exE,
    .ldS 3, .cat, .mul, .acc 1 0 0, .ldW 2 0, .exW, .ldT 2, .cat, .mul, .push 0 1, .ldW 2 3, .exW]
def o50 : List Op :=
    [.ldT 2, .cat, .mul, .push 1 1, .ldG 4 1, .scE, .exE, .ldS 4, .cat, .mul, .accL 0 1, .ldG 4 1, .scE, .exE,
    .ldS 4, .cat, .mul, .accL 1 1, .ldG 5 1, .scE, .exE, .ldS 5, .cat, .mul, .accL 0 2, .ldG 5 1, .scE, .exE,
    .ldS 5, .cat, .mul, .accL 1 2, .ldG 3 2, .scE, .exE, .ldS 3, .cat, .mul]
def o51 : List Op :=
    [.acc 0 1 0, .ldG 3 2, .scE, .exE, .ldS 3, .cat, .mul, .acc 1 1 0, .ldW 0 0, .exW, .ldT 0, .cat, .mul,
    .push 0 0, .ldW 0 3, .exW, .ldT 0, .cat, .mul, .push 1 0, .ldG 4 2, .scE, .exE, .ldS 4, .cat, .mul,
    .accL 0 1, .ldG 4 2, .scE, .exE, .ldS 4, .cat, .mul, .accL 1 1, .ldG 5 2, .scE, .exE]
def o52 : List Op :=
    [.ldS 5, .cat, .mul, .accL 0 2, .ldG 5 2, .scE, .exE, .ldS 5, .cat, .mul, .accL 1 2, .ldG 6 0, .scE, .exE,
    .ldS 6, .cat, .mul, .acc 0 0 3, .ldG 6 0, .scE, .exE, .ldS 6, .cat, .mul, .acc 1 0 3, .ldW 1 0, .exW, .ldT 1,
    .cat, .mul, .push 0 1, .ldW 1 3, .exW, .ldT 1, .cat, .mul, .push 1 1, .rd 0 0, .pp 0 0]
def o53 : List Op :=
    [.ldY 3 0, .scF, .add, .ldU 3 0, .stY 3 0, .rd 1 0, .pp 1 0, .ldY 3 3, .scF, .add, .ldU 3 3, .stY 3 3,
    .ldG 7 0, .scE, .exE, .ldS 7, .cat, .mul, .accL 0 0, .ldG 7 0, .scE, .exE, .ldS 7, .cat, .mul, .accL 1 0,
    .rd 0 1, .pp 0 1, .ldY 4 0, .scF, .add, .ldU 4 0, .stY 4 0, .rd 1 1, .pp 1 1, .ldY 4 3, .scF, .add]
def o54 : List Op :=
    [.ldU 4 3, .stY 4 3, .ldG 8 0, .scE, .exE, .ldS 8, .cat, .mul, .accL 0 1, .ldG 8 0, .scE, .exE, .ldS 8, .cat,
    .mul, .accL 1 1, .rd 0 2, .pp 0 2, .ldY 5 0, .scF, .add, .ldU 5 0, .stY 5 0, .rd 1 2, .pp 1 2, .ldY 5 3,
    .scF, .add, .ldU 5 3, .stY 5 3, .ldG 6 1, .scE, .exE, .ldS 6, .cat, .mul, .acc 0 1 3]
def o55 : List Op :=
    [.ldG 6 1, .scE, .exE, .ldS 6, .cat, .mul, .acc 1 1 3, .ldW 2 0, .exW, .ldT 2, .cat, .mul, .push 0 0,
    .ldW 2 3, .exW, .ldT 2, .cat, .mul, .push 1 0, .ldG 7 1, .scE, .exE, .ldS 7, .cat, .mul, .accL 0 0, .ldG 7 1,
    .scE, .exE, .ldS 7, .cat, .mul, .accL 1 0, .ldG 8 1, .scE, .exE, .ldS 8]
def o56 : List Op :=
    [.cat, .mul, .accL 0 1, .ldG 8 1, .scE, .exE, .ldS 8, .cat, .mul, .accL 1 1, .ldG 6 2, .scE, .exE, .ldS 6,
    .cat, .mul, .acc 0 0 3, .ldG 6 2, .scE, .exE, .ldS 6, .cat, .mul, .acc 1 0 3, .ldW 0 0, .exW, .ldT 0, .cat,
    .mul, .push 0 1, .ldW 0 3, .exW, .ldT 0, .cat, .mul, .push 1 1, .ldG 7 2, .scE]
def o57 : List Op :=
    [.exE, .ldS 7, .cat, .mul, .accL 0 0, .ldG 7 2, .scE, .exE, .ldS 7, .cat, .mul, .accL 1 0, .ldG 8 2, .scE,
    .exE, .ldS 8, .cat, .mul, .accL 0 1, .ldG 8 2, .scE, .exE, .ldS 8, .cat, .mul, .accL 1 1, .ldG 9 0, .scE,
    .exE, .ldS 9, .cat, .mul, .acc 0 1 2, .ldG 9 0, .scE, .exE, .ldS 9, .cat]
def o58 : List Op :=
    [.mul, .acc 1 1 2, .ldW 1 0, .exW, .ldT 1, .cat, .mul, .push 0 0, .ldW 1 3, .exW, .ldT 1, .cat, .mul,
    .push 1 0, .rd 0 3, .pp 0 3, .ldY 6 0, .scF, .add, .ldU 6 0, .stY 6 0, .rd 1 3, .pp 1 3, .ldY 6 3, .scF,
    .add, .ldU 6 3, .stY 6 3, .ldG 10 0, .scE, .exE, .ldS 10, .cat, .mul, .accL 0 3, .ldG 10 0, .scE, .exE]
def o59 : List Op :=
    [.ldS 10, .cat, .mul, .accL 1 3, .rd 0 0, .pp 0 0, .ldY 7 0, .scF, .add, .ldU 7 0, .stY 7 0, .rd 1 0, .pp 1 0,
    .ldY 7 3, .scF, .add, .ldU 7 3, .stY 7 3, .ldG 11 0, .scE, .exE, .ldS 11, .cat, .mul, .accL 0 0, .ldG 11 0,
    .scE, .exE, .ldS 11, .cat, .mul, .accL 1 0, .rd 0 1, .pp 0 1, .ldY 8 0, .scF, .add, .ldU 8 0]
def o60 : List Op :=
    [.stY 8 0, .rd 1 1, .pp 1 1, .ldY 8 3, .scF, .add, .ldU 8 3, .stY 8 3, .ldG 9 1, .scE, .exE, .ldS 9, .cat,
    .mul, .acc 0 0 2, .ldG 9 1, .scE, .exE, .ldS 9, .cat, .mul, .acc 1 0 2, .ldW 2 0, .exW, .ldT 2, .cat, .mul,
    .push 0 1, .ldW 2 3, .exW, .ldT 2, .cat, .mul, .push 1 1, .ldG 10 1, .scE, .exE]
def o61 : List Op :=
    [.ldS 10, .cat, .mul, .accL 0 3, .ldG 10 1, .scE, .exE, .ldS 10, .cat, .mul, .accL 1 3, .ldG 11 1, .scE, .exE,
    .ldS 11, .cat, .mul, .accL 0 0, .ldG 11 1, .scE, .exE, .ldS 11, .cat, .mul, .accL 1 0, .ldG 9 2, .scE, .exE,
    .ldS 9, .cat, .mul, .acc 0 1 2, .ldG 9 2, .scE, .exE, .ldS 9, .cat, .mul, .acc 1 1 2]
def o62 : List Op :=
    [.ldW 0 1, .exW, .ldT 0, .cat, .mul, .push 0 0, .ldW 0 4, .exW, .ldT 0, .cat, .mul, .push 1 0, .ldG 10 2,
    .scE, .exE, .ldS 10, .cat, .mul, .accL 0 3, .ldG 10 2, .scE, .exE, .ldS 10, .cat, .mul, .accL 1 3, .ldG 11 2,
    .scE, .exE, .ldS 11, .cat, .mul, .accL 0 0, .ldG 11 2, .scE, .exE]
def o63 : List Op :=
    [.ldS 11, .cat, .mul, .accL 1 0, .ldG 0 0, .scE, .exE, .ldS 0, .cat, .mul, .acc 0 0 1, .ldG 0 0, .scE, .exE,
    .ldS 0, .cat, .mul, .acc 1 0 1, .ldW 1 1, .exW, .ldT 1, .cat, .mul, .push 0 1, .ldW 1 4, .exW, .ldT 1, .cat,
    .mul, .push 1 1, .rd 0 2, .pp 0 2, .ldY 9 0, .scF, .add, .ldU 9 0, .stY 9 0, .rd 1 2, .pp 1 2]
def o64 : List Op :=
    [.ldY 9 3, .scF, .add, .ldU 9 3, .stY 9 3, .ldG 1 0, .scE, .exE, .ldS 1, .cat, .mul, .accL 0 2, .ldG 1 0,
    .scE, .exE, .ldS 1, .cat, .mul, .accL 1 2, .rd 0 3, .pp 0 3, .ldY 10 0, .scF, .add, .ldU 10 0, .stY 10 0,
    .rd 1 3, .pp 1 3, .ldY 10 3, .scF, .add, .ldU 10 3, .stY 10 3, .ldG 2 0, .scE, .exE, .ldS 2]
def o65 : List Op :=
    [.cat, .mul, .accL 0 3, .ldG 2 0, .scE, .exE, .ldS 2, .cat, .mul, .accL 1 3, .rd 0 0, .pp 0 0, .ldY 11 0,
    .scF, .add, .ldU 11 0, .stY 11 0, .rd 1 0, .pp 1 0, .ldY 11 3, .scF, .add, .ldU 11 3, .stY 11 3, .ldG 0 1,
    .scE, .exE, .ldS 0, .cat, .mul, .acc 0 1 1, .ldG 0 1, .scE, .exE, .ldS 0, .cat, .mul, .acc 1 1 1]
def o66 : List Op :=
    [.ldW 2 1, .exW, .ldT 2, .cat, .mul, .push 0 0, .ldW 2 4, .exW, .ldT 2, .cat, .mul, .push 1 0, .ldG 1 1, .scE,
    .exE, .ldS 1, .cat, .mul, .accL 0 2, .ldG 1 1, .scE, .exE, .ldS 1, .cat, .mul, .accL 1 2, .ldG 2 1, .scE,
    .exE, .ldS 2, .cat, .mul, .accL 0 3, .ldG 2 1, .scE, .exE, .ldS 2, .cat]
def o67 : List Op :=
    [.mul, .accL 1 3, .ldG 0 2, .scE, .exE, .ldS 0, .cat, .mul, .acc 0 0 1, .ldG 0 2, .scE, .exE, .ldS 0, .cat,
    .mul, .acc 1 0 1, .ldW 0 1, .exW, .ldT 0, .cat, .mul, .push 0 1, .ldW 0 4, .exW, .ldT 0, .cat, .mul,
    .push 1 1, .ldG 1 2, .scE, .exE, .ldS 1, .cat, .mul, .accL 0 2, .ldG 1 2, .scE, .exE]
def o68 : List Op :=
    [.ldS 1, .cat, .mul, .accL 1 2, .ldG 2 2, .scE, .exE, .ldS 2, .cat, .mul, .accL 0 3, .ldG 2 2, .scE, .exE,
    .ldS 2, .cat, .mul, .accL 1 3, .ldG 3 0, .scE, .exE, .ldS 3, .cat, .mul, .acc 0 1 0, .ldG 3 0, .scE, .exE,
    .ldS 3, .cat, .mul, .acc 1 1 0, .ldW 1 1, .exW, .ldT 1, .cat, .mul, .push 0 0]
def o69 : List Op :=
    [.ldW 1 4, .exW, .ldT 1, .cat, .mul, .push 1 0, .rd 0 1, .pp 0 1, .ldY 0 1, .scF, .add, .ldU 0 1, .stY 0 1,
    .rd 1 1, .pp 1 1, .ldY 0 4, .scF, .add, .ldU 0 4, .stY 0 4, .ldG 4 0, .scE, .exE, .ldS 4, .cat, .mul,
    .accL 0 1, .ldG 4 0, .scE, .exE, .ldS 4, .cat, .mul, .accL 1 1, .rd 0 2, .pp 0 2, .ldY 1 1, .scF]
def o70 : List Op :=
    [.add, .ldU 1 1, .stY 1 1, .rd 1 2, .pp 1 2, .ldY 1 4, .scF, .add, .ldU 1 4, .stY 1 4, .ldG 5 0, .scE, .exE,
    .ldS 5, .cat, .mul, .accL 0 2, .ldG 5 0, .scE, .exE, .ldS 5, .cat, .mul, .accL 1 2, .rd 0 3, .pp 0 3,
    .ldY 2 1, .scF, .add, .ldU 2 1, .stY 2 1, .rd 1 3, .pp 1 3, .ldY 2 4, .scF, .add, .ldU 2 4, .stY 2 4]
def o71 : List Op :=
    [.ldG 3 1, .scE, .exE, .ldS 3, .cat, .mul, .acc 0 0 0, .ldG 3 1, .scE, .exE, .ldS 3, .cat, .mul, .acc 1 0 0,
    .ldW 2 1, .exW, .ldT 2, .cat, .mul, .push 0 1, .ldW 2 4, .exW, .ldT 2, .cat, .mul, .push 1 1, .ldG 4 1, .scE,
    .exE, .ldS 4, .cat, .mul, .accL 0 1, .ldG 4 1, .scE, .exE]
def o72 : List Op :=
    [.ldS 4, .cat, .mul, .accL 1 1, .ldG 5 1, .scE, .exE, .ldS 5, .cat, .mul, .accL 0 2, .ldG 5 1, .scE, .exE,
    .ldS 5, .cat, .mul, .accL 1 2, .ldG 3 2, .scE, .exE, .ldS 3, .cat, .mul, .acc 0 1 0, .ldG 3 2, .scE, .exE,
    .ldS 3, .cat, .mul, .acc 1 1 0, .ldW 0 1, .exW, .ldT 0, .cat, .mul, .push 0 0]
def o73 : List Op :=
    [.ldW 0 4, .exW, .ldT 0, .cat, .mul, .push 1 0, .ldG 4 2, .scE, .exE, .ldS 4, .cat, .mul, .accL 0 1, .ldG 4 2,
    .scE, .exE, .ldS 4, .cat, .mul, .accL 1 1, .ldG 5 2, .scE, .exE, .ldS 5, .cat, .mul, .accL 0 2, .ldG 5 2,
    .scE, .exE, .ldS 5, .cat, .mul, .accL 1 2, .ldG 6 0, .scE, .exE, .ldS 6]
def o74 : List Op :=
    [.cat, .mul, .acc 0 0 3, .ldG 6 0, .scE, .exE, .ldS 6, .cat, .mul, .acc 1 0 3, .ldW 1 1, .exW, .ldT 1, .cat,
    .mul, .push 0 1, .ldW 1 4, .exW, .ldT 1, .cat, .mul, .push 1 1, .rd 0 0, .pp 0 0, .ldY 3 1, .scF, .add,
    .ldU 3 1, .stY 3 1, .rd 1 0, .pp 1 0, .ldY 3 4, .scF, .add, .ldU 3 4, .stY 3 4, .ldG 7 0, .scE]
def o75 : List Op :=
    [.exE, .ldS 7, .cat, .mul, .accL 0 0, .ldG 7 0, .scE, .exE, .ldS 7, .cat, .mul, .accL 1 0, .rd 0 1, .pp 0 1,
    .ldY 4 1, .scF, .add, .ldU 4 1, .stY 4 1, .rd 1 1, .pp 1 1, .ldY 4 4, .scF, .add, .ldU 4 4, .stY 4 4,
    .ldG 8 0, .scE, .exE, .ldS 8, .cat, .mul, .accL 0 1, .ldG 8 0, .scE, .exE, .ldS 8, .cat]
def o76 : List Op :=
    [.mul, .accL 1 1, .rd 0 2, .pp 0 2, .ldY 5 1, .scF, .add, .ldU 5 1, .stY 5 1, .rd 1 2, .pp 1 2, .ldY 5 4,
    .scF, .add, .ldU 5 4, .stY 5 4, .ldG 6 1, .scE, .exE, .ldS 6, .cat, .mul, .acc 0 1 3, .ldG 6 1, .scE, .exE,
    .ldS 6, .cat, .mul, .acc 1 1 3, .ldW 2 1, .exW, .ldT 2, .cat, .mul, .push 0 0, .ldW 2 4, .exW]
def o77 : List Op :=
    [.ldT 2, .cat, .mul, .push 1 0, .ldG 7 1, .scE, .exE, .ldS 7, .cat, .mul, .accL 0 0, .ldG 7 1, .scE, .exE,
    .ldS 7, .cat, .mul, .accL 1 0, .ldG 8 1, .scE, .exE, .ldS 8, .cat, .mul, .accL 0 1, .ldG 8 1, .scE, .exE,
    .ldS 8, .cat, .mul, .accL 1 1, .ldG 6 2, .scE, .exE, .ldS 6, .cat, .mul]
def o78 : List Op :=
    [.acc 0 0 3, .ldG 6 2, .scE, .exE, .ldS 6, .cat, .mul, .acc 1 0 3, .ldW 0 1, .exW, .ldT 0, .cat, .mul,
    .push 0 1, .ldW 0 4, .exW, .ldT 0, .cat, .mul, .push 1 1, .ldG 7 2, .scE, .exE, .ldS 7, .cat, .mul,
    .accL 0 0, .ldG 7 2, .scE, .exE, .ldS 7, .cat, .mul, .accL 1 0, .ldG 8 2, .scE, .exE]
def o79 : List Op :=
    [.ldS 8, .cat, .mul, .accL 0 1, .ldG 8 2, .scE, .exE, .ldS 8, .cat, .mul, .accL 1 1, .ldG 9 0, .scE, .exE,
    .ldS 9, .cat, .mul, .acc 0 1 2, .ldG 9 0, .scE, .exE, .ldS 9, .cat, .mul, .acc 1 1 2, .ldW 1 1, .exW, .ldT 1,
    .cat, .mul, .push 0 0, .ldW 1 4, .exW, .ldT 1, .cat, .mul, .push 1 0, .rd 0 3, .pp 0 3]
def o80 : List Op :=
    [.ldY 6 1, .scF, .add, .ldU 6 1, .stY 6 1, .rd 1 3, .pp 1 3, .ldY 6 4, .scF, .add, .ldU 6 4, .stY 6 4,
    .ldG 10 0, .scE, .exE, .ldS 10, .cat, .mul, .accL 0 3, .ldG 10 0, .scE, .exE, .ldS 10, .cat, .mul, .accL 1 3,
    .rd 0 0, .pp 0 0, .ldY 7 1, .scF, .add, .ldU 7 1, .stY 7 1, .rd 1 0, .pp 1 0, .ldY 7 4, .scF, .add]
def o81 : List Op :=
    [.ldU 7 4, .stY 7 4, .ldG 11 0, .scE, .exE, .ldS 11, .cat, .mul, .accL 0 0, .ldG 11 0, .scE, .exE, .ldS 11,
    .cat, .mul, .accL 1 0, .rd 0 1, .pp 0 1, .ldY 8 1, .scF, .add, .ldU 8 1, .stY 8 1, .rd 1 1, .pp 1 1,
    .ldY 8 4, .scF, .add, .ldU 8 4, .stY 8 4, .ldG 9 1, .scE, .exE, .ldS 9, .cat, .mul, .acc 0 0 2]
def o82 : List Op :=
    [.ldG 9 1, .scE, .exE, .ldS 9, .cat, .mul, .acc 1 0 2, .ldW 2 1, .exW, .ldT 2, .cat, .mul, .push 0 1,
    .ldW 2 4, .exW, .ldT 2, .cat, .mul, .push 1 1, .ldG 10 1, .scE, .exE, .ldS 10, .cat, .mul, .accL 0 3,
    .ldG 10 1, .scE, .exE, .ldS 10, .cat, .mul, .accL 1 3, .ldG 11 1, .scE, .exE, .ldS 11]
def o83 : List Op :=
    [.cat, .mul, .accL 0 0, .ldG 11 1, .scE, .exE, .ldS 11, .cat, .mul, .accL 1 0, .ldG 9 2, .scE, .exE, .ldS 9,
    .cat, .mul, .acc 0 1 2, .ldG 9 2, .scE, .exE, .ldS 9, .cat, .mul, .acc 1 1 2, .ldW 0 2, .exW, .ldT 0, .cat,
    .mul, .push 0 0, .ldW 0 5, .exW, .ldT 0, .cat, .mul, .push 1 0, .ldG 10 2, .scE]
def o84 : List Op :=
    [.exE, .ldS 10, .cat, .mul, .accL 0 3, .ldG 10 2, .scE, .exE, .ldS 10, .cat, .mul, .accL 1 3, .ldG 11 2, .scE,
    .exE, .ldS 11, .cat, .mul, .accL 0 0, .ldG 11 2, .scE, .exE, .ldS 11, .cat, .mul, .accL 1 0, .ldG 0 0, .scE,
    .exE, .ldS 0, .cat, .mul, .acc 0 0 1, .ldG 0 0, .scE, .exE, .ldS 0, .cat]
def o85 : List Op :=
    [.mul, .acc 1 0 1, .ldW 1 2, .exW, .ldT 1, .cat, .mul, .push 0 1, .ldW 1 5, .exW, .ldT 1, .cat, .mul,
    .push 1 1, .rd 0 2, .pp 0 2, .ldY 9 1, .scF, .add, .ldU 9 1, .stY 9 1, .rd 1 2, .pp 1 2, .ldY 9 4, .scF,
    .add, .ldU 9 4, .stY 9 4, .ldG 1 0, .scE, .exE, .ldS 1, .cat, .mul, .accL 0 2, .ldG 1 0, .scE, .exE]
def o86 : List Op :=
    [.ldS 1, .cat, .mul, .accL 1 2, .rd 0 3, .pp 0 3, .ldY 10 1, .scF, .add, .ldU 10 1, .stY 10 1, .rd 1 3,
    .pp 1 3, .ldY 10 4, .scF, .add, .ldU 10 4, .stY 10 4, .ldG 2 0, .scE, .exE, .ldS 2, .cat, .mul, .accL 0 3,
    .ldG 2 0, .scE, .exE, .ldS 2, .cat, .mul, .accL 1 3, .rd 0 0, .pp 0 0, .ldY 11 1, .scF, .add, .ldU 11 1]
def o87 : List Op :=
    [.stY 11 1, .rd 1 0, .pp 1 0, .ldY 11 4, .scF, .add, .ldU 11 4, .stY 11 4, .ldG 0 1, .scE, .exE, .ldS 0, .cat,
    .mul, .acc 0 1 1, .ldG 0 1, .scE, .exE, .ldS 0, .cat, .mul, .acc 1 1 1, .ldW 2 2, .exW, .ldT 2, .cat, .mul,
    .push 0 0, .ldW 2 5, .exW, .ldT 2, .cat, .mul, .push 1 0, .ldG 1 1, .scE, .exE]
def o88 : List Op :=
    [.ldS 1, .cat, .mul, .accL 0 2, .ldG 1 1, .scE, .exE, .ldS 1, .cat, .mul, .accL 1 2, .ldG 2 1, .scE, .exE,
    .ldS 2, .cat, .mul, .accL 0 3, .ldG 2 1, .scE, .exE, .ldS 2, .cat, .mul, .accL 1 3, .ldG 0 2, .scE, .exE,
    .ldS 0, .cat, .mul, .acc 0 0 1, .ldG 0 2, .scE, .exE, .ldS 0, .cat, .mul, .acc 1 0 1]
def o89 : List Op :=
    [.ldW 0 2, .exW, .ldT 0, .cat, .mul, .push 0 1, .ldW 0 5, .exW, .ldT 0, .cat, .mul, .push 1 1, .ldG 1 2, .scE,
    .exE, .ldS 1, .cat, .mul, .accL 0 2, .ldG 1 2, .scE, .exE, .ldS 1, .cat, .mul, .accL 1 2, .ldG 2 2, .scE,
    .exE, .ldS 2, .cat, .mul, .accL 0 3, .ldG 2 2, .scE, .exE]
def o90 : List Op :=
    [.ldS 2, .cat, .mul, .accL 1 3, .ldG 3 0, .scE, .exE, .ldS 3, .cat, .mul, .acc 0 1 0, .ldG 3 0, .scE, .exE,
    .ldS 3, .cat, .mul, .acc 1 1 0, .ldW 1 2, .exW, .ldT 1, .cat, .mul, .push 0 0, .ldW 1 5, .exW, .ldT 1, .cat,
    .mul, .push 1 0, .rd 0 1, .pp 0 1, .ldY 0 2, .scF, .add, .ldU 0 2, .stY 0 2, .rd 1 1, .pp 1 1]
def o91 : List Op :=
    [.ldY 0 5, .scF, .add, .ldU 0 5, .stY 0 5, .ldG 4 0, .scE, .exE, .ldS 4, .cat, .mul, .accL 0 1, .ldG 4 0,
    .scE, .exE, .ldS 4, .cat, .mul, .accL 1 1, .rd 0 2, .pp 0 2, .ldY 1 2, .scF, .add, .ldU 1 2, .stY 1 2,
    .rd 1 2, .pp 1 2, .ldY 1 5, .scF, .add, .ldU 1 5, .stY 1 5, .ldG 5 0, .scE, .exE, .ldS 5]
def o92 : List Op :=
    [.cat, .mul, .accL 0 2, .ldG 5 0, .scE, .exE, .ldS 5, .cat, .mul, .accL 1 2, .rd 0 3, .pp 0 3, .ldY 2 2, .scF,
    .add, .ldU 2 2, .stY 2 2, .rd 1 3, .pp 1 3, .ldY 2 5, .scF, .add, .ldU 2 5, .stY 2 5, .ldG 3 1, .scE, .exE,
    .ldS 3, .cat, .mul, .acc 0 0 0, .ldG 3 1, .scE, .exE, .ldS 3, .cat, .mul, .acc 1 0 0]
def o93 : List Op :=
    [.ldW 2 2, .exW, .ldT 2, .cat, .mul, .push 0 1, .ldW 2 5, .exW, .ldT 2, .cat, .mul, .push 1 1, .ldG 4 1, .scE,
    .exE, .ldS 4, .cat, .mul, .accL 0 1, .ldG 4 1, .scE, .exE, .ldS 4, .cat, .mul, .accL 1 1, .ldG 5 1, .scE,
    .exE, .ldS 5, .cat, .mul, .accL 0 2, .ldG 5 1, .scE, .exE, .ldS 5, .cat]
def o94 : List Op :=
    [.mul, .accL 1 2, .ldG 3 2, .scE, .exE, .ldS 3, .cat, .mul, .acc 0 1 0, .ldG 3 2, .scE, .exE, .ldS 3, .cat,
    .mul, .acc 1 1 0, .ldW 0 2, .exW, .ldT 0, .cat, .mul, .push 0 0, .ldW 0 5, .exW, .ldT 0, .cat, .mul,
    .push 1 0, .ldG 4 2, .scE, .exE, .ldS 4, .cat, .mul, .accL 0 1, .ldG 4 2, .scE, .exE]
def o95 : List Op :=
    [.ldS 4, .cat, .mul, .accL 1 1, .ldG 5 2, .scE, .exE, .ldS 5, .cat, .mul, .accL 0 2, .ldG 5 2, .scE, .exE,
    .ldS 5, .cat, .mul, .accL 1 2, .ldG 6 0, .scE, .exE, .ldS 6, .cat, .mul, .acc 0 0 3, .ldG 6 0, .scE, .exE,
    .ldS 6, .cat, .mul, .acc 1 0 3, .ldW 1 2, .exW, .ldT 1, .cat, .mul, .push 0 1]
def o96 : List Op :=
    [.ldW 1 5, .exW, .ldT 1, .cat, .mul, .push 1 1, .rd 0 0, .pp 0 0, .ldY 3 2, .scF, .add, .ldU 3 2, .stY 3 2,
    .rd 1 0, .pp 1 0, .ldY 3 5, .scF, .add, .ldU 3 5, .stY 3 5, .ldG 7 0, .scE, .exE, .ldS 7, .cat, .mul,
    .accL 0 0, .ldG 7 0, .scE, .exE, .ldS 7, .cat, .mul, .accL 1 0, .rd 0 1, .pp 0 1, .ldY 4 2, .scF]
def o97 : List Op :=
    [.add, .ldU 4 2, .stY 4 2, .rd 1 1, .pp 1 1, .ldY 4 5, .scF, .add, .ldU 4 5, .stY 4 5, .ldG 8 0, .scE, .exE,
    .ldS 8, .cat, .mul, .accL 0 1, .ldG 8 0, .scE, .exE, .ldS 8, .cat, .mul, .accL 1 1, .rd 0 2, .pp 0 2,
    .ldY 5 2, .scF, .add, .ldU 5 2, .stY 5 2, .rd 1 2, .pp 1 2, .ldY 5 5, .scF, .add, .ldU 5 5, .stY 5 5]
def o98 : List Op :=
    [.ldG 6 1, .scE, .exE, .ldS 6, .cat, .mul, .acc 0 1 3, .ldG 6 1, .scE, .exE, .ldS 6, .cat, .mul, .acc 1 1 3,
    .ldW 2 2, .exW, .ldT 2, .cat, .mul, .push 0 0, .ldW 2 5, .exW, .ldT 2, .cat, .mul, .push 1 0, .ldG 7 1, .scE,
    .exE, .ldS 7, .cat, .mul, .accL 0 0, .ldG 7 1, .scE, .exE]
def o99 : List Op :=
    [.ldS 7, .cat, .mul, .accL 1 0, .ldG 8 1, .scE, .exE, .ldS 8, .cat, .mul, .accL 0 1, .ldG 8 1, .scE, .exE,
    .ldS 8, .cat, .mul, .accL 1 1, .ldG 6 2, .scE, .exE, .ldS 6, .cat, .mul, .acc 0 0 3, .ldG 6 2, .scE, .exE,
    .ldS 6, .cat, .mul, .acc 1 0 3, .ldW 0 2, .exW, .ldT 0, .cat, .mul, .push 0 1]
def o100 : List Op :=
    [.ldW 0 5, .exW, .ldT 0, .cat, .mul, .push 1 1, .ldG 7 2, .scE, .exE, .ldS 7, .cat, .mul, .accL 0 0, .ldG 7 2,
    .scE, .exE, .ldS 7, .cat, .mul, .accL 1 0, .ldG 8 2, .scE, .exE, .ldS 8, .cat, .mul, .accL 0 1, .ldG 8 2,
    .scE, .exE, .ldS 8, .cat, .mul, .accL 1 1, .ldG 9 0, .scE, .exE, .ldS 9]
def o101 : List Op :=
    [.cat, .mul, .acc 0 1 2, .ldG 9 0, .scE, .exE, .ldS 9, .cat, .mul, .acc 1 1 2, .ldW 1 2, .exW, .ldT 1, .cat,
    .mul, .push 0 0, .ldW 1 5, .exW, .ldT 1, .cat, .mul, .push 1 0, .rd 0 3, .pp 0 3, .ldY 6 2, .scF, .add,
    .ldU 6 2, .stY 6 2, .rd 1 3, .pp 1 3, .ldY 6 5, .scF, .add, .ldU 6 5, .stY 6 5, .ldG 10 0, .scE]
def o102 : List Op :=
    [.exE, .ldS 10, .cat, .mul, .accL 0 3, .ldG 10 0, .scE, .exE, .ldS 10, .cat, .mul, .accL 1 3, .rd 0 0,
    .pp 0 0, .ldY 7 2, .scF, .add, .ldU 7 2, .stY 7 2, .rd 1 0, .pp 1 0, .ldY 7 5, .scF, .add, .ldU 7 5,
    .stY 7 5, .ldG 11 0, .scE, .exE, .ldS 11, .cat, .mul, .accL 0 0, .ldG 11 0, .scE, .exE, .ldS 11, .cat]
def o103 : List Op :=
    [.mul, .accL 1 0, .rd 0 1, .pp 0 1, .ldY 8 2, .scF, .add, .ldU 8 2, .stY 8 2, .rd 1 1, .pp 1 1, .ldY 8 5,
    .scF, .add, .ldU 8 5, .stY 8 5, .ldG 9 1, .scE, .exE, .ldS 9, .cat, .mul, .acc 0 0 2, .ldG 9 1, .scE, .exE,
    .ldS 9, .cat, .mul, .acc 1 0 2, .ldW 2 2, .exW, .ldT 2, .cat, .mul, .push 0 1, .ldW 2 5, .exW]
def o104 : List Op :=
    [.ldT 2, .cat, .mul, .push 1 1, .ldG 10 1, .scE, .exE, .ldS 10, .cat, .mul, .accL 0 3, .ldG 10 1, .scE, .exE,
    .ldS 10, .cat, .mul, .accL 1 3, .ldG 11 1, .scE, .exE, .ldS 11, .cat, .mul, .accL 0 0, .ldG 11 1, .scE, .exE,
    .ldS 11, .cat, .mul, .accL 1 0, .ldG 9 2, .scE, .exE, .ldS 9, .cat, .mul]
def o105 : List Op :=
    [.acc 0 1 2, .ldG 9 2, .scE, .exE, .ldS 9, .cat, .mul, .acc 1 1 2, .ldG 10 2, .scE, .exE, .ldS 10, .cat, .mul,
    .accL 0 3, .ldG 10 2, .scE, .exE, .ldS 10, .cat, .mul, .accL 1 3, .ldG 11 2, .scE, .exE, .ldS 11, .cat, .mul,
    .accL 0 0, .ldG 11 2, .scE, .exE, .ldS 11, .cat, .mul, .accL 1 0, .rd 0 2, .pp 0 2]
def o106 : List Op :=
    [.ldY 9 2, .scF, .add, .ldU 9 2, .stY 9 2, .rd 1 2, .pp 1 2, .ldY 9 5, .scF, .add, .ldU 9 5, .stY 9 5,
    .rd 0 3, .pp 0 3, .ldY 10 2, .scF, .add, .ldU 10 2, .stY 10 2, .rd 1 3, .pp 1 3, .ldY 10 5, .scF, .add,
    .ldU 10 5, .stY 10 5, .rd 0 0, .pp 0 0, .ldY 11 2, .scF, .add, .ldU 11 2, .stY 11 2, .rd 1 0, .pp 1 0,
    .ldY 11 5, .scF, .add]
def o107 : List Op :=
    [.ldU 11 5, .stY 11 5]

/-- All of them, in order. -/
def all : List Op := o12 ++ (o13 ++ (o14 ++ (o15 ++ (o16 ++ (o17 ++ (o18 ++ (o19 ++ (o20 ++ (o21 ++ (o22 ++ (o23 ++
    (o24 ++ (o25 ++ (o26 ++ (o27 ++ (o28 ++ (o29 ++ (o30 ++ (o31 ++ (o32 ++ (o33 ++ (o34 ++ (o35 ++ (o36 ++ (o37 ++
    (o38 ++ (o39 ++ (o40 ++ (o41 ++ (o42 ++ (o43 ++ (o44 ++ (o45 ++ (o46 ++ (o47 ++ (o48 ++ (o49 ++ (o50 ++ (o51 ++
    (o52 ++ (o53 ++ (o54 ++ (o55 ++ (o56 ++ (o57 ++ (o58 ++ (o59 ++ (o60 ++ (o61 ++ (o62 ++ (o63 ++ (o64 ++ (o65 ++
    (o66 ++ (o67 ++ (o68 ++ (o69 ++ (o70 ++ (o71 ++ (o72 ++ (o73 ++ (o74 ++ (o75 ++ (o76 ++ (o77 ++ (o78 ++ (o79 ++
    (o80 ++ (o81 ++ (o82 ++ (o83 ++ (o84 ++ (o85 ++ (o86 ++ (o87 ++ (o88 ++ (o89 ++ (o90 ++ (o91 ++ (o92 ++ (o93 ++
    (o94 ++ (o95 ++ (o96 ++ (o97 ++ (o98 ++ (o99 ++ (o100 ++ (o101 ++ (o102 ++ (o103 ++ (o104 ++ (o105 ++ (o106 ++
    (o107)))))))))))))))))))))))))))))))))))))))))))))))))))))))))))))))))))))))))))))))))))))))))))))))

end Cert.Mach
-- ==== Proof.Sx.lean ====
/-
  The operations run over names of tiles instead of tiles: which tile each register, slot and stored block holds, by name.
  The whole list is run this way by evaluation; what it stores where is then read off.
-/
module

public import proofs.«01_k».proof.Proof.Ops

@[expose] public section

namespace Cert.Mach

/-- A bf16 tile by name: of the gradient, of the weights, of the transposed activations. -/
inductive Tile where
  | g (i : Fin 12) (j : Fin 3)
  | w (i : Fin 3) (j : Fin 6)
  | x (i : Fin 6) (j : Fin 12)
  deriving DecidableEq

/-- The passes accumulated in a slot, the newest first: left-hand tile and right-hand tile. -/
abbrev Acc := List (Tile × Tile)

/-- A value in flight by name. -/
inductive SV where
  | rg (i : Fin 12) (j : Fin 3)
  | eg (i : Fin 12) (j : Fin 3)
  | rw (i : Fin 3) (j : Fin 6)
  | ew (i : Fin 3) (j : Fin 6)
  | ss (i : Fin 12)
  | cs (i : Fin 12)
  | st (i : Fin 3)
  | ct (i : Fin 3)
  | t (t : Tile)
  | fl (l : Acc)
  | flT (l : Acc)
  | y (i : Fin 12) (j : Fin 6)
  | ya (i : Fin 12) (j : Fin 6) (l : Acc)
  deriving DecidableEq

structure P2 (α : Type) where
  a : α
  b : α
  deriving DecidableEq

structure P4 (α : Type) where
  a : α
  b : α
  c : α
  d : α
  deriving DecidableEq

def P2.get {α : Type} (p : P2 α) : Fin 2 → α
  | 0 => p.a
  | 1 => p.b
def P2.set {α : Type} (p : P2 α) : Fin 2 → α → P2 α
  | 0, x => ⟨x, p.b⟩
  | 1, x => ⟨p.a, x⟩
def P4.get {α : Type} (p : P4 α) : Fin 4 → α
  | 0 => p.a
  | 1 => p.b
  | 2 => p.c
  | 3 => p.d
def P4.set {α : Type} (p : P4 α) : Fin 4 → α → P4 α
  | 0, x => ⟨x, p.b, p.c, p.d⟩
  | 1, x => ⟨p.a, x, p.c, p.d⟩
  | 2, x => ⟨p.a, p.b, x, p.d⟩
  | 3, x => ⟨p.a, p.b, p.c, x⟩

theorem P2.get_set {α : Type} (p : P2 α) (i j : Fin 2) (x : α) : (p.set i x).get j = if j = i then x else p.get j := by
  match i, j with
  | 0, 0 => rfl
  | 0, 1 => rfl
  | 1, 0 => rfl
  | 1, 1 => rfl

theorem P4.get_set {α : Type} (p : P4 α) (i j : Fin 4) (x : α) : (p.set i x).get j = if j = i then x else p.get j := by
  match i, j with
  | 0, 0 => rfl | 0, 1 => rfl | 0, 2 => rfl | 0, 3 => rfl
  | 1, 0 => rfl | 1, 1 => rfl | 1, 2 => rfl | 1, 3 => rfl
  | 2, 0 => rfl | 2, 1 => rfl | 2, 2 => rfl | 2, 3 => rfl
  | 3, 0 => rfl | 3, 1 => rfl | 3, 2 => rfl | 3, 3 => rfl

/-- The state by name: registers, loaded tiles, slots (empty: not live), values in flight, and what was stored so far. -/
structure SS where
  reg : P2 (P2 (Option Tile))
  gmr : P2 (Option Tile)
  slot : P2 (P4 Acc)
  stk : List SV
  d : List ((Fin 3 × Fin 6) × Acc)
  y : List ((Fin 12 × Fin 6) × Acc)
  deriving DecidableEq

def SS.init : SS := ⟨⟨⟨none, none⟩, ⟨none, none⟩⟩, ⟨none, none⟩, ⟨⟨[], [], [], []⟩, ⟨[], [], [], []⟩⟩, [], [], []⟩

/-- One operation, by name; `none` where it would not do what is meant. -/
def sx1 (o : Op) (σ : SS) : Option SS :=
  match o, σ.stk with
  | .ldG i j, k => some { σ with stk := .rg i j :: k }
  | .scE, .rg i j :: k => some { σ with stk := .rg i j :: k }
  | .exE, .rg i j :: k => some { σ with stk := .eg i j :: k }
  | .ldS i, k => some { σ with stk := .ss i :: k }
  | .cat, .ss i :: k => some { σ with stk := .cs i :: k }
  | .cat, .st i :: k => some { σ with stk := .ct i :: k }
  | .mul, .cs i :: .eg i' j :: k => if i' = i then some { σ with stk := .t (.g i j) :: k } else none
  | .mul, .ct i :: .ew i' j :: k => if i' = i then some { σ with stk := .t (.w i j) :: k } else none
  | .push u r, .t t :: k =>
    match (σ.reg.get u).get r with
    | none => some { σ with reg := σ.reg.set u ((σ.reg.get u).set r (some t)), stk := k }
    | some _ => none
  | .ldX i j, k => some { σ with stk := .t (.x i j) :: k }
  | .acc u r a, .t t :: k =>
    match (σ.reg.get u).get r with
    | some b => some { σ with reg := σ.reg.set u ((σ.reg.get u).set r none), gmr := σ.gmr.set u (some b),
                              slot := σ.slot.set u ((σ.slot.get u).set a ((t, b) :: (σ.slot.get u).get a)), stk := k }
    | none => none
  | .accL u a, .t t :: k =>
    match σ.gmr.get u with
    | some b => some { σ with slot := σ.slot.set u ((σ.slot.get u).set a ((t, b) :: (σ.slot.get u).get a)), stk := k }
    | none => none
  | .ldW i j, k => some { σ with stk := .rw i j :: k }
  | .exW, .rw i j :: k => some { σ with stk := .ew i j :: k }
  | .ldT i, k => some { σ with stk := .st i :: k }
  | .rd u a, k =>
    match (σ.slot.get u).get a with
    | [] => none
    | p :: l => some { σ with stk := .fl (p :: l) :: k }
  | .pp u a, k => some { σ with slot := σ.slot.set u ((σ.slot.get u).set a []), stk := k }
  | .tr, .fl l :: k => some { σ with stk := .flT l :: k }
  | .ldD _ _, k => some { σ with stk := k }
  | .stD i j, .flT l :: k => some { σ with d := ((i, j), l) :: σ.d, stk := k }
  | .ldY i j, k => if σ.y.all (fun e => decide (e.1 ≠ (i, j))) then some { σ with stk := .y i j :: k } else none
  | .scF, .y i j :: k => some { σ with stk := .y i j :: k }
  | .add, .y i j :: .fl l :: k => some { σ with stk := .ya i j l :: k }
  | .ldU _ _, k => some { σ with stk := k }
  | .stY i j, .ya i' j' l :: k => if i' = i ∧ j' = j then some { σ with y := ((i, j), l) :: σ.y, stk := k } else none
  | _, _ => none

/-- The operations in order, by name. -/
def sx : List Op → SS → Option SS
  | [], σ => some σ
  | o :: os, σ => (sx1 o σ).bind (sx os)

/-- The passes of block `(i, j)` of the first result, the newest first. -/
def dAcc (i : Fin 3) (j : Fin 6) : Acc := (List.finRange 12).reverse.map fun p => (Tile.x j p, Tile.g p i)

/-- The passes of block `(i, j)` of the second result, the newest first. -/
def yAcc (i : Fin 12) (j : Fin 6) : Acc := (List.finRange 3).reverse.map fun p => (Tile.g i p, Tile.w p j)

/-- Everything drained, and every block of both results stored with its passes. -/
def SS.Done (σ : SS) : Prop :=
  σ.reg = SS.init.reg ∧ σ.slot = SS.init.slot ∧ σ.stk = [] ∧ (∀ i j, ((i, j), dAcc i j) ∈ σ.d) ∧ (∀ e ∈ σ.d, e.2 = dAcc e.1.1 e.1.2) ∧
    (∀ i j, ((i, j), yAcc i j) ∈ σ.y) ∧ ∀ e ∈ σ.y, e.2 = yAcc e.1.1 e.1.2

/-- `Done`, computed. -/
def SS.done (σ : SS) : Bool :=
  decide (σ.reg = SS.init.reg) && (decide (σ.slot = SS.init.slot) && (decide (σ.stk = []) &&
    (decide (∀ i j, ((i, j), dAcc i j) ∈ σ.d) && (decide (∀ e ∈ σ.d, e.2 = dAcc e.1.1 e.1.2) &&
    (decide (∀ i j, ((i, j), yAcc i j) ∈ σ.y) && decide (∀ e ∈ σ.y, e.2 = yAcc e.1.1 e.1.2))))))

/-- The whole list ends so. -/
theorem sx_all : ∃ σ, sx all SS.init = some σ ∧ σ.Done := by
  have h : (sx all SS.init).map (SS.done) = some true := by decide +kernel
  match e : sx all SS.init, h with
  | some σ, h => exact ⟨σ, rfl, by simpa [SS.done, SS.Done] using h⟩

end Cert.Mach
-- ==== Proof.Sem.lean ====
/-
  The operations run on tiles do what they do run on names: the matrix unit's state, the values in flight and the two
  results' buffers are what the names say, over the contents of the staged operands.
-/
module

public import proofs.«01_k».proof.Proof.Sx
public import Idealize.ShloMosaic.Lib.Mxu.Lemmas
public import Idealize.ShloMosaic.Lib.Writes
public import Idealize.ShloMosaic.Lib.Tactic
public import Idealize.ShloMosaic.Lib.Pipeline.Value

@[expose] public section

noncomputable section

namespace Cert.Mach

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the buffers the operations read, and of the second result's buffer before them. -/
structure Env (F : FTy → Type) [FloatOps F] where
  g : SG.Idx → F .fp8e5m2
  w : SW.Idx → F .fp8e4m3
  x : SXT.Idx → F .bf16
  s : SGS.Idx → F .bf16
  t : SWS.Idx → F .bf16
  y : SX.Idx → F .f32

variable (e : Env F)

abbrev Env.eg (i : Fin 12) (j : Fin 3) : FVec F T2 .bf16 := extf .bf16 (fun a => e.g ((rG i j).emb a)) ltE5
abbrev Env.ew (i : Fin 3) (j : Fin 6) : FVec F T2 .bf16 := extf .bf16 (fun a => e.w ((rW i j).emb a)) ltE4
abbrev Env.ss (i : Fin 12) : FVec F Th .bf16 := fun a => e.s ((rS i).emb a)
abbrev Env.st (i : Fin 3) : FVec F Th .bf16 := fun a => e.t ((rT i).emb a)
abbrev Env.cs (i : Fin 12) : FVec F T2 .bf16 := concatenate T2 1 [⟨Th, e.ss i⟩, ⟨Th, e.ss i⟩] catT2
abbrev Env.ct (i : Fin 3) : FVec F T2 .bf16 := concatenate T2 1 [⟨Th, e.st i⟩, ⟨Th, e.st i⟩] catT2

/-- The tile of a name. -/
def Env.tile : Tile → FVec F T2 .bf16
  | .g i j => mulf (e.eg i j) (e.cs i)
  | .w i j => mulf (e.ew i j) (e.ct i)
  | .x i j => fun a => e.x ((rX i j).emb a)

/-- A tile staged, not transposed. -/
abbrev Env.stg (t : Tile) : Mxu.Staged F := ⟨.bf16, false, e.tile t⟩

/-- The passes accumulated: the first as it is, every later one added. -/
def Env.acc : Acc → FVec F T2 .f32
  | [] => constant _ .f32 0
  | [p] => (e.stg p.2).pass (e.tile p.1)
  | p :: q :: l => addf (Env.acc (q :: l)) ((e.stg p.2).pass (e.tile p.1))

abbrev Env.yt (i : Fin 12) (j : Fin 6) : FVec F T2 .f32 := fun a => e.y ((rY i j).emb a)

/-- The value of a name. -/
def Env.val : SV → Val F
  | .rg i j => .e5 fun a => e.g ((rG i j).emb a)
  | .eg i j => .bf (e.eg i j)
  | .rw i j => .e4 fun a => e.w ((rW i j).emb a)
  | .ew i j => .bf (e.ew i j)
  | .ss i => .sc (e.ss i)
  | .cs i => .bf (e.cs i)
  | .st i => .sc (e.st i)
  | .ct i => .bf (e.ct i)
  | .t t => .bf (e.tile t)
  | .fl l => .fl (e.acc l)
  | .flT l => .fl (transpose T2 [1, 0] (e.acc l) trT2)
  | .y i j => .fl (e.yt i j)
  | .ya i j l => .fl (addf (e.yt i j) (e.acc l))

/-- The stores made, as pieces of the buffer. -/
def Env.pd (p : (Fin 3 × Fin 6) × Acc) : View.Piece (Elt F) SW .f32 :=
  ⟨rW p.1.1 p.1.2, transpose T2 [1, 0] (e.acc p.2) trT2⟩
def Env.py (p : (Fin 12 × Fin 6) × Acc) : View.Piece (Elt F) SX .f32 :=
  ⟨rY p.1.1 p.1.2, addf (e.yt p.1.1 p.1.2) (e.acc p.2)⟩

/-- A slot against the passes by name. -/
def SlotRel (m : Mxu F) (u : Fin 2) (a : Fin 4) (l : Acc) : Prop :=
  match l with
  | [] => ∀ r : Fin 256, m.live u (Mxu.row (fitsA a) r) = false
  | p :: l => (∀ r : Fin 256, m.live u (Mxu.row (fitsA a) r) = true) ∧ m.read u (64 * a.val) (fitsA a) = e.acc (p :: l)

/-- The matrix unit against the state by name. -/
structure MRel (m : Mxu F) (σ : SS) : Prop where
  reg : ∀ u r, m.reg u r = ((σ.reg.get u).get r).map e.stg
  gmr : ∀ u t, σ.gmr.get u = some t → m.gmr u = some (e.stg t)
  slot : ∀ u a, SlotRel e m u a ((σ.slot.get u).get a)

theorem slotSep {a a' : Fin 4} (h : a' ≠ a) : 4 * (64 * a'.val) + 256 ≤ 4 * (64 * a.val) ∨ 4 * (64 * a.val) + 256 ≤ 4 * (64 * a'.val) := by
  have : a'.val ≠ a.val := fun h' => h (Fin.ext h')
  omega

theorem SlotRel.congr {m m' : Mxu F} {u : Fin 2} {a : Fin 4} {l : Acc} (h : SlotRel e m u a l)
    (hl : ∀ r : Fin 256, m'.live u (Mxu.row (fitsA a) r) = m.live u (Mxu.row (fitsA a) r))
    (hr : m'.read u (64 * a.val) (fitsA a) = m.read u (64 * a.val) (fitsA a)) : SlotRel e m' u a l := by
  cases l with
  | nil => exact fun r => (hl r).trans (h r)
  | cons p l => exact ⟨fun r => (hl r).trans (h.1 r), hr.trans h.2⟩

theorem not_row {u' u : Fin 2} {a' a : Fin 4} (h : ¬ (u' = u ∧ a' = a)) (r : Fin 256) :
    ¬ (u' = u ∧ 4 * (64 * a.val) ≤ (Mxu.row (fitsA a') r).val ∧ (Mxu.row (fitsA a') r).val < 4 * (64 * a.val) + 256) := by
  rintro ⟨hu, h1, h2⟩
  have hr := r.isLt
  have : a' ≠ a := fun h' => h ⟨hu, h'⟩
  have := slotSep this
  simp only [Mxu.row] at h1 h2
  omega

theorem sepOr {u' u : Fin 2} {a' a : Fin 4} (h : ¬ (u' = u ∧ a' = a)) :
    u' ≠ u ∨ 4 * (64 * a'.val) + 256 ≤ 4 * (64 * a.val) ∨ 4 * (64 * a.val) + 256 ≤ 4 * (64 * a'.val) := by
  by_cases hu : u' = u
  · exact .inr (slotSep fun h' => h ⟨hu, h'⟩)
  · exact .inl hu

/-- A pass accumulated in one slot: that slot's list grows by it, the others stay. -/
theorem SlotRel.accBy {m : Mxu F} {u : Fin 2} {a : Fin 4} {slot : P2 (P4 Acc)} (h : ∀ u a, SlotRel e m u a ((slot.get u).get a))
    (t b : Tile) (u' : Fin 2) (a' : Fin 4) :
    SlotRel e (m.accBy u (e.stg b) (64 * a.val) (e.tile t) (fitsA a)) u' a'
      (((slot.set u ((slot.get u).set a ((t, b) :: (slot.get u).get a))).get u').get a') := by
  by_cases hne : u' = u ∧ a' = a
  · obtain ⟨rfl, rfl⟩ := hne
    rw [P2.get_set, if_pos rfl, P4.get_set, if_pos rfl]
    refine ⟨fun r => Mxu.live_accBy_row _ _ _ _ _ (fitsA a') r, ?_⟩
    have h' := h u' a'
    generalize (slot.get u').get a' = l at h' ⊢
    cases l with
    | nil => exact Mxu.read_accBy_of_not_live _ _ _ _ _ (fitsA a') h'
    | cons p l => rw [Mxu.read_accBy_of_live _ _ _ _ _ (fitsA a') h'.1, h'.2]; rfl
  · have hs : ((slot.set u ((slot.get u).set a ((t, b) :: (slot.get u).get a))).get u').get a' = (slot.get u').get a' := by
      rw [P2.get_set]
      by_cases hu : u' = u
      · subst hu; rw [if_pos rfl, P4.get_set, if_neg fun ha => hne ⟨rfl, ha⟩]
      · rw [if_neg hu]
    rw [hs]
    refine (h u' a').congr e (fun r => ?_) (Mxu.read_accBy_ne _ _ _ _ _ _ _ _ _ (sepOr hne))
    rw [Mxu.live_accBy, if_neg (not_row hne r)]

theorem SlotRel.pop {m : Mxu F} {u : Fin 2} {a : Fin 4} {slot : P2 (P4 Acc)} (h : ∀ u a, SlotRel e m u a ((slot.get u).get a))
    (u' : Fin 2) (a' : Fin 4) :
    SlotRel e (m.pop u (64 * a.val) 256 (fitsA a)) u' a' (((slot.set u ((slot.get u).set a [])).get u').get a') := by
  by_cases hne : u' = u ∧ a' = a
  · obtain ⟨rfl, rfl⟩ := hne
    rw [P2.get_set, if_pos rfl, P4.get_set, if_pos rfl]
    exact fun r => Mxu.live_pop_row _ _ _ (fitsA a') r
  · have hs : ((slot.set u ((slot.get u).set a [])).get u').get a' = (slot.get u').get a' := by
      rw [P2.get_set]
      by_cases hu : u' = u
      · subst hu; rw [if_pos rfl, P4.get_set, if_neg fun ha => hne ⟨rfl, ha⟩]
      · rw [if_neg hu]
    rw [hs]
    refine (h u' a').congr e (fun r => ?_) (Mxu.read_pop_ne _ _ _ _ _ _ _ (sepOr hne))
    rw [Mxu.live_pop, if_neg (not_row hne r)]

theorem MRel.init : MRel e (Mxu.init : Mxu F) SS.init := by
  refine ⟨fun u r => ?_, fun u t h => ?_, fun u a => ?_⟩
  · match u, r with
    | 0, 0 => rfl | 0, 1 => rfl | 1, 0 => rfl | 1, 1 => rfl
  · match u, h with
    | 0, h => cases h
    | 1, h => cases h
  · match u, a with
    | 0, 0 => exact fun _ => rfl
    | 0, 1 => exact fun _ => rfl
    | 0, 2 => exact fun _ => rfl
    | 0, 3 => exact fun _ => rfl
    | 1, 0 => exact fun _ => rfl
    | 1, 1 => exact fun _ => rfl
    | 1, 2 => exact fun _ => rfl
    | 1, 3 => exact fun _ => rfl

/-- With registers and slots as at the start, the unit is drained. -/
theorem MRel.drained {m : Mxu F} {σ : SS} (h : MRel e m σ) (hr : σ.reg = SS.init.reg) (hs : σ.slot = SS.init.slot) : m.Drained := by
  have hi := MRel.init e
  refine ⟨fun u r => ?_, fun u R => ?_⟩
  · rw [h.reg, hr, ← hi.reg]; rfl
  · have hR := R.isLt
    have h1 := h.slot u ⟨R.val / 256, by omega⟩
    have h2 : (SS.init.slot.get u).get ⟨R.val / 256, by omega⟩ = [] := by
      generalize (⟨R.val / 256, by omega⟩ : Fin 4) = a
      match u, a with
      | 0, 0 => rfl | 0, 1 => rfl | 0, 2 => rfl | 0, 3 => rfl
      | 1, 0 => rfl | 1, 1 => rfl | 1, 2 => rfl | 1, 3 => rfl
    rw [hs, h2] at h1
    have h3 := h1 ⟨R.val % 256, by omega⟩
    rwa [show Mxu.row (fitsA ⟨R.val / 256, by omega⟩) ⟨R.val % 256, by omega⟩ = R from Fin.ext (by simp only [Mxu.row]; omega)] at h3

theorem MRel.push {m : Mxu F} {σ : SS} (h : MRel e m σ) (u r : Fin 2) (t : Tile) (k : List SV) (hn : (σ.reg.get u).get r = none) :
    MRel e (m.pushed u r false (e.tile t)) { σ with reg := σ.reg.set u ((σ.reg.get u).set r (some t)), stk := k } := by
  have hm : m.reg u r = none := by rw [h.reg, hn]; rfl
  refine ⟨fun u' r' => ?_, fun u' t' ht => ?_, fun u' a' => ?_⟩
  · show _ = ((P2.get (σ.reg.set u _) u').get r').map e.stg
    by_cases hne : u' = u ∧ r' = r
    · obtain ⟨rfl, rfl⟩ := hne
      rw [Mxu.reg_pushed_of_none _ _ _ _ _ hm, P2.get_set, if_pos rfl, P2.get_set, if_pos rfl]; rfl
    · rw [Mxu.reg_pushed_ne _ _ _ _ _ _ _ hne, h.reg, P2.get_set]
      by_cases hu : u' = u
      · subst hu; rw [if_pos rfl, P2.get_set, if_neg fun ha => hne ⟨rfl, ha⟩]
      · rw [if_neg hu]
  · rw [← h.gmr u' t' ht]; unfold Mxu.pushed; split <;> rfl
  · refine (h.slot u' a').congr e (fun r => ?_) ?_ <;> (unfold Mxu.pushed; split <;> rfl)

theorem MRel.accL {m : Mxu F} {σ : SS} (h : MRel e m σ) (u : Fin 2) (a : Fin 4) (t b : Tile) (k : List SV) :
    MRel e (m.accBy u (e.stg b) (64 * a.val) (e.tile t) (fitsA a))
      { σ with slot := σ.slot.set u ((σ.slot.get u).set a ((t, b) :: (σ.slot.get u).get a)), stk := k } :=
  ⟨h.reg, h.gmr, SlotRel.accBy e h.slot t b⟩

theorem MRel.acc {m : Mxu F} {σ : SS} (h : MRel e m σ) (u r : Fin 2) (a : Fin 4) (t b : Tile) (k : List SV)
    (hb : (σ.reg.get u).get r = some b) :
    MRel e (m.accLhs u r (64 * a.val) (e.tile t) (fitsA a))
      { σ with reg := σ.reg.set u ((σ.reg.get u).set r none), gmr := σ.gmr.set u (some b),
               slot := σ.slot.set u ((σ.slot.get u).set a ((t, b) :: (σ.slot.get u).get a)), stk := k } := by
  have hst : m.staged u r = e.stg b := by unfold Mxu.staged; rw [h.reg, hb]; rfl
  refine ⟨fun u' r' => ?_, fun u' t' ht => ?_, fun u' a' => ?_⟩
  · show _ = ((P2.get (σ.reg.set u _) u').get r').map e.stg
    by_cases hne : u' = u ∧ r' = r
    · obtain ⟨rfl, rfl⟩ := hne
      rw [Mxu.reg_accLhs, P2.get_set, if_pos rfl, P2.get_set, if_pos rfl]; rfl
    · rw [Mxu.reg_accLhs_ne _ _ _ _ _ _ _ _ hne, h.reg, P2.get_set]
      by_cases hu : u' = u
      · subst hu; rw [if_pos rfl, P2.get_set, if_neg fun ha => hne ⟨rfl, ha⟩]
      · rw [if_neg hu]
  · replace ht : (P2.get (σ.gmr.set u (some b)) u') = some t' := ht
    rw [P2.get_set] at ht
    by_cases hu : u' = u
    · subst hu; rw [if_pos rfl] at ht; cases ht; rw [Mxu.gmr_accLhs, hst]
    · rw [if_neg hu] at ht; rw [Mxu.gmr_accLhs_ne _ _ _ _ _ _ _ hu, h.gmr u' t' ht]
  · have := SlotRel.accBy (u := u) (a := a) e h.slot t b u' a'
    rw [← hst] at this
    exact this.congr e (fun _ => rfl) rfl

theorem MRel.pp {m : Mxu F} {σ : SS} (h : MRel e m σ) (u : Fin 2) (a : Fin 4) (k : List SV) :
    MRel e (m.pop u (64 * a.val) 256 (fitsA a)) { σ with slot := σ.slot.set u ((σ.slot.get u).set a []), stk := k } :=
  ⟨h.reg, h.gmr, SlotRel.pop e h.slot⟩

end Cert.Mach

end
-- ==== Proof.SemWp.lean ====
/-
  A list of operations at the head of a program: if it runs by name, it runs, and leaves what the names say.
-/
module

public import proofs.«01_k».proof.Proof.Sem

@[expose] public section

noncomputable section

namespace Cert.Mach

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix] {Name : Type} [DecidableEq Name]
variable {U : Type} [URA U] {Lvl : Type} [Preorder Lvl] {Λ : Labels}
variable (defs : Defs nD τ sig (Elt F) Λ) (𝒱 : Variants) (c : Dev nD) (bd : Option 𝒱.V) (E : Set Name)
variable {α : Type} {Q : α → sProp (MT nD τ sig Ix (Elt F) Name U Lvl)}

/-- Contents of all buffers, as the machine holds them. -/
structure Fs (F : FTy → Type) [FloatOps F] {sig : RefSig} (R : Refs sig) where
  g : R.g.view.ty.Contents (Elt F)
  w : R.w.view.ty.Contents (Elt F)
  x : R.x.view.ty.Contents (Elt F)
  s : R.s.view.ty.Contents (Elt F)
  t : R.t.view.ty.Contents (Elt F)
  d : R.d.view.ty.Contents (Elt F)
  y : R.y.view.ty.Contents (Elt F)

variable (R : Refs sig)

/-- What the views read of them. -/
def Fs.env {R : Refs sig} (f : Fs F R) : Env F where
  g := R.g.view.read (Elt F) f.g
  w := R.w.view.read (Elt F) f.w
  x := R.x.view.read (Elt F) f.x
  s := R.s.view.read (Elt F) f.s
  t := R.t.view.read (Elt F) f.t
  y := R.y.view.read (Elt F) f.y

/-- The buffers held, with the stores made so far. -/
def Res (f : Fs F R) (ld : List ((Fin 3 × Fin 6) × Acc)) (ly : List ((Fin 12 × Fin 6) × Acc)) :
    sProp (MT nD τ sig Ix (Elt F) Name U Lvl) :=
  iprop((R.g.view.loc (c : Thread nD τ) ↦[R.g.view.set]{fullShare} f.g) ∗ (R.w.view.loc (c : Thread nD τ) ↦[R.w.view.set]{fullShare} f.w)
    ∗ (R.x.view.loc (c : Thread nD τ) ↦[R.x.view.set]{fullShare} f.x) ∗ (R.s.view.loc (c : Thread nD τ) ↦[R.s.view.set]{fullShare} f.s)
    ∗ (R.t.view.loc (c : Thread nD τ) ↦[R.t.view.set]{fullShare} f.t)
    ∗ (R.d.view.loc (c : Thread nD τ) ↦[R.d.view.set]{fullShare} R.d.view.writes (Elt F) f.d (ld.map f.env.pd))
    ∗ (R.y.view.loc (c : Thread nD τ) ↦[R.y.view.set]{fullShare} R.y.view.writes (Elt F) f.y (ly.map f.env.py)))

theorem sub_all {cs : CoreSpace} {s : Shape} {ty : EltTy} (m : Memref sig .tc cs s ty) (r : Rect s) :
    m.view.setOn r.toLoadRect.set ⊆ m.view.set :=
  m.view.setOn_subset_set _

theorem sub_acc {cs : CoreSpace} {s : Shape} {ty : EltTy} (m : Memref sig .tc cs s ty) (r : Rect s) :
    (m.access r).set ⊆ m.view.set :=
  m.view.set_slice_subset r

/-- A load of the second result's buffer at a block not stored yet reads what was there before. -/
theorem readY (f : Fs F R) (ly : List ((Fin 12 × Fin 6) × Acc)) (i : Fin 12) (j : Fin 6)
    (h : ly.all (fun e => decide (e.1 ≠ (i, j))) = true) :
    R.y.view.readAt (Elt F) (rY i j).toLoadRect (R.y.view.writes (Elt F) f.y (ly.map f.env.py)) = f.env.yt i j := by
  funext a
  show R.y.view.read (Elt F) _ ((rY i j).emb a) = R.y.view.read (Elt F) f.y ((rY i j).emb a)
  refine View.read_writes_apply_of_forall_not_mem _ _ _ _ fun p hp hm => ?_
  obtain ⟨q, hq, rfl⟩ := List.mem_map.mp hp
  have hne := of_decide_eq_true (List.all_eq_true.mp h q hq)
  apply hne
  obtain ⟨b, hb⟩ := (rY q.1.1 q.1.2).exists_idx_of_mem hm
  have h0 : 256 * q.1.1.val + 1 * (b 0).val = 256 * i.val + 1 * (a 0).val := congrArg (fun z : SX.Idx => (z 0).val) hb
  have h1 : 256 * q.1.2.val + 1 * (b 1).val = 256 * j.val + 1 * (a 1).val := congrArg (fun z : SX.Idx => (z 1).val) hb
  have : (b 0).val < 256 := (b 0).isLt
  have : (b 1).val < 256 := (b 1).isLt
  have : (a 0).val < 256 := (a 0).isLt
  have : (a 1).val < 256 := (a 1).isLt
  exact Prod.ext (Fin.ext (show q.1.1.val = i.val by omega)) (Fin.ext (show q.1.2.val = j.val by omega))

/-- What a step or a list of steps is shown to do, continuing with `k`. -/
abbrev Does (f : Fs F R) (p : Prog (TpuEff nD τ sig (Elt F) Λ .tc) (St F)) (σ σ' : SS) : Prop :=
  ∀ k : St F → Prog (TpuEff nD τ sig (Elt F) Λ .tc) α,
    Res c R f σ.d σ.y ⊢ iprop((∀ s' : St F, ⌜MRel f.env s'.m σ' ∧ s'.stk = σ'.stk.map f.env.val⌝ -∗ Res c R f σ'.d σ'.y -∗
        wp frame (wpE defs 𝒱 (c : Thread nD τ) bd) E (k s') Q)
      -∗ wp frame (wpE defs 𝒱 (c : Thread nD τ) bd) E (p.bind k) Q)

/-- A step that makes no access. -/
theorem does_ret (f : Fs F R) (s' : St F) (σ σ' : SS) (h : MRel f.env s'.m σ') (hk : s'.stk = σ'.stk.map f.env.val)
    (hd : σ'.d = σ.d) (hy : σ'.y = σ.y) : Does (Q := Q) defs 𝒱 c bd E R f (.ret s') σ σ' := by
  intro k
  iintro H Hk
  iapply Hk $$ %s'
  · ipureintro; exact ⟨h, hk⟩
  · rw [hd, hy]; iexact H

theorem does_load_g (f : Fs F R) (r : Rect _) (hl : R.g.view.LoadsAt r.toLoadRect) (σ σ' : SS)
    (s' : (r.shape.Idx → Elt F _) → St F)
    (h : MRel f.env (s' (R.g.view.readAt (Elt F) r.toLoadRect f.g)).m σ')
    (hk : (s' (R.g.view.readAt (Elt F) r.toLoadRect f.g)).stk = σ'.stk.map f.env.val) (hd : σ'.d = σ.d) (hy : σ'.y = σ.y) :
    Does (Q := Q) defs 𝒱 c bd E R f (.op (.load R.g r.toLoadRect hl) fun v => .ret (s' v)) σ σ' := by
  intro k
  show _ ⊢ iprop(_ -∗ wp _ _ _ (.op (.load R.g _ _) fun v => k (s' v)) Q)
  unfold Res
  rw [hd, hy]
  iintro ⟨Hg, Hw, Hx, Hs, Ht, Hd, Hy⟩ Hk
  iapply (wp_load 𝒱 (c : Thread nD τ) bd E (m := R.g) (sub_all R.g _)) $$ Hg; iintro Hg
  iapply Hk $$ %(s' (R.g.view.readAt (Elt F) r.toLoadRect f.g)) %(⟨h, hk⟩)
  iframe

theorem does_load_w (f : Fs F R) (r : Rect _) (hl : R.w.view.LoadsAt r.toLoadRect) (σ σ' : SS)
    (s' : (r.shape.Idx → Elt F _) → St F)
    (h : MRel f.env (s' (R.w.view.readAt (Elt F) r.toLoadRect f.w)).m σ')
    (hk : (s' (R.w.view.readAt (Elt F) r.toLoadRect f.w)).stk = σ'.stk.map f.env.val) (hd : σ'.d = σ.d) (hy : σ'.y = σ.y) :
    Does (Q := Q) defs 𝒱 c bd E R f (.op (.load R.w r.toLoadRect hl) fun v => .ret (s' v)) σ σ' := by
  intro k
  show _ ⊢ iprop(_ -∗ wp _ _ _ (.op (.load R.w _ _) fun v => k (s' v)) Q)
  unfold Res
  rw [hd, hy]
  iintro ⟨Hg, Hw, Hx, Hs, Ht, Hd, Hy⟩ Hk
  iapply (wp_load 𝒱 (c : Thread nD τ) bd E (m := R.w) (sub_all R.w _)) $$ Hw; iintro Hw
  iapply Hk $$ %(s' (R.w.view.readAt (Elt F) r.toLoadRect f.w)) %(⟨h, hk⟩)
  iframe

theorem does_load_x (f : Fs F R) (r : Rect _) (hl : R.x.view.LoadsAt r.toLoadRect) (σ σ' : SS)
    (s' : (r.shape.Idx → Elt F _) → St F)
    (h : MRel f.env (s' (R.x.view.readAt (Elt F) r.toLoadRect f.x)).m σ')
    (hk : (s' (R.x.view.readAt (Elt F) r.toLoadRect f.x)).stk = σ'.stk.map f.env.val) (hd : σ'.d = σ.d) (hy : σ'.y = σ.y) :
    Does (Q := Q) defs 𝒱 c bd E R f (.op (.load R.x r.toLoadRect hl) fun v => .ret (s' v)) σ σ' := by
  intro k
  show _ ⊢ iprop(_ -∗ wp _ _ _ (.op (.load R.x _ _) fun v => k (s' v)) Q)
  unfold Res
  rw [hd, hy]
  iintro ⟨Hg, Hw, Hx, Hs, Ht, Hd, Hy⟩ Hk
  iapply (wp_load 𝒱 (c : Thread nD τ) bd E (m := R.x) (sub_all R.x _)) $$ Hx; iintro Hx
  iapply Hk $$ %(s' (R.x.view.readAt (Elt F) r.toLoadRect f.x)) %(⟨h, hk⟩)
  iframe

theorem does_load_s (f : Fs F R) (r : Rect _) (hl : R.s.view.LoadsAt r.toLoadRect) (σ σ' : SS)
    (s' : (r.shape.Idx → Elt F _) → St F)
    (h : MRel f.env (s' (R.s.view.readAt (Elt F) r.toLoadRect f.s)).m σ')
    (hk : (s' (R.s.view.readAt (Elt F) r.toLoadRect f.s)).stk = σ'.stk.map f.env.val) (hd : σ'.d = σ.d) (hy : σ'.y = σ.y) :
    Does (Q := Q) defs 𝒱 c bd E R f (.op (.load R.s r.toLoadRect hl) fun v => .ret (s' v)) σ σ' := by
  intro k
  show _ ⊢ iprop(_ -∗ wp _ _ _ (.op (.load R.s _ _) fun v => k (s' v)) Q)
  unfold Res
  rw [hd, hy]
  iintro ⟨Hg, Hw, Hx, Hs, Ht, Hd, Hy⟩ Hk
  iapply (wp_load 𝒱 (c : Thread nD τ) bd E (m := R.s) (sub_all R.s _)) $$ Hs; iintro Hs
  iapply Hk $$ %(s' (R.s.view.readAt (Elt F) r.toLoadRect f.s)) %(⟨h, hk⟩)
  iframe

theorem does_load_t (f : Fs F R) (r : Rect _) (hl : R.t.view.LoadsAt r.toLoadRect) (σ σ' : SS)
    (s' : (r.shape.Idx → Elt F _) → St F)
    (h : MRel f.env (s' (R.t.view.readAt (Elt F) r.toLoadRect f.t)).m σ')
    (hk : (s' (R.t.view.readAt (Elt F) r.toLoadRect f.t)).stk = σ'.stk.map f.env.val) (hd : σ'.d = σ.d) (hy : σ'.y = σ.y) :
    Does (Q := Q) defs 𝒱 c bd E R f (.op (.load R.t r.toLoadRect hl) fun v => .ret (s' v)) σ σ' := by
  intro k
  show _ ⊢ iprop(_ -∗ wp _ _ _ (.op (.load R.t _ _) fun v => k (s' v)) Q)
  unfold Res
  rw [hd, hy]
  iintro ⟨Hg, Hw, Hx, Hs, Ht, Hd, Hy⟩ Hk
  iapply (wp_load 𝒱 (c : Thread nD τ) bd E (m := R.t) (sub_all R.t _)) $$ Ht; iintro Ht
  iapply Hk $$ %(s' (R.t.view.readAt (Elt F) r.toLoadRect f.t)) %(⟨h, hk⟩)
  iframe

theorem does_load_d (f : Fs F R) (r : Rect _) (hl : R.d.view.LoadsAt r.toLoadRect) (σ σ' : SS)
    (s' : (r.shape.Idx → Elt F _) → St F)
    (h : MRel f.env (s' (R.d.view.readAt (Elt F) r.toLoadRect (R.d.view.writes (Elt F) f.d (σ.d.map f.env.pd)))).m σ')
    (hk : (s' (R.d.view.readAt (Elt F) r.toLoadRect (R.d.view.writes (Elt F) f.d (σ.d.map f.env.pd)))).stk = σ'.stk.map f.env.val) (hd : σ'.d = σ.d) (hy : σ'.y = σ.y) :
    Does (Q := Q) defs 𝒱 c bd E R f (.op (.load R.d r.toLoadRect hl) fun v => .ret (s' v)) σ σ' := by
  intro k
  show _ ⊢ iprop(_ -∗ wp _ _ _ (.op (.load R.d _ _) fun v => k (s' v)) Q)
  unfold Res
  rw [hd, hy]
  iintro ⟨Hg, Hw, Hx, Hs, Ht, Hd, Hy⟩ Hk
  iapply (wp_load 𝒱 (c : Thread nD τ) bd E (m := R.d) (sub_all R.d _)) $$ Hd; iintro Hd
  iapply Hk $$ %(s' (R.d.view.readAt (Elt F) r.toLoadRect (R.d.view.writes (Elt F) f.d (σ.d.map f.env.pd)))) %(⟨h, hk⟩)
  iframe

theorem does_load_y (f : Fs F R) (r : Rect _) (hl : R.y.view.LoadsAt r.toLoadRect) (σ σ' : SS)
    (s' : (r.shape.Idx → Elt F _) → St F)
    (h : MRel f.env (s' (R.y.view.readAt (Elt F) r.toLoadRect (R.y.view.writes (Elt F) f.y (σ.y.map f.env.py)))).m σ')
    (hk : (s' (R.y.view.readAt (Elt F) r.toLoadRect (R.y.view.writes (Elt F) f.y (σ.y.map f.env.py)))).stk = σ'.stk.map f.env.val) (hd : σ'.d = σ.d) (hy : σ'.y = σ.y) :
    Does (Q := Q) defs 𝒱 c bd E R f (.op (.load R.y r.toLoadRect hl) fun v => .ret (s' v)) σ σ' := by
  intro k
  show _ ⊢ iprop(_ -∗ wp _ _ _ (.op (.load R.y _ _) fun v => k (s' v)) Q)
  unfold Res
  rw [hd, hy]
  iintro ⟨Hg, Hw, Hx, Hs, Ht, Hd, Hy⟩ Hk
  iapply (wp_load 𝒱 (c : Thread nD τ) bd E (m := R.y) (sub_all R.y _)) $$ Hy; iintro Hy
  iapply Hk $$ %(s' (R.y.view.readAt (Elt F) r.toLoadRect (R.y.view.writes (Elt F) f.y (σ.y.map f.env.py)))) %(⟨h, hk⟩)
  iframe

theorem does_store_d (f : Fs F R) (r : Rect _) (w : r.shape.Idx → Elt F _) (hx : (R.d.access r).Stores Finset.univ) (hm' : _) (σ σ' : SS)
    (e : (Fin 3 × Fin 6) × Acc) (he : f.env.pd e = ⟨r, w⟩)
    (s' : St F) (h : MRel f.env s'.m σ') (hk : s'.stk = σ'.stk.map f.env.val) (hd : σ'.d = e :: σ.d) (hy : σ'.y = σ.y) :
    Does (Q := Q) defs 𝒱 c bd E R f (.op (.store R.d r w Finset.univ hx hm') fun _ => .ret s') σ σ' := by
  intro k
  show _ ⊢ iprop(_ -∗ wp _ _ _ (.op (.store R.d r w Finset.univ hx hm') fun _ => k s') Q)
  unfold Res
  rw [hd, hy, List.map_cons, he]
  iintro ⟨Hg, Hw, Hx, Hs, Ht, Hd, Hy⟩ Hk
  iapply (wp_store_writes 𝒱 (c : Thread nD τ) bd E (m := R.d) (r := r) (w := w) (sub_acc R.d _)) $$ Hd; iintro Hd
  iapply Hk $$ %s' %(⟨h, hk⟩)
  iframe

theorem does_store_y (f : Fs F R) (r : Rect _) (w : r.shape.Idx → Elt F _) (hx : (R.y.access r).Stores Finset.univ) (hm' : _) (σ σ' : SS)
    (e : (Fin 12 × Fin 6) × Acc) (he : f.env.py e = ⟨r, w⟩)
    (s' : St F) (h : MRel f.env s'.m σ') (hk : s'.stk = σ'.stk.map f.env.val) (hd : σ'.y = e :: σ.y) (hy : σ'.d = σ.d) :
    Does (Q := Q) defs 𝒱 c bd E R f (.op (.store R.y r w Finset.univ hx hm') fun _ => .ret s') σ σ' := by
  intro k
  show _ ⊢ iprop(_ -∗ wp _ _ _ (.op (.store R.y r w Finset.univ hx hm') fun _ => k s') Q)
  unfold Res
  rw [hd, hy, List.map_cons, he]
  iintro ⟨Hg, Hw, Hx, Hs, Ht, Hd, Hy⟩ Hk
  iapply (wp_store_writes 𝒱 (c : Thread nD τ) bd E (m := R.y) (r := r) (w := w) (sub_acc R.y _)) $$ Hy; iintro Hy
  iapply Hk $$ %s' %(⟨h, hk⟩)
  iframe

theorem does_step (f : Fs F R) (o : Op) (σ σ' : SS) (h : sx1 o σ = some σ') (s : St F) (hm : MRel f.env s.m σ)
    (hk : s.stk = σ.stk.map f.env.val) : Does (Q := Q) defs 𝒱 c bd E R f (step R o s) σ σ' := by
  obtain ⟨m, stk⟩ := s
  obtain ⟨reg, gmr, slot, k0, d, y⟩ := σ
  dsimp only at hk hm
  subst hk
  unfold sx1 at h
  split at h
  case h_1 =>
    rename_i i j; cases h
    exact does_load_g defs 𝒱 c bd E R f (rG i j) _ _ _ (fun v => ⟨m, .e5 v :: List.map f.env.val k0⟩) ⟨hm.reg, hm.gmr, hm.slot⟩ rfl rfl rfl
  case h_2 =>
    rename_i hq; subst hq; cases h
    exact does_ret defs 𝒱 c bd E R f ⟨m, .e5 (shapeCast T2 _ scT2) :: List.map f.env.val _⟩ _ _ ⟨hm.reg, hm.gmr, hm.slot⟩ (congrArg (fun v => Val.e5 v :: _) (shapeCast_self _ _)) rfl rfl
  case h_3 =>
    rename_i hq; subst hq; cases h
    exact does_ret defs 𝒱 c bd E R f ⟨m, .bf (extf .bf16 _ ltE5) :: List.map f.env.val _⟩ _ _ ⟨hm.reg, hm.gmr, hm.slot⟩ rfl rfl rfl
  case h_4 =>
    rename_i i; cases h
    exact does_load_s defs 𝒱 c bd E R f (rS i) _ _ _ (fun v => ⟨m, .sc v :: List.map f.env.val k0⟩) ⟨hm.reg, hm.gmr, hm.slot⟩ rfl rfl rfl
  case h_5 =>
    rename_i hq; subst hq; cases h
    exact does_ret defs 𝒱 c bd E R f ⟨m, .bf (concatenate T2 1 [⟨Th, _⟩, ⟨Th, _⟩] catT2) :: List.map f.env.val _⟩ _ _ ⟨hm.reg, hm.gmr, hm.slot⟩ rfl rfl rfl
  case h_6 =>
    rename_i hq; subst hq; cases h
    exact does_ret defs 𝒱 c bd E R f ⟨m, .bf (concatenate T2 1 [⟨Th, _⟩, ⟨Th, _⟩] catT2) :: List.map f.env.val _⟩ _ _ ⟨hm.reg, hm.gmr, hm.slot⟩ rfl rfl rfl
  case h_7 =>
    rename_i hq; subst hq; split at h
    · rename_i hi; subst hi; cases h
      exact does_ret defs 𝒱 c bd E R f ⟨m, .bf (mulf _ _) :: List.map f.env.val _⟩ _ _ ⟨hm.reg, hm.gmr, hm.slot⟩ rfl rfl rfl
    · cases h
  case h_8 =>
    rename_i hq; subst hq; split at h
    · rename_i hi; subst hi; cases h
      exact does_ret defs 𝒱 c bd E R f ⟨m, .bf (mulf _ _) :: List.map f.env.val _⟩ _ _ ⟨hm.reg, hm.gmr, hm.slot⟩ rfl rfl rfl
    · cases h
  case h_9 =>
    rename_i u r t k hq; subst hq; split at h
    · rename_i hn; cases h
      intro kk
      refine (does_ret (Q := Q) defs 𝒱 c bd E R f ⟨m.pushed u r false (f.env.tile t), List.map f.env.val k⟩ ⟨reg, gmr, slot, .t t :: k, d, y⟩ _ (hm.push _ u r t k hn) rfl rfl rfl kk).trans ?_
      refine wand_mono_right ?_
      exact Mxu.wp_pushRhs (c := (c : Thread nD τ)) (qu := u) (ru := r) (tr := false) (defs := defs) (𝒱 := 𝒱) (bd := bd) (E := E) (Q := Q) (u := m) (k := fun m' => kk ⟨m', List.map f.env.val k⟩)  (f.env.tile t) (Mxu.pushOk_of_none _ _ _ _ (by rw [hm.reg]; show Option.map _ ((P2.get reg u).get r) = none; rw [hn]; rfl))
    · cases h
  case h_10 =>
    rename_i i j; cases h
    exact does_load_x defs 𝒱 c bd E R f (rX i j) _ _ _ (fun v => ⟨m, .bf v :: List.map f.env.val k0⟩) ⟨hm.reg, hm.gmr, hm.slot⟩ rfl rfl rfl
  case h_11 =>
    rename_i u r a t k hq; subst hq; split at h
    · rename_i b hn; cases h
      exact does_ret defs 𝒱 c bd E R f ⟨m.accLhs u r (64 * a.val) (f.env.tile t) (fitsA a), List.map f.env.val k⟩ ⟨reg, gmr, slot, .t t :: k, d, y⟩ _ (hm.acc _ u r a t b k hn) rfl rfl rfl
    · cases h
  case h_12 =>
    rename_i u a t k hq; subst hq; split at h
    · rename_i b hn; cases h
      intro kk
      refine (does_ret (Q := Q) defs 𝒱 c bd E R f ⟨m.accBy u (f.env.stg b) (64 * a.val) (f.env.tile t) (fitsA a), List.map f.env.val k⟩ ⟨reg, gmr, slot, .t t :: k, d, y⟩ _ (hm.accL _ u a t b k) rfl rfl rfl kk).trans ?_
      refine wand_mono_right ?_
      exact Mxu.wp_accLhsLoaded (c := (c : Thread nD τ)) (qu := u) (defs := defs) (𝒱 := 𝒱) (bd := bd) (E := E) (Q := Q) (u := m) (k := fun m' => kk ⟨m', List.map f.env.val k⟩)  (f.env.tile t) (fitsA a) (hm.gmr _ _ hn)
    · cases h
  case h_13 =>
    rename_i i j; cases h
    exact does_load_w defs 𝒱 c bd E R f (rW i j) _ _ _ (fun v => ⟨m, .e4 v :: List.map f.env.val k0⟩) ⟨hm.reg, hm.gmr, hm.slot⟩ rfl rfl rfl
  case h_14 =>
    rename_i hq; subst hq; cases h
    exact does_ret defs 𝒱 c bd E R f ⟨m, .bf (extf .bf16 _ ltE4) :: List.map f.env.val _⟩ _ _ ⟨hm.reg, hm.gmr, hm.slot⟩ rfl rfl rfl
  case h_15 =>
    rename_i i; cases h
    exact does_load_t defs 𝒱 c bd E R f (rT i) _ _ _ (fun v => ⟨m, .sc v :: List.map f.env.val k0⟩) ⟨hm.reg, hm.gmr, hm.slot⟩ rfl rfl rfl
  case h_16 =>
    rename_i u a; split at h
    · cases h
    · rename_i p l hn; cases h
      have hs := hm.slot u a
      rw [show (P4.get (P2.get slot u) a) = p :: l from hn] at hs
      refine does_ret defs 𝒱 c bd E R f ⟨m, .fl (m.read u (64 * a.val) (fitsA a)) :: List.map f.env.val _⟩ _ _ ⟨hm.reg, hm.gmr, hm.slot⟩ ?_ rfl rfl
      exact congrArg (fun v => Val.fl v :: _) hs.2
  case h_17 =>
    rename_i u a; cases h
    exact does_ret defs 𝒱 c bd E R f ⟨m.pop u (64 * a.val) 256 (fitsA a), _⟩ _ _ (hm.pp _ u a _) rfl rfl rfl
  case h_18 =>
    rename_i hq; subst hq; cases h
    exact does_ret defs 𝒱 c bd E R f ⟨m, .fl (transpose T2 [1, 0] _ trT2) :: List.map f.env.val _⟩ _ _ ⟨hm.reg, hm.gmr, hm.slot⟩ rfl rfl rfl
  case h_19 =>
    rename_i i j; cases h
    exact does_load_d defs 𝒱 c bd E R f (rW i j) _ _ _ (fun v => ⟨m, List.map f.env.val k0⟩) ⟨hm.reg, hm.gmr, hm.slot⟩ rfl rfl rfl
  case h_20 =>
    rename_i i j l k hq; subst hq; cases h
    exact does_store_d defs 𝒱 c bd E R f _ _ _ _ _ _ ((i, j), l) rfl ⟨m, List.map f.env.val _⟩ ⟨hm.reg, hm.gmr, hm.slot⟩ rfl rfl rfl
  case h_21 =>
    rename_i i j; split at h
    · rename_i ha; cases h
      exact does_load_y defs 𝒱 c bd E R f (rY i j) _ _ _ (fun v => ⟨m, .fl v :: List.map f.env.val k0⟩) ⟨hm.reg, hm.gmr, hm.slot⟩ (congrArg (fun v => Val.fl v :: _) (readY R f y i j ha)) rfl rfl
    · cases h
  case h_22 =>
    rename_i hq; subst hq; cases h
    exact does_ret defs 𝒱 c bd E R f ⟨m, .fl (shapeCast T2 _ scT2) :: List.map f.env.val _⟩ _ _ ⟨hm.reg, hm.gmr, hm.slot⟩ (congrArg (fun v => Val.fl v :: _) (shapeCast_self _ _)) rfl rfl
  case h_23 =>
    rename_i hq; subst hq; cases h
    exact does_ret defs 𝒱 c bd E R f ⟨m, .fl (addf _ _) :: List.map f.env.val _⟩ _ _ ⟨hm.reg, hm.gmr, hm.slot⟩ rfl rfl rfl
  case h_24 =>
    rename_i i j; cases h
    exact does_load_y defs 𝒱 c bd E R f (rY i j) _ _ _ (fun v => ⟨m, List.map f.env.val k0⟩) ⟨hm.reg, hm.gmr, hm.slot⟩ rfl rfl rfl
  case h_25 =>
    rename_i i j i' j' l k hq; subst hq; split at h
    · rename_i ha; obtain ⟨rfl, rfl⟩ := ha; cases h
      exact does_store_y defs 𝒱 c bd E R f _ _ _ _ _ _ ((_, _), l) rfl ⟨m, List.map f.env.val _⟩ ⟨hm.reg, hm.gmr, hm.slot⟩ rfl rfl rfl
    · cases h
  case h_26 =>
    cases h

/-- A list of operations that runs by name. -/
theorem does_run (f : Fs F R) (os : List Op) (σ σ' : SS) (h : sx os σ = some σ') (s : St F) (hm : MRel f.env s.m σ)
    (hk : s.stk = σ.stk.map f.env.val) : Does (Q := Q) defs 𝒱 c bd E R f (run R os s) σ σ' := by
  induction os generalizing σ s with
  | nil => cases h; exact does_ret defs 𝒱 c bd E R f s _ _ hm hk rfl rfl
  | cons o os ih =>
    unfold sx at h
    obtain ⟨σ₁, h₁, h₂⟩ := Option.bind_eq_some_iff.mp h
    intro k
    show _ ⊢ iprop(_ -∗ wp _ _ _ (((step R o s).bind (run R os)).bind k) Q)
    rw [bassoc]
    iintro H Hk
    iapply (does_step (Q := Q) defs 𝒱 c bd E R f o σ σ₁ h₁ s hm hk fun a => (run R os a).bind k) $$ H
    iintro %s₁ %hs H
    iapply (ih σ₁ h₂ s₁ hs.1 hs.2 k) $$ H Hk

end Cert.Mach

end
-- ==== Proof.Own.lean ====
/-
  Loads, stores and copies of a buffer held at the contents its memref reads.
-/
module

public import proofs.«01_k».proof.Proof.SemWp
public import Idealize.ShloMosaic.Lib.Transfers

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels}

open Classical in
/-- The array `X` with the block `r` replaced by `w`. -/
def upd {s : Shape} {β : Type} (X : s.Idx → β) (r : Rect s) (w : r.shape.Idx → β) (b : s.Idx) : β :=
  if h : ∃ a, r.emb a = b then w h.choose else X b

theorem upd_hit {s : Shape} {β : Type} (X : s.Idx → β) (r : Rect s) (w : r.shape.Idx → β) (a : r.shape.Idx) :
    upd X r w (r.emb a) = w a := by
  have h : ∃ a', r.emb a' = r.emb a := ⟨a, rfl⟩
  unfold upd
  rw [dif_pos h, r.emb.injective h.choose_spec]

theorem upd_miss {s : Shape} {β : Type} (X : s.Idx → β) (r : Rect s) (w : r.shape.Idx → β) (b : s.Idx) (h : ∀ a, r.emb a ≠ b) :
    upd X r w b = X b := by
  unfold upd
  rw [dif_neg (fun ⟨a, ha⟩ => h a ha)]

section
variable (defs : Defs nD τ sig Val Λ) (𝒱 : Variants) (c : Dev nD) (bd : Option 𝒱.V)
variable {α : Type} {Q : α → sProp (MT nD τ sig Ix Val Name U Lvl)}

/-- A load of the block `r`. -/
theorem load (E : Set Name) {cs : CoreSpace} {s : Shape} {e : EltTy} {m : Memref sig .tc cs s e} {r : Rect s} {hl : m.view.LoadsAt r.toLoadRect}
    {k : (r.shape.Idx → Val e) → Prog (TpuEff nD τ sig Val Λ .tc) α} {q : PosShare TreeShare} {X : s.Idx → Val e} :
    (owns (c : Thread nD τ) m q X)
      ⊢ iprop((owns (c : Thread nD τ) m q X -∗ wp frame (wpE defs 𝒱 (c : Thread nD τ) bd) E (k fun a => X (r.emb a)) Q)
        -∗ wp frame (wpE defs 𝒱 (c : Thread nD τ) bd) E (.op (.load m r.toLoadRect hl) k) Q) := by
  unfold owns
  iintro ⟨%f, %hf, H⟩ Hk
  subst hf
  iapply (wp_load 𝒱 (c : Thread nD τ) bd E (m := m) (m.view.setOn_subset_set _)) $$ H; iintro H
  iapply Hk
  iexists f
  isplitr; · ipureintro; rfl
  iexact H

/-- A store of the block `r`. -/
theorem store (E : Set Name) {cs : CoreSpace} {s : Shape} {e : EltTy} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) α} {X : s.Idx → Val e} :
    (owns (c : Thread nD τ) m fullShare X)
      ⊢ iprop((owns (c : Thread nD τ) m fullShare (upd X r w) -∗ wp frame (wpE defs 𝒱 (c : Thread nD τ) bd) E (k ⟨⟩) Q)
        -∗ wp frame (wpE defs 𝒱 (c : Thread nD τ) bd) E (.op (.store m r w Finset.univ hx hm) k) Q) := by
  unfold owns
  iintro ⟨%f, %hf, H⟩ Hk
  subst hf
  iapply (wp_store_writes₀ 𝒱 (c : Thread nD τ) bd E (m := m) (w := w) (hx := hx) (hm := hm) (f := f) (m.view.set_slice_subset r)) $$ H; iintro H
  iapply Hk
  iexists (m.view.writes Val f [⟨r, w⟩])
  isplitr
  · ipureintro
    funext b
    by_cases hb : ∃ a, r.emb a = b
    · obtain ⟨a, rfl⟩ := hb
      rw [upd_hit]
      exact m.view.read_writes_cons_emb f r w [] a
    · rw [upd_miss _ _ _ _ (fun a ha => hb ⟨a, ha⟩)]
      refine m.view.read_writes_apply_of_forall_not_mem f b _ fun p hp hm => ?_
      rw [List.mem_singleton] at hp
      subst hp
      exact hb (r.exists_idx_of_mem hm)
  · iexact H

/-- A store of the block `r`, with a name for the contents it leaves. -/
theorem store_to (E : Set Name) {cs : CoreSpace} {s : Shape} {e : EltTy} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) α} {X X' : s.Idx → Val e} (h : upd X r w = X') :
    (owns (c : Thread nD τ) m fullShare X)
      ⊢ iprop((owns (c : Thread nD τ) m fullShare X' -∗ wp frame (wpE defs 𝒱 (c : Thread nD τ) bd) E (k ⟨⟩) Q)
        -∗ wp frame (wpE defs 𝒱 (c : Thread nD τ) bd) E (.op (.store m r w Finset.univ hx hm) k) Q) := by
  subst h
  exact store defs 𝒱 c bd E

variable [∀ e, Nonempty (Val e)] [Infinite Name]

/-- A block of one buffer copied into the whole of another, and waited for. -/
theorem copy (EC : UEmb Counters (MT nD τ sig Ix Val Name U Lvl)) [EC.LandsIn (upEmb : UEmb _ (MT nD τ sig Ix Val Name U Lvl))]
    {sp sp' : Space} {s : Shape} {e : EltTy} {m : Memref sig .tc sp s e} {r : Rect s} (hr : ∀ a, r.stride a = 1)
    {dst : Memref sig .tc sp' r.shape e} {sem : DmaSem sig}
    {hsrc : (m.slice r hr).view.WordExact} {hdst : dst.view.WordExact} {hsem : DmaTarget.Typed (nD := nD) (p := (c : Thread nD τ).2) sp (.dma sem) (.here dst)}
    {hsrc' : (m.slice r hr).view.WordExact} {hdst' : dst.view.WordExact}
    {k : PUnit → Prog (TpuEff nD τ sig Val Λ .tc) α} (ι : Ix) (hN : 0 < r.shape.numel) {q : PosShare TreeShare} {X : s.Idx → Val e}
    {Y : r.shape.Idx → Val e} {W : Waits sig Ix} :
    iprop(owns (c : Thread nD τ) m q X ∗ owns (c : Thread nD τ) dst fullShare Y ∗ semVal ((c : Thread nD τ), SemLoc.dma sem) 0
        ∗ owes (c : Thread nD τ) 0 W)
      ⊢ iprop((iprop(owns (c : Thread nD τ) m q X ∗ owns (c : Thread nD τ) dst fullShare (fun a => X (r.emb a))
            ∗ semVal ((c : Thread nD τ), SemLoc.dma sem) 0 ∗ owes (c : Thread nD τ) 0 (insert (SemLoc.dma sem, ι) W))
          -∗ wp frame (wpE defs 𝒱 (c : Thread nD τ) bd) Set.univ (k ⟨⟩) Q)
        -∗ wp frame (wpE defs 𝒱 (c : Thread nD τ) bd) Set.univ
          (.op (.enqueueDma (m.slice r hr) (.here dst) (.dma sem) hsrc hdst hsem) fun _ =>
            .op (.waitDma2 sem (m.slice r hr) dst hsrc' hdst') k) Q) := by
  unfold owns
  iintro ⟨⟨%f, %hf, H⟩, ⟨%g, %hg, Hd⟩, Hs, HO⟩ Hk
  subst hf
  ihave H' := (pointsTo_split_subset (q := q) (f := f) (m.view.set_slice_subset r)).1 $$ H
  icases H' with ⟨H1, H2⟩
  iapply (Transfers.wp_dmaLocal EC 𝒱 (c : Thread nD τ) bd (src := m.slice r hr) (dst := dst) (sm := .dma sem) (fs := f) (fd := g) (Sd := dst.view.set)
    (via := .same) ι (dst.view.amount (.dma sem)) rfl (View.amount_pos _ _ hN) (Finset.Subset.refl _)) $$ [H1 Hd Hs]
  · isplitl [H1]; · iexact H1
    isplitl [Hd]; · iexact Hd
    iexact Hs
  iintro HF
  iapply (Transfers.wp_waitLocal EC 𝒱 (c : Thread nD τ) bd (dstw := dst) (srcw := m.slice r hr) ι (N := dst.view.amount (.dma sem)) rfl) $$ [HF HO]
  · isplitl [HF]; · iexact HF
    iexact HO
  iintro ⟨⟨Hd, H1⟩, Hs, HO⟩
  iapply Hk
  isplitl [H1 H2]
  · iexists f
    isplitr; · ipureintro; rfl
    iapply (pointsTo_split_subset (q := q) (f := f) (m.view.set_slice_subset r)).2
    isplitl [H1]; · iexact H1
    iexact H2
  isplitl [Hd]
  · iexists _
    isplitr; swap; · iexact Hd
    ipureintro
    exact View.read_write_univ (v := dst.view) g _
  isplitl [Hs]; · iexact Hs
  iexact HO

end

end Cert.Own

end
-- ==== Proof.Words.lean ====
/-
  The words the accumulation loop computes, at every counter it reaches.
-/
module

public import proofs.«01_k».proof.Proof.Gen.Kernel.Skeleton

@[expose] public section

set_option maxRecDepth 100000

noncomputable section

namespace Cert.Kernel.Words

open Cert.Kernel Cert.Kernel.Gen
open Idealize.ShloMosaic

theorem off16_eq : ∀ p : Fin 3073, k0_off16 (BitVec.ofNat 32 p.val) = ![min p.val 3071] := by decide +kernel
theorem chk1 : ∀ p : Fin 3073, k0_chk1 (BitVec.ofNat 32 p.val) := by decide +kernel
theorem cond2_eq : ∀ p : Fin 3072, k0_cond2 (BitVec.ofNat 32 p.val) = (if p.val % 32 = 0 then 1#1 else 0#1) := by decide +kernel
theorem off17_eq : ∀ p : Fin 3072, k0_off17 (BitVec.ofNat 32 p.val) = ![p.val, 0] := by decide +kernel
theorem off18_eq : ∀ p : Fin 3072, k0_off18 (BitVec.ofNat 32 p.val) = ![p.val] := by decide +kernel
theorem off20_eq : ∀ p : Fin 3072, k0_off20 (BitVec.ofNat 32 p.val) = ![p.val % 32, 0] := by decide +kernel
theorem off21_eq : ∀ p : Fin 3072, k0_off21 (BitVec.ofNat 32 p.val) = ![p.val] := by decide +kernel
theorem slt_eq : ∀ p : Fin 3073, Scalar.cmpi .slt (BitVec.ofNat 32 p.val) 3072#32 = (if p.val < 3072 then 1#1 else 0#1) := by decide +kernel
theorem chk2 : ∀ p : Fin 3072, k0_chk2 (BitVec.ofNat 32 p.val) := by decide +kernel

end Cert.Kernel.Words

end
-- ==== Proof.Fill.lean ====
/-
  What the prelude fills the scratch buffers with: the transposed scaled activations and the two buffers of scales.
-/
module

public import proofs.«01_k».proof.Proof.Own
public import proofs.«01_k».proof.Proof.Idx
public import proofs.«01_k».proof.Proof.Words

@[expose] public section

set_option maxRecDepth 100000

noncomputable section

namespace Cert.Kernel.Fill

open Cert.Kernel Cert.Kernel.Gen Cert.Idx Cert.Own
open Idealize.ShloMosaic

variable {F : FTy → Type} [FloatOps F] [∀ e, Nonempty (Elt F e)] [Facts]

/-- A block stored is the function stored when it agrees with it on the block and the array agreed with it outside. -/
theorem upd_eq {s : Shape} {β : Type} {X X' : s.Idx → β} {r : Rect s} {w : r.shape.Idx → β} (hin : ∀ a, w a = X' (r.emb a))
    (hout : ∀ b, (∀ a, r.emb a ≠ b) → X b = X' b) : upd X r w = X' := by
  funext b
  by_cases h : ∃ a, r.emb a = b
  · obtain ⟨a, rfl⟩ := h
    rw [upd_hit, hin]
  · rw [upd_miss X r w b fun a ha => h ⟨a, ha⟩, hout b fun a ha => h ⟨a, ha⟩]

theorem gword : ∀ c : Fin 167,
    (let arg0 : BitVec 32 := BitVec.ofNat 32 c.val
     let v8 : BitVec 32 := Scalar.select (Scalar.cmpi .eq 128#32 0#32) 1#32 128#32
     let v9 : BitVec 32 := Scalar.remsi arg0 v8
     let v16 : BitVec 32 := Scalar.select (Scalar.andi (Scalar.xori (Scalar.cmpi .slt v9 0#32) (Scalar.cmpi .slt v8 0#32)) (Scalar.cmpi .ne v9 0#32))
       (Scalar.addi v9 v8) v9
     (Scalar.select (Scalar.cmpi .slt v16 0#32) (Scalar.addi v16 128#32) v16).toNat % 128) = c.val % 128 := by decide +kernel

section G

variable (i : grid0.Coords) (gs X0 : Vec F S3072x128 .f32)

/-- The scales of the gradient's rows, as the body reads them: the column of the grid step, narrowed. -/
def GS (i : grid0.Coords) (gs : Vec F S3072x128 .f32) : Vec F S3072x128 .bf16 := fun b =>
  FloatOps.truncf .bf16 bitsLt_bf16_f32 (gs (ix2 (b 0) ⟨(i 0).val % 128, Nat.mod_lt _ (by decide)⟩))

/-- The first `k` blocks of rows filled. -/
def fillG (i : grid0.Coords) (gs : Vec F S3072x128 .f32) (X0 : Vec F S3072x128 .bf16) (k : ℕ) : Vec F S3072x128 .bf16 := fun b =>
  if (b 0).val < 256 * k then GS i gs b else X0 b

theorem pay15_apply (i : grid0.Coords) (v : Vec F S256x128 .f32) (a : S256x128.Idx) :
    k0_pay15 i v a = FloatOps.truncf .bf16 bitsLt_bf16_f32 (v (ix2 (n := 256) (m := 128) (a 0) ⟨(i 0).val % 128, Nat.mod_lt _ (by decide)⟩)) := by
  unfold k0_pay15
  rw [shapeCast_self, shapeCast_self]
  show FloatOps.truncf .bf16 bitsLt_bf16_f32 (v _) = _
  congr 2
  refine ext2 rfl ?_
  exact gword ⟨(i 0).val, (i 0).isLt⟩

theorem gtile (X0 : Vec F S3072x128 .bf16) (k : ℕ) (h : ∀ a, (![256 * k, 0] : Fin 2 → ℕ) a + S256x128.size a ≤ S3072x128.size a) :
    upd (fillG i gs X0 k) (Rect.unit (s := S3072x128) ![256 * k, 0] S256x128.size h)
      (k0_pay15 i fun a => gs ((Rect.unit (s := S3072x128) ![256 * k, 0] S256x128.size h).emb a)) = fillG i gs X0 (k + 1) := by
  refine upd_eq (fun a => ?_) fun b hb => ?_
  · rw [pay15_apply]
    have h0 : (a 0).val < 256 := (a 0).isLt
    have e0 : ((Rect.unit (s := S3072x128) ![256 * k, 0] S256x128.size h).emb a 0).val = 256 * k + 1 * (a 0).val := rfl
    unfold fillG
    rw [if_pos (by rw [e0]; omega)]
    unfold GS
    congr 2
    exact ext2 rfl (by show 0 + 1 * ((i 0).val % 128) = (i 0).val % 128; omega)
  · unfold fillG
    by_cases h1 : (b 0).val < 256 * k
    · rw [if_pos h1, if_pos (by omega)]
    · by_cases h2 : (b 0).val < 256 * (k + 1)
      · refine absurd (ext2 ?_ ?_) (hb (ix2 (n := 256) (m := 128) ⟨(b 0).val - 256 * k, by omega⟩ (b 1)))
        · show 256 * k + 1 * ((b 0).val - 256 * k) = (b 0).val
          omega
        · show 0 + 1 * (b 1).val = (b 1).val
          omega
      · rw [if_neg h1, if_neg h2]

theorem fillG_zero (X0 : Vec F S3072x128 .bf16) : fillG i gs X0 0 = X0 := by
  funext b; exact if_neg (by omega)
theorem fillG_all (X0 : Vec F S3072x128 .bf16) : fillG i gs X0 12 = GS i gs := by
  funext b; have : (b 0).val < 3072 := (b 0).isLt; exact if_pos (by omega)

end G

section W

variable (i : grid0.Coords) (ws : Vec F S1002x128 .f32)

/-- The scales of the weights' rows, as the body reads them: row `r` of every column, narrowed. -/
def WS (i : grid0.Coords) (ws : Vec F S1002x128 .f32) : Vec F S768x128 .bf16 := fun b =>
  FloatOps.truncf .bf16 bitsLt_bf16_f32
    (ws (ix2 ⟨6 * (i 0).val + (b 0).val / 128, by have : (i 0).val < 167 := (i 0).isLt; have : (b 0).val < 768 := (b 0).isLt; omega⟩
      ⟨(b 0).val % 128, Nat.mod_lt _ (by decide)⟩))

/-- The first `k` blocks of rows filled. -/
def fillW (i : grid0.Coords) (ws : Vec F S1002x128 .f32) (X0 : Vec F S768x128 .bf16) (k : ℕ) : Vec F S768x128 .bf16 := fun b =>
  if (b 0).val < 128 * k then WS i ws b else X0 b

theorem off15_eq' : ∀ c : Fin 167, ∀ j : Fin 6,
    (Scalar.indexCast (Scalar.addi (Scalar.muli (BitVec.ofNat 32 c.val) 6#32) (BitVec.ofNat 32 j.val)) : BitVec 32).toNat = 6 * c.val + j.val := by
  decide +kernel

theorem off15_eq (j : Fin 6) : k0_off15 i (BitVec.ofNat 32 j.val) = ![6 * (i 0).val + j.val, 0] := by
  unfold k0_off15
  exact congrArg (fun z => (![z, 0] : Fin 2 → ℕ)) (off15_eq' ⟨(i 0).val, (i 0).isLt⟩ j)

theorem pay38_apply (v : Vec F S1x128 .f32) (a : S128x128.Idx) :
    k0_pay38 v a = FloatOps.truncf .bf16 bitsLt_bf16_f32 (v (ix2 (n := 1) (m := 128) 0 (a 0))) := by
  unfold k0_pay38
  rw [shapeCast_self, shapeCast_self, shapeCast_self]
  show FloatOps.truncf .bf16 bitsLt_bf16_f32 (v _) = _
  congr 2
  exact ext2 rfl rfl

theorem wtile (X0 : Vec F S768x128 .bf16) (j : ℕ) (hj : j < 6) (h : ∀ a, (![128 * j, 0] : Fin 2 → ℕ) a + S128x128.size a ≤ S768x128.size a)
    (h' : ∀ a, k0_off15 i (BitVec.ofNat 32 j) a + S1x128.size a ≤ S1002x128.size a) :
    upd (fillW i ws X0 j) (Rect.unit (s := S768x128) ![128 * j, 0] S128x128.size h)
      (k0_pay38 fun a => ws ((Rect.unit (s := S1002x128) (k0_off15 i (BitVec.ofNat 32 j)) S1x128.size h').emb a)) = fillW i ws X0 (j + 1) := by
  refine upd_eq (fun a => ?_) fun b hb => ?_
  · rw [pay38_apply]
    have h0 : (a 0).val < 128 := (a 0).isLt
    have e0 : ((Rect.unit (s := S768x128) ![128 * j, 0] S128x128.size h).emb a 0).val = 128 * j + 1 * (a 0).val := rfl
    unfold fillW
    rw [if_pos (by rw [e0]; omega)]
    unfold WS
    congr 2
    refine ext2 ?_ ?_
    · show k0_off15 i (BitVec.ofNat 32 j) 0 + 1 * 0 = 6 * (i 0).val + (128 * j + 1 * (a 0).val) / 128
      rw [off15_eq i ⟨j, hj⟩]
      show 6 * (i 0).val + j + 1 * 0 = _
      omega
    · show k0_off15 i (BitVec.ofNat 32 j) 1 + 1 * (a 0).val = (128 * j + 1 * (a 0).val) % 128
      rw [off15_eq i ⟨j, hj⟩]
      show 0 + 1 * (a 0).val = _
      omega
  · unfold fillW
    by_cases h1 : (b 0).val < 128 * j
    · rw [if_pos h1, if_pos (by omega)]
    · by_cases h2 : (b 0).val < 128 * (j + 1)
      · refine absurd (ext2 ?_ ?_) (hb (ix2 (n := 128) (m := 128) ⟨(b 0).val - 128 * j, by omega⟩ (b 1)))
        · show 128 * j + 1 * ((b 0).val - 128 * j) = (b 0).val
          omega
        · show 0 + 1 * (b 1).val = (b 1).val
          omega
      · rw [if_neg h1, if_neg h2]

theorem fillW_zero (X0 : Vec F S768x128 .bf16) : fillW i ws X0 0 = X0 := by
  funext b; exact if_neg (by omega)
theorem fillW_all (X0 : Vec F S768x128 .bf16) : fillW i ws X0 6 = WS i ws := by
  funext b; have : (b 0).val < 768 := (b 0).isLt; exact if_pos (by omega)

end W

section X

variable (xq : Vec F S3072x1536 .fp8e4m3) (xs : Vec F S3072x1 .f32)

/-- The activations scaled and transposed. -/
def XT (xq : Vec F S3072x1536 .fp8e4m3) (xs : Vec F S3072x1 .f32) : Vec F S1536x3072 .bf16 := fun b =>
  FloatOps.mulf (FloatOps.extf .bf16 bitsLt_fp8e4m3_bf16 (xq (ix2 (b 1) (b 0)))) (FloatOps.truncf .bf16 bitsLt_bf16_f32 (xs (ix2 (b 1) 0)))

/-- The columns of `n` trips and the first `q` blocks of the next trip's filled. -/
def fillX (xq : Vec F S3072x1536 .fp8e4m3) (xs : Vec F S3072x1 .f32) (X0 : Vec F S1536x3072 .bf16) (n q : ℕ) : Vec F S1536x3072 .bf16 := fun b =>
  if (b 1).val < 256 * n ∨ ((b 1).val < 256 * (n + 1) ∧ (b 0).val < 128 * q) then XT xq xs b else X0 b

theorem pay9_apply (p : FVec F S256x128 .bf16) (v : Vec F S256x128 .fp8e4m3) (a : S128x256.Idx) :
    k0_pay9 p v a = FloatOps.mulf (FloatOps.extf .bf16 bitsLt_fp8e4m3_bf16 (v (ix2 (n := 256) (m := 128) (a 1) (a 0)))) (p (ix2 (n := 256) (m := 128) (a 1) (a 0))) := by
  unfold k0_pay9
  rw [shapeCast_self]
  show FloatOps.mulf (FloatOps.extf .bf16 bitsLt_fp8e4m3_bf16 (v _)) (p _) = _
  congr 3 <;> exact ext2 rfl rfl

theorem pay1_apply (v : Vec F S256x1 .f32) (a : S256x128.Idx) :
    k0_pay1 v a = FloatOps.truncf .bf16 bitsLt_bf16_f32 (v (ix2 (n := 256) (m := 1) (a 0) 0)) := by
  unfold k0_pay1
  rw [shapeCast_self, shapeCast_self]
  show FloatOps.truncf .bf16 bitsLt_bf16_f32 (v _) = _
  congr 2
  exact ext2 rfl rfl

theorem off1_eq : ∀ n : Fin k0_t1_loop.trips, k0_off1 n = ![256 * n.val, 0] := by decide +kernel
theorem off2_eq : ∀ n : Fin k0_t1_loop.trips, k0_off2 n = ![256 * n.val, 0] := by decide +kernel
theorem off3_eq : ∀ n : Fin k0_t1_loop.trips, k0_off3 n = ![128 * 0, 256 * n.val] := by decide +kernel
theorem off4_eq : ∀ n : Fin k0_t1_loop.trips, k0_off4 n = ![128 * 1, 256 * n.val] := by decide +kernel
theorem off5_eq : ∀ n : Fin k0_t1_loop.trips, k0_off5 n = ![128 * 2, 256 * n.val] := by decide +kernel
theorem off6_eq : ∀ n : Fin k0_t1_loop.trips, k0_off6 n = ![128 * 3, 256 * n.val] := by decide +kernel
theorem off7_eq : ∀ n : Fin k0_t1_loop.trips, k0_off7 n = ![128 * 4, 256 * n.val] := by decide +kernel
theorem off8_eq : ∀ n : Fin k0_t1_loop.trips, k0_off8 n = ![128 * 5, 256 * n.val] := by decide +kernel
theorem off9_eq : ∀ n : Fin k0_t1_loop.trips, k0_off9 n = ![128 * 6, 256 * n.val] := by decide +kernel
theorem off10_eq : ∀ n : Fin k0_t1_loop.trips, k0_off10 n = ![128 * 7, 256 * n.val] := by decide +kernel
theorem off11_eq : ∀ n : Fin k0_t1_loop.trips, k0_off11 n = ![128 * 8, 256 * n.val] := by decide +kernel
theorem off12_eq : ∀ n : Fin k0_t1_loop.trips, k0_off12 n = ![128 * 9, 256 * n.val] := by decide +kernel
theorem off13_eq : ∀ n : Fin k0_t1_loop.trips, k0_off13 n = ![128 * 10, 256 * n.val] := by decide +kernel
theorem off14_eq : ∀ n : Fin k0_t1_loop.trips, k0_off14 n = ![128 * 11, 256 * n.val] := by decide +kernel

theorem xtile (X0 : Vec F S1536x3072 .bf16) (n : Fin k0_t1_loop.trips) (q : ℕ) (hq : q < 12) {off : Fin 2 → ℕ} (ho : off = ![128 * q, 256 * n.val])
    (h : ∀ a, off a + S128x256.size a ≤ S1536x3072.size a)
    (hx : ∀ a, k0_off1 n a + S256x1536.size a ≤ S3072x1536.size a) (hs : ∀ a, k0_off2 n a + S256x1.size a ≤ S3072x1.size a)
    (hl : ∀ a, (![0, 128 * q] : Fin 2 → ℕ) a + S256x128.size a ≤ S256x1536.size a) :
    upd (fillX xq xs X0 n.val q) (Rect.unit (s := S1536x3072) off S128x256.size h)
      (k0_pay9 (k0_pay1 fun a => xs ((Rect.unit (s := S3072x1) (k0_off2 n) S256x1.size hs).emb a))
        (fun a => (fun a' => xq ((Rect.unit (s := S3072x1536) (k0_off1 n) S256x1536.size hx).emb a'))
          ((Rect.unit (s := S256x1536) ![0, 128 * q] S256x128.size hl).emb a))) = fillX xq xs X0 n.val (q + 1) := by
  subst ho
  refine upd_eq (fun a => ?_) fun b hb => ?_
  · rw [pay9_apply, pay1_apply]
    have h0 : (a 0).val < 128 := (a 0).isLt
    have h1 : (a 1).val < 256 := (a 1).isLt
    have e0 : ((Rect.unit (s := S1536x3072) ![128 * q, 256 * n.val] S128x256.size h).emb a 0).val = 128 * q + 1 * (a 0).val := rfl
    have e1 : ((Rect.unit (s := S1536x3072) ![128 * q, 256 * n.val] S128x256.size h).emb a 1).val = 256 * n.val + 1 * (a 1).val := rfl
    unfold fillX
    rw [if_pos (.inr ⟨by rw [e1]; omega, by rw [e0]; omega⟩)]
    unfold XT
    congr 3
    · refine congrArg xq (ext2 ?_ ?_)
      · show k0_off1 n 0 + 1 * (0 + 1 * (a 1).val) = 256 * n.val + 1 * (a 1).val
        rw [off1_eq]
        show 256 * n.val + 1 * (0 + 1 * (a 1).val) = _
        omega
      · show k0_off1 n 1 + 1 * (128 * q + 1 * (a 0).val) = 128 * q + 1 * (a 0).val
        rw [off1_eq]
        show 0 + 1 * (128 * q + 1 * (a 0).val) = _
        omega
    · refine ext2 ?_ ?_
      · show k0_off2 n 0 + 1 * (a 1).val = 256 * n.val + 1 * (a 1).val
        rw [off2_eq]; rfl
      · show k0_off2 n 1 + 1 * 0 = 0
        rw [off2_eq]; rfl
  · unfold fillX
    by_cases h1 : (b 1).val < 256 * n.val ∨ ((b 1).val < 256 * (n.val + 1) ∧ (b 0).val < 128 * q)
    · rw [if_pos h1, if_pos (by omega)]
    · by_cases h2 : (b 1).val < 256 * n.val ∨ ((b 1).val < 256 * (n.val + 1) ∧ (b 0).val < 128 * (q + 1))
      · refine absurd (ext2 ?_ ?_) (hb (ix2 (n := 128) (m := 256) ⟨(b 0).val - 128 * q, by omega⟩ ⟨(b 1).val - 256 * n.val, by omega⟩))
        · show 128 * q + 1 * ((b 0).val - 128 * q) = (b 0).val
          omega
        · show 256 * n.val + 1 * ((b 1).val - 256 * n.val) = (b 1).val
          omega
      · rw [if_neg h1, if_neg h2]

theorem fillX_zero (X0 : Vec F S1536x3072 .bf16) : fillX xq xs X0 0 0 = X0 := by
  funext b; exact if_neg (by omega)
theorem fillX_next (X0 : Vec F S1536x3072 .bf16) (n : ℕ) : fillX xq xs X0 n 12 = fillX xq xs X0 (n + 1) 0 := by
  funext b
  have : (b 0).val < 1536 := (b 0).isLt
  unfold fillX
  by_cases h : (b 1).val < 256 * (n + 1)
  · rw [if_pos (by omega), if_pos (by omega)]
  · rw [if_neg (by omega), if_neg (by omega)]
theorem fillX_all (X0 : Vec F S1536x3072 .bf16) : fillX xq xs X0 12 0 = XT xq xs := by
  funext b; have : (b 1).val < 3072 := (b 1).isLt; exact if_pos (by omega)

end X

end Cert.Kernel.Fill

end
-- ==== Proof.While.lean ====
/-
  The accumulation loop: from the counter it is entered at it adds to each row of the result's block the scaled gradient
  rows whose identifier names that row, in order, until an identifier past the block or the end of the list.
-/
module

public import proofs.«01_k».proof.Proof.Own
public import proofs.«01_k».proof.Proof.Idx
public import proofs.«01_k».proof.Proof.Words

@[expose] public section

noncomputable section

namespace Cert.Kernel.While

open Cert.Kernel Cert.Kernel.Gen Cert.Idx Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] [Facts]

local notation "𝕄" => MT nD τ sig Unit (Elt F) ℕ (Pipeline.UD sig nD τ) ℕ

/-- The loops' variants: the trips still to run. -/
abbrev 𝒱₀ : Variants := Variants.nat

section Pure

variable (ids : Vec F S3072 .i32) (e : Vec F S3072x1536 .fp8e5m2) (sc : Vec F S3072 .f32) (i : grid0.Coords)

/-- The first identifier of the block. -/
def lo : BitVec 32 := Scalar.muli (BitVec.ofNat 32 (i 0).val) 768#32

/-- The identifier at `p` is below the block's end. -/
def below (p : Fin 3072) : Prop := Scalar.cmpi .slt (ids (ix1 p)) (Scalar.addi (lo i) 768#32) = 1#1

instance (p : Fin 3072) : Decidable (below (F := F) ids i p) := by unfold below; infer_instance

/-- The row of the block that the identifier at `p` names. -/
def row (p : Fin 3072) : ℕ := (Scalar.subi (ids (ix1 p)) (lo i)).toNat

/-- The block after the gradient row `p` is added to its row. -/
def step (p : Fin 3072) (X : Vec F S768x1536 .f32) : Vec F S768x1536 .f32 := fun b =>
  if row (F := F) ids i p = (b 0).val then
    FloatOps.addf (X b) (FloatOps.mulf (FloatOps.extf .f32 bitsLt_fp8e5m2_f32 (e (ix2 p (b 1)))) (sc (ix1 p)))
  else X b

/-- Where the loop stops, entered at `p` with at most `k` trips to run, and the block it leaves. -/
def go : ℕ → ℕ → Vec F S768x1536 .f32 → ℕ × Vec F S768x1536 .f32
  | 0, p, X => (p, X)
  | k + 1, p, X => if h : ∃ hp : p < 3072, below (F := F) ids i ⟨p, hp⟩ then go k (p + 1) (step ids e sc i ⟨p, h.1⟩ X) else (p, X)

/-- The widened rows held at counter `p`: inside a group of 32 they are that group's. -/
def EfOk (p : ℕ) (Y : Vec F S32x1536 .f32) : Prop :=
  p % 32 ≠ 0 → ∀ (k : Fin 32) (j : Fin 1536) (h : 32 * (p / 32) + k.val < 3072), Y (ix2 k j) = FloatOps.extf .f32 bitsLt_fp8e5m2_f32 (e (ix2 ⟨_, h⟩ j))

end Pure

/-- A word read at an offset. -/
theorem at1 {β : Type} (X : S3072.Idx → β) (off : Fin 1 → ℕ) (h : ∀ a, off a + S1.size a ≤ S3072.size a) (p : Fin 3072) (ho : off = ![p.val])
    (x : (Rect.unit (s := S3072) off S1.size h).shape.Idx) : X ((Rect.unit (s := S3072) off S1.size h).emb x) = X (ix1 p) := by
  subst ho
  congr 1
  refine ext1 ?_
  have h0 : (x 0).val < 1 := (x 0).isLt
  show p.val + 1 * (x 0).val = p.val
  omega

/-- One row's addition, as the store of the row makes it. -/
theorem step_eq (ids : Vec F S3072 .i32) (e : Vec F S3072x1536 .fp8e5m2) (sc : Vec F S3072 .f32) (i : grid0.Coords) (p : Fin 3072)
    (X : Vec F S768x1536 .f32) (Y : Vec F S32x1536 .f32)
    (h19 : ∀ a, k0_off19 i (ids (ix1 p)) a + S1x1536.size a ≤ S768x1536.size a)
    (h20 : ∀ a, k0_off20 (BitVec.ofNat 32 p.val) a + S1x1536.size a ≤ S32x1536.size a)
    (hY : ∀ j : Fin 1536, Y (ix2 ⟨p.val % 32, by omega⟩ j) = FloatOps.extf .f32 bitsLt_fp8e5m2_f32 (e (ix2 p j))) :
    upd X (Rect.unit (s := S768x1536) (k0_off19 i (ids (ix1 p))) S1x1536.size h19)
      (k0_pay545 (fun a => X ((Rect.unit (s := S768x1536) (k0_off19 i (ids (ix1 p))) S1x1536.size h19).emb a))
        (fun a => Y ((Rect.unit (s := S32x1536) (k0_off20 (BitVec.ofNat 32 p.val)) S1x1536.size h20).emb a)) (sc (ix1 p)))
      = step ids e sc i p X := by
  funext b
  have hoff : k0_off19 i (ids (ix1 p)) = ![row (F := F) ids i p, 0] := rfl
  by_cases hb : row (F := F) ids i p = (b 0).val
  · have hemb : (Rect.unit (s := S768x1536) (k0_off19 i (ids (ix1 p))) S1x1536.size h19).emb (ix2 (n := 1) (m := 1536) 0 (b 1)) = b := by
      refine ext2 ?_ ?_
      · show row (F := F) ids i p + 1 * 0 = _
        omega
      · show 0 + 1 * (b 1).val = _
        omega
    conv_lhs => rw [← hemb]
    rw [upd_hit]
    unfold step
    rw [if_pos hb]
    unfold k0_pay545
    show FloatOps.addf (shapeCast S1x1536 _ _ _) (FloatOps.mulf (Y _) (sc (ix1 p))) = _
    rw [shapeCast_self]
    show FloatOps.addf (X ((Rect.unit (s := S768x1536) (k0_off19 i (ids (ix1 p))) S1x1536.size h19).emb (ix2 (n := 1) (m := 1536) 0 (b 1)))) _ = _
    rw [hemb]
    congr 2
    refine Eq.trans ?_ (hY (b 1))
    congr 1
    refine ext2 ?_ ?_
    · show k0_off20 (BitVec.ofNat 32 p.val) 0 + 1 * 0 = p.val % 32
      rw [Words.off20_eq]; rfl
    · show k0_off20 (BitVec.ofNat 32 p.val) 1 + 1 * (b 1).val = (b 1).val
      rw [Words.off20_eq]
      show 0 + 1 * (b 1).val = (b 1).val
      omega
  · rw [upd_miss]
    · unfold step; rw [if_neg hb]
    · intro a ha
      apply hb
      have h0 : (a 0).val < 1 := (a 0).isLt
      have := congrArg (fun z : S768x1536.Idx => (z 0).val) ha
      have : row (F := F) ids i p + 1 * (a 0).val = (b 0).val := this
      omega

section Label

variable (c : Dev nD) (ids : Vec F S3072 .i32) (e : Vec F S3072x1536 .fp8e5m2) (sc : Vec F S3072 .f32) (i : grid0.Coords)
  (q1 q9 : PosShare TreeShare)
  (arg1 : Memref sig .tc .smem S3072 .i32) (harg1 : arg1.IsWhole) (arg9 : Memref sig .tc .hbm S3072x1536 .fp8e5m2) (harg9 : arg9.IsWhole)
  (arg16 : Memref sig .tc .vmem S32x1536 .fp8e5m2) (harg16 : arg16.IsWhole) (arg18 : DmaSems sig S_)
  (arg17 : Memref sig .tc .vmem S32x1536 .f32) (harg17 : arg17.IsWhole) (arg10 : Memref sig .tc .vmem S768x1536 .f32) (harg10 : arg10.IsWhole)
  (arg2 : Memref sig .tc .smem S3072 .f32) (harg2 : arg2.IsWhole)

/-- What the loop reads and writes, held: the block at `X`, the widened rows at contents good for the counter `p`. -/
def held (p : ℕ) (X : Vec F S768x1536 .f32) : sProp 𝕄 :=
  iprop(owns (c : Thread nD τ) arg1 q1 ids ∗ owns (c : Thread nD τ) arg9 q9 e ∗ (∃ Z, owns (c : Thread nD τ) arg16 fullShare Z)
    ∗ (∃ Y, ⌜EfOk e p Y⌝ ∗ owns (c : Thread nD τ) arg17 fullShare Y) ∗ owns (c : Thread nD τ) arg10 fullShare X
    ∗ owns (c : Thread nD τ) arg2 fullShare sc ∗ semVal ((c : Thread nD τ), SemLoc.dma arg18.sem) 0 ∗ ∃ W, owes (c : Thread nD τ) 0 W)

/-- The loop's specification, entered at counter `p` with at most `k` trips to run. -/
def spec (k p : ℕ) (X : Vec F S768x1536 .f32) : sWPT 𝕄 (BitVec 32) := do
  sWPT.consume (held c ids e sc q1 q9 arg1 arg9 arg16 arg18 arg17 arg10 arg2 p X)
  let r ← sWPT.arbitrary
  sWPT.assume (r = BitVec.ofNat 32 (go ids e sc i k p X).1)
  sWPT.produce (held c ids e sc q1 q9 arg1 arg9 arg16 arg18 arg17 arg10 arg2 (go ids e sc i k p X).1 (go ids e sc i k p X).2)
  pure r

theorem spec_apply (k p : ℕ) (X : Vec F S768x1536 .f32) (K : BitVec 32 → sProp 𝕄) :
    spec c ids e sc i q1 q9 arg1 arg9 arg16 arg18 arg17 arg10 arg2 k p X K
      = iprop(held c ids e sc q1 q9 arg1 arg9 arg16 arg18 arg17 arg10 arg2 p X
        ∗ ∀ r : BitVec 32, ⌜r = BitVec.ofNat 32 (go ids e sc i k p X).1⌝
          -∗ (held c ids e sc q1 q9 arg1 arg9 arg16 arg18 arg17 arg10 arg2 (go ids e sc i k p X).1 (go ids e sc i k p X).2 -∗ K r)) := rfl

include harg1 harg9 harg16 harg17 harg10 harg2 in
/-- The label's body meets the specification. -/
theorem spec_le :
    ∀ k p, p + k = 3072 → (∀ q : Fin 3072, p ≤ q.val → below (F := F) ids i q → row (F := F) ids i q < 768) →
      ∀ X K, spec c ids e sc i q1 q9 arg1 arg9 arg16 arg18 arg17 arg10 arg2 k p X K
      ⊢ wp frame (wpE (defs₀ (F := F)) 𝒱₀ (c : Thread nD τ) (some k)) Set.univ
          (defs₀ (F := F) .tc 1 ⟨i, arg1, harg1, arg9, harg9, arg16, harg16, arg18, arg17, harg17, arg10, harg10, arg2, harg2, BitVec.ofNat 32 p⟩) K := by
  intro k
  induction k with
  | zero =>
    intro p hp hr X K
    rw [spec_apply]
    show _ ⊢ wp frame (wpE (defs₀ (F := F)) 𝒱₀ (c : Thread nD τ) (some 0)) Set.univ
      (cc0_while1 i arg1 harg1 arg9 harg9 arg16 harg16 arg18 arg17 harg17 arg10 harg10 arg2 harg2 (BitVec.ofNat 32 p)) K
    have h3 : p = 3072 := by omega
    simp only [cc0_while1_eq_skeleton]; unfold cc0_while1_skel smemLoad smemLoadElt
    simp only [Prog.lift, Prog.bind_op, Prog.bind_ret, Prog.pure_eq_ret]
    unfold held
    iintro ⟨⟨H1, H9, H16, H17, H10, H2, Hs, HO⟩, Hk⟩
    iapply (wp_assume 𝒱₀ (c : Thread nD τ) (some 0) Set.univ (Words.chk1 ⟨p, by omega⟩))
    iapply (Own.load (defs₀ (F := F)) 𝒱₀ c (some 0) Set.univ (m := arg1)) $$ H1; iintro H1
    have ht : Scalar.cmpi .slt (BitVec.ofNat 32 p) 3072#32 = 0#1 := by
      have := Words.slt_eq ⟨p, by omega⟩
      rw [if_neg (by simp [h3])] at this
      exact this
    rw [ht]
    rw [if_neg (by intro h; revert h; generalize Scalar.cmpi CmpIPredicate.slt _ _ = z; revert z; decide)]
    rw [wp_ret]; imodintro
    have hg : go ids e sc i 0 p X = (p, X) := rfl
    rw [hg]
    iapply Hk
    · ipureintro; rfl
    iframe
  | succ k ih =>
    intro p hp hr X K
    have h3 : p < 3072 := by omega
    rw [spec_apply]
    show _ ⊢ wp frame (wpE (defs₀ (F := F)) 𝒱₀ (c : Thread nD τ) (some (k + 1))) Set.univ
      (cc0_while1 i arg1 harg1 arg9 harg9 arg16 harg16 arg18 arg17 harg17 arg10 harg10 arg2 harg2 (BitVec.ofNat 32 p)) K
    simp only [cc0_while1_eq_skeleton]; unfold cc0_while1_skel smemLoad smemLoadElt
    simp only [Prog.lift, Prog.bind_op, Prog.bind_ret, Prog.pure_eq_ret]
    unfold held
    iintro ⟨⟨H1, H9, H16, H17, H10, H2, Hs, HO⟩, Hk⟩
    iapply (wp_assume 𝒱₀ (c : Thread nD τ) (some (k + 1)) Set.univ (Words.chk1 ⟨p, by omega⟩))
    iapply (Own.load (defs₀ (F := F)) 𝒱₀ c (some (k + 1)) Set.univ (m := arg1)) $$ H1; iintro H1
    have ht : Scalar.cmpi .slt (BitVec.ofNat 32 p) 3072#32 = 1#1 := by
      have := Words.slt_eq ⟨p, by omega⟩
      rw [if_pos h3] at this
      exact this
    beta_reduce
    rw [ht, at1 ids _ _ ⟨p, h3⟩ ((Words.off16_eq ⟨p, by omega⟩).trans (by simp; omega))]
    by_cases hb : below (F := F) ids i ⟨p, h3⟩
    · have hgo : go ids e sc i (k + 1) p X = go ids e sc i k (p + 1) (step ids e sc i ⟨p, h3⟩ X) := by
        rw [go, dif_pos ⟨h3, hb⟩]
      have hb' : Scalar.cmpi CmpIPredicate.slt (ids (ix1 ⟨p, h3⟩)) (Scalar.addi (Scalar.muli (BitVec.ofNat 32 (i 0).val) 768#32) 768#32) = 1#1 := hb
      rw [hb', if_pos (by decide), hgo]
      rw [k0_part108_eq_skeleton]; unfold k0_part108_skel smemLoad smemLoadElt
      simp only [Prog.lift, Prog.bind_op, Prog.bind_ret, Prog.pure_eq_ret]
      iapply (wp_assume 𝒱₀ (c : Thread nD τ) (some (k + 1)) Set.univ (Words.chk2 ⟨p, h3⟩))
      icases H17 with ⟨%Y, %hY, H17⟩
      icases H16 with ⟨%Z, H16⟩
      icases HO with ⟨%W, HO⟩
      have hsub : k0_chk3 i (ids (ix1 ⟨p, h3⟩)) := by
        have := hr ⟨p, h3⟩ (le_refl _) hb
        intro a
        match a with
        | ⟨0, _⟩ => show row (F := F) ids i ⟨p, h3⟩ + 1 ≤ 768; omega
        | ⟨1, _⟩ => show 0 + 1536 ≤ 1536; omega
      have hc2 := Words.cond2_eq ⟨p, h3⟩
      by_cases h2 : p % 32 = 0
      case' pos =>
        rw [if_pos h2] at hc2
        rw [dif_pos hc2]
        simp only [Prog.bind_op, Prog.bind_ret]
        iapply (Own.copy (defs₀ (F := F)) 𝒱₀ c (some (k + 1)) countersEmb (fun _ => rfl) () (show 0 < S32x1536.numel by decide)) $$ [H9 H16 Hs HO]
        · isplitl [H9]; · iexact H9
          isplitl [H16]; · iexact H16
          isplitl [Hs]; · iexact Hs
          iexact HO
        iintro ⟨H9, H16, Hs, HO⟩
        iapply (Own.load (defs₀ (F := F)) 𝒱₀ c (some (k + 1)) Set.univ (m := arg16)) $$ H16; iintro H16
        iapply (Own.load (defs₀ (F := F)) 𝒱₀ c (some (k + 1)) Set.univ (m := arg17)) $$ H17; iintro H17
        obtain ⟨Y', hY'⟩ : ∃ Y' : Vec F S32x1536 .f32, upd Y (Rect.unit (s := S32x1536) ![0, 0] S32x1536.size inb_S32x1536_S32x1536_0_0)
            (k0_pay544 fun a => (fun a' => e ((Rect.unit (s := S3072x1536) (k0_off17 (BitVec.ofNat 32 p)) S32x1536.size
              (k0_off17_inb _ (Words.chk2 ⟨p, h3⟩) hc2)).emb a')) ((Rect.unit (s := S32x1536) ![0, 0] S32x1536.size inb_S32x1536_S32x1536_0_0).emb a)) = Y' := ⟨_, rfl⟩
        have hE : ∀ (k : Fin 32) (j : Fin 1536) (h : 32 * (p / 32) + k.val < 3072),
            Y' (ix2 k j) = FloatOps.extf .f32 bitsLt_fp8e5m2_f32 (e (ix2 ⟨_, h⟩ j)) := by
          intro k j h
          rw [← hY']
          have hemb : (Rect.unit (s := S32x1536) ![0, 0] S32x1536.size inb_S32x1536_S32x1536_0_0).emb (ix2 k j) = ix2 k j :=
            ext2 (by show 0 + 1 * k.val = k.val; omega) (by show 0 + 1 * j.val = j.val; omega)
          conv_lhs => rw [← hemb]
          rw [upd_hit]
          unfold k0_pay544
          rw [shapeCast_self]
          show FloatOps.extf .f32 bitsLt_fp8e5m2_f32 (e _) = _
          congr 2
          rw [hemb]
          refine ext2 ?_ ?_
          · show k0_off17 (BitVec.ofNat 32 p) 0 + 1 * k.val = 32 * (p / 32) + k.val
            rw [Words.off17_eq ⟨p, h3⟩]
            show p + 1 * k.val = _
            omega
          · show k0_off17 (BitVec.ofNat 32 p) 1 + 1 * j.val = j.val
            rw [Words.off17_eq ⟨p, h3⟩]
            show 0 + 1 * j.val = _
            omega
        iapply (Own.store_to (defs₀ (F := F)) 𝒱₀ c (some (k + 1)) Set.univ (m := arg17) hY') $$ H17; iintro H17
        clear hY' hY Y
      case' neg =>
        rw [if_neg h2] at hc2
        rw [dif_neg (by rw [hc2]; decide)]
        simp only [Prog.bind_op, Prog.bind_ret]
        obtain ⟨Y', hY'⟩ : ∃ Y' : Vec F S32x1536 .f32, Y' = Y := ⟨_, rfl⟩
        subst hY'
        have hE : ∀ (k : Fin 32) (j : Fin 1536) (h : 32 * (p / 32) + k.val < 3072),
            Y' (ix2 k j) = FloatOps.extf .f32 bitsLt_fp8e5m2_f32 (e (ix2 ⟨_, h⟩ j)) := hY h2
      all_goals
        iapply (Own.load (defs₀ (F := F)) 𝒱₀ c (some (k + 1)) Set.univ (m := arg1)) $$ H1; iintro H1
        beta_reduce
        rw [at1 ids _ _ ⟨p, h3⟩ (Words.off18_eq ⟨p, h3⟩)]
        iapply (wp_assume 𝒱₀ (c : Thread nD τ) (some (k + 1)) Set.univ hsub)
        iapply (Own.load (defs₀ (F := F)) 𝒱₀ c (some (k + 1)) Set.univ (m := arg10)) $$ H10; iintro H10
        iapply (Own.load (defs₀ (F := F)) 𝒱₀ c (some (k + 1)) Set.univ (m := arg17)) $$ H17; iintro H17
        iapply (Own.load (defs₀ (F := F)) 𝒱₀ c (some (k + 1)) Set.univ (m := arg2)) $$ H2; iintro H2
        beta_reduce
        rw [at1 sc _ _ ⟨p, h3⟩ (Words.off21_eq ⟨p, h3⟩)]
        iapply (Own.load (defs₀ (F := F)) 𝒱₀ c (some (k + 1)) Set.univ (m := arg10)) $$ H10; iintro H10
        iapply (Own.store_to (defs₀ (F := F)) 𝒱₀ c (some (k + 1)) Set.univ (m := arg10)
          (step_eq ids e sc i ⟨p, h3⟩ X Y' hsub (k0_off20_inb _ (Words.chk2 ⟨p, h3⟩))
            (fun j => (hE ⟨p % 32, by omega⟩ j (by show 32 * (p / 32) + p % 32 < 3072; omega)).trans
              (by congr 3; exact Fin.ext (by show 32 * (p / 32) + p % 32 = p; omega))))) $$ H10; iintro H10
        have hadd : Scalar.addi (BitVec.ofNat 32 p) 1#32 = BitVec.ofNat 32 (p + 1) := (BitVec.ofNat_add p 1).symm
        rw [hadd]
        iapply (wp_call_spec 𝒱₀ (c : Thread nD τ) (some (k + 1)) Set.univ
          (spec c ids e sc i q1 q9 arg1 arg9 arg16 arg18 arg17 arg10 arg2 k (p + 1) (step ids e sc i ⟨p, h3⟩ X)) k
          (fun u hu => by cases hu; exact Nat.lt_succ_self k)
          (ih (p + 1) (by omega) (fun q hq => hr q (by omega)) (step ids e sc i ⟨p, h3⟩ X)))
        rw [spec_apply]; unfold held
        isplitl [H1 H9 H16 H17 H10 H2 Hs HO]
        · isplitl [H1]; · iexact H1
          isplitl [H9]; · iexact H9
          isplitl [H16]; · iexists _; iexact H16
          isplitl [H17]
          · iexists Y'
            isplitr
            · ipureintro
              intro h5 k' j h
              have hd : (p + 1) / 32 = p / 32 := by omega
              refine (hE k' j (by rw [← hd]; exact h)).trans ?_
              congr 3
              exact Fin.ext (by show 32 * (p / 32) + k'.val = 32 * ((p + 1) / 32) + k'.val; rw [hd])
            iexact H17
          isplitl [H10]; · iexact H10
          isplitl [H2]; · iexact H2
          isplitl [Hs]; · iexact Hs
          iexists _; iexact HO
        iintro %r %hr' H
        rw [wp_ret]; imodintro
        iapply Hk
        · ipureintro; exact hr'
        iexact H
    · have hgo : go ids e sc i (k + 1) p X = (p, X) := by
        rw [go, dif_neg (fun h => hb h.2)]
      have hb' : ¬ Scalar.cmpi CmpIPredicate.slt (ids (ix1 ⟨p, h3⟩)) (Scalar.addi (Scalar.muli (BitVec.ofNat 32 (i 0).val) 768#32) 768#32) = 1#1 := hb
      rw [if_neg (by intro h; apply hb'; revert h; generalize Scalar.cmpi CmpIPredicate.slt _ _ = z; revert z; decide)]
      rw [wp_ret]; imodintro
      rw [hgo]
      iapply Hk
      · ipureintro; rfl
      iframe

end Label

end Cert.Kernel.While

end
-- ==== Proof.Align.lean ====
/-
  Each printed window of the kernel body's middle is the program of its list of operations (`Mach.run`), by computation;
  and so is the middle as a whole, between what comes before it and what comes after.
-/
module

public import proofs.«01_k».proof.Kernel
public import proofs.«01_k».proof.Proof.Ops

@[expose] public section

noncomputable section

namespace Cert.Kernel.Align

open Idealize.ShloMosaic Idealize.SL.Sem Cert.Mach Cert.Kernel Facts₀ Facts

variable {F : FTy → Type} [FloatOps F]
variable [Facts]

/-- The last steps before the matrix unit's first. -/
def pre12 (i : grid0.Coords) (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole)
    (arg0 : BitVec 32) (v356_r0 : BitVec 32) : Prog (TpuEff nD τ sig (Elt F) (Λ₀ F) .tc) PUnit := do
    let v358_r0 : Vec F S1x128 .f32 ← Prog.lift (.load arg6 (Rect.unit (s := S1002x128) (k0_off15 i 4#32) S1x128.size (k0_off15_inb i 4)).toLoadRect (View.loadsAt_vmem h_S1x128))
    have v359_r0 : FVec F S1x128 .f32 := shapeCast S1x128 v358_r0 shapeCasts_S1x128_S1x128
    have v360_r0 : FVec F S1x128 .f32 := shapeCast S1x128 v359_r0 shapeCasts_S1x128_S1x128
    have v361_r0 : FVec F S128x128 .f32 := broadcastTo S128x128 v360_r0 broadcasts_S1x128_S128x128
    have v362_r0 : FVec F S128x128 .f32 := transpose S128x128 [1, 0] v361_r0 transposes_S128x128_p1_0_S128x128
    have v363_r0 : FVec F S128x128 .bf16 := truncf .bf16 v362_r0 bitsLt_bf16_f32
    let v364_r0 : Vec F S128x128 .bf16 ← Prog.lift (.load arg14 (Rect.unit (s := S768x128) ![512, 0] S128x128.size inb_S768x128_S128x128_512_0).toLoadRect (View.loadsAt_vmem h_S128x128))
    have v365_r0 : FVec F S128x128 .bf16 := shapeCast S128x128 v364_r0 shapeCasts_S128x128_S128x128
    have v366_r0 : FVec F S128x128 .bf16 := shapeCast S128x128 v363_r0 shapeCasts_S128x128_S128x128
    Prog.lift (.store arg14 (Rect.unit (s := S768x128) ![512, 0] S128x128.size inb_S768x128_S128x128_512_0) v366_r0 Finset.univ (View.stores_vmem h_S128x128 (harg14.storeExact_slice rfl _ packedbf16_S768x128_S128x128_512_0) (fun _ => rfl)) (.inl rfl))
    let v370_r0 : Vec F S1x128 .f32 ← Prog.lift (.load arg6 (Rect.unit (s := S1002x128) (k0_off15 i 5#32) S1x128.size (k0_off15_inb i 5)).toLoadRect (View.loadsAt_vmem h_S1x128))
    have v371_r0 : FVec F S1x128 .f32 := shapeCast S1x128 v370_r0 shapeCasts_S1x128_S1x128
    have v372_r0 : FVec F S1x128 .f32 := shapeCast S1x128 v371_r0 shapeCasts_S1x128_S1x128
    have v373_r0 : FVec F S128x128 .f32 := broadcastTo S128x128 v372_r0 broadcasts_S1x128_S128x128
    have v374_r0 : FVec F S128x128 .f32 := transpose S128x128 [1, 0] v373_r0 transposes_S128x128_p1_0_S128x128
    have v375_r0 : FVec F S128x128 .bf16 := truncf .bf16 v374_r0 bitsLt_bf16_f32
    let v376_r0 : Vec F S128x128 .bf16 ← Prog.lift (.load arg14 (Rect.unit (s := S768x128) ![640, 0] S128x128.size inb_S768x128_S128x128_640_0).toLoadRect (View.loadsAt_vmem h_S128x128))
    have v377_r0 : FVec F S128x128 .bf16 := shapeCast S128x128 v376_r0 shapeCasts_S128x128_S128x128
    have v378_r0 : FVec F S128x128 .bf16 := shapeCast S128x128 v375_r0 shapeCasts_S128x128_S128x128
    Prog.lift (.store arg14 (Rect.unit (s := S768x128) ![640, 0] S128x128.size inb_S768x128_S128x128_640_0) v378_r0 Finset.univ (View.stores_vmem h_S128x128 (harg14.storeExact_slice rfl _ packedbf16_S768x128_S128x128_640_0) (fun _ => rfl)) (.inl rfl))
    pure ⟨⟩

variable (i : grid0.Coords)
  (arg1 : Memref sig .tc .smem S3072 .i32) (harg1 : arg1.IsWhole)
  (arg2 : Memref sig .tc .smem S3072 .f32) (harg2 : arg2.IsWhole)
  (arg3 : Memref sig .tc .vmem S3072x768 .fp8e5m2) (harg3 : arg3.IsWhole)
  (arg4 : Memref sig .tc .vmem S3072x128 .f32) (harg4 : arg4.IsWhole)
  (arg5 : Memref sig .tc .vmem S768x1536 .fp8e4m3) (harg5 : arg5.IsWhole)
  (arg6 : Memref sig .tc .vmem S1002x128 .f32) (harg6 : arg6.IsWhole)
  (arg7 : Memref sig .tc .hbm S3072x1536 .fp8e4m3) (harg7 : arg7.IsWhole)
  (arg8 : Memref sig .tc .vmem S3072x1 .f32) (harg8 : arg8.IsWhole)
  (arg9 : Memref sig .tc .hbm S3072x1536 .fp8e5m2) (harg9 : arg9.IsWhole)
  (arg10 : Memref sig .tc .vmem S768x1536 .f32) (harg10 : arg10.IsWhole)
  (arg11 : Memref sig .tc .vmem S3072x1536 .f32) (harg11 : arg11.IsWhole)
  (arg12 : Memref sig .tc .vmem S1536x3072 .bf16) (harg12 : arg12.IsWhole)
  (arg13 : Memref sig .tc .vmem S3072x128 .bf16) (harg13 : arg13.IsWhole)
  (arg14 : Memref sig .tc .vmem S768x128 .bf16) (harg14 : arg14.IsWhole)
  (arg15 : Memref sig .tc .vmem S256x1536 .fp8e4m3) (harg15 : arg15.IsWhole)
  (arg16 : Memref sig .tc .vmem S32x1536 .fp8e5m2) (harg16 : arg16.IsWhole)
  (arg17 : Memref sig .tc .vmem S32x1536 .f32) (harg17 : arg17.IsWhole)
  (arg18 : DmaSems sig S_)
  (arg19 : Memref sig .tc .smem S1 .i32) (harg19 : arg19.IsWhole)

/-- The buffers the operations name. -/
abbrev refs : Refs sig := ⟨arg3, arg5, arg10, arg11, arg12, arg13, arg14⟩
local notation "RR" => refs arg3 arg5 arg10 arg11 arg12 arg13 arg14

theorem p13 (k0_mxu13 : Mxu F) :
    (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu13).bind (fun r => .ret ⟨r, []⟩)
      = run RR o13 ⟨k0_mxu13, []⟩ := rfl
theorem p14 (k0_mxu23 : Mxu F) :
    (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu23).bind (fun r => .ret ⟨r, []⟩)
      = run RR o14 ⟨k0_mxu23, []⟩ := rfl
theorem p15 (k0_mxu33 : Mxu F) :
    (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu33).bind (fun r => .ret ⟨r, []⟩)
      = run RR o15 ⟨k0_mxu33, []⟩ := rfl
theorem p16 (k0_mxu44 : Mxu F) :
    (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu44).bind (fun r => .ret ⟨(r.1), [.sc (r.2.2), .bf (r.2.1)]⟩)
      = run RR o16 ⟨k0_mxu44, []⟩ := rfl
theorem p17 (k0_mxu54 : Mxu F) (v485_r0 : FVec F S256x256 .bf16) (v486_r0 : Vec F S256x128 .bf16) :
    (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu54 v485_r0 v486_r0).bind (fun r => .ret ⟨r, []⟩)
      = run RR o17 ⟨k0_mxu54, [.sc v486_r0, .bf v485_r0]⟩ := rfl
theorem p18 (k0_mxu64 : Mxu F) :
    (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu64).bind (fun r => .ret ⟨r, []⟩)
      = run RR o18 ⟨k0_mxu64, []⟩ := rfl
theorem p19 (k0_mxu75 : Mxu F) :
    (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu75).bind (fun r => .ret ⟨(r.1), [.e5 (r.2)]⟩)
      = run RR o19 ⟨k0_mxu75, []⟩ := rfl
theorem p20 (k0_mxu86 : Mxu F) (v556_r0 : FVec F S256x256 .fp8e5m2) :
    (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu86 v556_r0).bind (fun r => .ret ⟨(r.1), [.bf (r.2)]⟩)
      = run RR o20 ⟨k0_mxu86, [.e5 v556_r0]⟩ := rfl
theorem p21 (k0_mxu95 : Mxu F) (v581_r0 : FVec F S256x256 .bf16) :
    (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu95 v581_r0).bind (fun r => .ret ⟨r, []⟩)
      = run RR o21 ⟨k0_mxu95, [.bf v581_r0]⟩ := rfl
theorem p22 (k0_mxu106 : Mxu F) :
    (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu106).bind (fun r => .ret ⟨(r.2), [.fl (r.1)]⟩)
      = run RR o22 ⟨k0_mxu106, []⟩ := rfl
theorem p23 (v629_r0 : FVec F S256x256 .f32) (k0_mxu117 : Mxu F) :
    (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v629_r0 k0_mxu117).bind (fun r => .ret ⟨(r.1), [.bf (r.2)]⟩)
      = run RR o23 ⟨k0_mxu117, [.fl v629_r0]⟩ := rfl
theorem p24 (k0_mxu125 : Mxu F) (v653_r0 : FVec F S256x256 .bf16) :
    (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu125 v653_r0).bind (fun r => .ret ⟨r, []⟩)
      = run RR o24 ⟨k0_mxu125, [.bf v653_r0]⟩ := rfl
theorem p25 (k0_mxu136 : Mxu F) :
    (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu136).bind (fun r => .ret ⟨r, []⟩)
      = run RR o25 ⟨k0_mxu136, []⟩ := rfl
theorem p26 (k0_mxu148 : Mxu F) :
    (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu148).bind (fun r => .ret ⟨(r.1), [.e5 (r.2)]⟩)
      = run RR o26 ⟨k0_mxu148, []⟩ := rfl
theorem p27 (k0_mxu157 : Mxu F) (v723_r0 : Vec F S256x256 .fp8e5m2) :
    (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu157 v723_r0).bind (fun r => .ret ⟨r, []⟩)
      = run RR o27 ⟨k0_mxu157, [.e5 v723_r0]⟩ := rfl
theorem p28 (k0_mxu167 : Mxu F) :
    (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu167).bind (fun r => .ret ⟨r, []⟩)
      = run RR o28 ⟨k0_mxu167, []⟩ := rfl
theorem p29 (k0_mxu179 : Mxu F) :
    (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu179).bind (fun r => .ret ⟨(r.1), [.bf (r.2)]⟩)
      = run RR o29 ⟨k0_mxu179, []⟩ := rfl
theorem p30 (k0_mxu188 : Mxu F) (v794_r0 : FVec F S256x256 .bf16) :
    (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu188 v794_r0).bind (fun r => .ret ⟨r, []⟩)
      = run RR o30 ⟨k0_mxu188, [.bf v794_r0]⟩ := rfl
theorem p31 (k0_mxu198 : Mxu F) :
    (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu198).bind (fun r => .ret ⟨r, []⟩)
      = run RR o31 ⟨k0_mxu198, []⟩ := rfl
theorem p32 (k0_mxu210 : Mxu F) :
    (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu210).bind (fun r => .ret ⟨(r.1), [.fl (r.2)]⟩)
      = run RR o32 ⟨k0_mxu210, []⟩ := rfl
theorem p33 (k0_mxu219 : Mxu F) (v866_r0 : FVec F S256x256 .f32) :
    (k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu219 v866_r0).bind (fun r => .ret ⟨r, []⟩)
      = run RR o33 ⟨k0_mxu219, [.fl v866_r0]⟩ := rfl
theorem p34 (k0_mxu228 : Mxu F) :
    (k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu228).bind (fun r => .ret ⟨r, []⟩)
      = run RR o34 ⟨k0_mxu228, []⟩ := rfl
theorem p35 (k0_mxu240 : Mxu F) :
    (k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu240).bind (fun r => .ret ⟨(r.1), [.bf (r.2)]⟩)
      = run RR o35 ⟨k0_mxu240, []⟩ := rfl
theorem p36 (k0_mxu250 : Mxu F) (v935_r0 : FVec F S256x256 .bf16) :
    (k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu250 v935_r0).bind (fun r => .ret ⟨(r.1), [.bf (r.2.2), .bf (r.2.1)]⟩)
      = run RR o36 ⟨k0_mxu250, [.bf v935_r0]⟩ := rfl
theorem p37 (k0_mxu259 : Mxu F) (v959_r0 : FVec F S256x256 .bf16) (v961_r0 : FVec F S256x256 .bf16) :
    (k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu259 v959_r0 v961_r0).bind (fun r => .ret ⟨r, []⟩)
      = run RR o37 ⟨k0_mxu259, [.bf v961_r0, .bf v959_r0]⟩ := rfl
theorem p38 (k0_mxu271 : Mxu F) :
    (k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu271).bind (fun r => .ret ⟨r, []⟩)
      = run RR o38 ⟨k0_mxu271, []⟩ := rfl
theorem p39 (k0_mxu282 : Mxu F) :
    (k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu282).bind (fun r => .ret ⟨(r.1), [.bf (r.2)]⟩)
      = run RR o39 ⟨k0_mxu282, []⟩ := rfl
theorem p40 (k0_mxu291 : Mxu F) (v1031_r0 : FVec F S256x256 .bf16) :
    (k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu291 v1031_r0).bind (fun r => .ret ⟨r, []⟩)
      = run RR o40 ⟨k0_mxu291, [.bf v1031_r0]⟩ := rfl
theorem p41 (k0_mxu302 : Mxu F) :
    (k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu302).bind (fun r => .ret ⟨(r.1), [.sc (r.2.2), .bf (r.2.1)]⟩)
      = run RR o41 ⟨k0_mxu302, []⟩ := rfl
theorem p42 (k0_mxu312 : Mxu F) (v1075_r0 : FVec F S256x256 .bf16) (v1076_r0 : Vec F S256x128 .bf16) :
    (k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu312 v1075_r0 v1076_r0).bind (fun r => .ret ⟨r, []⟩)
      = run RR o42 ⟨k0_mxu312, [.sc v1076_r0, .bf v1075_r0]⟩ := rfl
theorem p43 (k0_mxu319 : Mxu F) :
    (k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu319).bind (fun r => .ret ⟨r, []⟩)
      = run RR o43 ⟨k0_mxu319, []⟩ := rfl
theorem p44 (k0_mxu326 : Mxu F) :
    (k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu326).bind (fun r => .ret ⟨(r.1), [.bf (r.2)]⟩)
      = run RR o44 ⟨k0_mxu326, []⟩ := rfl
theorem p45 (k0_mxu331 : Mxu F) (v1167_r0 : FVec F S256x256 .bf16) :
    (k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu331 v1167_r0).bind (fun r => .ret ⟨r, []⟩)
      = run RR o45 ⟨k0_mxu331, [.bf v1167_r0]⟩ := rfl
theorem p46 (k0_mxu337 : Mxu F) :
    (k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu337).bind (fun r => .ret ⟨(r.1), [.sc (r.2.2), .bf (r.2.1)]⟩)
      = run RR o46 ⟨k0_mxu337, []⟩ := rfl
theorem p47 (k0_mxu342 : Mxu F) (v1231_r0 : FVec F S256x256 .bf16) (v1232_r0 : Vec F S256x128 .bf16) :
    (k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu342 v1231_r0 v1232_r0).bind (fun r => .ret ⟨(r.1), [.e5 (r.2)]⟩)
      = run RR o47 ⟨k0_mxu342, [.sc v1232_r0, .bf v1231_r0]⟩ := rfl
theorem p48 (k0_mxu348 : Mxu F) (v1262_r0 : FVec F S256x256 .fp8e5m2) :
    (k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu348 v1262_r0).bind (fun r => .ret ⟨(r.1), [.bf (r.2.2), .bf (r.2.1)]⟩)
      = run RR o48 ⟨k0_mxu348, [.e5 v1262_r0]⟩ := rfl
theorem p49 (k0_mxu353 : Mxu F) (v1291_r0 : FVec F S256x256 .bf16) (v1293_r0 : FVec F S256x256 .bf16) :
    (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu353 v1291_r0 v1293_r0).bind (fun r => .ret ⟨(r.1), [.bf (r.2)]⟩)
      = run RR o49 ⟨k0_mxu353, [.bf v1293_r0, .bf v1291_r0]⟩ := rfl
theorem p50 (k0_mxu359 : Mxu F) (v1323_r0 : FVec F S256x256 .bf16) :
    (k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu359 v1323_r0).bind (fun r => .ret ⟨(r.1), [.bf (r.2)]⟩)
      = run RR o50 ⟨k0_mxu359, [.bf v1323_r0]⟩ := rfl
theorem p51 (k0_mxu364 : Mxu F) (v1356_r0 : FVec F S256x256 .bf16) :
    (k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu364 v1356_r0).bind (fun r => .ret ⟨(r.1), [.bf (r.2)]⟩)
      = run RR o51 ⟨k0_mxu364, [.bf v1356_r0]⟩ := rfl
theorem p52 (k0_mxu370 : Mxu F) (v1387_r0 : FVec F S256x256 .bf16) :
    (k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu370 v1387_r0).bind (fun r => .ret ⟨(r.2), [.fl (r.1)]⟩)
      = run RR o52 ⟨k0_mxu370, [.bf v1387_r0]⟩ := rfl
theorem p53 (v1419_r0 : FVec F S256x256 .f32) (k0_mxu377 : Mxu F) :
    (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v1419_r0 k0_mxu377).bind (fun r => .ret ⟨(r.1), [.fl (r.2)]⟩)
      = run RR o53 ⟨k0_mxu377, [.fl v1419_r0]⟩ := rfl
theorem p54 (k0_mxu382 : Mxu F) (v1449_r0 : FVec F S256x256 .f32) :
    (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu382 v1449_r0).bind (fun r => .ret ⟨r, []⟩)
      = run RR o54 ⟨k0_mxu382, [.fl v1449_r0]⟩ := rfl
theorem p55 (k0_mxu387 : Mxu F) :
    (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu387).bind (fun r => .ret ⟨(r.1), [.sc (r.2.2), .bf (r.2.1)]⟩)
      = run RR o55 ⟨k0_mxu387, []⟩ := rfl
theorem p56 (k0_mxu392 : Mxu F) (v1509_r0 : FVec F S256x256 .bf16) (v1510_r0 : Vec F S256x128 .bf16) :
    (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu392 v1509_r0 v1510_r0).bind (fun r => .ret ⟨(r.1), [.e5 (r.2)]⟩)
      = run RR o56 ⟨k0_mxu392, [.sc v1510_r0, .bf v1509_r0]⟩ := rfl
theorem p57 (k0_mxu398 : Mxu F) (v1542_r0 : FVec F S256x256 .fp8e5m2) :
    (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu398 v1542_r0).bind (fun r => .ret ⟨(r.1), [.bf (r.2.2), .bf (r.2.1)]⟩)
      = run RR o57 ⟨k0_mxu398, [.e5 v1542_r0]⟩ := rfl
theorem p58 (k0_mxu403 : Mxu F) (v1573_r0 : FVec F S256x256 .bf16) (v1575_r0 : FVec F S256x256 .bf16) :
    (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu403 v1573_r0 v1575_r0).bind (fun r => .ret ⟨(r.1), [.bf (r.2)]⟩)
      = run RR o58 ⟨k0_mxu403, [.bf v1575_r0, .bf v1573_r0]⟩ := rfl
theorem p59 (k0_mxu409 : Mxu F) (v1605_r0 : FVec F S256x256 .bf16) :
    (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu409 v1605_r0).bind (fun r => .ret ⟨(r.1), [.fl (r.2)]⟩)
      = run RR o59 ⟨k0_mxu409, [.bf v1605_r0]⟩ := rfl
theorem p60 (k0_mxu415 : Mxu F) (v1634_r0 : FVec F S256x256 .f32) :
    (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu415 v1634_r0).bind (fun r => .ret ⟨(r.1), [.bf (r.2)]⟩)
      = run RR o60 ⟨k0_mxu415, [.fl v1634_r0]⟩ := rfl
theorem p61 (k0_mxu420 : Mxu F) (v1665_r0 : FVec F S256x256 .bf16) :
    (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu420 v1665_r0).bind (fun r => .ret ⟨r, []⟩)
      = run RR o61 ⟨k0_mxu420, [.bf v1665_r0]⟩ := rfl
theorem p62 (k0_mxu426 : Mxu F) :
    (k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu426).bind (fun r => .ret ⟨(r.1), [.bf (r.2)]⟩)
      = run RR o62 ⟨k0_mxu426, []⟩ := rfl
theorem p63 (k0_mxu431 : Mxu F) (v1729_r0 : FVec F S256x256 .bf16) :
    (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu431 v1729_r0).bind (fun r => .ret ⟨(r.2), [.fl (r.1)]⟩)
      = run RR o63 ⟨k0_mxu431, [.bf v1729_r0]⟩ := rfl
theorem p64 (v1760_r0 : FVec F S256x256 .f32) (k0_mxu438 : Mxu F) :
    (k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v1760_r0 k0_mxu438).bind (fun r => .ret ⟨(r.1), [.sc (r.2.2), .bf (r.2.1)]⟩)
      = run RR o64 ⟨k0_mxu438, [.fl v1760_r0]⟩ := rfl
theorem p65 (k0_mxu442 : Mxu F) (v1789_r0 : FVec F S256x256 .bf16) (v1790_r0 : Vec F S256x128 .bf16) :
    (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu442 v1789_r0 v1790_r0).bind (fun r => .ret ⟨r, []⟩)
      = run RR o65 ⟨k0_mxu442, [.sc v1790_r0, .bf v1789_r0]⟩ := rfl
theorem p66 (k0_mxu448 : Mxu F) :
    (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu448).bind (fun r => .ret ⟨(r.1), [.bf (r.2.2), .bf (r.2.1)]⟩)
      = run RR o66 ⟨k0_mxu448, []⟩ := rfl
theorem p67 (k0_mxu453 : Mxu F) (v1851_r0 : FVec F S256x256 .bf16) (v1853_r0 : FVec F S256x256 .bf16) :
    (k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu453 v1851_r0 v1853_r0).bind (fun r => .ret ⟨(r.1), [.bf (r.2)]⟩)
      = run RR o67 ⟨k0_mxu453, [.bf v1853_r0, .bf v1851_r0]⟩ := rfl
theorem p68 (k0_mxu459 : Mxu F) (v1885_r0 : FVec F S256x256 .bf16) :
    (k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu459 v1885_r0).bind (fun r => .ret ⟨r, []⟩)
      = run RR o68 ⟨k0_mxu459, [.bf v1885_r0]⟩ := rfl
theorem p69 (k0_mxu465 : Mxu F) :
    (k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu465).bind (fun r => .ret ⟨(r.2.1), [.fl (r.2.2), .fl (r.1)]⟩)
      = run RR o69 ⟨k0_mxu465, []⟩ := rfl
theorem p70 (v1945_r0 : FVec F S256x256 .f32) (k0_mxu471 : Mxu F) (v1947_r0 : FVec F S256x256 .f32) :
    (k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v1945_r0 k0_mxu471 v1947_r0).bind (fun r => .ret ⟨r, []⟩)
      = run RR o70 ⟨k0_mxu471, [.fl v1947_r0, .fl v1945_r0]⟩ := rfl
theorem p71 (k0_mxu476 : Mxu F) :
    (k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu476).bind (fun r => .ret ⟨(r.1), [.bf (r.2)]⟩)
      = run RR o71 ⟨k0_mxu476, []⟩ := rfl
theorem p72 (k0_mxu481 : Mxu F) (v2007_r0 : FVec F S256x256 .bf16) :
    (k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu481 v2007_r0).bind (fun r => .ret ⟨r, []⟩)
      = run RR o72 ⟨k0_mxu481, [.bf v2007_r0]⟩ := rfl
theorem p73 (k0_mxu487 : Mxu F) :
    (k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu487).bind (fun r => .ret ⟨(r.1), [.sc (r.2.2), .bf (r.2.1)]⟩)
      = run RR o73 ⟨k0_mxu487, []⟩ := rfl
theorem p74 (k0_mxu492 : Mxu F) (v2071_r0 : FVec F S256x256 .bf16) (v2072_r0 : Vec F S256x128 .bf16) :
    (k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu492 v2071_r0 v2072_r0).bind (fun r => .ret ⟨(r.1), [.e5 (r.2)]⟩)
      = run RR o74 ⟨k0_mxu492, [.sc v2072_r0, .bf v2071_r0]⟩ := rfl
theorem p75 (k0_mxu498 : Mxu F) (v2102_r0 : FVec F S256x256 .fp8e5m2) :
    (k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu498 v2102_r0).bind (fun r => .ret ⟨(r.1), [.bf (r.2.2), .bf (r.2.1)]⟩)
      = run RR o75 ⟨k0_mxu498, [.e5 v2102_r0]⟩ := rfl
theorem p76 (k0_mxu503 : Mxu F) (v2131_r0 : FVec F S256x256 .bf16) (v2133_r0 : FVec F S256x256 .bf16) :
    (k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu503 v2131_r0 v2133_r0).bind (fun r => .ret ⟨(r.1), [.bf (r.2)]⟩)
      = run RR o76 ⟨k0_mxu503, [.bf v2133_r0, .bf v2131_r0]⟩ := rfl
theorem p77 (k0_mxu509 : Mxu F) (v2163_r0 : FVec F S256x256 .bf16) :
    (k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu509 v2163_r0).bind (fun r => .ret ⟨(r.1), [.bf (r.2)]⟩)
      = run RR o77 ⟨k0_mxu509, [.bf v2163_r0]⟩ := rfl
theorem p78 (k0_mxu514 : Mxu F) (v2196_r0 : FVec F S256x256 .bf16) :
    (k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu514 v2196_r0).bind (fun r => .ret ⟨(r.1), [.bf (r.2)]⟩)
      = run RR o78 ⟨k0_mxu514, [.bf v2196_r0]⟩ := rfl
theorem p79 (k0_mxu520 : Mxu F) (v2227_r0 : FVec F S256x256 .bf16) :
    (k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu520 v2227_r0).bind (fun r => .ret ⟨(r.2), [.fl (r.1)]⟩)
      = run RR o79 ⟨k0_mxu520, [.bf v2227_r0]⟩ := rfl
theorem p80 (v2259_r0 : FVec F S256x256 .f32) (k0_mxu527 : Mxu F) :
    (k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v2259_r0 k0_mxu527).bind (fun r => .ret ⟨(r.1), [.fl (r.2)]⟩)
      = run RR o80 ⟨k0_mxu527, [.fl v2259_r0]⟩ := rfl
theorem p81 (k0_mxu532 : Mxu F) (v2289_r0 : FVec F S256x256 .f32) :
    (k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu532 v2289_r0).bind (fun r => .ret ⟨r, []⟩)
      = run RR o81 ⟨k0_mxu532, [.fl v2289_r0]⟩ := rfl
theorem p82 (k0_mxu537 : Mxu F) :
    (k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu537).bind (fun r => .ret ⟨(r.1), [.sc (r.2.2), .bf (r.2.1)]⟩)
      = run RR o82 ⟨k0_mxu537, []⟩ := rfl
theorem p83 (k0_mxu542 : Mxu F) (v2349_r0 : FVec F S256x256 .bf16) (v2350_r0 : Vec F S256x128 .bf16) :
    (k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu542 v2349_r0 v2350_r0).bind (fun r => .ret ⟨(r.1), [.e5 (r.2)]⟩)
      = run RR o83 ⟨k0_mxu542, [.sc v2350_r0, .bf v2349_r0]⟩ := rfl
theorem p84 (k0_mxu548 : Mxu F) (v2382_r0 : FVec F S256x256 .fp8e5m2) :
    (k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu548 v2382_r0).bind (fun r => .ret ⟨(r.1), [.bf (r.2.2), .bf (r.2.1)]⟩)
      = run RR o84 ⟨k0_mxu548, [.e5 v2382_r0]⟩ := rfl
theorem p85 (k0_mxu553 : Mxu F) (v2413_r0 : FVec F S256x256 .bf16) (v2415_r0 : FVec F S256x256 .bf16) :
    (k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu553 v2413_r0 v2415_r0).bind (fun r => .ret ⟨(r.1), [.bf (r.2)]⟩)
      = run RR o85 ⟨k0_mxu553, [.bf v2415_r0, .bf v2413_r0]⟩ := rfl
theorem p86 (k0_mxu559 : Mxu F) (v2445_r0 : FVec F S256x256 .bf16) :
    (k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu559 v2445_r0).bind (fun r => .ret ⟨(r.1), [.fl (r.2)]⟩)
      = run RR o86 ⟨k0_mxu559, [.bf v2445_r0]⟩ := rfl
theorem p87 (k0_mxu565 : Mxu F) (v2474_r0 : FVec F S256x256 .f32) :
    (k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu565 v2474_r0).bind (fun r => .ret ⟨(r.1), [.bf (r.2)]⟩)
      = run RR o87 ⟨k0_mxu565, [.fl v2474_r0]⟩ := rfl
theorem p88 (k0_mxu570 : Mxu F) (v2505_r0 : FVec F S256x256 .bf16) :
    (k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu570 v2505_r0).bind (fun r => .ret ⟨r, []⟩)
      = run RR o88 ⟨k0_mxu570, [.bf v2505_r0]⟩ := rfl
theorem p89 (k0_mxu576 : Mxu F) :
    (k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu576).bind (fun r => .ret ⟨(r.1), [.bf (r.2)]⟩)
      = run RR o89 ⟨k0_mxu576, []⟩ := rfl
theorem p90 (k0_mxu581 : Mxu F) (v2569_r0 : FVec F S256x256 .bf16) :
    (k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu581 v2569_r0).bind (fun r => .ret ⟨(r.2), [.fl (r.1)]⟩)
      = run RR o90 ⟨k0_mxu581, [.bf v2569_r0]⟩ := rfl
theorem p91 (v2600_r0 : FVec F S256x256 .f32) (k0_mxu588 : Mxu F) :
    (k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v2600_r0 k0_mxu588).bind (fun r => .ret ⟨(r.1), [.sc (r.2.2), .bf (r.2.1)]⟩)
      = run RR o91 ⟨k0_mxu588, [.fl v2600_r0]⟩ := rfl
theorem p92 (k0_mxu592 : Mxu F) (v2629_r0 : FVec F S256x256 .bf16) (v2630_r0 : Vec F S256x128 .bf16) :
    (k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu592 v2629_r0 v2630_r0).bind (fun r => .ret ⟨r, []⟩)
      = run RR o92 ⟨k0_mxu592, [.sc v2630_r0, .bf v2629_r0]⟩ := rfl
theorem p93 (k0_mxu598 : Mxu F) :
    (k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu598).bind (fun r => .ret ⟨(r.1), [.bf (r.2.2), .bf (r.2.1)]⟩)
      = run RR o93 ⟨k0_mxu598, []⟩ := rfl
theorem p94 (k0_mxu603 : Mxu F) (v2691_r0 : FVec F S256x256 .bf16) (v2693_r0 : FVec F S256x256 .bf16) :
    (k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu603 v2691_r0 v2693_r0).bind (fun r => .ret ⟨(r.1), [.bf (r.2)]⟩)
      = run RR o94 ⟨k0_mxu603, [.bf v2693_r0, .bf v2691_r0]⟩ := rfl
theorem p95 (k0_mxu609 : Mxu F) (v2725_r0 : FVec F S256x256 .bf16) :
    (k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu609 v2725_r0).bind (fun r => .ret ⟨r, []⟩)
      = run RR o95 ⟨k0_mxu609, [.bf v2725_r0]⟩ := rfl
theorem p96 (k0_mxu615 : Mxu F) :
    (k0_part96 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu615).bind (fun r => .ret ⟨(r.2.1), [.fl (r.2.2), .fl (r.1)]⟩)
      = run RR o96 ⟨k0_mxu615, []⟩ := rfl
theorem p97 (v2785_r0 : FVec F S256x256 .f32) (k0_mxu621 : Mxu F) (v2787_r0 : FVec F S256x256 .f32) :
    (k0_part97 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v2785_r0 k0_mxu621 v2787_r0).bind (fun r => .ret ⟨r, []⟩)
      = run RR o97 ⟨k0_mxu621, [.fl v2787_r0, .fl v2785_r0]⟩ := rfl
theorem p98 (k0_mxu626 : Mxu F) :
    (k0_part98 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu626).bind (fun r => .ret ⟨(r.1), [.bf (r.2)]⟩)
      = run RR o98 ⟨k0_mxu626, []⟩ := rfl
theorem p99 (k0_mxu631 : Mxu F) (v2847_r0 : FVec F S256x256 .bf16) :
    (k0_part99 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu631 v2847_r0).bind (fun r => .ret ⟨r, []⟩)
      = run RR o99 ⟨k0_mxu631, [.bf v2847_r0]⟩ := rfl
theorem p100 (k0_mxu637 : Mxu F) :
    (k0_part100 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu637).bind (fun r => .ret ⟨(r.1), [.sc (r.2.2), .bf (r.2.1)]⟩)
      = run RR o100 ⟨k0_mxu637, []⟩ := rfl
theorem p101 (k0_mxu642 : Mxu F) (v2911_r0 : FVec F S256x256 .bf16) (v2912_r0 : Vec F S256x128 .bf16) :
    (k0_part101 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu642 v2911_r0 v2912_r0).bind (fun r => .ret ⟨(r.1), [.e5 (r.2)]⟩)
      = run RR o101 ⟨k0_mxu642, [.sc v2912_r0, .bf v2911_r0]⟩ := rfl
theorem p102 (k0_mxu648 : Mxu F) (v2942_r0 : FVec F S256x256 .fp8e5m2) :
    (k0_part102 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu648 v2942_r0).bind (fun r => .ret ⟨(r.1), [.bf (r.2.2), .bf (r.2.1)]⟩)
      = run RR o102 ⟨k0_mxu648, [.e5 v2942_r0]⟩ := rfl
theorem p103 (k0_mxu653 : Mxu F) (v2971_r0 : FVec F S256x256 .bf16) (v2973_r0 : FVec F S256x256 .bf16) :
    (k0_part103 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu653 v2971_r0 v2973_r0).bind (fun r => .ret ⟨(r.1), [.bf (r.2)]⟩)
      = run RR o103 ⟨k0_mxu653, [.bf v2973_r0, .bf v2971_r0]⟩ := rfl
theorem p104 (k0_mxu659 : Mxu F) (v3003_r0 : FVec F S256x256 .bf16) :
    (k0_part104 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu659 v3003_r0).bind (fun r => .ret ⟨(r.1), [.bf (r.2)]⟩)
      = run RR o104 ⟨k0_mxu659, [.bf v3003_r0]⟩ := rfl
theorem p105 (k0_mxu664 : Mxu F) (v3036_r0 : FVec F S256x256 .bf16) :
    (k0_part105 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu664 v3036_r0).bind (fun r => .ret ⟨(r.2), [.fl (r.1)]⟩)
      = run RR o105 ⟨k0_mxu664, [.bf v3036_r0]⟩ := rfl
theorem p106 (v3067_r0 : FVec F S256x256 .f32) (k0_mxu671 : Mxu F) :
    (k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v3067_r0 k0_mxu671).bind (fun r => .ret ⟨(r.1), [.fl (r.2)]⟩)
      = run RR o106 ⟨k0_mxu671, [.fl v3067_r0]⟩ := rfl

theorem p12 (arg0 : BitVec 32) (m : Mxu F) (v : BitVec 32) :
    (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 m v).bind (fun r => .ret ⟨r, []⟩)
      = (pre12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v).bind fun _ => run RR o12 ⟨m, []⟩ := rfl

/-- The steps before the matrix unit's first: what they leave is the unit's state. -/
def pre : Prog (TpuEff nD τ sig (Elt F) (Λ₀ F) .tc) (Mxu F) := do
    let ⟨arg0, k0_mxu2, v33_r0, v34_r0, v39_r0⟩ : Σ' (arg0 : BitVec 32) (k0_mxu2 : Mxu F) (v33_r0 : BitVec 32) (v34_r0 : BitVec 32), BitVec 1 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19
    let v78_r0 : FVec F S256x128 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v33_r0 v34_r0 v39_r0
    let ⟨v117_r0, v118_r0⟩ : Σ' (v117_r0 : IVec S256x128 32), Vec F S256x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v78_r0
    let ⟨c128_i32_67_r0, v157_r0, c1_i32_69_r0⟩ : Σ' (c128_i32_67_r0 : BitVec 32) (v157_r0 : BitVec 1), BitVec 32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v117_r0 v118_r0
    let ⟨v192_r0, v194_r0, v196_r0, v197_r0⟩ : Σ' (v192_r0 : IVec S256x128 32) (v194_r0 : FVec F S256x128 .f32) (v196_r0 : IVec S256x128 1), IVec S256x128 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 c128_i32_67_r0 v157_r0 c1_i32_69_r0
    let ⟨v233_r0, v234_r0, v235_r0, v236_r0⟩ : Σ' (v233_r0 : BitVec 32) (v234_r0 : BitVec 32) (v235_r0 : BitVec 1), BitVec 1 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v192_r0 v194_r0 v196_r0 v197_r0
    let v278_r0 : FVec F S256x128 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v233_r0 v234_r0 v235_r0 v236_r0
    let v315_r0 : FVec F S128x128 .bf16 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v278_r0
    let v356_r0 : BitVec 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v315_r0
    pre12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v356_r0
    pure k0_mxu2

/-- What comes after: the rows gathered into this block, one by one, then the pointer stored. -/
def tail (m : Mxu F) : Prog (TpuEff nD τ sig (Elt F) (Λ₀ F) .tc) PUnit := do
  let v1 : Elt F .i32 ← smemLoad arg19 (Rect.unit (s := S1) ![0] S1.size inb_S1_S1_0) numel1_S1 rfl
  let v2 : BitVec 32 ← Prog.lift (.call (1 : (Λ₀ F).Label) ⟨i, arg1, harg1, arg9, harg9, arg16, harg16, arg18, arg17, harg17, arg10, harg10, arg2, harg2, v1⟩)
  let v3 : Elt F .i32 ← smemLoad arg19 (Rect.unit (s := S1) ![0] S1.size inb_S1_S1_0) numel1_S1 rfl
  Prog.lift (.store arg19 (Rect.unit (s := S1) ![0] S1.size inb_S1_S1_0) (fun _ => v2) Finset.univ (View.stores_smem_one rfl numel1_S1) (.inl rfl))
  m.exit
  pure ⟨⟩

theorem chain {α β : Type} {p : Prog (TpuEff nD τ sig (Elt F) (Λ₀ F) .tc) α} {k : α → Prog (TpuEff nD τ sig (Elt F) (Λ₀ F) .tc) β}
    {e : α → St F} {R : Refs sig} {o o' : List Op} {s : St F} {f : St F → Prog (TpuEff nD τ sig (Elt F) (Λ₀ F) .tc) β}
    (hp : p.bind (fun r => .ret (e r)) = run R o s) (hk : ∀ r, k r = (run R o' (e r)).bind f) :
    p.bind k = (run R (o ++ o') s).bind f := by
  rw [run_append, ← hp, bassoc, bassoc, funext hk]
  rfl

theorem chainB {α γ β : Type} {p : Prog (TpuEff nD τ sig (Elt F) (Λ₀ F) .tc) α} {k : α → Prog (TpuEff nD τ sig (Elt F) (Λ₀ F) .tc) γ}
    {K : γ → Prog (TpuEff nD τ sig (Elt F) (Λ₀ F) .tc) β}
    {e : α → St F} {R : Refs sig} {o o' : List Op} {s : St F} {f : St F → Prog (TpuEff nD τ sig (Elt F) (Λ₀ F) .tc) β}
    (hp : p.bind (fun r => .ret (e r)) = run R o s) (hk : ∀ r, (k r).bind K = (run R o' (e r)).bind f) :
    (p.bind k).bind K = (run R (o ++ o') s).bind f := by
  rw [bassoc]; exact chain hp hk

theorem bindB {α γ β : Type} {p : Prog (TpuEff nD τ sig (Elt F) (Λ₀ F) .tc) α} {k : α → Prog (TpuEff nD τ sig (Elt F) (Λ₀ F) .tc) γ}
    {K : γ → Prog (TpuEff nD τ sig (Elt F) (Λ₀ F) .tc) β} {p' : α → Prog (TpuEff nD τ sig (Elt F) (Λ₀ F) .tc) (Mxu F)} {f : Mxu F → Prog (TpuEff nD τ sig (Elt F) (Λ₀ F) .tc) β}
    (hk : ∀ r, (k r).bind K = (p' r).bind f) :
    (p.bind k).bind K = (p.bind p').bind f := by
  rw [bassoc, bassoc, funext hk]

theorem last12 {γ β : Type} {p : Prog (TpuEff nD τ sig (Elt F) (Λ₀ F) .tc) (Mxu F)} {k : Mxu F → Prog (TpuEff nD τ sig (Elt F) (Λ₀ F) .tc) γ}
    {K : γ → Prog (TpuEff nD τ sig (Elt F) (Λ₀ F) .tc) β} {p' : Prog (TpuEff nD τ sig (Elt F) (Λ₀ F) .tc) PUnit} {R : Refs sig} {o o' : List Op} {m : Mxu F}
    {f : St F → Prog (TpuEff nD τ sig (Elt F) (Λ₀ F) .tc) β}
    (hp : p.bind (fun r => .ret ⟨r, []⟩) = p'.bind fun _ => run R o ⟨m, []⟩) (hk : ∀ r, (k r).bind K = (run R o' ⟨r, []⟩).bind f) :
    (p.bind k).bind K = (p'.bind fun _ => .ret m).bind fun m => (run R (o ++ o') ⟨m, []⟩).bind f := by
  have h : (p'.bind fun _ => .ret m).bind (fun m => (run R (o ++ o') ⟨m, []⟩).bind f)
      = ((p'.bind fun _ => run R o ⟨m, []⟩).bind fun s => run R o' s).bind f := by
    rw [bassoc, bassoc, bassoc]; exact congrArg p'.bind (funext fun _ => by show (run R (o ++ o') _).bind f = _; rw [run_append, bassoc])
  rw [h, ← hp, bassoc, bassoc, bassoc, funext hk]; rfl

/-- The body is what comes before the matrix unit's steps, those steps, and what comes after. -/
theorem body_eq : cc0_tied_grad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 = (pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19).bind fun m => (run RR all ⟨m, []⟩).bind fun s => tail i arg1 harg1 arg2 harg2 arg9 harg9 arg10 harg10 arg16 harg16 arg17 harg17 arg18 arg19 s.m := by
  unfold cc0_tied_grad k0_part107
  refine bindB fun r => ?_
  refine bindB fun r => ?_
  refine bindB fun r => ?_
  refine bindB fun r => ?_
  refine bindB fun r => ?_
  refine bindB fun r => ?_
  refine bindB fun r => ?_
  refine bindB fun r => ?_
  refine bindB fun r => ?_
  refine last12 (p12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p23 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p24 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p25 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p28 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p29 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p30 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p34 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p35 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p36 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p37 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p39 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p40 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p41 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p42 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p43 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p44 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p45 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p46 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p47 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p48 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p49 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p50 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p51 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p52 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p53 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p54 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p56 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p57 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p58 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p59 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p60 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p61 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p62 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine Eq.trans (show _ = Prog.bind (k0_part63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) _ from rfl) ?_
  refine chain (p63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p64 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p66 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p67 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p68 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p69 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p70 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p71 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p73 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p74 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p75 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p76 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p77 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p78 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p79 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p80 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p81 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p82 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p83 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p84 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p85 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p86 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p87 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p88 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p89 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p90 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p91 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p92 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p93 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p94 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p95 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p96 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p97 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p98 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p99 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p101 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p102 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p103 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p104 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p105 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p106 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  rfl

end Cert.Kernel.Align
end
-- ==== Proof.Pre.lean ====
/-
  The prelude of a grid step: on the first step the pointer and the second result's block zeroed and the activations copied in,
  scaled and transposed; on every step the two buffers of scales filled.
-/
module

public import proofs.«01_k».proof.Proof.Fill
public import proofs.«01_k».proof.Proof.While
public import proofs.«01_k».proof.Proof.SemWp
public import proofs.«01_k».proof.Proof.Align

@[expose] public section

set_option maxRecDepth 100000
set_option maxHeartbeats 4000000

noncomputable section

namespace Cert.Kernel.Pre

open Cert.Kernel Cert.Kernel.Gen Cert.Idx Cert.Own Cert.Mach Cert.Kernel.Fill
open Cert.Kernel.While (𝒱₀)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] [Facts]

local notation "𝕄" => MT nD τ sig Unit (Elt F) ℕ (Pipeline.UD sig nD τ) ℕ

variable (c : Dev nD) (i : grid0.Coords) (q7 : PosShare TreeShare)
  (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole)
  (xq : Vec F S3072x1536 .fp8e4m3) (xs : Vec F S3072x1 .f32) (gs : Vec F S3072x128 .f32) (ws : Vec F S1002x128 .f32)

/-- What the copies into the transposed activations' buffer read and write, the buffer at `X`. -/
def heldX (X : Vec F S1536x3072 .bf16) : sProp 𝕄 :=
  iprop(owns (c : Thread nD τ) arg7 q7 xq ∗ owns (c : Thread nD τ) arg8 fullShare xs ∗ (∃ Z, owns (c : Thread nD τ) arg15 fullShare Z)
    ∗ owns (c : Thread nD τ) arg12 fullShare X ∗ semVal ((c : Thread nD τ), SemLoc.dma arg18.sem) 0 ∗ ∃ W, owes (c : Thread nD τ) 0 W)

/-- One trip of the copies fills the next 256 columns. -/
theorem trip (h1 : k0_cond1 i = 1#1) (X0 : Vec F S1536x3072 .bf16) (n : Fin k0_t1_loop.trips) :
    heldX c q7 arg7 arg8 arg12 arg15 arg18 xq xs (fillX xq xs X0 n.val 0)
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 h1 n ⟨⟩)
        fun _ => heldX c q7 arg7 arg8 arg12 arg15 arg18 xq xs (fillX xq xs X0 (n.val + 1) 0) := by
  unfold heldX k0_t1_body
  rw [k0_part1_eq_skeleton, k0_part2_eq_skeleton]; unfold k0_part1_skel k0_part2_skel
  simp only [Prog.lift, Prog.bind_op, Prog.bind_ret, Prog.pure_eq_ret]
  iintro ⟨H7, H8, ⟨%Z, H15⟩, H12, Hs, ⟨%W, HO⟩⟩
  iapply (Own.copy (defs₀ (F := F)) 𝒱₀ c none countersEmb (fun _ => rfl) () (show 0 < S256x1536.numel by decide)) $$ [H7 H15 Hs HO]
  · isplitl [H7]; · iexact H7
    isplitl [H15]; · iexact H15
    isplitl [Hs]; · iexact Hs
    iexact HO
  iintro ⟨H7, H15, Hs, HO⟩
  iapply (Own.load (defs₀ (F := F)) 𝒱₀ c none Set.univ (m := arg8)) $$ H8; iintro H8
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 0 (by decide) (off3_eq n) (k0_off3_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 1 (by decide) (off4_eq n) (k0_off4_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 2 (by decide) (off5_eq n) (k0_off5_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 3 (by decide) (off6_eq n) (k0_off6_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 4 (by decide) (off7_eq n) (k0_off7_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 5 (by decide) (off8_eq n) (k0_off8_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 6 (by decide) (off9_eq n) (k0_off9_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 7 (by decide) (off10_eq n) (k0_off10_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 8 (by decide) (off11_eq n) (k0_off11_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 9 (by decide) (off12_eq n) (k0_off12_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 10 (by decide) (off13_eq n) (k0_off13_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 11 (by decide) (off14_eq n) (k0_off14_inb i n h1) (k0_off1_inb i n h1) (k0_off2_inb i n h1) (by decide))) $$ H12; iintro H12
  rw [wp_ret]; imodintro
  rw [fillX_next]
  iframe
  isplitl [H15]
  · iexists _; iexact H15
  iexists _; iexact HO

section Split

set_option cleanup.letToHave false

/-- The first step's setup; it hands on the matrix unit. -/
def init3 (i : grid0.Coords) (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole) : Prog (TpuEff nD τ sig (Elt F) (Λ₀ F) .tc) (Mxu F) :=
  if k0_h1 : k0_cond1 i = 1#1 then do
      let v3097_r0 : Elt F .i32 ← smemLoad arg19 (Rect.unit (s := S1) ![0] S1.size inb_S1_S1_0) numel1_S1 rfl
      Prog.lift (.store arg19 (Rect.unit (s := S1) ![0] S1.size inb_S1_S1_0) (fun _ => 0#32) Finset.univ (View.stores_smem_one rfl numel1_S1) (.inl rfl))
      let v3099_r0 : Vec F S3072x1536 .f32 ← Prog.lift (.load arg11 (Rect.unit (s := S3072x1536) ![0, 0] S3072x1536.size inb_S3072x1536_S3072x1536_0_0).toLoadRect (View.loadsAt_vmem h_S3072x1536))
      Prog.lift (.store arg11 (Rect.unit (s := S3072x1536) ![0, 0] S3072x1536.size inb_S3072x1536_S3072x1536_0_0) (k0_pay10 (F := F)) Finset.univ (View.stores_vmem_bits_univ h_S3072x1536 rfl) (.inl rfl))
      have k0_mxu1 : Mxu F := Mxu.init
      have k0_mxu3 : Mxu F := k0_mxu1.pop 0 0 256 fits_0_256
      have k0_mxu4 : Mxu F := k0_mxu3.pop 0 64 256 fits_64_256
      have k0_mxu5 : Mxu F := k0_mxu4.pop 0 128 256 fits_128_256
      have k0_mxu6 : Mxu F := k0_mxu5.pop 0 192 256 fits_192_256
      have k0_mxu7 : Mxu F := k0_mxu6.pop 1 0 256 fits_0_256
      have k0_mxu8 : Mxu F := k0_mxu7.pop 1 64 256 fits_64_256
      have k0_mxu9 : Mxu F := k0_mxu8.pop 1 128 256 fits_128_256
      have k0_mxu10 : Mxu F := k0_mxu9.pop 1 192 256 fits_192_256
      Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_h1)
      pure k0_mxu10
    else do
      pure (Mxu.init : Mxu F)

/-- The first block of the gradient's scales, and the words the next block starts from. -/
def rest3 (i : grid0.Coords) (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole) (k0_mxu2 : Mxu F) : Prog (TpuEff nD τ sig (Elt F) (Λ₀ F) .tc) (Σ' (arg0 : BitVec 32) (k0_mxu2 : Mxu F) (v33_r0 : BitVec 32) (v34_r0 : BitVec 32), BitVec 1)  := do
  let arg0 : BitVec 32 := BitVec.ofNat 32 (i 0).val
  let v18_r0 : Vec F S256x128 .f32 ← Prog.lift (.load arg4 (Rect.unit (s := S3072x128) ![0, 0] S256x128.size inb_S3072x128_S256x128_0_0).toLoadRect (View.loadsAt_vmem h_S256x128))
  let v29_r0 : Vec F S256x128 .bf16 ← Prog.lift (.load arg13 (Rect.unit (s := S3072x128) ![0, 0] S256x128.size inb_S3072x128_S256x128_0_0).toLoadRect (View.loadsAt_vmem h_S256x128))
  Prog.lift (.store arg13 (Rect.unit (s := S3072x128) ![0, 0] S256x128.size inb_S3072x128_S256x128_0_0) (k0_pay15 i v18_r0) Finset.univ (View.stores_vmem h_S256x128 (harg13.storeExact_slice rfl _ packedbf16_S3072x128_S256x128_0_0) (fun _ => rfl)) (.inl rfl))
  let v32_r0 : BitVec 1 := Scalar.cmpi .eq 128#32 0#32
  let v33_r0 : BitVec 32 := Scalar.select v32_r0 1#32 128#32
  let v34_r0 : BitVec 32 := Scalar.remsi arg0 v33_r0
  let v35_r0 : BitVec 1 := Scalar.cmpi .ne v34_r0 0#32
  let v36_r0 : BitVec 1 := Scalar.cmpi .slt v34_r0 0#32
  let v37_r0 : BitVec 1 := Scalar.cmpi .slt v33_r0 0#32
  let v38_r0 : BitVec 1 := Scalar.xori v36_r0 v37_r0
  let v39_r0 : BitVec 1 := Scalar.andi v38_r0 v35_r0
  pure ⟨arg0, k0_mxu2, v33_r0, v34_r0, v39_r0⟩

theorem assoc {β γ δ : Type} (p : Prog (TpuEff nD τ sig (Elt F) (Λ₀ F) .tc) β) (f : β → Prog (TpuEff nD τ sig (Elt F) (Λ₀ F) .tc) γ)
    (g : γ → Prog (TpuEff nD τ sig (Elt F) (Λ₀ F) .tc) δ) : (p >>= f) >>= g = p >>= (fun a => f a >>= g) := bassoc p f g

theorem part3_eq : k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 = (init3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19) >>= (rest3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19) := by
  rw [k0_part3_eq_skeleton]; unfold k0_part3_skel init3 rest3
  by_cases h1 : k0_cond1 i = 1#1
  · simp only [dif_pos h1, Prog.lift, Prog.bind_op, Prog.bind_ret, Prog.pure_eq_ret, assoc, smemLoad, smemLoadElt]
  · simp only [dif_neg h1, Prog.lift, Prog.bind_op, Prog.bind_ret, Prog.pure_eq_ret]

end Split

/-- The unit with nothing in flight: what the first step's unused pops leave, and every step's start. -/
def Idle (m : Mxu F) : Prop := ∀ e : Env F, MRel e m SS.init

theorem Idle.init : Idle (Mxu.init : Mxu F) := fun e => MRel.init e

theorem Idle.pop {m : Mxu F} (h : Idle m) (u : Fin 2) (a : Fin 4) : Idle (m.pop u (64 * a.val) 256 (fitsA a)) := fun e => by
  have := MRel.pp e (h e) u a []
  have hs : SS.init.slot.set u ((SS.init.slot.get u).set a []) = SS.init.slot := by
    match u, a with
    | 0, 0 => rfl | 0, 1 => rfl | 0, 2 => rfl | 0, 3 => rfl
    | 1, 0 => rfl | 1, 1 => rfl | 1, 2 => rfl | 1, 3 => rfl
  rw [hs] at this
  exact this

/-- The second result's block at the start of a step's passes. -/
def yIn (i : grid0.Coords) (Y : Vec F S3072x1536 .f32) : Vec F S3072x1536 .f32 := if k0_cond1 i = 1#1 then k0_pay10 else Y
/-- The transposed activations at the start of a step's passes. -/
def xIn (i : grid0.Coords) (X : Vec F S1536x3072 .bf16) : Vec F S1536x3072 .bf16 := if k0_cond1 i = 1#1 then XT xq xs else X
/-- The pointer at the start of a step's additions. -/
def pIn (i : grid0.Coords) (P : Vec F S1 .i32) : Vec F S1 .i32 := if k0_cond1 i = 1#1 then fun _ => 0#32 else P

theorem zeroY (Y : Vec F S3072x1536 .f32) : upd Y (Rect.unit (s := S3072x1536) ![0, 0] S3072x1536.size inb_S3072x1536_S3072x1536_0_0) k0_pay10 = k0_pay10 :=
  upd_eq (fun _ => rfl) fun b hb => absurd (ext2 (by show 0 + 1 * (b 0).val = (b 0).val; omega) (by show 0 + 1 * (b 1).val = (b 1).val; omega)) (hb b)

theorem storeP (P : Vec F S1 .i32) (w : BitVec 32) : upd P (Rect.unit (s := S1) ![0] S1.size inb_S1_S1_0) (fun _ => w) = fun _ => w :=
  upd_eq (fun _ => rfl) fun b hb => absurd (ext1 (by show 0 + 1 * (b 0).val = (b 0).val; omega)) (hb b)

/-- What the prelude reads and writes, held. -/
def heldP (X : Vec F S1536x3072 .bf16) (S : Vec F S3072x128 .bf16) (T : Vec F S768x128 .bf16) (Y : Vec F S3072x1536 .f32) (P : Vec F S1 .i32) : sProp 𝕄 :=
  iprop(owns (c : Thread nD τ) arg4 fullShare gs ∗ owns (c : Thread nD τ) arg6 fullShare ws ∗ owns (c : Thread nD τ) arg13 fullShare S
    ∗ owns (c : Thread nD τ) arg14 fullShare T ∗ owns (c : Thread nD τ) arg11 fullShare Y ∗ owns (c : Thread nD τ) arg19 fullShare P
    ∗ heldX c q7 arg7 arg8 arg12 arg15 arg18 xq xs X)

/-- The prelude. -/
theorem pre_wp (X : Vec F S1536x3072 .bf16) (S : Vec F S3072x128 .bf16) (T : Vec F S768x128 .bf16) (Y : Vec F S3072x1536 .f32) (P : Vec F S1 .i32) :
    heldP c q7 arg4 arg6 arg7 arg8 arg11 arg12 arg13 arg14 arg15 arg18 arg19 xq xs gs ws X S T Y P
      ⊢ wp frame (wpE (defs₀ (F := F)) 𝒱₀ (c : Thread nD τ) none) Set.univ
        (Align.pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19)
        fun m => iprop(⌜Idle m⌝ ∗ heldP c q7 arg4 arg6 arg7 arg8 arg11 arg12 arg13 arg14 arg15 arg18 arg19 xq xs gs ws (xIn xq xs i X) (GS i gs) (WS i ws)
          (yIn i Y) (pIn i P)) := by
  unfold Align.pre heldP
  rw [part3_eq, assoc]
  rw [wp_bind]
  iintro ⟨H4, H6, H13, H14, H11, H19, HX⟩
  iapply (wp_wand_r frame (wpE (defs₀ (F := F)) 𝒱₀ (c : Thread nD τ) none) Set.univ (Q := fun m => iprop(⌜Idle m⌝
    ∗ owns (c : Thread nD τ) arg11 fullShare (yIn i Y) ∗ owns (c : Thread nD τ) arg19 fullShare (pIn i P)
    ∗ heldX c q7 arg7 arg8 arg12 arg15 arg18 xq xs (xIn xq xs i X))))
  isplitl [H11 H19 HX]
  · unfold yIn pIn xIn init3
    by_cases h1 : k0_cond1 i = 1#1
    · rw [dif_pos h1, if_pos h1, if_pos h1, if_pos h1]
      unfold smemLoad smemLoadElt
      simp only [Prog.lift, Prog.bind_op, Prog.bind_ret, Prog.pure_eq_ret]
      iapply (Own.load (defs₀ (F := F)) 𝒱₀ c none Set.univ (m := arg19)) $$ H19; iintro H19
      iapply (Own.store_to (defs₀ (F := F)) 𝒱₀ c none Set.univ (m := arg19) (storeP _ _)) $$ H19; iintro H19
      iapply (Own.load (defs₀ (F := F)) 𝒱₀ c none Set.univ (m := arg11)) $$ H11; iintro H11
      iapply (Own.store_to (defs₀ (F := F)) 𝒱₀ c none Set.univ (m := arg11) (zeroY _)) $$ H11; iintro H11
      iapply (Scf.wp_for_bind frame (wpE (defs₀ (F := F)) 𝒱₀ (c : Thread nD τ) none) Set.univ _ _ _ _ _ _
        (fun n _ => heldX c q7 arg7 arg8 arg12 arg15 arg18 xq xs (fillX xq xs X n 0))
        (fun n _ => trip c i q7 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 xq xs h1 X n)) $$ [HX]
      · rw [fillX_zero]; iexact HX
      iintro %_ HX
      rw [wp_ret]; imodintro
      isplitr
      · ipureintro
        exact (((((((Idle.init.pop 0 0).pop 0 1).pop 0 2).pop 0 3).pop 1 0).pop 1 1).pop 1 2).pop 1 3
      isplitl [H11]; · iexact H11
      isplitl [H19]; · iexact H19
      rw [show fillX xq xs X (Scf.trips k0_t1_loop.1 k0_t1_loop.2 k0_t1_loop.3) 0 = XT xq xs from fillX_all xq xs X]
      iexact HX
    · rw [dif_neg h1, if_neg h1, if_neg h1, if_neg h1, Prog.pure_eq_ret]
      rw [wp_ret]; imodintro
      isplitr
      · ipureintro; exact Idle.init
      isplitl [H11]; · iexact H11
      isplitl [H19]; · iexact H19
      iexact HX
  iintro %m ⟨%hm, H11, H19, HX⟩
  rw [k0_part4_eq_skeleton, k0_part5_eq_skeleton, k0_part6_eq_skeleton, k0_part7_eq_skeleton, k0_part8_eq_skeleton, k0_part9_eq_skeleton,
    k0_part10_eq_skeleton, k0_part11_eq_skeleton]
  unfold rest3 k0_part4_skel k0_part5_skel k0_part6_skel k0_part7_skel k0_part8_skel k0_part9_skel k0_part10_skel k0_part11_skel Align.pre12
  simp only [Prog.lift, Prog.bind_op, Prog.bind_ret, Prog.pure_eq_ret]
  rw [← fillG_zero i gs S, ← fillW_zero i ws T]
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 0 inb_S3072x128_S256x128_0_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 1 inb_S3072x128_S256x128_256_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 2 inb_S3072x128_S256x128_512_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 3 inb_S3072x128_S256x128_768_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 4 inb_S3072x128_S256x128_1024_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 5 inb_S3072x128_S256x128_1280_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 6 inb_S3072x128_S256x128_1536_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 7 inb_S3072x128_S256x128_1792_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 8 inb_S3072x128_S256x128_2048_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 9 inb_S3072x128_S256x128_2304_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 10 inb_S3072x128_S256x128_2560_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 11 inb_S3072x128_S256x128_2816_0)) $$ H13; iintro H13
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 0 (by decide) inb_S768x128_S128x128_0_0 (k0_off15_inb i 0))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 1 (by decide) inb_S768x128_S128x128_128_0 (k0_off15_inb i 1))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 2 (by decide) inb_S768x128_S128x128_256_0 (k0_off15_inb i 2))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 3 (by decide) inb_S768x128_S128x128_384_0 (k0_off15_inb i 3))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 4 (by decide) inb_S768x128_S128x128_512_0 (k0_off15_inb i 4))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 5 (by decide) inb_S768x128_S128x128_640_0 (k0_off15_inb i 5))) $$ H14; iintro H14
  rw [wp_ret]; imodintro
  isplitr
  · ipureintro; exact hm
  isplitl [H4]; · iexact H4
  isplitl [H6]; · iexact H6
  isplitl [H13]
  · rw [← fillG_all i gs S]; iexact H13
  isplitl [H14]
  · rw [← fillW_all i ws T]; iexact H14
  isplitl [H11]; · iexact H11
  isplitl [H19]; · iexact H19
  iexact HX

end Cert.Kernel.Pre

end
-- ==== Proof.Out.lean ====
/-
  What the two results' buffers hold when the list of operations is done: every block at its passes.
-/
module

public import proofs.«01_k».proof.Proof.SemWp
public import proofs.«01_k».proof.Proof.Idx
public import proofs.«01_k».proof.Proof.Own

@[expose] public section

noncomputable section

namespace Cert.Mach

open Idealize.ShloMosaic Idealize.ShloMosaic.TcCoe Idealize.ShloMosaic.Tactic Cert.Idx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first result's block: the passes of its tiles, transposed. -/
def Env.dval (e : Env F) : SW.Idx → F .f32 := fun b =>
  e.acc (dAcc ⟨(b 0).val / 256, by have : (b 0).val < 768 := (b 0).isLt; omega⟩ ⟨(b 1).val / 256, by have : (b 1).val < 1536 := (b 1).isLt; omega⟩)
    (ix2 (n := 256) (m := 256) ⟨(b 1).val % 256, Nat.mod_lt _ (by decide)⟩ ⟨(b 0).val % 256, Nat.mod_lt _ (by decide)⟩)

/-- The second result's block: what it held, and the passes of its tiles added. -/
def Env.yval (e : Env F) : SX.Idx → F .f32 := fun b =>
  FloatOps.addf (e.y b)
    (e.acc (yAcc ⟨(b 0).val / 256, by have : (b 0).val < 3072 := (b 0).isLt; omega⟩ ⟨(b 1).val / 256, by have : (b 1).val < 1536 := (b 1).isLt; omega⟩)
      (ix2 (n := 256) (m := 256) ⟨(b 0).val % 256, Nat.mod_lt _ (by decide)⟩ ⟨(b 1).val % 256, Nat.mod_lt _ (by decide)⟩))

theorem mem_of {α : Type} {x y : α} {S : Finset α} (h : x = y) (hm : x ∈ S) : y ∈ S := h ▸ hm

theorem read_d {sig : RefSig} {κ : Kind} {sp : Space} (e : Env F) (v : View sig κ sp SW .f32) (f : v.ty.Contents (Elt F)) {σ : SS} (h : σ.Done) :
    v.read (Elt F) (v.writes (Elt F) f (σ.d.map e.pd)) = e.dval := by
  funext y
  have y0 : (y 0).val < 768 := (y 0).isLt
  have y1 : (y 1).val < 1536 := (y 1).isLt
  refine View.read_writes_apply_of_pieces v f e.dval _ (fun p hp x => ?_) y ?_
  · obtain ⟨q, hq, rfl⟩ := List.mem_map.mp hp
    have hl := h.2.2.2.2.1 q hq
    have x0 : (x 0).val < 256 := (x 0).isLt
    have x1 : (x 1).val < 256 := (x 1).isLt
    have e0 : ((rW q.1.1 q.1.2).emb x 0).val = 256 * q.1.1.val + 1 * (x 0).val := rfl
    have e1 : ((rW q.1.1 q.1.2).emb x 1).val = 256 * q.1.2.val + 1 * (x 1).val := rfl
    show transpose T2 [1, 0] (e.acc q.2) trT2 x = e.dval ((rW q.1.1 q.1.2).emb x)
    rw [hl]
    unfold Env.dval
    have a0 : (⟨((rW q.1.1 q.1.2).emb x 0).val / 256, by rw [e0]; have := q.1.1.isLt; omega⟩ : Fin 3) = q.1.1 := Fin.ext (by show _ / 256 = _; rw [e0]; omega)
    have a1 : (⟨((rW q.1.1 q.1.2).emb x 1).val / 256, by rw [e1]; have := q.1.2.isLt; omega⟩ : Fin 6) = q.1.2 := Fin.ext (by show _ / 256 = _; rw [e1]; omega)
    rw [a0, a1]
    show e.acc _ _ = _
    congr 1
    refine ext2 ?_ ?_
    · show (x 1).val = ((rW q.1.1 q.1.2).emb x 1).val % 256
      rw [e1]; omega
    · show (x 0).val = ((rW q.1.1 q.1.2).emb x 0).val % 256
      rw [e0]; omega
  · refine ⟨_, List.mem_map.mpr ⟨_, h.2.2.2.1 ⟨(y 0).val / 256, by omega⟩ ⟨(y 1).val / 256, by omega⟩, rfl⟩, ?_⟩
    have : (rW ⟨(y 0).val / 256, by omega⟩ ⟨(y 1).val / 256, by omega⟩).emb
        (ix2 (n := 256) (m := 256) ⟨(y 0).val % 256, Nat.mod_lt _ (by decide)⟩ ⟨(y 1).val % 256, Nat.mod_lt _ (by decide)⟩) = y :=
      ext2 (by show 256 * ((y 0).val / 256) + 1 * ((y 0).val % 256) = _; omega) (by show 256 * ((y 1).val / 256) + 1 * ((y 1).val % 256) = _; omega)
    have hm := (rW ⟨(y 0).val / 256, by omega⟩ ⟨(y 1).val / 256, by omega⟩).toLoadRect.idx_mem
        (ix2 (n := 256) (m := 256) ⟨(y 0).val % 256, Nat.mod_lt _ (by decide)⟩ ⟨(y 1).val % 256, Nat.mod_lt _ (by decide)⟩)
    exact mem_of this hm

theorem read_y {sig : RefSig} {κ : Kind} {sp : Space} (e : Env F) (v : View sig κ sp SX .f32) (f : v.ty.Contents (Elt F)) {σ : SS} (h : σ.Done) :
    v.read (Elt F) (v.writes (Elt F) f (σ.y.map e.py)) = e.yval := by
  funext y
  have y0 : (y 0).val < 3072 := (y 0).isLt
  have y1 : (y 1).val < 1536 := (y 1).isLt
  refine View.read_writes_apply_of_pieces v f e.yval _ (fun p hp x => ?_) y ?_
  · obtain ⟨q, hq, rfl⟩ := List.mem_map.mp hp
    have hl := h.2.2.2.2.2.2 q hq
    have x0 : (x 0).val < 256 := (x 0).isLt
    have x1 : (x 1).val < 256 := (x 1).isLt
    have e0 : ((rY q.1.1 q.1.2).emb x 0).val = 256 * q.1.1.val + 1 * (x 0).val := rfl
    have e1 : ((rY q.1.1 q.1.2).emb x 1).val = 256 * q.1.2.val + 1 * (x 1).val := rfl
    show FloatOps.addf (e.y ((rY q.1.1 q.1.2).emb x)) (e.acc q.2 x) = e.yval ((rY q.1.1 q.1.2).emb x)
    rw [hl]
    unfold Env.yval
    have a0 : (⟨((rY q.1.1 q.1.2).emb x 0).val / 256, by rw [e0]; have := q.1.1.isLt; omega⟩ : Fin 12) = q.1.1 := Fin.ext (by show _ / 256 = _; rw [e0]; omega)
    have a1 : (⟨((rY q.1.1 q.1.2).emb x 1).val / 256, by rw [e1]; have := q.1.2.isLt; omega⟩ : Fin 6) = q.1.2 := Fin.ext (by show _ / 256 = _; rw [e1]; omega)
    rw [a0, a1]
    congr 2
    refine ext2 ?_ ?_
    · show (x 0).val = ((rY q.1.1 q.1.2).emb x 0).val % 256
      rw [e0]; omega
    · show (x 1).val = ((rY q.1.1 q.1.2).emb x 1).val % 256
      rw [e1]; omega
  · refine ⟨_, List.mem_map.mpr ⟨_, h.2.2.2.2.2.1 ⟨(y 0).val / 256, by omega⟩ ⟨(y 1).val / 256, by omega⟩, rfl⟩, ?_⟩
    have : (rY ⟨(y 0).val / 256, by omega⟩ ⟨(y 1).val / 256, by omega⟩).emb
        (ix2 (n := 256) (m := 256) ⟨(y 0).val % 256, Nat.mod_lt _ (by decide)⟩ ⟨(y 1).val % 256, Nat.mod_lt _ (by decide)⟩) = y :=
      ext2 (by show 256 * ((y 0).val / 256) + 1 * ((y 0).val % 256) = _; omega) (by show 256 * ((y 1).val / 256) + 1 * ((y 1).val % 256) = _; omega)
    have hm := (rY ⟨(y 0).val / 256, by omega⟩ ⟨(y 1).val / 256, by omega⟩).toLoadRect.idx_mem
        (ix2 (n := 256) (m := 256) ⟨(y 0).val % 256, Nat.mod_lt _ (by decide)⟩ ⟨(y 1).val % 256, Nat.mod_lt _ (by decide)⟩)
    exact mem_of this hm

end Cert.Mach

end
-- ==== Proof.Mid.lean ====
/-
  A list of operations that ends, over buffers whose contents are known: the operands stay, the results hold their passes.
-/
module

public import proofs.«01_k».proof.Proof.Out

@[expose] public section

noncomputable section

namespace Cert.Mach

open Idealize.ShloMosaic Idealize.ShloMosaic.TcCoe Idealize.ShloMosaic.Tactic Cert.Idx
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix] {Name : Type} [DecidableEq Name]
variable {U : Type} [URA U] {Lvl : Type} [Preorder Lvl] {Λ : Labels}
variable (defs : Defs nD τ sig (Elt F) Λ) (𝒱 : Variants) (c : Dev nD) (bd : Option 𝒱.V) (E : Set Name)
variable {α : Type} {Q : α → sProp (MT nD τ sig Ix (Elt F) Name U Lvl)}

local notation "𝕄" => MT nD τ sig Ix (Elt F) Name U Lvl

/-- The buffers the operations read. -/
def reads (R : Refs sig) (e : Env F) : sProp 𝕄 :=
  iprop(owns (c : Thread nD τ) R.g fullShare e.g ∗ owns (c : Thread nD τ) R.w fullShare e.w ∗ owns (c : Thread nD τ) R.x fullShare e.x
    ∗ owns (c : Thread nD τ) R.s fullShare e.s ∗ owns (c : Thread nD τ) R.t fullShare e.t)

theorem mid_wp (R : Refs sig) (os : List Op) (σ : SS) (h : sx os SS.init = some σ) (hd : σ.Done) (m : Mxu F) (hm : ∀ e, MRel e m SS.init)
    (e : Env F) (k : St F → Prog (TpuEff nD τ sig (Elt F) Λ .tc) α) :
    iprop(reads (Ix := Ix) (Name := Name) (U := U) (Lvl := Lvl) c R e ∗ (∃ D, owns (c : Thread nD τ) R.d fullShare D) ∗ owns (c : Thread nD τ) R.y fullShare e.y)
      ⊢ iprop((∀ s : St F, ⌜s.m.Drained⌝ -∗ (reads c R e ∗ owns (c : Thread nD τ) R.d fullShare e.dval ∗ owns (c : Thread nD τ) R.y fullShare e.yval)
        -∗ wp frame (wpE defs 𝒱 (c : Thread nD τ) bd) E (k s) Q) -∗ wp frame (wpE defs 𝒱 (c : Thread nD τ) bd) E ((run R os ⟨m, []⟩).bind k) Q) := by
  unfold reads owns
  iintro ⟨⟨⟨%f3, %e3, H3⟩, ⟨%f5, %e5, H5⟩, ⟨%f12, %e12, H12⟩, ⟨%f13, %e13, H13⟩, ⟨%f14, %e14, H14⟩⟩, ⟨%D, %f10, %e10, H10⟩, ⟨%f11, %e11, H11⟩⟩ Hk
  let f : Fs F R := ⟨f3, f5, f12, f13, f14, f10, f11⟩
  have hf : f.env = e := by
    show (⟨_, _, _, _, _, _⟩ : Env F) = _
    rw [e3, e5, e12, e13, e14, e11]
  iapply (does_run (Q := Q) defs 𝒱 c bd E R f os SS.init σ h ⟨m, []⟩ (hm f.env) rfl k) $$ [H3 H5 H12 H13 H14 H10 H11]
  · unfold Res
    isplitl [H3]; · iexact H3
    isplitl [H5]; · iexact H5
    isplitl [H12]; · iexact H12
    isplitl [H13]; · iexact H13
    isplitl [H14]; · iexact H14
    isplitl [H10]; · iexact H10
    iexact H11
  iintro %s' %hs' H
  unfold Res
  icases H with ⟨H3, H5, H12, H13, H14, H10, H11⟩
  have hD := hs'.1.drained f.env hd.1 hd.2.1
  have eD := read_d f.env R.d.view f10 hd
  have eY := read_y f.env R.y.view f11 hd
  rw [hf] at eD eY
  ispecialize Hk $$ %s'
  ispecialize Hk $$ %hD
  iapply Hk
  isplitl [H3 H5 H12 H13 H14]
  · isplitl [H3]
    · iexists f3
      isplitr; · ipureintro; exact e3
      iexact H3
    isplitl [H5]
    · iexists f5
      isplitr; · ipureintro; exact e5
      iexact H5
    isplitl [H12]
    · iexists f12
      isplitr; · ipureintro; exact e12
      iexact H12
    isplitl [H13]
    · iexists f13
      isplitr; · ipureintro; exact e13
      iexact H13
    · iexists f14
      isplitr; · ipureintro; exact e14
      iexact H14
  isplitl [H10]
  · iexists _
    isplitr
    rotate_left
    · iexact H10
    · ipureintro; rw [hf]; exact eD
  · iexists _
    isplitr
    rotate_left
    · iexact H11
    · ipureintro; rw [hf]; exact eY

end Cert.Mach

end
-- ==== Proof.Body.lean ====
/-
  One grid step of the kernel's body: what it reads, and what it leaves in the two results' blocks and in the scratch it
  carries on to the next step.
-/
module

public import proofs.«01_k».proof.Proof.Pre
public import proofs.«01_k».proof.Proof.Mid

@[expose] public section

set_option maxRecDepth 100000
set_option maxHeartbeats 4000000

noncomputable section

namespace Cert.Kernel.Body

open Cert.Kernel Cert.Kernel.Gen Cert.Idx Cert.Own Cert.Mach Cert.Kernel.Fill Cert.Kernel.Pre
open Cert.Kernel.While (𝒱₀ EfOk go below row held)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] [Facts]

local notation "𝕄" => MT nD τ sig Unit (Elt F) ℕ (Pipeline.UD sig nD τ) ℕ

section Pure

variable (ids : Vec F S3072 .i32) (sc : Vec F S3072 .f32) (e : Vec F S3072x1536 .fp8e5m2) (xq : Vec F S3072x1536 .fp8e4m3)
  (xs : Vec F S3072x1 .f32) (g : Vec F S3072x768 .fp8e5m2) (gs : Vec F S3072x128 .f32) (w : Vec F S768x1536 .fp8e4m3)
  (ws : Vec F S1002x128 .f32) (i : grid0.Coords)

/-- The contents the passes read. -/
def env (xq : Vec F S3072x1536 .fp8e4m3) (xs : Vec F S3072x1 .f32) (g : Vec F S3072x768 .fp8e5m2) (gs : Vec F S3072x128 .f32)
    (w : Vec F S768x1536 .fp8e4m3) (ws : Vec F S1002x128 .f32) (i : grid0.Coords) (X : Vec F S1536x3072 .bf16) (Y : Vec F S3072x1536 .f32) : Env F :=
  ⟨g, w, xIn xq xs i X, GS i gs, WS i ws, yIn i Y⟩

/-- The counter the additions start from. -/
def pAt (i : grid0.Coords) (p : ℕ) : ℕ := if k0_cond1 i = 1#1 then 0 else p

/-- The counter the additions end at. -/
def pOut (p : ℕ) (X : Vec F S1536x3072 .bf16) (Y : Vec F S3072x1536 .f32) : ℕ :=
  (go ids e sc i (3072 - pAt i p) (pAt i p) (env xq xs g gs w ws i X Y).dval).1

/-- The first result's block. -/
def dOut (p : ℕ) (X : Vec F S1536x3072 .bf16) (Y : Vec F S3072x1536 .f32) : Vec F S768x1536 .f32 :=
  (go ids e sc i (3072 - pAt i p) (pAt i p) (env xq xs g gs w ws i X Y).dval).2

end Pure

variable (c : Dev nD) (i : grid0.Coords) (q1 q7 q9 : PosShare TreeShare)
  (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole)
  (ids : Vec F S3072 .i32) (sc : Vec F S3072 .f32) (e : Vec F S3072x1536 .fp8e5m2) (xq : Vec F S3072x1536 .fp8e4m3)
  (xs : Vec F S3072x1 .f32) (g : Vec F S3072x768 .fp8e5m2) (gs : Vec F S3072x128 .f32) (w : Vec F S768x1536 .fp8e4m3)
  (ws : Vec F S1002x128 .f32)

/-- The operands, which a step only reads. -/
def ins : sProp 𝕄 :=
  iprop(owns (c : Thread nD τ) arg1 q1 ids ∗ owns (c : Thread nD τ) arg2 fullShare sc ∗ owns (c : Thread nD τ) arg3 fullShare g
    ∗ owns (c : Thread nD τ) arg4 fullShare gs ∗ owns (c : Thread nD τ) arg5 fullShare w ∗ owns (c : Thread nD τ) arg6 fullShare ws
    ∗ owns (c : Thread nD τ) arg7 q7 xq ∗ owns (c : Thread nD τ) arg8 fullShare xs ∗ owns (c : Thread nD τ) arg9 q9 e)

/-- The scratch whose contents a step does not carry on, and the copies' semaphore. -/
def tmp : sProp 𝕄 :=
  iprop((∃ Z, owns (c : Thread nD τ) arg13 fullShare Z) ∗ (∃ Z, owns (c : Thread nD τ) arg14 fullShare Z) ∗ (∃ Z, owns (c : Thread nD τ) arg15 fullShare Z)
    ∗ (∃ Z, owns (c : Thread nD τ) arg16 fullShare Z) ∗ semVal ((c : Thread nD τ), SemLoc.dma arg18.sem) 0)

/-- The scratch a step carries on: the transposed activations, the widened gradient rows of the counter's group, the counter. -/
def kept (ok : Prop) (X : Vec F S1536x3072 .bf16) (p : ℕ) : sProp 𝕄 :=
  iprop(owns (c : Thread nD τ) arg12 fullShare X ∗ (∃ Y, ⌜ok → EfOk e p Y⌝ ∗ owns (c : Thread nD τ) arg17 fullShare Y)
    ∗ ∃ P, ⌜ok → P = fun _ => BitVec.ofNat 32 p⌝ ∗ owns (c : Thread nD τ) arg19 fullShare P)

/-- After the passes: the rows gathered are added, the counter is stored, the unit is let go. -/
theorem tail_wp (m : Mxu F) (hD : m.Drained) (D : Vec F S768x1536 .f32) (p : ℕ) (hp : p ≤ 3072)
    (hr : ∀ q : Fin 3072, p ≤ q.val → below ids i q → row ids i q < 768) (Z : Vec F S32x1536 .f32) (hZ : EfOk e p Z) :
    iprop(owns (c : Thread nD τ) arg19 fullShare (fun _ => BitVec.ofNat 32 p) ∗ held c ids e sc q1 q9 arg1 arg9 arg16 arg18 arg17 arg10 arg2 p D)
      ⊢ wp frame (wpE (defs₀ (F := F)) 𝒱₀ (c : Thread nD τ) none) Set.univ
        (Align.tail (F := F) i arg1 harg1 arg2 harg2 arg9 harg9 arg10 harg10 arg16 harg16 arg17 harg17 arg18 arg19 m)
        fun _ => iprop(owns (c : Thread nD τ) arg19 fullShare (fun _ => BitVec.ofNat 32 (go ids e sc i (3072 - p) p D).1)
          ∗ held c ids e sc q1 q9 arg1 arg9 arg16 arg18 arg17 arg10 arg2 (go ids e sc i (3072 - p) p D).1 (go ids e sc i (3072 - p) p D).2) := by
  unfold Align.tail smemLoad smemLoadElt
  simp only [Prog.lift, Prog.bind_op, Prog.bind_ret, Prog.pure_eq_ret]
  iintro ⟨H19, H⟩
  iapply (Own.load (defs₀ (F := F)) 𝒱₀ c none Set.univ (m := arg19)) $$ H19; iintro H19
  iapply (wp_call_spec 𝒱₀ (c : Thread nD τ) none Set.univ
    (While.spec c ids e sc i q1 q9 arg1 arg9 arg16 arg18 arg17 arg10 arg2 (3072 - p) p D) (3072 - p)
    (fun u hu => nomatch hu)
    (While.spec_le c ids e sc i q1 q9 arg1 harg1 arg9 harg9 arg16 harg16 arg18 arg17 harg17 arg10 harg10 arg2 harg2 (3072 - p) p (by omega)
      hr D))
  rw [While.spec_apply]
  isplitl [H]; · iexact H
  iintro %r %hr' H
  iapply (Own.load (defs₀ (F := F)) 𝒱₀ c none Set.univ (m := arg19)) $$ H19; iintro H19
  iapply (Own.store_to (defs₀ (F := F)) 𝒱₀ c none Set.univ (m := arg19) (storeP _ _)) $$ H19; iintro H19
  iapply (Mxu.wp_exit hD)
  rw [wp_ret]; imodintro
  rw [hr']
  isplitl [H19]; · iexact H19
  iexact H

attribute [local irreducible] all Align.tail Align.pre

theorem body_wp (X : Vec F S1536x3072 .bf16) (Y : Vec F S3072x1536 .f32) (p : ℕ) (hp : p ≤ 3072)
    (hr : ∀ q : Fin 3072, pAt i p ≤ q.val → below ids i q → row ids i q < 768) :
    iprop(ins c q1 q7 q9 arg1 arg2 arg3 arg4 arg5 arg6 arg7 arg8 arg9 ids sc e xq xs g gs w ws ∗ tmp (F := F) c arg13 arg14 arg15 arg16 arg18
        ∗ kept c arg12 arg17 arg19 e (¬ k0_cond1 i = 1#1) X p ∗ (∃ D, owns (c : Thread nD τ) arg10 fullShare D) ∗ owns (c : Thread nD τ) arg11 fullShare Y
        ∗ ∃ W, owes (c : Thread nD τ) 0 W)
      ⊢ wp frame (wpE (defs₀ (F := F)) 𝒱₀ (c : Thread nD τ) none) Set.univ (cc0_tied_grad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19)
        fun _ => iprop(ins c q1 q7 q9 arg1 arg2 arg3 arg4 arg5 arg6 arg7 arg8 arg9 ids sc e xq xs g gs w ws ∗ tmp (F := F) c arg13 arg14 arg15 arg16 arg18
          ∗ kept c arg12 arg17 arg19 e True (xIn xq xs i X) (pOut ids sc e xq xs g gs w ws i p X Y)
          ∗ owns (c : Thread nD τ) arg10 fullShare (dOut ids sc e xq xs g gs w ws i p X Y)
          ∗ owns (c : Thread nD τ) arg11 fullShare (env xq xs g gs w ws i X Y).yval ∗ ∃ W, owes (c : Thread nD τ) 0 W) := by
  rw [Align.body_eq]
  show _ ⊢ wp _ _ _ (_ >>= _) _
  rw [wp_bind]
  unfold ins tmp kept
  iintro ⟨⟨H1, H2, H3, H4, H5, H6, H7, H8, H9⟩, ⟨⟨%S, H13⟩, ⟨%T, H14⟩, H15, H16, Hs⟩, ⟨H12, ⟨%Z, %hZ, H17⟩, ⟨%P, %hP, H19⟩⟩, H10, H11, HO⟩
  ihave H := (pre_wp c i q7 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 xq xs gs ws X S T Y P) $$ [H4 H6 H13 H14 H11 H19 H7 H8 H15 H12 Hs HO]
  · unfold heldP heldX
    iframe
  iapply (wp_wand_r frame (wpE (defs₀ (F := F)) 𝒱₀ (c : Thread nD τ) none) Set.univ)
  isplitl [H]; · iexact H
  unfold heldP heldX
  iintro %m ⟨%hm, H4, H6, H13, H14, H11, H19, H7, H8, H15, H12, Hs, HO⟩
  obtain ⟨σ, hσ, hd⟩ := sx_all
  iapply (mid_wp (defs₀ (F := F)) 𝒱₀ c none Set.univ (Align.refs arg3 arg5 arg10 arg11 arg12 arg13 arg14) all σ hσ hd m hm (env xq xs g gs w ws i X Y)) $$ [H3 H5 H12 H13 H14 H10 H11]
  · unfold reads
    isplitl [H3 H5 H12 H13 H14]
    · isplitl [H3]; · iexact H3
      isplitl [H5]; · iexact H5
      isplitl [H12]; · iexact H12
      isplitl [H13]; · iexact H13
      iexact H14
    isplitl [H10]; · iexact H10
    iexact H11
  iintro %s %hD
  unfold reads
  iintro ⟨⟨H3, H5, H12, H13, H14⟩, H10, H11⟩
  have hPin : pIn (F := F) i P = fun _ => BitVec.ofNat 32 (pAt i p) := by
    unfold pIn pAt
    by_cases h1 : k0_cond1 i = 1#1
    · rw [if_pos h1, if_pos h1]
    · rw [if_neg h1, if_neg h1]; exact hP h1
  have hZin : EfOk e (pAt i p) Z := by
    unfold pAt
    by_cases h1 : k0_cond1 i = 1#1
    · rw [if_pos h1]; intro h; exact absurd rfl h
    · rw [if_neg h1]; exact hZ h1
  have hle : pAt i p ≤ 3072 := by unfold pAt; split <;> omega
  rw [hPin]
  iapply (wp_wand_r frame (wpE (defs₀ (F := F)) 𝒱₀ (c : Thread nD τ) none) Set.univ)
  isplitl [H1 H9 H16 H17 H10 H2 Hs HO H19]
  · iapply (tail_wp c i q1 q9 arg1 harg1 arg2 harg2 arg9 harg9 arg10 harg10 arg16 harg16 arg17 harg17 arg18 arg19 ids sc e s.m hD (env xq xs g gs w ws i X Y).dval (pAt i p) hle hr Z hZin)
    isplitl [H19]; · iexact H19
    unfold While.held
    isplitl [H1]; · iexact H1
    isplitl [H9]; · iexact H9
    isplitl [H16]; · iexact H16
    isplitl [H17]
    · iexists Z
      isplitr; · ipureintro; exact hZin
      iexact H17
    isplitl [H10]; · iexact H10
    isplitl [H2]; · iexact H2
    isplitl [Hs]; · iexact Hs
    iexact HO
  unfold While.held
  iintro %u ⟨H19, H1, H9, H16, ⟨%Z', %hZ', H17⟩, H10, H2, Hs, HO⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H13 H14 H15 H16 Hs]
  · isplitl [H13]; · iexists _; iexact H13
    isplitl [H14]; · iexists _; iexact H14
    isplitl [H15]; · iexact H15
    isplitl [H16]; · iexact H16
    iexact Hs
  isplitl [H12 H17 H19]
  · isplitl [H12]; · iexact H12
    isplitl [H17]
    · iexists Z'
      isplitr; · ipureintro; exact fun _ => hZ'
      iexact H17
    · iexists _
      isplitr
      rotate_left
      · iexact H19
      · ipureintro; intro _; rfl
  isplitl [H10]; · iexact H10
  isplitl [H11]; · iexact H11
  iexact HO

end Cert.Kernel.Body

end
-- ==== Proof.Ptr.lean ====
/-
  The counter of the additions over the grid's steps, when the identifiers are sorted.
-/
module

public import proofs.«01_k».proof.Proof.While

@[expose] public section

noncomputable section

namespace Cert.Kernel.Ptr

open Cert.Kernel Cert.Kernel.While Cert.Idx
open Idealize.ShloMosaic Idealize.ShloMosaic.TcCoe

variable {F : FTy → Type} [FloatOps F] [∀ e, Nonempty (Elt F e)] [Facts]

/-- The identifiers are sorted and not negative. -/
def Sorted (ids : Vec F S3072 .i32) : Prop :=
  (∀ p : Fin 3072, (show BitVec 32 from ids (ix1 p)).toNat < 2 ^ 31)
    ∧ ∀ p q : Fin 3072, p ≤ q → (show BitVec 32 from ids (ix1 p)).toNat ≤ (show BitVec 32 from ids (ix1 q)).toNat

variable (ids : Vec F S3072 .i32) (e : Vec F S3072x1536 .fp8e5m2) (sc : Vec F S3072 .f32) (i : grid0.Coords)

/-- The identifier at `p`. -/
def idN (p : Fin 3072) : ℕ := (show BitVec 32 from ids (ix1 p)).toNat

theorem lo_toNat : (lo i).toNat = 768 * (i 0).val := by
  have h : (i 0).val < 167 := (i 0).isLt
  show ((BitVec.ofNat 32 (i 0).val) * 768#32).toNat = _
  rw [BitVec.toNat_mul, BitVec.toNat_ofNat, BitVec.toNat_ofNat]
  omega

theorem slt_iff (x y : BitVec 32) (hx : x.toNat < 2 ^ 31) (hy : y.toNat < 2 ^ 31) : Scalar.cmpi .slt x y = 1#1 ↔ x.toNat < y.toNat := by
  have h4 : x.slt y = decide (x.toNat < y.toNat) := by
    rw [BitVec.slt, BitVec.toInt_eq_toNat_of_lt (by omega), BitVec.toInt_eq_toNat_of_lt (by omega)]
    simp
  show (BitVec.ofBool (x.slt y)) = 1#1 ↔ _
  rw [h4]
  by_cases h : x.toNat < y.toNat
  · rw [decide_eq_true h]; exact ⟨fun _ => h, fun _ => rfl⟩
  · rw [decide_eq_false h]; exact ⟨fun h' => absurd h' (by decide), fun h' => absurd h' h⟩

theorem hi_toNat : (Scalar.addi (lo i) 768#32).toNat = 768 * ((i 0).val + 1) := by
  have h : (i 0).val < 167 := (i 0).isLt
  show ((lo i) + 768#32).toNat = _
  rw [BitVec.toNat_add, lo_toNat, BitVec.toNat_ofNat]
  omega

theorem below_iff (hs : Sorted ids) (p : Fin 3072) : below (F := F) ids i p ↔ idN ids p < 768 * ((i 0).val + 1) := by
  have h : (i 0).val < 167 := (i 0).isLt
  have h3 := hi_toNat i
  have := slt_iff (ids (ix1 p)) (Scalar.addi (lo i) 768#32) (hs.1 p) (by rw [h3]; omega)
  rw [h3] at this
  exact this

theorem subi_toNat (x y : BitVec 32) (h : y.toNat ≤ x.toNat) : (Scalar.subi x y).toNat = x.toNat - y.toNat := by
  show (x - y).toNat = _
  rw [BitVec.toNat_sub]
  have := x.isLt
  have := y.isLt
  omega

theorem row_eq (hs : Sorted ids) (p : Fin 3072) (h0 : 768 * (i 0).val ≤ idN ids p) : row (F := F) ids i p = idN ids p - 768 * (i 0).val := by
  have h2 := lo_toNat i
  have := subi_toNat (ids (ix1 p)) (lo i) (by rw [h2]; exact h0)
  rw [h2] at this
  exact this

/-- Where the loop stops, entered at `p` with at most `k` trips to run. -/
def stop : ℕ → ℕ → ℕ
  | 0, p => p
  | k + 1, p => if ∃ hp : p < 3072, below (F := F) ids i ⟨p, hp⟩ then stop k (p + 1) else p

theorem go_fst (k p : ℕ) (X : Vec F S768x1536 .f32) : (go ids e sc i k p X).1 = stop ids i k p := by
  induction k generalizing p X with
  | zero => rfl
  | succ k ih =>
    unfold go stop
    split
    · exact ih _ _
    · rfl

/-- Counter `p` parts the identifiers below row `768 n` from the others. -/
def Good (n p : ℕ) : Prop := p ≤ 3072 ∧ ∀ q : Fin 3072, (q.val < p → idN ids q < 768 * n) ∧ (p ≤ q.val → 768 * n ≤ idN ids q)

theorem stop_good (hs : Sorted ids) (k p : ℕ) (hk : k = 3072 - p) (hp : p ≤ 3072) (h : ∀ q : Fin 3072, q.val < p → idN ids q < 768 * ((i 0).val + 1)) :
    Good ids ((i 0).val + 1) (stop ids i k p) := by
  induction k generalizing p with
  | zero => exact ⟨hp, fun q => ⟨h q, fun hq => absurd q.isLt (by
      have : p ≤ q.val := hq
      omega)⟩⟩
  | succ k ih =>
    unfold stop
    split
    · rename_i hb
      obtain ⟨hp', hb⟩ := hb
      refine ih (p + 1) (by omega) (by omega) fun q hq => ?_
      rcases Nat.lt_or_ge q.val p with hlt | hge
      · exact h q hlt
      · have : q = ⟨p, hp'⟩ := Fin.ext (by show q.val = p; omega)
        rw [this]
        exact (below_iff ids i hs _).1 hb
    · rename_i hb
      refine ⟨hp, fun q => ⟨h q, fun hq => ?_⟩⟩
      have hp' : p < 3072 := by omega
      by_contra hlt
      refine hb ⟨hp', (below_iff ids i hs _).2 ?_⟩
      have := hs.2 ⟨p, hp'⟩ q hq
      unfold idN at hlt ⊢
      omega

/-- The counter before step `n`. -/
def P : ℕ → ℕ
  | 0 => 0
  | n + 1 => if h : n < grid0.N then stop ids (grid0.coords ⟨n, h⟩) (3072 - P n) (P n) else P n

theorem coords_val : ∀ t : Fin grid0.N, ((grid0.coords t) 0).val = t.val := by decide +kernel

theorem P_good (hs : Sorted ids) (n : ℕ) (hn : n ≤ grid0.N) : Good ids n (P ids n) := by
  induction n with
  | zero => exact ⟨Nat.zero_le _, fun q => ⟨fun h => absurd h (Nat.not_lt_zero _), fun _ => by omega⟩⟩
  | succ n ih =>
    have ih := ih (by omega)
    unfold P
    rw [dif_pos (by omega : n < grid0.N)]
    have hc := coords_val ⟨n, by omega⟩
    have := stop_good ids (grid0.coords ⟨n, by omega⟩) hs (3072 - P ids n) (P ids n) rfl ih.1 fun q hq => by
      have := (ih.2 q).1 hq
      rw [hc]; show _ < 768 * (n + 1); omega
    rw [hc] at this
    exact this

/-- The rows the loop of step `t` names are rows of the block. -/
theorem row_lt (hs : Sorted ids) (t : Fin grid0.N) (q : Fin 3072) (hq : P ids t.val ≤ q.val) (hb : below (F := F) ids (grid0.coords t) q) :
    row (F := F) ids (grid0.coords t) q < 768 := by
  have hg := P_good ids hs t.val (by omega)
  have hc := coords_val t
  have h0 := (hg.2 q).2 hq
  have h1 := (below_iff ids _ hs q).1 hb
  rw [row_eq ids _ hs q (by rw [hc]; exact h0), hc]
  rw [hc] at h1
  omega

end Cert.Kernel.Ptr

end
-- ==== Proof.Region.lean ====
/-
  The kernel's grid loop: what is held between two steps, the obligation of one step, and the launch.
-/
module

public import proofs.«01_k».proof.Proof.Body
public import proofs.«01_k».proof.Proof.Ptr
public import proofs.«01_k».proof.Proof.Gen.Kernel.Launch
public import Idealize.ShloMosaic.Lib.Pipeline.Frame
public import Idealize.ShloMosaic.Lib.Pipeline.FrameSuffix
public import Idealize.ShloMosaic.Lib.Transfers

@[expose] public section

noncomputable section

namespace Cert.Kernel.Region

open Cert.Kernel Cert.Kernel.Gen Cert.Idx Cert.Own Cert.Mach Cert.Kernel.Fill Cert.Kernel.Pre Cert.Kernel.Body Cert.Kernel.Ptr
open Cert.Kernel.While (𝒱₀ EfOk go below row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ)

/-- What the kernel's call finds: the memory after the reshapes before it. -/
abbrev V₀ (c : Dev nD) : Valuation τ sig (Elt F) := StableHlo.after [hostOps0].flatten (fun b => m (c, b))
/-- The same, at a reference. -/
abbrev V (c : Dev nD) (b : Ref sig .tc) : Buf (Elt F) ((c : Thread nD τ).loc b) := V₀ m c (Proc.devRef .tc b)

/-- The prefetched table's contents. -/
def adm : (pcfg0 (F := F)).Adm := ⟨fun k => m (((0 : Dev nD) : Thread nD τ).loc (pre0.ref k)), trivial⟩

/-- The pipeline at these contents. -/
abbrev cfgA : Pipeline.Cfg sig (Λ₀ F) := cfg0 (adm m)

/-- The identifiers. -/
abbrev ids (c : Dev nD) : Vec F S3072 .i32 := V m c main_arg6
/-- The gradient rows. -/
abbrev eW (c : Dev nD) : Vec F S3072x1536 .fp8e5m2 := V m c main_arg4
/-- The activations. -/
abbrev xqW (c : Dev nD) : Vec F S3072x1536 .fp8e4m3 := V m c main_v2

/-- The blocks a step is handed. -/
abbrev scB (c : Dev nD) (t : Fin grid0.N) : Vec F S3072 .f32 := (((cfgA m).win (0 : Fin 8)).blk t).view.read (Elt F) (V m c main_arg5)
abbrev gB (c : Dev nD) (t : Fin grid0.N) : Vec F S3072x768 .fp8e5m2 := (((cfgA m).win (1 : Fin 8)).blk t).view.read (Elt F) (V m c main_v0)
abbrev gsD (c : Dev nD) (t : Fin grid0.N) (d : Vec F S3072x128 .f32) : Vec F S3072x128 .f32 :=
  ((cfgA m).win (2 : Fin 8)).fill (grid0.coords t) d ((((cfgA m).win (2 : Fin 8)).blk t).view.read (Elt F) (V m c main_v1))
abbrev wB (c : Dev nD) (t : Fin grid0.N) : Vec F S768x1536 .fp8e4m3 := (((cfgA m).win (3 : Fin 8)).blk t).view.read (Elt F) (V m c main_arg7)
abbrev wsB (c : Dev nD) (t : Fin grid0.N) : Vec F S1002x128 .f32 := (((cfgA m).win (4 : Fin 8)).blk t).view.read (Elt F) (V m c main_v4)
abbrev xsB (c : Dev nD) (t : Fin grid0.N) : Vec F S3072x1 .f32 := (((cfgA m).win (5 : Fin 8)).blk t).view.read (Elt F) (V m c main_v3)

/-- Contents of no matter. -/
abbrev any {s : Shape} {e : EltTy} : Vec F s e := fun _ => Classical.arbitrary _

/-- The scales' block as a step finds it, on the part the copies move. -/
abbrev gsB (c : Dev nD) (t : Fin grid0.N) : Vec F S3072x128 .f32 := gsD m c t any

/-- The transposed activations held from the first step on. -/
abbrev XX (c : Dev nD) : Vec F S1536x3072 .bf16 := XT (xqW m c) (xsB m c ⟨0, by decide⟩)

/-- What the passes of step `t` read, the second result's block at `Y`. -/
abbrev envT (c : Dev nD) (t : Fin grid0.N) (Y : Vec F S3072x1536 .f32) : Env F :=
  env (xqW m c) (xsB m c t) (gB m c t) (gsB m c t) (wB m c t) (wsB m c t) (grid0.coords t) (XX m c) Y

/-- The second result's block before step `n`. -/
def Y (c : Dev nD) : ℕ → Vec F S3072x1536 .f32
  | 0 => any
  | n + 1 => if h : n < grid0.N then (envT m c ⟨n, h⟩ (Y c n)).yval else Y c n

/-- The first result's block after step `t`. -/
def D (c : Dev nD) (t : Fin grid0.N) : Vec F S768x1536 .f32 :=
  dOut (ids m c) (scB m c t) (eW m c) (xqW m c) (xsB m c t) (gB m c t) (gsB m c t) (wB m c t) (wsB m c t) (grid0.coords t)
    (P (ids m c) t.val) (XX m c) (Y m c t.val)

theorem Y_succ (c : Dev nD) (t : Fin grid0.N) : Y m c (t.val + 1) = (envT m c t (Y m c t.val)).yval := by
  conv_lhs => unfold Y
  rw [dif_pos t.isLt]

theorem P_succ (x : Vec F S3072 .i32) (t : Fin grid0.N) : P x (t.val + 1) = Ptr.stop x (grid0.coords t) (3072 - P x t.val) (P x t.val) := by
  conv_lhs => unfold P
  rw [dif_pos t.isLt]

theorem cond1_iff : ∀ t : Fin grid0.N, k0_cond1 (grid0.coords t) = 1#1 ↔ t.val = 0 := by decide +kernel

/-- The copies' semaphore, by its number. -/
abbrev osem0 : Fin 1 → SemLoc sig := fun _ => SemLoc.dma 12
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch6.sem) 0 := by
  rw [Pipeline.ownSems0_eq_of_list c osem0 [0] (by decide) (by decide)]; rfl

/-- The arrays the kernel copies from itself. -/
def H0 : Finset (Ref sig .tc) := {main_v2, main_arg4}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(owns (c : Thread nD τ) (Memref.whole main_v2) fullShare (xqW m c) ∗ owns (c : Thread nD τ) (Memref.whole main_arg4) fullShare (eW m c)) := by
  rw [BI.bigSep_eq_bigSepL_of_eq [main_v2, main_arg4] (by decide) (by decide), owns_whole, owns_whole]; rfl

theorem tab_eq (c : Dev nD) :
    (Pipeline.ΦT (U := Pipeline.UD sig nD τ) pre0 (adm m).1 c : sProp 𝕄) = owns (c : Thread nD τ) (Memref.whole main_arg6) fullShare.right (ids m c) := by
  obtain rfl : c = 0 := Subsingleton.elim _ _
  unfold Pipeline.ΦT Pipeline.prefHeld
  rw [show (Finset.univ : Finset (Fin 1)) = {0} from by decide, bigSep_singleton, owns_whole]
  rfl

/-- What is held before step `n`. -/
def Phi (c : Dev nD) (n : ℕ) : sProp 𝕄 :=
  iprop((∃ X, ⌜n ≠ 0 → X = XX m c⌝ ∗ kept (F := F) c (Memref.whole cc0_scratch0) (Memref.whole cc0_scratch5) (Memref.whole cc0_scratch7) (eW m c) (n ≠ 0) X (P (ids m c) n))
    ∗ tmp (F := F) c (Memref.whole cc0_scratch1) (Memref.whole cc0_scratch2) (Memref.whole cc0_scratch3) (Memref.whole cc0_scratch4) cc0_scratch6
    ∗ (∃ r, prngReg c r)
    ∗ (owns (c : Thread nD τ) (Memref.whole main_v2) fullShare (xqW m c) ∗ owns (c : Thread nD τ) (Memref.whole main_arg4) fullShare (eW m c))
    ∗ owns (c : Thread nD τ) (Memref.whole main_arg6) fullShare.right (ids m c))

/-- The proof data of the call on core `c`. -/
def dats (_ : Fin 1) (c : Dev nD) : Dat τ (Elt F) Unit ℕ (Pipeline.UD sig nD τ) ℕ (cfgA m) c where
  A w := V m c (Pipeline.arrRef spec0 w)
  after w t := match w with
    | ⟨0, _⟩ => scB m c t
    | ⟨1, _⟩ => gB m c t
    | ⟨2, _⟩ => gsB m c t
    | ⟨3, _⟩ => wB m c t
    | ⟨4, _⟩ => wsB m c t
    | ⟨5, _⟩ => xsB m c t
    | ⟨6, _⟩ => D m c t
    | ⟨7, _⟩ => Y m c (t.val + 1)
    | ⟨n + 8, h⟩ => absurd h (Nat.not_lt.2 (Nat.le_add_left _ _))
  Φ t := Phi m c t.val
  q _ := fullShare
  owed _ := 0

theorem A_eq (c : Dev nD) (w : Fin (cfgA m).W) : (dats m 0 c).A w = V₀ m c (Proc.devRef .tc (Pipeline.arrRef spec0 w)) := by dsimp only [dats]

/-- The body at step `t`, on what the pipeline hands it. -/
abbrev bodyAt0 (t : Fin grid0.N) : Prog (TpuEff nD τ sig (Elt F) (Λ₀ F) .tc) PUnit :=
  cc0_tied_grad (grid0.coords t) (Memref.whole main_arg6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (Memref.whole main_v2) (Memref.isWhole_whole _) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _)

theorem defs₀_row (t : Fin (cfgA m).N) : defs₀ (F := F) .tc (cfgA m).body ((cfgA m).bodyArgs t ((cfgA m).slots t)) = bodyAt0 m t := by
  unfold defs₀; rw [Defs.onTc_tc]

/-! ## What each window's buffer holds as a step finds it -/

theorem before_0 (c : Dev nD) (t : Fin (cfgA m).N) (d) : (dats m 0 c).before (0 : Fin 8) t d = scB m c t :=
  ((dats m 0 c).before_in_eq_fetched (0 : Fin 8) rfl (fun _ => rfl) (fun _ _ _ => rfl) (fun _ => rfl) t d).trans rfl
theorem before_1 (c : Dev nD) (t : Fin (cfgA m).N) (d) : (dats m 0 c).before (1 : Fin 8) t d = gB m c t :=
  ((dats m 0 c).before_in_eq_fetched (1 : Fin 8) rfl (fun _ => rfl) (fun _ _ _ => rfl) (fun _ => rfl) t d).trans rfl
theorem clip_2 (t t' : Fin (cfgA m).N) (h : ((cfgA m).win (2 : Fin 8)).index t = ((cfgA m).win (2 : Fin 8)).index t') :
    ((cfgA m).win (2 : Fin 8)).clip ((cfgA m).grid.coords t) = ((cfgA m).win (2 : Fin 8)).clip ((cfgA m).grid.coords t') := by
  have h' : cc0_transform_2 (grid0.coords t) = cc0_transform_2 (grid0.coords t') := h
  show (fun a => Pipeline.Clip.of (cc0_transform_2 (grid0.coords t) a) (S3072x128.size a) (S3072x167.size a)) = fun a => Pipeline.Clip.of (cc0_transform_2 (grid0.coords t') a) (S3072x128.size a) (S3072x167.size a)
  rw [h']
theorem before_2 (c : Dev nD) (t : Fin (cfgA m).N) (d) : (dats m 0 c).before (2 : Fin 8) t d = gsD m c t d :=
  ((dats m 0 c).before_in_eq_fetched (2 : Fin 8) rfl (fun _ => rfl) (clip_2 m) (fun t => by
    dsimp only [dats]
    exact Pipeline.Window.cut_fill _ _ _ _) t d).trans rfl
theorem before_3 (c : Dev nD) (t : Fin (cfgA m).N) (d) : (dats m 0 c).before (3 : Fin 8) t d = wB m c t :=
  ((dats m 0 c).before_in_eq_fetched (3 : Fin 8) rfl (fun _ => rfl) (fun _ _ _ => rfl) (fun _ => rfl) t d).trans rfl
theorem before_4 (c : Dev nD) (t : Fin (cfgA m).N) (d) : (dats m 0 c).before (4 : Fin 8) t d = wsB m c t :=
  ((dats m 0 c).before_in_eq_fetched (4 : Fin 8) rfl (fun _ => rfl) (fun _ _ _ => rfl) (fun _ => rfl) t d).trans rfl
theorem before_5 (c : Dev nD) (t : Fin (cfgA m).N) (d) : (dats m 0 c).before (5 : Fin 8) t d = xsB m c t :=
  ((dats m 0 c).before_in_eq_fetched (5 : Fin 8) rfl (fun _ => rfl) (fun _ _ _ => rfl) (fun _ => rfl) t d).trans rfl

theorem flush_7 (t : Fin (cfgA m).N) (h : t.val + 1 ≠ grid0.N) : ((cfgA m).win (7 : Fin 8)).flush t = false := by
  unfold Pipeline.Window.flush
  rw [decide_eq_false (by exact h), decide_eq_false (by rintro ⟨_, h⟩; exact h rfl)]
  rfl

theorem before_7 (c : Dev nD) (t : Fin (cfgA m).N) (ht : t.val ≠ 0) (d) : (dats m 0 c).before (7 : Fin 8) t d = Y m c t.val := by
  rw [(dats m 0 c).before_out_kept (7 : Fin 8) rfl t ht (flush_7 m _ (by
    have : t.val < grid0.N := t.isLt
    show t.val - 1 + 1 ≠ grid0.N
    omega)) (fun _ => rfl) (fun _ _ => rfl) d]
  dsimp only [dats]
  show Y m c (t.val - 1 + 1) = _
  congr 1
  omega

/-- The first step overwrites the second result's block, so what it found there does not matter. -/
theorem yIn_any (t : Fin grid0.N) (A B : Vec F S3072x1536 .f32) (h : t.val ≠ 0 → A = B) : yIn (grid0.coords t) A = yIn (grid0.coords t) B := by
  by_cases h0 : t.val = 0
  · unfold yIn; rw [if_pos ((cond1_iff t).2 h0), if_pos ((cond1_iff t).2 h0)]
  · rw [h h0]

/-- The transposed activations after the first block of a step. -/
theorem xIn_eq (c : Dev nD) (t : Fin grid0.N) (X : Vec F S1536x3072 .bf16) (h : t.val ≠ 0 → X = XX m c) :
    xIn (xqW m c) (xsB m c t) (grid0.coords t) X = XX m c := by
  by_cases h0 : t.val = 0
  · unfold xIn; rw [if_pos ((cond1_iff t).2 h0)]
    obtain rfl : t = ⟨0, by decide⟩ := Fin.ext h0
    rfl
  · unfold xIn; rw [if_neg (fun h' => h0 ((cond1_iff t).1 h')), h h0]

theorem ext_2 : ∀ t : Fin grid0.N, ((grid0.coords t) 0).val % 128 < (clip0_2 (grid0.coords t) 1).extent 128 ∧ 3072 ≤ (clip0_2 (grid0.coords t) 0).extent 3072 := by
  decide +kernel

/-- The column of scales a step takes lies in the part of the block the copy moved. -/
theorem GS_any (c : Dev nD) (t : Fin grid0.N) (d d' : Vec F S3072x128 .f32) : GS (grid0.coords t) (gsD m c t d) = GS (grid0.coords t) (gsD m c t d') := by
  funext b
  show FloatOps.truncf _ _ (((cfgA m).win (2 : Fin 8)).fill _ d _ _) = FloatOps.truncf _ _ (((cfgA m).win (2 : Fin 8)).fill _ d' _ _)
  have hm : ∀ j : S3072x128.Idx, (j 1).val = ((grid0.coords t) 0).val % 128 → ((cfgA m).win (2 : Fin 8)).moved (grid0.coords t) j = true := fun j hj =>
    (((cfgA m).win (2 : Fin 8)).moved_iff _ _).mpr (by
      intro a
      match a with
      | ⟨0, _⟩ => exact Nat.lt_of_lt_of_le (j 0).isLt (ext_2 t).2
      | ⟨1, _⟩ => exact hj.trans_lt (ext_2 t).1)
  unfold Pipeline.Window.fill
  rw [dif_pos (hm _ rfl), dif_pos (hm _ rfl)]

theorem env_any (c : Dev nD) (t : Fin grid0.N) (d : Vec F S3072x128 .f32) (X : Vec F S1536x3072 .bf16) (A : Vec F S3072x1536 .f32)
    (hX : t.val ≠ 0 → X = XX m c) (hA : t.val ≠ 0 → A = Y m c t.val) :
    env (xqW m c) (xsB m c t) (gB m c t) (gsD m c t d) (wB m c t) (wsB m c t) (grid0.coords t) X A = envT m c t (Y m c t.val) := by
  unfold envT env
  rw [xIn_eq m c t X hX, xIn_eq m c t (XX m c) (fun _ => rfl), yIn_any t A _ hA, GS_any m c t d any]

theorem pAt_eq (c : Dev nD) (t : Fin grid0.N) : pAt (grid0.coords t) (P (ids m c) t.val) = P (ids m c) t.val := by
  unfold pAt
  split
  · rename_i h; rw [(cond1_iff t).1 h]; rfl
  · rfl

theorem pOut_eq (c : Dev nD) (t : Fin grid0.N) (gs : Vec F S3072x128 .f32) (X : Vec F S1536x3072 .bf16) (A : Vec F S3072x1536 .f32) :
    pOut (ids m c) (scB m c t) (eW m c) (xqW m c) (xsB m c t) (gB m c t) gs (wB m c t) (wsB m c t) (grid0.coords t) (P (ids m c) t.val) X A
      = P (ids m c) (t.val + 1) := by
  unfold pOut
  rw [pAt_eq, go_fst, P_succ]

theorem dOut_eq (c : Dev nD) (t : Fin grid0.N) (d : Vec F S3072x128 .f32) (X : Vec F S1536x3072 .bf16) (A : Vec F S3072x1536 .f32)
    (hX : t.val ≠ 0 → X = XX m c) (hA : t.val ≠ 0 → A = Y m c t.val) :
    dOut (ids m c) (scB m c t) (eW m c) (xqW m c) (xsB m c t) (gB m c t) (gsD m c t d) (wB m c t) (wsB m c t) (grid0.coords t) (P (ids m c) t.val) X A
      = D m c t := by
  unfold D dOut
  rw [env_any m c t d X A hX hA, env_any m c t any (XX m c) (Y m c t.val) (fun _ => rfl) (fun _ => rfl)]

theorem kept_mono (c : Dev nD) (a12 : Memref sig .tc .vmem S1536x3072 .bf16) (a17 : Memref sig .tc .vmem S32x1536 .f32) (a19 : Memref sig .tc .smem S1 .i32)
    (e : Vec F S3072x1536 .fp8e5m2) (ok ok' : Prop) (h : ok' → ok) (X : Vec F S1536x3072 .bf16) (p : ℕ) :
    kept (F := F) c a12 a17 a19 e ok X p ⊢ kept (F := F) c a12 a17 a19 e ok' X p := by
  unfold kept
  iintro ⟨H1, ⟨%Z, %hZ, H2⟩, ⟨%Q, %hQ, H3⟩⟩
  isplitl [H1]; · iexact H1
  isplitl [H2]
  · iexists Z; isplitr; · ipureintro; exact fun o => hZ (h o)
    iexact H2
  iexists Q; isplitr; · ipureintro; exact fun o => hQ (h o)
  iexact H3

/-- One step: from what is held before it and the windows' buffers, to what is held after it. -/
theorem sound_body (hs : ∀ c, Sorted (ids m c)) (c : Dev nD) (t : Fin (cfgA m).N) :
    iprop(Phi m c t.val ∗ (∃ W, owes (c : Thread nD τ) 0 W)
        ∗ (∃ d, owns (c : Thread nD τ) (spec0_0.stage ((cfgA m).slots t 0)) fullShare ((dats m 0 c).before (0 : Fin 8) t d))
        ∗ (∃ d, owns (c : Thread nD τ) (spec0_1.stage ((cfgA m).slots t 1)) fullShare ((dats m 0 c).before (1 : Fin 8) t d))
        ∗ (∃ d, owns (c : Thread nD τ) (spec0_2.stage ((cfgA m).slots t 2)) fullShare ((dats m 0 c).before (2 : Fin 8) t d))
        ∗ (∃ d, owns (c : Thread nD τ) (spec0_3.stage ((cfgA m).slots t 3)) fullShare ((dats m 0 c).before (3 : Fin 8) t d))
        ∗ (∃ d, owns (c : Thread nD τ) (spec0_4.stage ((cfgA m).slots t 4)) fullShare ((dats m 0 c).before (4 : Fin 8) t d))
        ∗ (∃ d, owns (c : Thread nD τ) (spec0_5.stage ((cfgA m).slots t 5)) fullShare ((dats m 0 c).before (5 : Fin 8) t d))
        ∗ (∃ d, owns (c : Thread nD τ) (spec0_6.stage ((cfgA m).slots t 6)) fullShare ((dats m 0 c).before (6 : Fin 8) t d))
        ∗ (∃ d, owns (c : Thread nD τ) (spec0_7.stage ((cfgA m).slots t 7)) fullShare ((dats m 0 c).before (7 : Fin 8) t d)))
      ⊢ wp frame (wpE (defs₀ (F := F)) 𝒱₀ (c : Thread nD τ) none) Set.univ (bodyAt0 m t) fun _ =>
        iprop(Phi m c (t.val + 1) ∗ (∃ W, owes (c : Thread nD τ) 0 W)
        ∗ owns (c : Thread nD τ) (spec0_0.stage ((cfgA m).slots t 0)) fullShare (scB m c t)
        ∗ owns (c : Thread nD τ) (spec0_1.stage ((cfgA m).slots t 1)) fullShare (gB m c t)
        ∗ (∃ d, owns (c : Thread nD τ) (spec0_2.stage ((cfgA m).slots t 2)) fullShare (gsD m c t d))
        ∗ owns (c : Thread nD τ) (spec0_3.stage ((cfgA m).slots t 3)) fullShare (wB m c t)
        ∗ owns (c : Thread nD τ) (spec0_4.stage ((cfgA m).slots t 4)) fullShare (wsB m c t)
        ∗ owns (c : Thread nD τ) (spec0_5.stage ((cfgA m).slots t 5)) fullShare (xsB m c t)
        ∗ owns (c : Thread nD τ) (spec0_6.stage ((cfgA m).slots t 6)) fullShare (D m c t)
        ∗ owns (c : Thread nD τ) (spec0_7.stage ((cfgA m).slots t 7)) fullShare (Y m c (t.val + 1))) := by
  have hg := P_good (ids m c) (hs c) t.val (Nat.le_of_lt t.isLt)
  have hr : ∀ q : Fin 3072, pAt (grid0.coords t) (P (ids m c) t.val) ≤ q.val → below (F := F) (ids m c) (grid0.coords t) q → row (F := F) (ids m c) (grid0.coords t) q < 768 :=
    fun q hq hb => row_lt (ids m c) (hs c) t q (by rw [pAt_eq] at hq; exact hq) hb
  simp only [before_0, before_1, before_2, before_3, before_4, before_5]
  unfold Phi
  iintro ⟨⟨⟨%X, %hX, HK⟩, HT, Hp, ⟨Hq, He⟩, Hi⟩, HO, ⟨%d0, H0⟩, ⟨%d1, H1⟩, ⟨%d2, H2⟩, ⟨%d3, H3⟩, ⟨%d4, H4⟩, ⟨%d5, H5⟩, ⟨%d6, H6⟩, ⟨%d7, H7⟩⟩
  have hA : t.val ≠ 0 → (dats m 0 c).before (7 : Fin 8) t d7 = Y m c t.val := fun h => before_7 m c t h d7
  generalize (dats m 0 c).before (7 : Fin 8) t d7 = A at hA
  ihave HK := (kept_mono c (Memref.whole cc0_scratch0) (Memref.whole cc0_scratch5) (Memref.whole cc0_scratch7) (eW m c) (t.val ≠ 0) (¬ k0_cond1 (grid0.coords t) = 1#1)
    (fun h h0 => h ((cond1_iff t).2 h0)) X (P (ids m c) t.val)) $$ HK
  iapply (wp_wand_r frame (wpE (defs₀ (F := F)) 𝒱₀ (c : Thread nD τ) none) Set.univ)
  isplitr [Hp]
  · iapply (body_wp (F := F) c (grid0.coords t) fullShare.right fullShare fullShare (Memref.whole main_arg6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (Memref.whole main_v2) (Memref.isWhole_whole _) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _) (ids m c) (scB m c t) (eW m c) (xqW m c) (xsB m c t) (gB m c t) (gsD m c t d2) (wB m c t) (wsB m c t) X A (P (ids m c) t.val) hg.1 hr)
    unfold ins
    isplitl [Hi H0 H1 H2 H3 H4 Hq H5 He]; · iframe
    isplitl [HT]; · iexact HT
    isplitl [HK]; · iexact HK
    isplitl [H6]; · iexists _; iexact H6
    isplitl [H7]; · iexact H7
    iexact HO
  unfold ins
  iintro %_ ⟨⟨Hi, H0, H1, H2, H3, H4, Hq, H5, He⟩, HT, HK, H6, H7, HO⟩
  rw [pOut_eq m c t, dOut_eq m c t d2 X A hX hA, env_any m c t d2 X A hX hA, xIn_eq m c t X hX, ← Y_succ m c t]
  isplitl [HK HT Hp Hq He Hi]
  · isplitl [HK]
    · iexists XX m c; isplitr; · ipureintro; exact fun _ => rfl
      iapply (kept_mono c (Memref.whole cc0_scratch0) (Memref.whole cc0_scratch5) (Memref.whole cc0_scratch7) (eW m c) True (t.val + 1 ≠ 0) (fun _ => trivial))
      iexact HK
    isplitl [HT]; · iexact HT
    isplitl [Hp]; · iexact Hp
    isplitl [Hq He]; · iframe
    iexact Hi
  isplitl [HO]; · iexact HO
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  iexact H7

theorem owesAt_out (c : Dev nD) (n : Fin ((cfgA m).N + 1)) : ((dats m 0 c).owesAt () n : sProp 𝕄) ⊢ iprop(∃ W, owes (c : Thread nD τ) 0 W) := by
  unfold Dat.owesAt Pipeline.owesWithin
  rw [show (dats m 0 c).owed n = 0 from rfl]
  iintro ⟨%W, %_, H⟩
  iexists W; iexact H
theorem owesAt_in (c : Dev nD) (n : Fin ((cfgA m).N + 1)) : iprop(∃ W, owes (c : Thread nD τ) 0 W) ⊢ ((dats m 0 c).owesAt () n : sProp 𝕄) := by
  unfold Dat.owesAt Pipeline.owesWithin
  rw [show (dats m 0 c).owed n = 0 from rfl]
  iintro ⟨%W, H⟩
  iexists W
  isplitr; · ipureintro; exact fun _ _ => Or.inl trivial
  iexact H

/-- The scales' block is left as it was found. -/
theorem leaves_2 (c : Dev nD) (t : Fin (cfgA m).N) :
    iprop(∃ d, owns (c : Thread nD τ) (spec0_2.stage ((cfgA m).slots t 2)) fullShare (gsD m c t d))
      ⊢ (iprop(∃ d, owns (c : Thread nD τ) (((cfgA m).win (2 : Fin 8)).stage ((cfgA m).slots t (2 : Fin 8))) fullShare
          (((cfgA m).win (2 : Fin 8)).fill ((cfgA m).grid.coords t) d (((cfgA m).win (2 : Fin 8)).cut ((cfgA m).grid.coords t) ((dats m 0 c).after (2 : Fin 8) t)))) : sProp 𝕄) := by
  iintro ⟨%d, H⟩
  iexists d
  rw [show ((cfgA m).win (2 : Fin 8)).cut ((cfgA m).grid.coords t) ((dats m 0 c).after (2 : Fin 8) t)
    = (((cfgA m).win (2 : Fin 8)).blk t).view.read (Elt F) (V m c main_v1) from by
      dsimp only [dats]
      exact Pipeline.Window.cut_fill _ _ _ _]
  iexact H

theorem body_obligation (hs : ∀ c, Sorted (ids m c)) (c : Dev nD) :
    BodyObligationLoose (dats m 0 c) (defs₀ (F := F)) 𝒱₀ () Set.univ := fun t => by
  rw [bigSep_W0, bigSep_W0, defs₀_row]
  refine triple_restated (sound_body m hs c t) rfl ?_ fun _ => ?_
  · show iprop(Phi m c t.val ∗ (dats m 0 c).owesAt () t.castSucc ∗ _) ⊢ _
    iintro ⟨H, HO, HW⟩
    ihave HO := (owesAt_out m c t.castSucc) $$ HO
    isplitl [H]; · iexact H
    isplitl [HO]; · iexact HO
    iexact HW
  · show _ ⊢ iprop(Phi m c (t.val + 1) ∗ (dats m 0 c).owesAt () t.succ ∗ _ ∗ _ ∗ _ ∗ _ ∗ _ ∗ _ ∗ _ ∗ _)
    iintro ⟨H, HO, H0, H1, H2, H3, H4, H5, H6, H7⟩
    ihave HO := (owesAt_in m c t.succ) $$ HO
    ihave H2 := (leaves_2 m c t) $$ H2
    isplitl [H]; · iexact H
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The launch -/

theorem hin (c : Dev nD) : iprop(Pipeline.ΦD (Val := Elt F) osem0 spec0 H0 (fun c b => V₀ m c (Proc.devRef .tc b)) c ∗ Pipeline.ΦT (U := Pipeline.UD sig nD τ) pre0 (adm m).1 c)
    ⊢ ((dats m 0 c).Φ 0 : sProp 𝕄) := by
  show _ ⊢ Phi m c 0
  rw [Pipeline.ΦD_eq, scopedRest0_eq, ownSems00_eq, hbmPts0_eq, tab_eq]
  unfold Phi kept tmp
  iintro ⟨⟨⟨⟨%f0, H0⟩, ⟨%f1, H1⟩, ⟨%f2, H2⟩, ⟨%f3, H3⟩, ⟨%f4, H4⟩, ⟨%f5, H5⟩, ⟨%f7, H7⟩⟩, Hp, Hs, Hh⟩, Hi⟩
  simp only [owns_whole]
  isplitl [H0 H5 H7]
  · iexists f0; isplitr; · ipureintro; exact fun h => absurd rfl h
    isplitl [H0]; · iexact H0
    isplitl [H5]
    · iexists f5; isplitr; · ipureintro; exact fun h => absurd rfl h
      iexact H5
    iexists f7; isplitr; · ipureintro; exact fun h => absurd rfl h
    iexact H7
  isplitl [H1 H2 H3 H4 Hs]
  · isplitl [H1]; · iexists f1; iexact H1
    isplitl [H2]; · iexists f2; iexact H2
    isplitl [H3]; · iexists f3; iexact H3
    isplitl [H4]; · iexists f4; iexact H4
    iexact Hs
  isplitl [Hp]; · iexact Hp
  isplitl [Hh]; · iexact Hh
  iexact Hi

theorem hout (c : Dev nD) : ((dats m 0 c).Φ (Fin.last (cfgA m).N) : sProp 𝕄)
    ⊢ Pipeline.ΦD (Val := Elt F) osem0 spec0 H0 (fun c b => V₀ m c (Proc.devRef .tc b)) c := by
  show Phi m c grid0.N ⊢ _
  rw [Pipeline.ΦD_eq, scopedRest0_eq, ownSems00_eq, hbmPts0_eq]
  unfold Phi kept tmp
  iintro ⟨⟨%f0, %_, H0, ⟨%f5, %_, H5⟩, ⟨%f7, %_, H7⟩⟩, ⟨⟨%f1, H1⟩, ⟨%f2, H2⟩, ⟨%f3, H3⟩, ⟨%f4, H4⟩, Hs⟩, Hp, Hh, Hi⟩
  simp only [owns_whole]
  isplitl [H0 H1 H2 H3 H4 H5 H7]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists f7; iexact H7
  isplitl [Hp]; · iexact Hp
  isplitl [Hs]; · iexact Hs
  iexact Hh

theorem hmain : Pipeline.HMainPK (Ix := Unit) (Name := ℕ) (U := Pipeline.UD sig nD τ) (Lvl := ℕ) (pcfgs (F := F)) 0 defs₀ 𝒱₀ m main
    (fun c b => V₀ m c (Proc.devRef .tc b)) (fun _ => Pipeline.chain ([hostOps1].map StableHlo.seq)) :=
  Pipeline.hmainP_around pcfgs 0 defs₀ 𝒱₀ m main [hostOps0] [hostOps1] hostOps0_sub ⟨rfl, rfl, rfl, rfl, rfl⟩
    fun c => (main_chain c).trans rfl

theorem hpf (c : Dev nD) (k : Fin 1) : V₀ m c (Proc.devRef .tc (pre0.ref k)) = (adm m).1 k := by
  obtain rfl : c = 0 := Subsingleton.elim _ _
  obtain rfl : k = 0 := Subsingleton.elim _ _
  rfl

theorem tail_sub : ({Proc.devRef .tc main_v5_1, Proc.devRef .tc main_v6} : Finset (DevRef τ sig)) ⊆ Pipeline.tailRefsBut sig pre0 spec0 H0 := by decide
theorem tail_keep : ∀ w : Fin 8, Proc.devRef .tc (Pipeline.arrRef spec0 w) ∉ ({Proc.devRef .tc main_v6} : Finset (DevRef τ sig)) := by decide

set_option backward.isDefEq.respectTransparency.types false in
/-- Every run of the program from a memory whose identifiers are sorted ends, the semaphores at zero, the call's arrays
    as the steps leave them, every other array as the host's lines leave it. -/
theorem run_main (hs : ∀ c, Sorted (ids m c)) (ρ : Dev nD → PrngReg) :
    θ_run defs (onTc (τ := τ) (main (F := F))) (s₀ m ρ)
      (fun r => Pipeline.FramePost (Pipeline.pin pcfgs fun _ => adm m) (dats m) 0 (Pipeline.afterTail pcfgs (fun _ => adm m) (dats m) 0 (V₀ m) [hostOps1]) r
        ∧ r.2.sem = fun _ => 0) :=
  Pipeline.θ_run_frameP_dma_around (Q' := _) pcfgs (fun _ => adm m) (dats m) (0 : Fin 1) launch0 osem0 defs₀ 𝒱₀ ownSemFacts0 H0 H0_sub m ρ main
    (hbody := body_obligation m hs) (hshare := fun c => (dats m 0 c).share_full fun _ => rfl) (howed := fun _ _ => rfl)
    (V₀ := V₀ m) (opss := [hostOps1])
    (hsub := fun ops ho op h => by
      obtain rfl := List.mem_singleton.1 ho
      obtain rfl := List.mem_singleton.1 h
      exact tail_sub)
    (hfresh := fun ops ho op h => by
      obtain rfl := List.mem_singleton.1 ho
      obtain rfl := List.mem_singleton.1 h
      rfl)
    (hkeep := fun ops ho op h => by
      obtain rfl := List.mem_singleton.1 ho
      obtain rfl := List.mem_singleton.1 h
      exact tail_keep)
    (hmain := hmain m) (hA := A_eq m) (hpf := hpf m) (hin := hin m) (hout := hout m)

/-- An array no reshape writes is what the launch held. -/
theorem V_arg (c : Dev nD) (b : Ref sig .tc) (hb : b ∉ [main_v0, main_v1, main_v2, main_v3, main_v4]) : V m c b = m ((c : Thread nD τ).loc b) :=
  StableHlo.after_of_writes_sub (W := [main_v0, main_v1, main_v2, main_v3, main_v4]) _ _
    ⟨(by decide : ({Proc.devRef .tc main_v0} : Finset (DevRef τ sig)) ⊆ _), (by decide : ({Proc.devRef .tc main_v1} : Finset (DevRef τ sig)) ⊆ _),
      (by decide : ({Proc.devRef .tc main_v2} : Finset (DevRef τ sig)) ⊆ _), (by decide : ({Proc.devRef .tc main_v3} : Finset (DevRef τ sig)) ⊆ _),
      (by decide : ({Proc.devRef .tc main_v4} : Finset (DevRef τ sig)) ⊆ _)⟩ hb

/-- An array that is neither the call's nor the last reshape's is what the call found. -/
theorem tail_arg (c : Dev nD) (b : Ref sig .tc) (hb : b ∉ [main_v6]) (hw : ∀ w, Pipeline.arrRef spec0 w ≠ b) :
    Pipeline.afterTail pcfgs (fun _ => adm m) (dats m) 0 (V₀ m) [hostOps1] c b = V m c b :=
  (StableHlo.after_of_writes_sub (W := [main_v6]) _ _ (by decide : ({Proc.devRef .tc main_v6} : Finset (DevRef τ sig)) ⊆ _) hb).trans
    (Pipeline.withArrays_of_ne spec0 c (V₀ m c) _ b hw)

/-- The second result, reshaped. -/
theorem tail_v6 (c : Dev nD) :
    Pipeline.afterTail pcfgs (fun _ => adm m) (dats m) 0 (V₀ m) [hostOps1] c main_v6
      = shapeCast S3x1024x1536 (show Vec F S3072x1536 .f32 from (dats m 0 c).arrAt (7 : Fin 8) (cfgA m).N) shapeCasts_S3072x1536_S3x1024x1536 := by
  unfold Pipeline.afterTail
  rw [show [hostOps1 (F := F)].flatten = hostOps1 from rfl, StableHlo.after_cons, StableHlo.after_nil, StableHlo.reshape_result]
  have h := Pipeline.withArrays_arr spec0 winFacts0.arr_inj c (V₀ m c) (fun w => (dats m 0 c).arrAt w (cfgA m).N) (7 : Fin 8)
  funext i
  exact congrArg (fun X : Vec F S3072x1536 .f32 => shapeCast S3x1024x1536 X shapeCasts_S3072x1536_S3x1024x1536 i) h

/-- What the program's runs leave: the arguments as they were, the two results as the steps leave them. -/
theorem run_frame (hs : ∀ c, Sorted (ids m c)) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
      ∧ (∀ c : Dev nD, r.2.mem ((c : Thread nD τ).loc main_v5_0) = (dats m 0 c).arrAt (6 : Fin 8) (cfgA m).N
        ∧ r.2.mem ((c : Thread nD τ).loc main_v6)
          = shapeCast S3x1024x1536 (show Vec F S3072x1536 .f32 from (dats m 0 c).arrAt (7 : Fin 8) (cfgA m).N) shapeCasts_S3072x1536_S3x1024x1536)
      ∧ r.2.sem = fun _ => 0) := by
  refine (θ_run defs (onTc (τ := τ) (main (F := F))) (s₀ m ρ)).mono (fun r h => ?_) (run_main m hs ρ)
  obtain ⟨h, hsem⟩ := h
  have hw6 : ∀ w : Fin 8, Pipeline.arrRef spec0 w ≠ main_v6 := by decide
  have ha : ∀ (c : Dev nD) (b : Ref sig .tc), b ∉ [main_v6] → (∀ w, Pipeline.arrRef spec0 w ≠ b) → b.isScoped = false → b ∉ [main_v0, main_v1, main_v2, main_v3, main_v4] →
      r.2.mem ((c : Thread nD τ).loc b) = m ((c : Thread nD τ).loc b) := fun c b h6 hw hsc h0 =>
    ((h c).2 b (Pipeline.mem_restRefs_of b hsc hw)).trans ((tail_arg m c b h6 hw).trans (V_arg m c b h0))
  refine ⟨fun c => ⟨ha c _ (by decide) (by decide) (by decide) (by decide), ha c _ (by decide) (by decide) (by decide) (by decide),
    ha c _ (by decide) (by decide) (by decide) (by decide), ha c _ (by decide) (by decide) (by decide) (by decide),
    ha c _ (by decide) (by decide) (by decide) (by decide), ?_, ha c _ (by decide) (by decide) (by decide) (by decide), ?_,
    ha c _ (by decide) (by decide) (by decide) (by decide)⟩, fun c => ⟨(h c).1 (6 : Fin 8), ?_⟩, hsem⟩
  · exact ((h c).1 (0 : Fin 8)).trans (((dats m 0 c).arrAt_in (0 : Fin 8) rfl _).trans ((A_eq m c (0 : Fin 8)).trans (V_arg m c main_arg5 (by decide))))
  · exact ((h c).1 (3 : Fin 8)).trans (((dats m 0 c).arrAt_in (3 : Fin 8) rfl _).trans ((A_eq m c (3 : Fin 8)).trans (V_arg m c main_arg7 (by decide))))
  · exact ((h c).2 main_v6 (Pipeline.mem_restRefs_of main_v6 (by decide) hw6)).trans (tail_v6 m c)

end Cert.Kernel.Region

end
-- ==== Proof.Ideal.Words.lean ====
/-
  The words the accumulation loop computes, at every counter it reaches.
-/
module

public import proofs.«01_k».proof.Proof.Gen.KernelIdeal.Skeleton

@[expose] public section

set_option maxRecDepth 100000

noncomputable section

namespace Cert.KernelIdeal.Words

open Cert.KernelIdeal Cert.KernelIdeal.Gen
open Idealize.ShloMosaic

theorem off16_eq : ∀ p : Fin 3073, k0_off16 (BitVec.ofNat 32 p.val) = ![min p.val 3071] := by decide +kernel
theorem chk1 : ∀ p : Fin 3073, k0_chk1 (BitVec.ofNat 32 p.val) := by decide +kernel
theorem cond2_eq : ∀ p : Fin 3072, k0_cond2 (BitVec.ofNat 32 p.val) = (if p.val % 32 = 0 then 1#1 else 0#1) := by decide +kernel
theorem off17_eq : ∀ p : Fin 3072, k0_off17 (BitVec.ofNat 32 p.val) = ![p.val, 0] := by decide +kernel
theorem off18_eq : ∀ p : Fin 3072, k0_off18 (BitVec.ofNat 32 p.val) = ![p.val] := by decide +kernel
theorem off20_eq : ∀ p : Fin 3072, k0_off20 (BitVec.ofNat 32 p.val) = ![p.val % 32, 0] := by decide +kernel
theorem off21_eq : ∀ p : Fin 3072, k0_off21 (BitVec.ofNat 32 p.val) = ![p.val] := by decide +kernel
theorem slt_eq : ∀ p : Fin 3073, Scalar.cmpi .slt (BitVec.ofNat 32 p.val) 3072#32 = (if p.val < 3072 then 1#1 else 0#1) := by decide +kernel
theorem chk2 : ∀ p : Fin 3072, k0_chk2 (BitVec.ofNat 32 p.val) := by decide +kernel

end Cert.KernelIdeal.Words

end
-- ==== Proof.Ideal.Fill.lean ====
/-
  What the prelude fills the scratch buffers with: the transposed scaled activations and the two buffers of scales.
-/
module

public import proofs.«01_k».proof.Proof.Own
public import proofs.«01_k».proof.Proof.Idx
public import proofs.«01_k».proof.Proof.Ideal.Words

@[expose] public section

set_option maxRecDepth 100000

noncomputable section

namespace Cert.KernelIdeal.Fill

open Cert.KernelIdeal Cert.KernelIdeal.Gen Cert.Idx Cert.Own
open Idealize.ShloMosaic

variable {F : FTy → Type} [FloatOps F] [∀ e, Nonempty (Elt F e)] [Facts]

/-- A block stored is the function stored when it agrees with it on the block and the array agreed with it outside. -/
theorem upd_eq {s : Shape} {β : Type} {X X' : s.Idx → β} {r : Rect s} {w : r.shape.Idx → β} (hin : ∀ a, w a = X' (r.emb a))
    (hout : ∀ b, (∀ a, r.emb a ≠ b) → X b = X' b) : upd X r w = X' := by
  funext b
  by_cases h : ∃ a, r.emb a = b
  · obtain ⟨a, rfl⟩ := h
    rw [upd_hit, hin]
  · rw [upd_miss X r w b fun a ha => h ⟨a, ha⟩, hout b fun a ha => h ⟨a, ha⟩]

theorem gword : ∀ c : Fin 167,
    (let arg0 : BitVec 32 := BitVec.ofNat 32 c.val
     let v8 : BitVec 32 := Scalar.select (Scalar.cmpi .eq 128#32 0#32) 1#32 128#32
     let v9 : BitVec 32 := Scalar.remsi arg0 v8
     let v16 : BitVec 32 := Scalar.select (Scalar.andi (Scalar.xori (Scalar.cmpi .slt v9 0#32) (Scalar.cmpi .slt v8 0#32)) (Scalar.cmpi .ne v9 0#32))
       (Scalar.addi v9 v8) v9
     (Scalar.select (Scalar.cmpi .slt v16 0#32) (Scalar.addi v16 128#32) v16).toNat % 128) = c.val % 128 := by decide +kernel

section G

variable (i : grid0.Coords) (gs X0 : Vec F S3072x128 .f32)

/-- The scales of the gradient's rows, as the body reads them: the column of the grid step, narrowed. -/
def GS (i : grid0.Coords) (gs : Vec F S3072x128 .f32) : Vec F S3072x128 .bf16 := fun b =>
  FloatOps.truncf .bf16 bitsLt_bf16_f32 (gs (ix2 (b 0) ⟨(i 0).val % 128, Nat.mod_lt _ (by decide)⟩))

/-- The first `k` blocks of rows filled. -/
def fillG (i : grid0.Coords) (gs : Vec F S3072x128 .f32) (X0 : Vec F S3072x128 .bf16) (k : ℕ) : Vec F S3072x128 .bf16 := fun b =>
  if (b 0).val < 256 * k then GS i gs b else X0 b

theorem pay15_apply (i : grid0.Coords) (v : Vec F S256x128 .f32) (a : S256x128.Idx) :
    k0_pay15 i v a = FloatOps.truncf .bf16 bitsLt_bf16_f32 (v (ix2 (n := 256) (m := 128) (a 0) ⟨(i 0).val % 128, Nat.mod_lt _ (by decide)⟩)) := by
  unfold k0_pay15
  rw [shapeCast_self, shapeCast_self]
  show FloatOps.truncf .bf16 bitsLt_bf16_f32 (v _) = _
  congr 2
  refine ext2 rfl ?_
  exact gword ⟨(i 0).val, (i 0).isLt⟩

theorem gtile (X0 : Vec F S3072x128 .bf16) (k : ℕ) (h : ∀ a, (![256 * k, 0] : Fin 2 → ℕ) a + S256x128.size a ≤ S3072x128.size a) :
    upd (fillG i gs X0 k) (Rect.unit (s := S3072x128) ![256 * k, 0] S256x128.size h)
      (k0_pay15 i fun a => gs ((Rect.unit (s := S3072x128) ![256 * k, 0] S256x128.size h).emb a)) = fillG i gs X0 (k + 1) := by
  refine upd_eq (fun a => ?_) fun b hb => ?_
  · rw [pay15_apply]
    have h0 : (a 0).val < 256 := (a 0).isLt
    have e0 : ((Rect.unit (s := S3072x128) ![256 * k, 0] S256x128.size h).emb a 0).val = 256 * k + 1 * (a 0).val := rfl
    unfold fillG
    rw [if_pos (by rw [e0]; omega)]
    unfold GS
    congr 2
    exact ext2 rfl (by show 0 + 1 * ((i 0).val % 128) = (i 0).val % 128; omega)
  · unfold fillG
    by_cases h1 : (b 0).val < 256 * k
    · rw [if_pos h1, if_pos (by omega)]
    · by_cases h2 : (b 0).val < 256 * (k + 1)
      · refine absurd (ext2 ?_ ?_) (hb (ix2 (n := 256) (m := 128) ⟨(b 0).val - 256 * k, by omega⟩ (b 1)))
        · show 256 * k + 1 * ((b 0).val - 256 * k) = (b 0).val
          omega
        · show 0 + 1 * (b 1).val = (b 1).val
          omega
      · rw [if_neg h1, if_neg h2]

theorem fillG_zero (X0 : Vec F S3072x128 .bf16) : fillG i gs X0 0 = X0 := by
  funext b; exact if_neg (by omega)
theorem fillG_all (X0 : Vec F S3072x128 .bf16) : fillG i gs X0 12 = GS i gs := by
  funext b; have : (b 0).val < 3072 := (b 0).isLt; exact if_pos (by omega)

end G

section W

variable (i : grid0.Coords) (ws : Vec F S1002x128 .f32)

/-- The scales of the weights' rows, as the body reads them: row `r` of every column, narrowed. -/
def WS (i : grid0.Coords) (ws : Vec F S1002x128 .f32) : Vec F S768x128 .bf16 := fun b =>
  FloatOps.truncf .bf16 bitsLt_bf16_f32
    (ws (ix2 ⟨6 * (i 0).val + (b 0).val / 128, by have : (i 0).val < 167 := (i 0).isLt; have : (b 0).val < 768 := (b 0).isLt; omega⟩
      ⟨(b 0).val % 128, Nat.mod_lt _ (by decide)⟩))

/-- The first `k` blocks of rows filled. -/
def fillW (i : grid0.Coords) (ws : Vec F S1002x128 .f32) (X0 : Vec F S768x128 .bf16) (k : ℕ) : Vec F S768x128 .bf16 := fun b =>
  if (b 0).val < 128 * k then WS i ws b else X0 b

theorem off15_eq' : ∀ c : Fin 167, ∀ j : Fin 6,
    (Scalar.indexCast (Scalar.addi (Scalar.muli (BitVec.ofNat 32 c.val) 6#32) (BitVec.ofNat 32 j.val)) : BitVec 32).toNat = 6 * c.val + j.val := by
  decide +kernel

theorem off15_eq (j : Fin 6) : k0_off15 i (BitVec.ofNat 32 j.val) = ![6 * (i 0).val + j.val, 0] := by
  unfold k0_off15
  exact congrArg (fun z => (![z, 0] : Fin 2 → ℕ)) (off15_eq' ⟨(i 0).val, (i 0).isLt⟩ j)

theorem pay38_apply (v : Vec F S1x128 .f32) (a : S128x128.Idx) :
    k0_pay38 v a = FloatOps.truncf .bf16 bitsLt_bf16_f32 (v (ix2 (n := 1) (m := 128) 0 (a 0))) := by
  unfold k0_pay38
  rw [shapeCast_self, shapeCast_self, shapeCast_self]
  show FloatOps.truncf .bf16 bitsLt_bf16_f32 (v _) = _
  congr 2
  exact ext2 rfl rfl

theorem wtile (X0 : Vec F S768x128 .bf16) (j : ℕ) (hj : j < 6) (h : ∀ a, (![128 * j, 0] : Fin 2 → ℕ) a + S128x128.size a ≤ S768x128.size a)
    (h' : ∀ a, k0_off15 i (BitVec.ofNat 32 j) a + S1x128.size a ≤ S1002x128.size a) :
    upd (fillW i ws X0 j) (Rect.unit (s := S768x128) ![128 * j, 0] S128x128.size h)
      (k0_pay38 fun a => ws ((Rect.unit (s := S1002x128) (k0_off15 i (BitVec.ofNat 32 j)) S1x128.size h').emb a)) = fillW i ws X0 (j + 1) := by
  refine upd_eq (fun a => ?_) fun b hb => ?_
  · rw [pay38_apply]
    have h0 : (a 0).val < 128 := (a 0).isLt
    have e0 : ((Rect.unit (s := S768x128) ![128 * j, 0] S128x128.size h).emb a 0).val = 128 * j + 1 * (a 0).val := rfl
    unfold fillW
    rw [if_pos (by rw [e0]; omega)]
    unfold WS
    congr 2
    refine ext2 ?_ ?_
    · show k0_off15 i (BitVec.ofNat 32 j) 0 + 1 * 0 = 6 * (i 0).val + (128 * j + 1 * (a 0).val) / 128
      rw [off15_eq i ⟨j, hj⟩]
      show 6 * (i 0).val + j + 1 * 0 = _
      omega
    · show k0_off15 i (BitVec.ofNat 32 j) 1 + 1 * (a 0).val = (128 * j + 1 * (a 0).val) % 128
      rw [off15_eq i ⟨j, hj⟩]
      show 0 + 1 * (a 0).val = _
      omega
  · unfold fillW
    by_cases h1 : (b 0).val < 128 * j
    · rw [if_pos h1, if_pos (by omega)]
    · by_cases h2 : (b 0).val < 128 * (j + 1)
      · refine absurd (ext2 ?_ ?_) (hb (ix2 (n := 128) (m := 128) ⟨(b 0).val - 128 * j, by omega⟩ (b 1)))
        · show 128 * j + 1 * ((b 0).val - 128 * j) = (b 0).val
          omega
        · show 0 + 1 * (b 1).val = (b 1).val
          omega
      · rw [if_neg h1, if_neg h2]

theorem fillW_zero (X0 : Vec F S768x128 .bf16) : fillW i ws X0 0 = X0 := by
  funext b; exact if_neg (by omega)
theorem fillW_all (X0 : Vec F S768x128 .bf16) : fillW i ws X0 6 = WS i ws := by
  funext b; have : (b 0).val < 768 := (b 0).isLt; exact if_pos (by omega)

end W

section X

variable (xq : Vec F S3072x1536 .fp8e4m3) (xs : Vec F S3072x1 .f32)

/-- The activations scaled and transposed. -/
def XT (xq : Vec F S3072x1536 .fp8e4m3) (xs : Vec F S3072x1 .f32) : Vec F S1536x3072 .bf16 := fun b =>
  FloatOps.mulf (FloatOps.extf .bf16 bitsLt_fp8e4m3_bf16 (xq (ix2 (b 1) (b 0)))) (FloatOps.truncf .bf16 bitsLt_bf16_f32 (xs (ix2 (b 1) 0)))

/-- The columns of `n` trips and the first `q` blocks of the next trip's filled. -/
def fillX (xq : Vec F S3072x1536 .fp8e4m3) (xs : Vec F S3072x1 .f32) (X0 : Vec F S1536x3072 .bf16) (n q : ℕ) : Vec F S1536x3072 .bf16 := fun b =>
  if (b 1).val < 256 * n ∨ ((b 1).val < 256 * (n + 1) ∧ (b 0).val < 128 * q) then XT xq xs b else X0 b

theorem pay9_apply (p : FVec F S256x128 .bf16) (v : Vec F S256x128 .fp8e4m3) (a : S128x256.Idx) :
    k0_pay9 p v a = FloatOps.mulf (FloatOps.extf .bf16 bitsLt_fp8e4m3_bf16 (v (ix2 (n := 256) (m := 128) (a 1) (a 0)))) (p (ix2 (n := 256) (m := 128) (a 1) (a 0))) := by
  unfold k0_pay9
  rw [shapeCast_self]
  show FloatOps.mulf (FloatOps.extf .bf16 bitsLt_fp8e4m3_bf16 (v _)) (p _) = _
  congr 3 <;> exact ext2 rfl rfl

theorem pay1_apply (v : Vec F S256x1 .f32) (a : S256x128.Idx) :
    k0_pay1 v a = FloatOps.truncf .bf16 bitsLt_bf16_f32 (v (ix2 (n := 256) (m := 1) (a 0) 0)) := by
  unfold k0_pay1
  rw [shapeCast_self, shapeCast_self]
  show FloatOps.truncf .bf16 bitsLt_bf16_f32 (v _) = _
  congr 2
  exact ext2 rfl rfl

theorem off1_eq : ∀ n : Fin k0_t1_loop.trips, k0_off1 n = ![256 * n.val, 0] := by decide +kernel
theorem off2_eq : ∀ n : Fin k0_t1_loop.trips, k0_off2 n = ![256 * n.val, 0] := by decide +kernel
theorem off3_eq : ∀ n : Fin k0_t1_loop.trips, k0_off3 n = ![128 * 0, 256 * n.val] := by decide +kernel
theorem off4_eq : ∀ n : Fin k0_t1_loop.trips, k0_off4 n = ![128 * 1, 256 * n.val] := by decide +kernel
theorem off5_eq : ∀ n : Fin k0_t1_loop.trips, k0_off5 n = ![128 * 2, 256 * n.val] := by decide +kernel
theorem off6_eq : ∀ n : Fin k0_t1_loop.trips, k0_off6 n = ![128 * 3, 256 * n.val] := by decide +kernel
theorem off7_eq : ∀ n : Fin k0_t1_loop.trips, k0_off7 n = ![128 * 4, 256 * n.val] := by decide +kernel
theorem off8_eq : ∀ n : Fin k0_t1_loop.trips, k0_off8 n = ![128 * 5, 256 * n.val] := by decide +kernel
theorem off9_eq : ∀ n : Fin k0_t1_loop.trips, k0_off9 n = ![128 * 6, 256 * n.val] := by decide +kernel
theorem off10_eq : ∀ n : Fin k0_t1_loop.trips, k0_off10 n = ![128 * 7, 256 * n.val] := by decide +kernel
theorem off11_eq : ∀ n : Fin k0_t1_loop.trips, k0_off11 n = ![128 * 8, 256 * n.val] := by decide +kernel
theorem off12_eq : ∀ n : Fin k0_t1_loop.trips, k0_off12 n = ![128 * 9, 256 * n.val] := by decide +kernel
theorem off13_eq : ∀ n : Fin k0_t1_loop.trips, k0_off13 n = ![128 * 10, 256 * n.val] := by decide +kernel
theorem off14_eq : ∀ n : Fin k0_t1_loop.trips, k0_off14 n = ![128 * 11, 256 * n.val] := by decide +kernel

theorem xtile (X0 : Vec F S1536x3072 .bf16) (n : Fin k0_t1_loop.trips) (q : ℕ) (hq : q < 12) {off : Fin 2 → ℕ} (ho : off = ![128 * q, 256 * n.val])
    (h : ∀ a, off a + S128x256.size a ≤ S1536x3072.size a)
    (hx : ∀ a, k0_off1 n a + S256x1536.size a ≤ S3072x1536.size a) (hs : ∀ a, k0_off2 n a + S256x1.size a ≤ S3072x1.size a)
    (hl : ∀ a, (![0, 128 * q] : Fin 2 → ℕ) a + S256x128.size a ≤ S256x1536.size a) :
    upd (fillX xq xs X0 n.val q) (Rect.unit (s := S1536x3072) off S128x256.size h)
      (k0_pay9 (k0_pay1 fun a => xs ((Rect.unit (s := S3072x1) (k0_off2 n) S256x1.size hs).emb a))
        (fun a => (fun a' => xq ((Rect.unit (s := S3072x1536) (k0_off1 n) S256x1536.size hx).emb a'))
          ((Rect.unit (s := S256x1536) ![0, 128 * q] S256x128.size hl).emb a))) = fillX xq xs X0 n.val (q + 1) := by
  subst ho
  refine upd_eq (fun a => ?_) fun b hb => ?_
  · rw [pay9_apply, pay1_apply]
    have h0 : (a 0).val < 128 := (a 0).isLt
    have h1 : (a 1).val < 256 := (a 1).isLt
    have e0 : ((Rect.unit (s := S1536x3072) ![128 * q, 256 * n.val] S128x256.size h).emb a 0).val = 128 * q + 1 * (a 0).val := rfl
    have e1 : ((Rect.unit (s := S1536x3072) ![128 * q, 256 * n.val] S128x256.size h).emb a 1).val = 256 * n.val + 1 * (a 1).val := rfl
    unfold fillX
    rw [if_pos (.inr ⟨by rw [e1]; omega, by rw [e0]; omega⟩)]
    unfold XT
    congr 3
    · refine congrArg xq (ext2 ?_ ?_)
      · show k0_off1 n 0 + 1 * (0 + 1 * (a 1).val) = 256 * n.val + 1 * (a 1).val
        rw [off1_eq]
        show 256 * n.val + 1 * (0 + 1 * (a 1).val) = _
        omega
      · show k0_off1 n 1 + 1 * (128 * q + 1 * (a 0).val) = 128 * q + 1 * (a 0).val
        rw [off1_eq]
        show 0 + 1 * (128 * q + 1 * (a 0).val) = _
        omega
    · refine ext2 ?_ ?_
      · show k0_off2 n 0 + 1 * (a 1).val = 256 * n.val + 1 * (a 1).val
        rw [off2_eq]; rfl
      · show k0_off2 n 1 + 1 * 0 = 0
        rw [off2_eq]; rfl
  · unfold fillX
    by_cases h1 : (b 1).val < 256 * n.val ∨ ((b 1).val < 256 * (n.val + 1) ∧ (b 0).val < 128 * q)
    · rw [if_pos h1, if_pos (by omega)]
    · by_cases h2 : (b 1).val < 256 * n.val ∨ ((b 1).val < 256 * (n.val + 1) ∧ (b 0).val < 128 * (q + 1))
      · refine absurd (ext2 ?_ ?_) (hb (ix2 (n := 128) (m := 256) ⟨(b 0).val - 128 * q, by omega⟩ ⟨(b 1).val - 256 * n.val, by omega⟩))
        · show 128 * q + 1 * ((b 0).val - 128 * q) = (b 0).val
          omega
        · show 256 * n.val + 1 * ((b 1).val - 256 * n.val) = (b 1).val
          omega
      · rw [if_neg h1, if_neg h2]

theorem fillX_zero (X0 : Vec F S1536x3072 .bf16) : fillX xq xs X0 0 0 = X0 := by
  funext b; exact if_neg (by omega)
theorem fillX_next (X0 : Vec F S1536x3072 .bf16) (n : ℕ) : fillX xq xs X0 n 12 = fillX xq xs X0 (n + 1) 0 := by
  funext b
  have : (b 0).val < 1536 := (b 0).isLt
  unfold fillX
  by_cases h : (b 1).val < 256 * (n + 1)
  · rw [if_pos (by omega), if_pos (by omega)]
  · rw [if_neg (by omega), if_neg (by omega)]
theorem fillX_all (X0 : Vec F S1536x3072 .bf16) : fillX xq xs X0 12 0 = XT xq xs := by
  funext b; have : (b 1).val < 3072 := (b 1).isLt; exact if_pos (by omega)

end X

end Cert.KernelIdeal.Fill

end
-- ==== Proof.Ideal.While.lean ====
/-
  The accumulation loop: from the counter it is entered at it adds to each row of the result's block the scaled gradient
  rows whose identifier names that row, in order, until an identifier past the block or the end of the list.
-/
module

public import proofs.«01_k».proof.Proof.Own
public import proofs.«01_k».proof.Proof.Idx
public import proofs.«01_k».proof.Proof.Ideal.Words

@[expose] public section

noncomputable section

namespace Cert.KernelIdeal.While

open Cert.KernelIdeal Cert.KernelIdeal.Gen Cert.Idx Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] [Facts]

local notation "𝕄" => MT nD τ sig Unit (Elt F) ℕ (Pipeline.UD sig nD τ) ℕ

/-- The loops' variants: the trips still to run. -/
abbrev 𝒱₀ : Variants := Variants.nat

section Pure

variable (ids : Vec F S3072 .i32) (e : Vec F S3072x1536 .fp8e5m2) (sc : Vec F S3072 .f32) (i : grid0.Coords)

/-- The first identifier of the block. -/
def lo : BitVec 32 := Scalar.muli (BitVec.ofNat 32 (i 0).val) 768#32

/-- The identifier at `p` is below the block's end. -/
def below (p : Fin 3072) : Prop := Scalar.cmpi .slt (ids (ix1 p)) (Scalar.addi (lo i) 768#32) = 1#1

instance (p : Fin 3072) : Decidable (below (F := F) ids i p) := by unfold below; infer_instance

/-- The row of the block that the identifier at `p` names. -/
def row (p : Fin 3072) : ℕ := (Scalar.subi (ids (ix1 p)) (lo i)).toNat

/-- The block after the gradient row `p` is added to its row. -/
def step (p : Fin 3072) (X : Vec F S768x1536 .f32) : Vec F S768x1536 .f32 := fun b =>
  if row (F := F) ids i p = (b 0).val then
    FloatOps.addf (X b) (FloatOps.mulf (FloatOps.extf .f32 bitsLt_fp8e5m2_f32 (e (ix2 p (b 1)))) (sc (ix1 p)))
  else X b

/-- Where the loop stops, entered at `p` with at most `k` trips to run, and the block it leaves. -/
def go : ℕ → ℕ → Vec F S768x1536 .f32 → ℕ × Vec F S768x1536 .f32
  | 0, p, X => (p, X)
  | k + 1, p, X => if h : ∃ hp : p < 3072, below (F := F) ids i ⟨p, hp⟩ then go k (p + 1) (step ids e sc i ⟨p, h.1⟩ X) else (p, X)

/-- The widened rows held at counter `p`: inside a group of 32 they are that group's. -/
def EfOk (p : ℕ) (Y : Vec F S32x1536 .f32) : Prop :=
  p % 32 ≠ 0 → ∀ (k : Fin 32) (j : Fin 1536) (h : 32 * (p / 32) + k.val < 3072), Y (ix2 k j) = FloatOps.extf .f32 bitsLt_fp8e5m2_f32 (e (ix2 ⟨_, h⟩ j))

end Pure

/-- A word read at an offset. -/
theorem at1 {β : Type} (X : S3072.Idx → β) (off : Fin 1 → ℕ) (h : ∀ a, off a + S1.size a ≤ S3072.size a) (p : Fin 3072) (ho : off = ![p.val])
    (x : (Rect.unit (s := S3072) off S1.size h).shape.Idx) : X ((Rect.unit (s := S3072) off S1.size h).emb x) = X (ix1 p) := by
  subst ho
  congr 1
  refine ext1 ?_
  have h0 : (x 0).val < 1 := (x 0).isLt
  show p.val + 1 * (x 0).val = p.val
  omega

/-- One row's addition, as the store of the row makes it. -/
theorem step_eq (ids : Vec F S3072 .i32) (e : Vec F S3072x1536 .fp8e5m2) (sc : Vec F S3072 .f32) (i : grid0.Coords) (p : Fin 3072)
    (X : Vec F S768x1536 .f32) (Y : Vec F S32x1536 .f32)
    (h19 : ∀ a, k0_off19 i (ids (ix1 p)) a + S1x1536.size a ≤ S768x1536.size a)
    (h20 : ∀ a, k0_off20 (BitVec.ofNat 32 p.val) a + S1x1536.size a ≤ S32x1536.size a)
    (hY : ∀ j : Fin 1536, Y (ix2 ⟨p.val % 32, by omega⟩ j) = FloatOps.extf .f32 bitsLt_fp8e5m2_f32 (e (ix2 p j))) :
    upd X (Rect.unit (s := S768x1536) (k0_off19 i (ids (ix1 p))) S1x1536.size h19)
      (k0_pay545 (fun a => X ((Rect.unit (s := S768x1536) (k0_off19 i (ids (ix1 p))) S1x1536.size h19).emb a))
        (fun a => Y ((Rect.unit (s := S32x1536) (k0_off20 (BitVec.ofNat 32 p.val)) S1x1536.size h20).emb a)) (sc (ix1 p)))
      = step ids e sc i p X := by
  funext b
  have hoff : k0_off19 i (ids (ix1 p)) = ![row (F := F) ids i p, 0] := rfl
  by_cases hb : row (F := F) ids i p = (b 0).val
  · have hemb : (Rect.unit (s := S768x1536) (k0_off19 i (ids (ix1 p))) S1x1536.size h19).emb (ix2 (n := 1) (m := 1536) 0 (b 1)) = b := by
      refine ext2 ?_ ?_
      · show row (F := F) ids i p + 1 * 0 = _
        omega
      · show 0 + 1 * (b 1).val = _
        omega
    conv_lhs => rw [← hemb]
    rw [upd_hit]
    unfold step
    rw [if_pos hb]
    unfold k0_pay545
    show FloatOps.addf (shapeCast S1x1536 _ _ _) (FloatOps.mulf (Y _) (sc (ix1 p))) = _
    rw [shapeCast_self]
    show FloatOps.addf (X ((Rect.unit (s := S768x1536) (k0_off19 i (ids (ix1 p))) S1x1536.size h19).emb (ix2 (n := 1) (m := 1536) 0 (b 1)))) _ = _
    rw [hemb]
    congr 2
    refine Eq.trans ?_ (hY (b 1))
    congr 1
    refine ext2 ?_ ?_
    · show k0_off20 (BitVec.ofNat 32 p.val) 0 + 1 * 0 = p.val % 32
      rw [Words.off20_eq]; rfl
    · show k0_off20 (BitVec.ofNat 32 p.val) 1 + 1 * (b 1).val = (b 1).val
      rw [Words.off20_eq]
      show 0 + 1 * (b 1).val = (b 1).val
      omega
  · rw [upd_miss]
    · unfold step; rw [if_neg hb]
    · intro a ha
      apply hb
      have h0 : (a 0).val < 1 := (a 0).isLt
      have := congrArg (fun z : S768x1536.Idx => (z 0).val) ha
      have : row (F := F) ids i p + 1 * (a 0).val = (b 0).val := this
      omega

section Label

variable (c : Dev nD) (ids : Vec F S3072 .i32) (e : Vec F S3072x1536 .fp8e5m2) (sc : Vec F S3072 .f32) (i : grid0.Coords)
  (q1 q9 : PosShare TreeShare)
  (arg1 : Memref sig .tc .smem S3072 .i32) (harg1 : arg1.IsWhole) (arg9 : Memref sig .tc .hbm S3072x1536 .fp8e5m2) (harg9 : arg9.IsWhole)
  (arg16 : Memref sig .tc .vmem S32x1536 .fp8e5m2) (harg16 : arg16.IsWhole) (arg18 : DmaSems sig S_)
  (arg17 : Memref sig .tc .vmem S32x1536 .f32) (harg17 : arg17.IsWhole) (arg10 : Memref sig .tc .vmem S768x1536 .f32) (harg10 : arg10.IsWhole)
  (arg2 : Memref sig .tc .smem S3072 .f32) (harg2 : arg2.IsWhole)

/-- What the loop reads and writes, held: the block at `X`, the widened rows at contents good for the counter `p`. -/
def held (p : ℕ) (X : Vec F S768x1536 .f32) : sProp 𝕄 :=
  iprop(owns (c : Thread nD τ) arg1 q1 ids ∗ owns (c : Thread nD τ) arg9 q9 e ∗ (∃ Z, owns (c : Thread nD τ) arg16 fullShare Z)
    ∗ (∃ Y, ⌜EfOk e p Y⌝ ∗ owns (c : Thread nD τ) arg17 fullShare Y) ∗ owns (c : Thread nD τ) arg10 fullShare X
    ∗ owns (c : Thread nD τ) arg2 fullShare sc ∗ semVal ((c : Thread nD τ), SemLoc.dma arg18.sem) 0 ∗ ∃ W, owes (c : Thread nD τ) 0 W)

/-- The loop's specification, entered at counter `p` with at most `k` trips to run. -/
def spec (k p : ℕ) (X : Vec F S768x1536 .f32) : sWPT 𝕄 (BitVec 32) := do
  sWPT.consume (held c ids e sc q1 q9 arg1 arg9 arg16 arg18 arg17 arg10 arg2 p X)
  let r ← sWPT.arbitrary
  sWPT.assume (r = BitVec.ofNat 32 (go ids e sc i k p X).1)
  sWPT.produce (held c ids e sc q1 q9 arg1 arg9 arg16 arg18 arg17 arg10 arg2 (go ids e sc i k p X).1 (go ids e sc i k p X).2)
  pure r

theorem spec_apply (k p : ℕ) (X : Vec F S768x1536 .f32) (K : BitVec 32 → sProp 𝕄) :
    spec c ids e sc i q1 q9 arg1 arg9 arg16 arg18 arg17 arg10 arg2 k p X K
      = iprop(held c ids e sc q1 q9 arg1 arg9 arg16 arg18 arg17 arg10 arg2 p X
        ∗ ∀ r : BitVec 32, ⌜r = BitVec.ofNat 32 (go ids e sc i k p X).1⌝
          -∗ (held c ids e sc q1 q9 arg1 arg9 arg16 arg18 arg17 arg10 arg2 (go ids e sc i k p X).1 (go ids e sc i k p X).2 -∗ K r)) := rfl

include harg1 harg9 harg16 harg17 harg10 harg2 in
/-- The label's body meets the specification. -/
theorem spec_le :
    ∀ k p, p + k = 3072 → (∀ q : Fin 3072, p ≤ q.val → below (F := F) ids i q → row (F := F) ids i q < 768) →
      ∀ X K, spec c ids e sc i q1 q9 arg1 arg9 arg16 arg18 arg17 arg10 arg2 k p X K
      ⊢ wp frame (wpE (defs₀ (F := F)) 𝒱₀ (c : Thread nD τ) (some k)) Set.univ
          (defs₀ (F := F) .tc 1 ⟨i, arg1, harg1, arg9, harg9, arg16, harg16, arg18, arg17, harg17, arg10, harg10, arg2, harg2, BitVec.ofNat 32 p⟩) K := by
  intro k
  induction k with
  | zero =>
    intro p hp hr X K
    rw [spec_apply]
    show _ ⊢ wp frame (wpE (defs₀ (F := F)) 𝒱₀ (c : Thread nD τ) (some 0)) Set.univ
      (cc0_while1 i arg1 harg1 arg9 harg9 arg16 harg16 arg18 arg17 harg17 arg10 harg10 arg2 harg2 (BitVec.ofNat 32 p)) K
    have h3 : p = 3072 := by omega
    simp only [cc0_while1_eq_skeleton]; unfold cc0_while1_skel smemLoad smemLoadElt
    simp only [Prog.lift, Prog.bind_op, Prog.bind_ret, Prog.pure_eq_ret]
    unfold held
    iintro ⟨⟨H1, H9, H16, H17, H10, H2, Hs, HO⟩, Hk⟩
    iapply (wp_assume 𝒱₀ (c : Thread nD τ) (some 0) Set.univ (Words.chk1 ⟨p, by omega⟩))
    iapply (Own.load (defs₀ (F := F)) 𝒱₀ c (some 0) Set.univ (m := arg1)) $$ H1; iintro H1
    have ht : Scalar.cmpi .slt (BitVec.ofNat 32 p) 3072#32 = 0#1 := by
      have := Words.slt_eq ⟨p, by omega⟩
      rw [if_neg (by simp [h3])] at this
      exact this
    rw [ht]
    rw [if_neg (by intro h; revert h; generalize Scalar.cmpi CmpIPredicate.slt _ _ = z; revert z; decide)]
    rw [wp_ret]; imodintro
    have hg : go ids e sc i 0 p X = (p, X) := rfl
    rw [hg]
    iapply Hk
    · ipureintro; rfl
    iframe
  | succ k ih =>
    intro p hp hr X K
    have h3 : p < 3072 := by omega
    rw [spec_apply]
    show _ ⊢ wp frame (wpE (defs₀ (F := F)) 𝒱₀ (c : Thread nD τ) (some (k + 1))) Set.univ
      (cc0_while1 i arg1 harg1 arg9 harg9 arg16 harg16 arg18 arg17 harg17 arg10 harg10 arg2 harg2 (BitVec.ofNat 32 p)) K
    simp only [cc0_while1_eq_skeleton]; unfold cc0_while1_skel smemLoad smemLoadElt
    simp only [Prog.lift, Prog.bind_op, Prog.bind_ret, Prog.pure_eq_ret]
    unfold held
    iintro ⟨⟨H1, H9, H16, H17, H10, H2, Hs, HO⟩, Hk⟩
    iapply (wp_assume 𝒱₀ (c : Thread nD τ) (some (k + 1)) Set.univ (Words.chk1 ⟨p, by omega⟩))
    iapply (Own.load (defs₀ (F := F)) 𝒱₀ c (some (k + 1)) Set.univ (m := arg1)) $$ H1; iintro H1
    have ht : Scalar.cmpi .slt (BitVec.ofNat 32 p) 3072#32 = 1#1 := by
      have := Words.slt_eq ⟨p, by omega⟩
      rw [if_pos h3] at this
      exact this
    beta_reduce
    rw [ht, at1 ids _ _ ⟨p, h3⟩ ((Words.off16_eq ⟨p, by omega⟩).trans (by simp; omega))]
    by_cases hb : below (F := F) ids i ⟨p, h3⟩
    · have hgo : go ids e sc i (k + 1) p X = go ids e sc i k (p + 1) (step ids e sc i ⟨p, h3⟩ X) := by
        rw [go, dif_pos ⟨h3, hb⟩]
      have hb' : Scalar.cmpi CmpIPredicate.slt (ids (ix1 ⟨p, h3⟩)) (Scalar.addi (Scalar.muli (BitVec.ofNat 32 (i 0).val) 768#32) 768#32) = 1#1 := hb
      rw [hb', if_pos (by decide), hgo]
      rw [k0_part108_eq_skeleton]; unfold k0_part108_skel smemLoad smemLoadElt
      simp only [Prog.lift, Prog.bind_op, Prog.bind_ret, Prog.pure_eq_ret]
      iapply (wp_assume 𝒱₀ (c : Thread nD τ) (some (k + 1)) Set.univ (Words.chk2 ⟨p, h3⟩))
      icases H17 with ⟨%Y, %hY, H17⟩
      icases H16 with ⟨%Z, H16⟩
      icases HO with ⟨%W, HO⟩
      have hsub : k0_chk3 i (ids (ix1 ⟨p, h3⟩)) := by
        have := hr ⟨p, h3⟩ (le_refl _) hb
        intro a
        match a with
        | ⟨0, _⟩ => show row (F := F) ids i ⟨p, h3⟩ + 1 ≤ 768; omega
        | ⟨1, _⟩ => show 0 + 1536 ≤ 1536; omega
      have hc2 := Words.cond2_eq ⟨p, h3⟩
      by_cases h2 : p % 32 = 0
      case' pos =>
        rw [if_pos h2] at hc2
        rw [dif_pos hc2]
        simp only [Prog.bind_op, Prog.bind_ret]
        iapply (Own.copy (defs₀ (F := F)) 𝒱₀ c (some (k + 1)) countersEmb (fun _ => rfl) () (show 0 < S32x1536.numel by decide)) $$ [H9 H16 Hs HO]
        · isplitl [H9]; · iexact H9
          isplitl [H16]; · iexact H16
          isplitl [Hs]; · iexact Hs
          iexact HO
        iintro ⟨H9, H16, Hs, HO⟩
        iapply (Own.load (defs₀ (F := F)) 𝒱₀ c (some (k + 1)) Set.univ (m := arg16)) $$ H16; iintro H16
        iapply (Own.load (defs₀ (F := F)) 𝒱₀ c (some (k + 1)) Set.univ (m := arg17)) $$ H17; iintro H17
        obtain ⟨Y', hY'⟩ : ∃ Y' : Vec F S32x1536 .f32, upd Y (Rect.unit (s := S32x1536) ![0, 0] S32x1536.size inb_S32x1536_S32x1536_0_0)
            (k0_pay544 fun a => (fun a' => e ((Rect.unit (s := S3072x1536) (k0_off17 (BitVec.ofNat 32 p)) S32x1536.size
              (k0_off17_inb _ (Words.chk2 ⟨p, h3⟩) hc2)).emb a')) ((Rect.unit (s := S32x1536) ![0, 0] S32x1536.size inb_S32x1536_S32x1536_0_0).emb a)) = Y' := ⟨_, rfl⟩
        have hE : ∀ (k : Fin 32) (j : Fin 1536) (h : 32 * (p / 32) + k.val < 3072),
            Y' (ix2 k j) = FloatOps.extf .f32 bitsLt_fp8e5m2_f32 (e (ix2 ⟨_, h⟩ j)) := by
          intro k j h
          rw [← hY']
          have hemb : (Rect.unit (s := S32x1536) ![0, 0] S32x1536.size inb_S32x1536_S32x1536_0_0).emb (ix2 k j) = ix2 k j :=
            ext2 (by show 0 + 1 * k.val = k.val; omega) (by show 0 + 1 * j.val = j.val; omega)
          conv_lhs => rw [← hemb]
          rw [upd_hit]
          unfold k0_pay544
          rw [shapeCast_self]
          show FloatOps.extf .f32 bitsLt_fp8e5m2_f32 (e _) = _
          congr 2
          rw [hemb]
          refine ext2 ?_ ?_
          · show k0_off17 (BitVec.ofNat 32 p) 0 + 1 * k.val = 32 * (p / 32) + k.val
            rw [Words.off17_eq ⟨p, h3⟩]
            show p + 1 * k.val = _
            omega
          · show k0_off17 (BitVec.ofNat 32 p) 1 + 1 * j.val = j.val
            rw [Words.off17_eq ⟨p, h3⟩]
            show 0 + 1 * j.val = _
            omega
        iapply (Own.store_to (defs₀ (F := F)) 𝒱₀ c (some (k + 1)) Set.univ (m := arg17) hY') $$ H17; iintro H17
        clear hY' hY Y
      case' neg =>
        rw [if_neg h2] at hc2
        rw [dif_neg (by rw [hc2]; decide)]
        simp only [Prog.bind_op, Prog.bind_ret]
        obtain ⟨Y', hY'⟩ : ∃ Y' : Vec F S32x1536 .f32, Y' = Y := ⟨_, rfl⟩
        subst hY'
        have hE : ∀ (k : Fin 32) (j : Fin 1536) (h : 32 * (p / 32) + k.val < 3072),
            Y' (ix2 k j) = FloatOps.extf .f32 bitsLt_fp8e5m2_f32 (e (ix2 ⟨_, h⟩ j)) := hY h2
      all_goals
        iapply (Own.load (defs₀ (F := F)) 𝒱₀ c (some (k + 1)) Set.univ (m := arg1)) $$ H1; iintro H1
        beta_reduce
        rw [at1 ids _ _ ⟨p, h3⟩ (Words.off18_eq ⟨p, h3⟩)]
        iapply (wp_assume 𝒱₀ (c : Thread nD τ) (some (k + 1)) Set.univ hsub)
        iapply (Own.load (defs₀ (F := F)) 𝒱₀ c (some (k + 1)) Set.univ (m := arg10)) $$ H10; iintro H10
        iapply (Own.load (defs₀ (F := F)) 𝒱₀ c (some (k + 1)) Set.univ (m := arg17)) $$ H17; iintro H17
        iapply (Own.load (defs₀ (F := F)) 𝒱₀ c (some (k + 1)) Set.univ (m := arg2)) $$ H2; iintro H2
        beta_reduce
        rw [at1 sc _ _ ⟨p, h3⟩ (Words.off21_eq ⟨p, h3⟩)]
        iapply (Own.load (defs₀ (F := F)) 𝒱₀ c (some (k + 1)) Set.univ (m := arg10)) $$ H10; iintro H10
        iapply (Own.store_to (defs₀ (F := F)) 𝒱₀ c (some (k + 1)) Set.univ (m := arg10)
          (step_eq ids e sc i ⟨p, h3⟩ X Y' hsub (k0_off20_inb _ (Words.chk2 ⟨p, h3⟩))
            (fun j => (hE ⟨p % 32, by omega⟩ j (by show 32 * (p / 32) + p % 32 < 3072; omega)).trans
              (by congr 3; exact Fin.ext (by show 32 * (p / 32) + p % 32 = p; omega))))) $$ H10; iintro H10
        have hadd : Scalar.addi (BitVec.ofNat 32 p) 1#32 = BitVec.ofNat 32 (p + 1) := (BitVec.ofNat_add p 1).symm
        rw [hadd]
        iapply (wp_call_spec 𝒱₀ (c : Thread nD τ) (some (k + 1)) Set.univ
          (spec c ids e sc i q1 q9 arg1 arg9 arg16 arg18 arg17 arg10 arg2 k (p + 1) (step ids e sc i ⟨p, h3⟩ X)) k
          (fun u hu => by cases hu; exact Nat.lt_succ_self k)
          (ih (p + 1) (by omega) (fun q hq => hr q (by omega)) (step ids e sc i ⟨p, h3⟩ X)))
        rw [spec_apply]; unfold held
        isplitl [H1 H9 H16 H17 H10 H2 Hs HO]
        · isplitl [H1]; · iexact H1
          isplitl [H9]; · iexact H9
          isplitl [H16]; · iexists _; iexact H16
          isplitl [H17]
          · iexists Y'
            isplitr
            · ipureintro
              intro h5 k' j h
              have hd : (p + 1) / 32 = p / 32 := by omega
              refine (hE k' j (by rw [← hd]; exact h)).trans ?_
              congr 3
              exact Fin.ext (by show 32 * (p / 32) + k'.val = 32 * ((p + 1) / 32) + k'.val; rw [hd])
            iexact H17
          isplitl [H10]; · iexact H10
          isplitl [H2]; · iexact H2
          isplitl [Hs]; · iexact Hs
          iexists _; iexact HO
        iintro %r %hr' H
        rw [wp_ret]; imodintro
        iapply Hk
        · ipureintro; exact hr'
        iexact H
    · have hgo : go ids e sc i (k + 1) p X = (p, X) := by
        rw [go, dif_neg (fun h => hb h.2)]
      have hb' : ¬ Scalar.cmpi CmpIPredicate.slt (ids (ix1 ⟨p, h3⟩)) (Scalar.addi (Scalar.muli (BitVec.ofNat 32 (i 0).val) 768#32) 768#32) = 1#1 := hb
      rw [if_neg (by intro h; apply hb'; revert h; generalize Scalar.cmpi CmpIPredicate.slt _ _ = z; revert z; decide)]
      rw [wp_ret]; imodintro
      rw [hgo]
      iapply Hk
      · ipureintro; rfl
      iframe

end Label

end Cert.KernelIdeal.While

end
-- ==== Proof.Ideal.Align.lean ====
/-
  Each printed window of the kernel body's middle is the program of its list of operations (`Mach.run`), by computation;
  and so is the middle as a whole, between what comes before it and what comes after.
-/
module

public import proofs.«01_k».proof.KernelIdeal
public import proofs.«01_k».proof.Proof.Ops

@[expose] public section

noncomputable section

namespace Cert.KernelIdeal.Align

open Idealize.ShloMosaic Idealize.SL.Sem Cert.Mach Cert.KernelIdeal Facts₀ Facts

variable {F : FTy → Type} [FloatOps F]
variable [Facts]

/-- The last steps before the matrix unit's first. -/
def pre12 (i : grid0.Coords) (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole)
    (arg0 : BitVec 32) (v356_r0 : BitVec 32) : Prog (TpuEff nD τ sig (Elt F) (Λ₀ F) .tc) PUnit := do
    let v358_r0 : Vec F S1x128 .f32 ← Prog.lift (.load arg6 (Rect.unit (s := S1002x128) (k0_off15 i 4#32) S1x128.size (k0_off15_inb i 4)).toLoadRect (View.loadsAt_vmem h_S1x128))
    have v359_r0 : FVec F S1x128 .f32 := shapeCast S1x128 v358_r0 shapeCasts_S1x128_S1x128
    have v360_r0 : FVec F S1x128 .f32 := shapeCast S1x128 v359_r0 shapeCasts_S1x128_S1x128
    have v361_r0 : FVec F S128x128 .f32 := broadcastTo S128x128 v360_r0 broadcasts_S1x128_S128x128
    have v362_r0 : FVec F S128x128 .f32 := transpose S128x128 [1, 0] v361_r0 transposes_S128x128_p1_0_S128x128
    have v363_r0 : FVec F S128x128 .bf16 := truncf .bf16 v362_r0 bitsLt_bf16_f32
    let v364_r0 : Vec F S128x128 .bf16 ← Prog.lift (.load arg14 (Rect.unit (s := S768x128) ![512, 0] S128x128.size inb_S768x128_S128x128_512_0).toLoadRect (View.loadsAt_vmem h_S128x128))
    have v365_r0 : FVec F S128x128 .bf16 := shapeCast S128x128 v364_r0 shapeCasts_S128x128_S128x128
    have v366_r0 : FVec F S128x128 .bf16 := shapeCast S128x128 v363_r0 shapeCasts_S128x128_S128x128
    Prog.lift (.store arg14 (Rect.unit (s := S768x128) ![512, 0] S128x128.size inb_S768x128_S128x128_512_0) v366_r0 Finset.univ (View.stores_vmem h_S128x128 (harg14.storeExact_slice rfl _ packedbf16_S768x128_S128x128_512_0) (fun _ => rfl)) (.inl rfl))
    let v370_r0 : Vec F S1x128 .f32 ← Prog.lift (.load arg6 (Rect.unit (s := S1002x128) (k0_off15 i 5#32) S1x128.size (k0_off15_inb i 5)).toLoadRect (View.loadsAt_vmem h_S1x128))
    have v371_r0 : FVec F S1x128 .f32 := shapeCast S1x128 v370_r0 shapeCasts_S1x128_S1x128
    have v372_r0 : FVec F S1x128 .f32 := shapeCast S1x128 v371_r0 shapeCasts_S1x128_S1x128
    have v373_r0 : FVec F S128x128 .f32 := broadcastTo S128x128 v372_r0 broadcasts_S1x128_S128x128
    have v374_r0 : FVec F S128x128 .f32 := transpose S128x128 [1, 0] v373_r0 transposes_S128x128_p1_0_S128x128
    have v375_r0 : FVec F S128x128 .bf16 := truncf .bf16 v374_r0 bitsLt_bf16_f32
    let v376_r0 : Vec F S128x128 .bf16 ← Prog.lift (.load arg14 (Rect.unit (s := S768x128) ![640, 0] S128x128.size inb_S768x128_S128x128_640_0).toLoadRect (View.loadsAt_vmem h_S128x128))
    have v377_r0 : FVec F S128x128 .bf16 := shapeCast S128x128 v376_r0 shapeCasts_S128x128_S128x128
    have v378_r0 : FVec F S128x128 .bf16 := shapeCast S128x128 v375_r0 shapeCasts_S128x128_S128x128
    Prog.lift (.store arg14 (Rect.unit (s := S768x128) ![640, 0] S128x128.size inb_S768x128_S128x128_640_0) v378_r0 Finset.univ (View.stores_vmem h_S128x128 (harg14.storeExact_slice rfl _ packedbf16_S768x128_S128x128_640_0) (fun _ => rfl)) (.inl rfl))
    pure ⟨⟩

variable (i : grid0.Coords)
  (arg1 : Memref sig .tc .smem S3072 .i32) (harg1 : arg1.IsWhole)
  (arg2 : Memref sig .tc .smem S3072 .f32) (harg2 : arg2.IsWhole)
  (arg3 : Memref sig .tc .vmem S3072x768 .fp8e5m2) (harg3 : arg3.IsWhole)
  (arg4 : Memref sig .tc .vmem S3072x128 .f32) (harg4 : arg4.IsWhole)
  (arg5 : Memref sig .tc .vmem S768x1536 .fp8e4m3) (harg5 : arg5.IsWhole)
  (arg6 : Memref sig .tc .vmem S1002x128 .f32) (harg6 : arg6.IsWhole)
  (arg7 : Memref sig .tc .hbm S3072x1536 .fp8e4m3) (harg7 : arg7.IsWhole)
  (arg8 : Memref sig .tc .vmem S3072x1 .f32) (harg8 : arg8.IsWhole)
  (arg9 : Memref sig .tc .hbm S3072x1536 .fp8e5m2) (harg9 : arg9.IsWhole)
  (arg10 : Memref sig .tc .vmem S768x1536 .f32) (harg10 : arg10.IsWhole)
  (arg11 : Memref sig .tc .vmem S3072x1536 .f32) (harg11 : arg11.IsWhole)
  (arg12 : Memref sig .tc .vmem S1536x3072 .bf16) (harg12 : arg12.IsWhole)
  (arg13 : Memref sig .tc .vmem S3072x128 .bf16) (harg13 : arg13.IsWhole)
  (arg14 : Memref sig .tc .vmem S768x128 .bf16) (harg14 : arg14.IsWhole)
  (arg15 : Memref sig .tc .vmem S256x1536 .fp8e4m3) (harg15 : arg15.IsWhole)
  (arg16 : Memref sig .tc .vmem S32x1536 .fp8e5m2) (harg16 : arg16.IsWhole)
  (arg17 : Memref sig .tc .vmem S32x1536 .f32) (harg17 : arg17.IsWhole)
  (arg18 : DmaSems sig S_)
  (arg19 : Memref sig .tc .smem S1 .i32) (harg19 : arg19.IsWhole)

/-- The buffers the operations name. -/
abbrev refs : Refs sig := ⟨arg3, arg5, arg10, arg11, arg12, arg13, arg14⟩
local notation "RR" => refs arg3 arg5 arg10 arg11 arg12 arg13 arg14

theorem p13 (k0_mxu13 : Mxu F) :
    (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu13).bind (fun r => .ret ⟨r, []⟩)
      = run RR o13 ⟨k0_mxu13, []⟩ := rfl
theorem p14 (k0_mxu23 : Mxu F) :
    (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu23).bind (fun r => .ret ⟨r, []⟩)
      = run RR o14 ⟨k0_mxu23, []⟩ := rfl
theorem p15 (k0_mxu33 : Mxu F) :
    (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu33).bind (fun r => .ret ⟨r, []⟩)
      = run RR o15 ⟨k0_mxu33, []⟩ := rfl
theorem p16 (k0_mxu44 : Mxu F) :
    (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu44).bind (fun r => .ret ⟨(r.1), [.sc (r.2.2), .bf (r.2.1)]⟩)
      = run RR o16 ⟨k0_mxu44, []⟩ := rfl
theorem p17 (k0_mxu54 : Mxu F) (v485_r0 : FVec F S256x256 .bf16) (v486_r0 : Vec F S256x128 .bf16) :
    (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu54 v485_r0 v486_r0).bind (fun r => .ret ⟨r, []⟩)
      = run RR o17 ⟨k0_mxu54, [.sc v486_r0, .bf v485_r0]⟩ := rfl
theorem p18 (k0_mxu64 : Mxu F) :
    (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu64).bind (fun r => .ret ⟨r, []⟩)
      = run RR o18 ⟨k0_mxu64, []⟩ := rfl
theorem p19 (k0_mxu75 : Mxu F) :
    (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu75).bind (fun r => .ret ⟨(r.1), [.e5 (r.2)]⟩)
      = run RR o19 ⟨k0_mxu75, []⟩ := rfl
theorem p20 (k0_mxu86 : Mxu F) (v556_r0 : FVec F S256x256 .fp8e5m2) :
    (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu86 v556_r0).bind (fun r => .ret ⟨(r.1), [.bf (r.2)]⟩)
      = run RR o20 ⟨k0_mxu86, [.e5 v556_r0]⟩ := rfl
theorem p21 (k0_mxu95 : Mxu F) (v581_r0 : FVec F S256x256 .bf16) :
    (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu95 v581_r0).bind (fun r => .ret ⟨r, []⟩)
      = run RR o21 ⟨k0_mxu95, [.bf v581_r0]⟩ := rfl
theorem p22 (k0_mxu106 : Mxu F) :
    (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu106).bind (fun r => .ret ⟨(r.2), [.fl (r.1)]⟩)
      = run RR o22 ⟨k0_mxu106, []⟩ := rfl
theorem p23 (v629_r0 : FVec F S256x256 .f32) (k0_mxu117 : Mxu F) :
    (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v629_r0 k0_mxu117).bind (fun r => .ret ⟨(r.1), [.bf (r.2)]⟩)
      = run RR o23 ⟨k0_mxu117, [.fl v629_r0]⟩ := rfl
theorem p24 (k0_mxu125 : Mxu F) (v653_r0 : FVec F S256x256 .bf16) :
    (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu125 v653_r0).bind (fun r => .ret ⟨r, []⟩)
      = run RR o24 ⟨k0_mxu125, [.bf v653_r0]⟩ := rfl
theorem p25 (k0_mxu136 : Mxu F) :
    (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu136).bind (fun r => .ret ⟨r, []⟩)
      = run RR o25 ⟨k0_mxu136, []⟩ := rfl
theorem p26 (k0_mxu148 : Mxu F) :
    (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu148).bind (fun r => .ret ⟨(r.1), [.e5 (r.2)]⟩)
      = run RR o26 ⟨k0_mxu148, []⟩ := rfl
theorem p27 (k0_mxu157 : Mxu F) (v723_r0 : Vec F S256x256 .fp8e5m2) :
    (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu157 v723_r0).bind (fun r => .ret ⟨r, []⟩)
      = run RR o27 ⟨k0_mxu157, [.e5 v723_r0]⟩ := rfl
theorem p28 (k0_mxu167 : Mxu F) :
    (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu167).bind (fun r => .ret ⟨r, []⟩)
      = run RR o28 ⟨k0_mxu167, []⟩ := rfl
theorem p29 (k0_mxu179 : Mxu F) :
    (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu179).bind (fun r => .ret ⟨(r.1), [.bf (r.2)]⟩)
      = run RR o29 ⟨k0_mxu179, []⟩ := rfl
theorem p30 (k0_mxu188 : Mxu F) (v794_r0 : FVec F S256x256 .bf16) :
    (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu188 v794_r0).bind (fun r => .ret ⟨r, []⟩)
      = run RR o30 ⟨k0_mxu188, [.bf v794_r0]⟩ := rfl
theorem p31 (k0_mxu198 : Mxu F) :
    (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu198).bind (fun r => .ret ⟨r, []⟩)
      = run RR o31 ⟨k0_mxu198, []⟩ := rfl
theorem p32 (k0_mxu210 : Mxu F) :
    (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu210).bind (fun r => .ret ⟨(r.1), [.fl (r.2)]⟩)
      = run RR o32 ⟨k0_mxu210, []⟩ := rfl
theorem p33 (k0_mxu219 : Mxu F) (v866_r0 : FVec F S256x256 .f32) :
    (k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu219 v866_r0).bind (fun r => .ret ⟨r, []⟩)
      = run RR o33 ⟨k0_mxu219, [.fl v866_r0]⟩ := rfl
theorem p34 (k0_mxu228 : Mxu F) :
    (k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu228).bind (fun r => .ret ⟨r, []⟩)
      = run RR o34 ⟨k0_mxu228, []⟩ := rfl
theorem p35 (k0_mxu240 : Mxu F) :
    (k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu240).bind (fun r => .ret ⟨(r.1), [.bf (r.2)]⟩)
      = run RR o35 ⟨k0_mxu240, []⟩ := rfl
theorem p36 (k0_mxu250 : Mxu F) (v935_r0 : FVec F S256x256 .bf16) :
    (k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu250 v935_r0).bind (fun r => .ret ⟨(r.1), [.bf (r.2.2), .bf (r.2.1)]⟩)
      = run RR o36 ⟨k0_mxu250, [.bf v935_r0]⟩ := rfl
theorem p37 (k0_mxu259 : Mxu F) (v959_r0 : FVec F S256x256 .bf16) (v961_r0 : FVec F S256x256 .bf16) :
    (k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu259 v959_r0 v961_r0).bind (fun r => .ret ⟨r, []⟩)
      = run RR o37 ⟨k0_mxu259, [.bf v961_r0, .bf v959_r0]⟩ := rfl
theorem p38 (k0_mxu271 : Mxu F) :
    (k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu271).bind (fun r => .ret ⟨r, []⟩)
      = run RR o38 ⟨k0_mxu271, []⟩ := rfl
theorem p39 (k0_mxu282 : Mxu F) :
    (k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu282).bind (fun r => .ret ⟨(r.1), [.bf (r.2)]⟩)
      = run RR o39 ⟨k0_mxu282, []⟩ := rfl
theorem p40 (k0_mxu291 : Mxu F) (v1031_r0 : FVec F S256x256 .bf16) :
    (k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu291 v1031_r0).bind (fun r => .ret ⟨r, []⟩)
      = run RR o40 ⟨k0_mxu291, [.bf v1031_r0]⟩ := rfl
theorem p41 (k0_mxu302 : Mxu F) :
    (k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu302).bind (fun r => .ret ⟨(r.1), [.sc (r.2.2), .bf (r.2.1)]⟩)
      = run RR o41 ⟨k0_mxu302, []⟩ := rfl
theorem p42 (k0_mxu312 : Mxu F) (v1075_r0 : FVec F S256x256 .bf16) (v1076_r0 : Vec F S256x128 .bf16) :
    (k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu312 v1075_r0 v1076_r0).bind (fun r => .ret ⟨r, []⟩)
      = run RR o42 ⟨k0_mxu312, [.sc v1076_r0, .bf v1075_r0]⟩ := rfl
theorem p43 (k0_mxu319 : Mxu F) :
    (k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu319).bind (fun r => .ret ⟨r, []⟩)
      = run RR o43 ⟨k0_mxu319, []⟩ := rfl
theorem p44 (k0_mxu326 : Mxu F) :
    (k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu326).bind (fun r => .ret ⟨(r.1), [.bf (r.2)]⟩)
      = run RR o44 ⟨k0_mxu326, []⟩ := rfl
theorem p45 (k0_mxu331 : Mxu F) (v1167_r0 : FVec F S256x256 .bf16) :
    (k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu331 v1167_r0).bind (fun r => .ret ⟨r, []⟩)
      = run RR o45 ⟨k0_mxu331, [.bf v1167_r0]⟩ := rfl
theorem p46 (k0_mxu337 : Mxu F) :
    (k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu337).bind (fun r => .ret ⟨(r.1), [.sc (r.2.2), .bf (r.2.1)]⟩)
      = run RR o46 ⟨k0_mxu337, []⟩ := rfl
theorem p47 (k0_mxu342 : Mxu F) (v1231_r0 : FVec F S256x256 .bf16) (v1232_r0 : Vec F S256x128 .bf16) :
    (k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu342 v1231_r0 v1232_r0).bind (fun r => .ret ⟨(r.1), [.e5 (r.2)]⟩)
      = run RR o47 ⟨k0_mxu342, [.sc v1232_r0, .bf v1231_r0]⟩ := rfl
theorem p48 (k0_mxu348 : Mxu F) (v1262_r0 : FVec F S256x256 .fp8e5m2) :
    (k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu348 v1262_r0).bind (fun r => .ret ⟨(r.1), [.bf (r.2.2), .bf (r.2.1)]⟩)
      = run RR o48 ⟨k0_mxu348, [.e5 v1262_r0]⟩ := rfl
theorem p49 (k0_mxu353 : Mxu F) (v1291_r0 : FVec F S256x256 .bf16) (v1293_r0 : FVec F S256x256 .bf16) :
    (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu353 v1291_r0 v1293_r0).bind (fun r => .ret ⟨(r.1), [.bf (r.2)]⟩)
      = run RR o49 ⟨k0_mxu353, [.bf v1293_r0, .bf v1291_r0]⟩ := rfl
theorem p50 (k0_mxu359 : Mxu F) (v1323_r0 : FVec F S256x256 .bf16) :
    (k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu359 v1323_r0).bind (fun r => .ret ⟨(r.1), [.bf (r.2)]⟩)
      = run RR o50 ⟨k0_mxu359, [.bf v1323_r0]⟩ := rfl
theorem p51 (k0_mxu364 : Mxu F) (v1356_r0 : FVec F S256x256 .bf16) :
    (k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu364 v1356_r0).bind (fun r => .ret ⟨(r.1), [.bf (r.2)]⟩)
      = run RR o51 ⟨k0_mxu364, [.bf v1356_r0]⟩ := rfl
theorem p52 (k0_mxu370 : Mxu F) (v1387_r0 : FVec F S256x256 .bf16) :
    (k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu370 v1387_r0).bind (fun r => .ret ⟨(r.2), [.fl (r.1)]⟩)
      = run RR o52 ⟨k0_mxu370, [.bf v1387_r0]⟩ := rfl
theorem p53 (v1419_r0 : FVec F S256x256 .f32) (k0_mxu377 : Mxu F) :
    (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v1419_r0 k0_mxu377).bind (fun r => .ret ⟨(r.1), [.fl (r.2)]⟩)
      = run RR o53 ⟨k0_mxu377, [.fl v1419_r0]⟩ := rfl
theorem p54 (k0_mxu382 : Mxu F) (v1449_r0 : FVec F S256x256 .f32) :
    (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu382 v1449_r0).bind (fun r => .ret ⟨r, []⟩)
      = run RR o54 ⟨k0_mxu382, [.fl v1449_r0]⟩ := rfl
theorem p55 (k0_mxu387 : Mxu F) :
    (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu387).bind (fun r => .ret ⟨(r.1), [.sc (r.2.2), .bf (r.2.1)]⟩)
      = run RR o55 ⟨k0_mxu387, []⟩ := rfl
theorem p56 (k0_mxu392 : Mxu F) (v1509_r0 : FVec F S256x256 .bf16) (v1510_r0 : Vec F S256x128 .bf16) :
    (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu392 v1509_r0 v1510_r0).bind (fun r => .ret ⟨(r.1), [.e5 (r.2)]⟩)
      = run RR o56 ⟨k0_mxu392, [.sc v1510_r0, .bf v1509_r0]⟩ := rfl
theorem p57 (k0_mxu398 : Mxu F) (v1542_r0 : FVec F S256x256 .fp8e5m2) :
    (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu398 v1542_r0).bind (fun r => .ret ⟨(r.1), [.bf (r.2.2), .bf (r.2.1)]⟩)
      = run RR o57 ⟨k0_mxu398, [.e5 v1542_r0]⟩ := rfl
theorem p58 (k0_mxu403 : Mxu F) (v1573_r0 : FVec F S256x256 .bf16) (v1575_r0 : FVec F S256x256 .bf16) :
    (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu403 v1573_r0 v1575_r0).bind (fun r => .ret ⟨(r.1), [.bf (r.2)]⟩)
      = run RR o58 ⟨k0_mxu403, [.bf v1575_r0, .bf v1573_r0]⟩ := rfl
theorem p59 (k0_mxu409 : Mxu F) (v1605_r0 : FVec F S256x256 .bf16) :
    (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu409 v1605_r0).bind (fun r => .ret ⟨(r.1), [.fl (r.2)]⟩)
      = run RR o59 ⟨k0_mxu409, [.bf v1605_r0]⟩ := rfl
theorem p60 (k0_mxu415 : Mxu F) (v1634_r0 : FVec F S256x256 .f32) :
    (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu415 v1634_r0).bind (fun r => .ret ⟨(r.1), [.bf (r.2)]⟩)
      = run RR o60 ⟨k0_mxu415, [.fl v1634_r0]⟩ := rfl
theorem p61 (k0_mxu420 : Mxu F) (v1665_r0 : FVec F S256x256 .bf16) :
    (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu420 v1665_r0).bind (fun r => .ret ⟨r, []⟩)
      = run RR o61 ⟨k0_mxu420, [.bf v1665_r0]⟩ := rfl
theorem p62 (k0_mxu426 : Mxu F) :
    (k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu426).bind (fun r => .ret ⟨(r.1), [.bf (r.2)]⟩)
      = run RR o62 ⟨k0_mxu426, []⟩ := rfl
theorem p63 (k0_mxu431 : Mxu F) (v1729_r0 : FVec F S256x256 .bf16) :
    (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu431 v1729_r0).bind (fun r => .ret ⟨(r.2), [.fl (r.1)]⟩)
      = run RR o63 ⟨k0_mxu431, [.bf v1729_r0]⟩ := rfl
theorem p64 (v1760_r0 : FVec F S256x256 .f32) (k0_mxu438 : Mxu F) :
    (k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v1760_r0 k0_mxu438).bind (fun r => .ret ⟨(r.1), [.sc (r.2.2), .bf (r.2.1)]⟩)
      = run RR o64 ⟨k0_mxu438, [.fl v1760_r0]⟩ := rfl
theorem p65 (k0_mxu442 : Mxu F) (v1789_r0 : FVec F S256x256 .bf16) (v1790_r0 : Vec F S256x128 .bf16) :
    (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu442 v1789_r0 v1790_r0).bind (fun r => .ret ⟨r, []⟩)
      = run RR o65 ⟨k0_mxu442, [.sc v1790_r0, .bf v1789_r0]⟩ := rfl
theorem p66 (k0_mxu448 : Mxu F) :
    (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu448).bind (fun r => .ret ⟨(r.1), [.bf (r.2.2), .bf (r.2.1)]⟩)
      = run RR o66 ⟨k0_mxu448, []⟩ := rfl
theorem p67 (k0_mxu453 : Mxu F) (v1851_r0 : FVec F S256x256 .bf16) (v1853_r0 : FVec F S256x256 .bf16) :
    (k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu453 v1851_r0 v1853_r0).bind (fun r => .ret ⟨(r.1), [.bf (r.2)]⟩)
      = run RR o67 ⟨k0_mxu453, [.bf v1853_r0, .bf v1851_r0]⟩ := rfl
theorem p68 (k0_mxu459 : Mxu F) (v1885_r0 : FVec F S256x256 .bf16) :
    (k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu459 v1885_r0).bind (fun r => .ret ⟨r, []⟩)
      = run RR o68 ⟨k0_mxu459, [.bf v1885_r0]⟩ := rfl
theorem p69 (k0_mxu465 : Mxu F) :
    (k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu465).bind (fun r => .ret ⟨(r.2.1), [.fl (r.2.2), .fl (r.1)]⟩)
      = run RR o69 ⟨k0_mxu465, []⟩ := rfl
theorem p70 (v1945_r0 : FVec F S256x256 .f32) (k0_mxu471 : Mxu F) (v1947_r0 : FVec F S256x256 .f32) :
    (k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v1945_r0 k0_mxu471 v1947_r0).bind (fun r => .ret ⟨r, []⟩)
      = run RR o70 ⟨k0_mxu471, [.fl v1947_r0, .fl v1945_r0]⟩ := rfl
theorem p71 (k0_mxu476 : Mxu F) :
    (k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu476).bind (fun r => .ret ⟨(r.1), [.bf (r.2)]⟩)
      = run RR o71 ⟨k0_mxu476, []⟩ := rfl
theorem p72 (k0_mxu481 : Mxu F) (v2007_r0 : FVec F S256x256 .bf16) :
    (k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu481 v2007_r0).bind (fun r => .ret ⟨r, []⟩)
      = run RR o72 ⟨k0_mxu481, [.bf v2007_r0]⟩ := rfl
theorem p73 (k0_mxu487 : Mxu F) :
    (k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu487).bind (fun r => .ret ⟨(r.1), [.sc (r.2.2), .bf (r.2.1)]⟩)
      = run RR o73 ⟨k0_mxu487, []⟩ := rfl
theorem p74 (k0_mxu492 : Mxu F) (v2071_r0 : FVec F S256x256 .bf16) (v2072_r0 : Vec F S256x128 .bf16) :
    (k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu492 v2071_r0 v2072_r0).bind (fun r => .ret ⟨(r.1), [.e5 (r.2)]⟩)
      = run RR o74 ⟨k0_mxu492, [.sc v2072_r0, .bf v2071_r0]⟩ := rfl
theorem p75 (k0_mxu498 : Mxu F) (v2102_r0 : FVec F S256x256 .fp8e5m2) :
    (k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu498 v2102_r0).bind (fun r => .ret ⟨(r.1), [.bf (r.2.2), .bf (r.2.1)]⟩)
      = run RR o75 ⟨k0_mxu498, [.e5 v2102_r0]⟩ := rfl
theorem p76 (k0_mxu503 : Mxu F) (v2131_r0 : FVec F S256x256 .bf16) (v2133_r0 : FVec F S256x256 .bf16) :
    (k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu503 v2131_r0 v2133_r0).bind (fun r => .ret ⟨(r.1), [.bf (r.2)]⟩)
      = run RR o76 ⟨k0_mxu503, [.bf v2133_r0, .bf v2131_r0]⟩ := rfl
theorem p77 (k0_mxu509 : Mxu F) (v2163_r0 : FVec F S256x256 .bf16) :
    (k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu509 v2163_r0).bind (fun r => .ret ⟨(r.1), [.bf (r.2)]⟩)
      = run RR o77 ⟨k0_mxu509, [.bf v2163_r0]⟩ := rfl
theorem p78 (k0_mxu514 : Mxu F) (v2196_r0 : FVec F S256x256 .bf16) :
    (k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu514 v2196_r0).bind (fun r => .ret ⟨(r.1), [.bf (r.2)]⟩)
      = run RR o78 ⟨k0_mxu514, [.bf v2196_r0]⟩ := rfl
theorem p79 (k0_mxu520 : Mxu F) (v2227_r0 : FVec F S256x256 .bf16) :
    (k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu520 v2227_r0).bind (fun r => .ret ⟨(r.2), [.fl (r.1)]⟩)
      = run RR o79 ⟨k0_mxu520, [.bf v2227_r0]⟩ := rfl
theorem p80 (v2259_r0 : FVec F S256x256 .f32) (k0_mxu527 : Mxu F) :
    (k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v2259_r0 k0_mxu527).bind (fun r => .ret ⟨(r.1), [.fl (r.2)]⟩)
      = run RR o80 ⟨k0_mxu527, [.fl v2259_r0]⟩ := rfl
theorem p81 (k0_mxu532 : Mxu F) (v2289_r0 : FVec F S256x256 .f32) :
    (k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu532 v2289_r0).bind (fun r => .ret ⟨r, []⟩)
      = run RR o81 ⟨k0_mxu532, [.fl v2289_r0]⟩ := rfl
theorem p82 (k0_mxu537 : Mxu F) :
    (k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu537).bind (fun r => .ret ⟨(r.1), [.sc (r.2.2), .bf (r.2.1)]⟩)
      = run RR o82 ⟨k0_mxu537, []⟩ := rfl
theorem p83 (k0_mxu542 : Mxu F) (v2349_r0 : FVec F S256x256 .bf16) (v2350_r0 : Vec F S256x128 .bf16) :
    (k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu542 v2349_r0 v2350_r0).bind (fun r => .ret ⟨(r.1), [.e5 (r.2)]⟩)
      = run RR o83 ⟨k0_mxu542, [.sc v2350_r0, .bf v2349_r0]⟩ := rfl
theorem p84 (k0_mxu548 : Mxu F) (v2382_r0 : FVec F S256x256 .fp8e5m2) :
    (k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu548 v2382_r0).bind (fun r => .ret ⟨(r.1), [.bf (r.2.2), .bf (r.2.1)]⟩)
      = run RR o84 ⟨k0_mxu548, [.e5 v2382_r0]⟩ := rfl
theorem p85 (k0_mxu553 : Mxu F) (v2413_r0 : FVec F S256x256 .bf16) (v2415_r0 : FVec F S256x256 .bf16) :
    (k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu553 v2413_r0 v2415_r0).bind (fun r => .ret ⟨(r.1), [.bf (r.2)]⟩)
      = run RR o85 ⟨k0_mxu553, [.bf v2415_r0, .bf v2413_r0]⟩ := rfl
theorem p86 (k0_mxu559 : Mxu F) (v2445_r0 : FVec F S256x256 .bf16) :
    (k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu559 v2445_r0).bind (fun r => .ret ⟨(r.1), [.fl (r.2)]⟩)
      = run RR o86 ⟨k0_mxu559, [.bf v2445_r0]⟩ := rfl
theorem p87 (k0_mxu565 : Mxu F) (v2474_r0 : FVec F S256x256 .f32) :
    (k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu565 v2474_r0).bind (fun r => .ret ⟨(r.1), [.bf (r.2)]⟩)
      = run RR o87 ⟨k0_mxu565, [.fl v2474_r0]⟩ := rfl
theorem p88 (k0_mxu570 : Mxu F) (v2505_r0 : FVec F S256x256 .bf16) :
    (k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu570 v2505_r0).bind (fun r => .ret ⟨r, []⟩)
      = run RR o88 ⟨k0_mxu570, [.bf v2505_r0]⟩ := rfl
theorem p89 (k0_mxu576 : Mxu F) :
    (k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu576).bind (fun r => .ret ⟨(r.1), [.bf (r.2)]⟩)
      = run RR o89 ⟨k0_mxu576, []⟩ := rfl
theorem p90 (k0_mxu581 : Mxu F) (v2569_r0 : FVec F S256x256 .bf16) :
    (k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu581 v2569_r0).bind (fun r => .ret ⟨(r.2), [.fl (r.1)]⟩)
      = run RR o90 ⟨k0_mxu581, [.bf v2569_r0]⟩ := rfl
theorem p91 (v2600_r0 : FVec F S256x256 .f32) (k0_mxu588 : Mxu F) :
    (k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v2600_r0 k0_mxu588).bind (fun r => .ret ⟨(r.1), [.sc (r.2.2), .bf (r.2.1)]⟩)
      = run RR o91 ⟨k0_mxu588, [.fl v2600_r0]⟩ := rfl
theorem p92 (k0_mxu592 : Mxu F) (v2629_r0 : FVec F S256x256 .bf16) (v2630_r0 : Vec F S256x128 .bf16) :
    (k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu592 v2629_r0 v2630_r0).bind (fun r => .ret ⟨r, []⟩)
      = run RR o92 ⟨k0_mxu592, [.sc v2630_r0, .bf v2629_r0]⟩ := rfl
theorem p93 (k0_mxu598 : Mxu F) :
    (k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu598).bind (fun r => .ret ⟨(r.1), [.bf (r.2.2), .bf (r.2.1)]⟩)
      = run RR o93 ⟨k0_mxu598, []⟩ := rfl
theorem p94 (k0_mxu603 : Mxu F) (v2691_r0 : FVec F S256x256 .bf16) (v2693_r0 : FVec F S256x256 .bf16) :
    (k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu603 v2691_r0 v2693_r0).bind (fun r => .ret ⟨(r.1), [.bf (r.2)]⟩)
      = run RR o94 ⟨k0_mxu603, [.bf v2693_r0, .bf v2691_r0]⟩ := rfl
theorem p95 (k0_mxu609 : Mxu F) (v2725_r0 : FVec F S256x256 .bf16) :
    (k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu609 v2725_r0).bind (fun r => .ret ⟨r, []⟩)
      = run RR o95 ⟨k0_mxu609, [.bf v2725_r0]⟩ := rfl
theorem p96 (k0_mxu615 : Mxu F) :
    (k0_part96 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu615).bind (fun r => .ret ⟨(r.2.1), [.fl (r.2.2), .fl (r.1)]⟩)
      = run RR o96 ⟨k0_mxu615, []⟩ := rfl
theorem p97 (v2785_r0 : FVec F S256x256 .f32) (k0_mxu621 : Mxu F) (v2787_r0 : FVec F S256x256 .f32) :
    (k0_part97 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v2785_r0 k0_mxu621 v2787_r0).bind (fun r => .ret ⟨r, []⟩)
      = run RR o97 ⟨k0_mxu621, [.fl v2787_r0, .fl v2785_r0]⟩ := rfl
theorem p98 (k0_mxu626 : Mxu F) :
    (k0_part98 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu626).bind (fun r => .ret ⟨(r.1), [.bf (r.2)]⟩)
      = run RR o98 ⟨k0_mxu626, []⟩ := rfl
theorem p99 (k0_mxu631 : Mxu F) (v2847_r0 : FVec F S256x256 .bf16) :
    (k0_part99 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu631 v2847_r0).bind (fun r => .ret ⟨r, []⟩)
      = run RR o99 ⟨k0_mxu631, [.bf v2847_r0]⟩ := rfl
theorem p100 (k0_mxu637 : Mxu F) :
    (k0_part100 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu637).bind (fun r => .ret ⟨(r.1), [.sc (r.2.2), .bf (r.2.1)]⟩)
      = run RR o100 ⟨k0_mxu637, []⟩ := rfl
theorem p101 (k0_mxu642 : Mxu F) (v2911_r0 : FVec F S256x256 .bf16) (v2912_r0 : Vec F S256x128 .bf16) :
    (k0_part101 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu642 v2911_r0 v2912_r0).bind (fun r => .ret ⟨(r.1), [.e5 (r.2)]⟩)
      = run RR o101 ⟨k0_mxu642, [.sc v2912_r0, .bf v2911_r0]⟩ := rfl
theorem p102 (k0_mxu648 : Mxu F) (v2942_r0 : FVec F S256x256 .fp8e5m2) :
    (k0_part102 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu648 v2942_r0).bind (fun r => .ret ⟨(r.1), [.bf (r.2.2), .bf (r.2.1)]⟩)
      = run RR o102 ⟨k0_mxu648, [.e5 v2942_r0]⟩ := rfl
theorem p103 (k0_mxu653 : Mxu F) (v2971_r0 : FVec F S256x256 .bf16) (v2973_r0 : FVec F S256x256 .bf16) :
    (k0_part103 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu653 v2971_r0 v2973_r0).bind (fun r => .ret ⟨(r.1), [.bf (r.2)]⟩)
      = run RR o103 ⟨k0_mxu653, [.bf v2973_r0, .bf v2971_r0]⟩ := rfl
theorem p104 (k0_mxu659 : Mxu F) (v3003_r0 : FVec F S256x256 .bf16) :
    (k0_part104 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu659 v3003_r0).bind (fun r => .ret ⟨(r.1), [.bf (r.2)]⟩)
      = run RR o104 ⟨k0_mxu659, [.bf v3003_r0]⟩ := rfl
theorem p105 (k0_mxu664 : Mxu F) (v3036_r0 : FVec F S256x256 .bf16) :
    (k0_part105 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_mxu664 v3036_r0).bind (fun r => .ret ⟨(r.2), [.fl (r.1)]⟩)
      = run RR o105 ⟨k0_mxu664, [.bf v3036_r0]⟩ := rfl
theorem p106 (v3067_r0 : FVec F S256x256 .f32) (k0_mxu671 : Mxu F) :
    (k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 v3067_r0 k0_mxu671).bind (fun r => .ret ⟨(r.1), [.fl (r.2)]⟩)
      = run RR o106 ⟨k0_mxu671, [.fl v3067_r0]⟩ := rfl

theorem p12 (arg0 : BitVec 32) (m : Mxu F) (v : BitVec 32) :
    (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 m v).bind (fun r => .ret ⟨r, []⟩)
      = (pre12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v).bind fun _ => run RR o12 ⟨m, []⟩ := rfl

/-- The steps before the matrix unit's first: what they leave is the unit's state. -/
def pre : Prog (TpuEff nD τ sig (Elt F) (Λ₀ F) .tc) (Mxu F) := do
    let ⟨arg0, k0_mxu2, v33_r0, v34_r0, v39_r0⟩ : Σ' (arg0 : BitVec 32) (k0_mxu2 : Mxu F) (v33_r0 : BitVec 32) (v34_r0 : BitVec 32), BitVec 1 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19
    let v78_r0 : FVec F S256x128 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v33_r0 v34_r0 v39_r0
    let ⟨v117_r0, v118_r0⟩ : Σ' (v117_r0 : IVec S256x128 32), Vec F S256x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v78_r0
    let ⟨c128_i32_67_r0, v157_r0, c1_i32_69_r0⟩ : Σ' (c128_i32_67_r0 : BitVec 32) (v157_r0 : BitVec 1), BitVec 32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v117_r0 v118_r0
    let ⟨v192_r0, v194_r0, v196_r0, v197_r0⟩ : Σ' (v192_r0 : IVec S256x128 32) (v194_r0 : FVec F S256x128 .f32) (v196_r0 : IVec S256x128 1), IVec S256x128 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 c128_i32_67_r0 v157_r0 c1_i32_69_r0
    let ⟨v233_r0, v234_r0, v235_r0, v236_r0⟩ : Σ' (v233_r0 : BitVec 32) (v234_r0 : BitVec 32) (v235_r0 : BitVec 1), BitVec 1 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v192_r0 v194_r0 v196_r0 v197_r0
    let v278_r0 : FVec F S256x128 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v233_r0 v234_r0 v235_r0 v236_r0
    let v315_r0 : FVec F S128x128 .bf16 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v278_r0
    let v356_r0 : BitVec 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v315_r0
    pre12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg0 v356_r0
    pure k0_mxu2

/-- What comes after: the rows gathered into this block, one by one, then the pointer stored. -/
def tail (m : Mxu F) : Prog (TpuEff nD τ sig (Elt F) (Λ₀ F) .tc) PUnit := do
  let v1 : Elt F .i32 ← smemLoad arg19 (Rect.unit (s := S1) ![0] S1.size inb_S1_S1_0) numel1_S1 rfl
  let v2 : BitVec 32 ← Prog.lift (.call (1 : (Λ₀ F).Label) ⟨i, arg1, harg1, arg9, harg9, arg16, harg16, arg18, arg17, harg17, arg10, harg10, arg2, harg2, v1⟩)
  let v3 : Elt F .i32 ← smemLoad arg19 (Rect.unit (s := S1) ![0] S1.size inb_S1_S1_0) numel1_S1 rfl
  Prog.lift (.store arg19 (Rect.unit (s := S1) ![0] S1.size inb_S1_S1_0) (fun _ => v2) Finset.univ (View.stores_smem_one rfl numel1_S1) (.inl rfl))
  m.exit
  pure ⟨⟩

theorem chain {α β : Type} {p : Prog (TpuEff nD τ sig (Elt F) (Λ₀ F) .tc) α} {k : α → Prog (TpuEff nD τ sig (Elt F) (Λ₀ F) .tc) β}
    {e : α → St F} {R : Refs sig} {o o' : List Op} {s : St F} {f : St F → Prog (TpuEff nD τ sig (Elt F) (Λ₀ F) .tc) β}
    (hp : p.bind (fun r => .ret (e r)) = run R o s) (hk : ∀ r, k r = (run R o' (e r)).bind f) :
    p.bind k = (run R (o ++ o') s).bind f := by
  rw [run_append, ← hp, bassoc, bassoc, funext hk]
  rfl

theorem chainB {α γ β : Type} {p : Prog (TpuEff nD τ sig (Elt F) (Λ₀ F) .tc) α} {k : α → Prog (TpuEff nD τ sig (Elt F) (Λ₀ F) .tc) γ}
    {K : γ → Prog (TpuEff nD τ sig (Elt F) (Λ₀ F) .tc) β}
    {e : α → St F} {R : Refs sig} {o o' : List Op} {s : St F} {f : St F → Prog (TpuEff nD τ sig (Elt F) (Λ₀ F) .tc) β}
    (hp : p.bind (fun r => .ret (e r)) = run R o s) (hk : ∀ r, (k r).bind K = (run R o' (e r)).bind f) :
    (p.bind k).bind K = (run R (o ++ o') s).bind f := by
  rw [bassoc]; exact chain hp hk

theorem bindB {α γ β : Type} {p : Prog (TpuEff nD τ sig (Elt F) (Λ₀ F) .tc) α} {k : α → Prog (TpuEff nD τ sig (Elt F) (Λ₀ F) .tc) γ}
    {K : γ → Prog (TpuEff nD τ sig (Elt F) (Λ₀ F) .tc) β} {p' : α → Prog (TpuEff nD τ sig (Elt F) (Λ₀ F) .tc) (Mxu F)} {f : Mxu F → Prog (TpuEff nD τ sig (Elt F) (Λ₀ F) .tc) β}
    (hk : ∀ r, (k r).bind K = (p' r).bind f) :
    (p.bind k).bind K = (p.bind p').bind f := by
  rw [bassoc, bassoc, funext hk]

theorem last12 {γ β : Type} {p : Prog (TpuEff nD τ sig (Elt F) (Λ₀ F) .tc) (Mxu F)} {k : Mxu F → Prog (TpuEff nD τ sig (Elt F) (Λ₀ F) .tc) γ}
    {K : γ → Prog (TpuEff nD τ sig (Elt F) (Λ₀ F) .tc) β} {p' : Prog (TpuEff nD τ sig (Elt F) (Λ₀ F) .tc) PUnit} {R : Refs sig} {o o' : List Op} {m : Mxu F}
    {f : St F → Prog (TpuEff nD τ sig (Elt F) (Λ₀ F) .tc) β}
    (hp : p.bind (fun r => .ret ⟨r, []⟩) = p'.bind fun _ => run R o ⟨m, []⟩) (hk : ∀ r, (k r).bind K = (run R o' ⟨r, []⟩).bind f) :
    (p.bind k).bind K = (p'.bind fun _ => .ret m).bind fun m => (run R (o ++ o') ⟨m, []⟩).bind f := by
  have h : (p'.bind fun _ => .ret m).bind (fun m => (run R (o ++ o') ⟨m, []⟩).bind f)
      = ((p'.bind fun _ => run R o ⟨m, []⟩).bind fun s => run R o' s).bind f := by
    rw [bassoc, bassoc, bassoc]; exact congrArg p'.bind (funext fun _ => by show (run R (o ++ o') _).bind f = _; rw [run_append, bassoc])
  rw [h, ← hp, bassoc, bassoc, bassoc, funext hk]; rfl

/-- The body is what comes before the matrix unit's steps, those steps, and what comes after. -/
theorem body_eq : cc0_tied_grad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 = (pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19).bind fun m => (run RR all ⟨m, []⟩).bind fun s => tail i arg1 harg1 arg2 harg2 arg9 harg9 arg10 harg10 arg16 harg16 arg17 harg17 arg18 arg19 s.m := by
  unfold cc0_tied_grad k0_part107
  refine bindB fun r => ?_
  refine bindB fun r => ?_
  refine bindB fun r => ?_
  refine bindB fun r => ?_
  refine bindB fun r => ?_
  refine bindB fun r => ?_
  refine bindB fun r => ?_
  refine bindB fun r => ?_
  refine bindB fun r => ?_
  refine last12 (p12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p23 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p24 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p25 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p28 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p29 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p30 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p34 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p35 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p36 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p37 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p39 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p40 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p41 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p42 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p43 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p44 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p45 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p46 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p47 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p48 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p49 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p50 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p51 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p52 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p53 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p54 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chainB (p56 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p57 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p58 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chainB (p59 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p60 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p61 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chainB (p62 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine Eq.trans (show _ = Prog.bind (k0_part63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) _ from rfl) ?_
  refine chain (p63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p64 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p66 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p67 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p68 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p69 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p70 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p71 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p73 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p74 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p75 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p76 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p77 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p78 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p79 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p80 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p81 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p82 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p83 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p84 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p85 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p86 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p87 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p88 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p89 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p90 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p91 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p92 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p93 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p94 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p95 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p96 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p97 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p98 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p99 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _) fun r => ?_
  refine chain (p101 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p102 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p103 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _ _) fun r => ?_
  refine chain (p104 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p105 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  refine chain (p106 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 _ _) fun r => ?_
  rfl

end Cert.KernelIdeal.Align
end
-- ==== Proof.Ideal.Pre.lean ====
/-
  The prelude of a grid step: on the first step the pointer and the second result's block zeroed and the activations copied in,
  scaled and transposed; on every step the two buffers of scales filled.
-/
module

public import proofs.«01_k».proof.Proof.Ideal.Fill
public import proofs.«01_k».proof.Proof.Ideal.While
public import proofs.«01_k».proof.Proof.SemWp
public import proofs.«01_k».proof.Proof.Ideal.Align

@[expose] public section

set_option maxRecDepth 100000
set_option maxHeartbeats 4000000

noncomputable section

namespace Cert.KernelIdeal.Pre

open Cert.KernelIdeal Cert.KernelIdeal.Gen Cert.Idx Cert.Own Cert.Mach Cert.KernelIdeal.Fill
open Cert.KernelIdeal.While (𝒱₀)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] [Facts]

local notation "𝕄" => MT nD τ sig Unit (Elt F) ℕ (Pipeline.UD sig nD τ) ℕ

variable (c : Dev nD) (i : grid0.Coords) (q7 : PosShare TreeShare)
  (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole)
  (xq : Vec F S3072x1536 .fp8e4m3) (xs : Vec F S3072x1 .f32) (gs : Vec F S3072x128 .f32) (ws : Vec F S1002x128 .f32)

/-- What the copies into the transposed activations' buffer read and write, the buffer at `X`. -/
def heldX (X : Vec F S1536x3072 .bf16) : sProp 𝕄 :=
  iprop(owns (c : Thread nD τ) arg7 q7 xq ∗ owns (c : Thread nD τ) arg8 fullShare xs ∗ (∃ Z, owns (c : Thread nD τ) arg15 fullShare Z)
    ∗ owns (c : Thread nD τ) arg12 fullShare X ∗ semVal ((c : Thread nD τ), SemLoc.dma arg18.sem) 0 ∗ ∃ W, owes (c : Thread nD τ) 0 W)

/-- One trip of the copies fills the next 256 columns. -/
theorem trip (h1 : k0_cond1 i = 1#1) (X0 : Vec F S1536x3072 .bf16) (n : Fin k0_t1_loop.trips) :
    heldX c q7 arg7 arg8 arg12 arg15 arg18 xq xs (fillX xq xs X0 n.val 0)
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 h1 n ⟨⟩)
        fun _ => heldX c q7 arg7 arg8 arg12 arg15 arg18 xq xs (fillX xq xs X0 (n.val + 1) 0) := by
  unfold heldX k0_t1_body
  rw [k0_part1_eq_skeleton, k0_part2_eq_skeleton]; unfold k0_part1_skel k0_part2_skel
  simp only [Prog.lift, Prog.bind_op, Prog.bind_ret, Prog.pure_eq_ret]
  iintro ⟨H7, H8, ⟨%Z, H15⟩, H12, Hs, ⟨%W, HO⟩⟩
  iapply (Own.copy (defs₀ (F := F)) 𝒱₀ c none countersEmb (fun _ => rfl) () (show 0 < S256x1536.numel by decide)) $$ [H7 H15 Hs HO]
  · isplitl [H7]; · iexact H7
    isplitl [H15]; · iexact H15
    isplitl [Hs]; · iexact Hs
    iexact HO
  iintro ⟨H7, H15, Hs, HO⟩
  iapply (Own.load (defs₀ (F := F)) 𝒱₀ c none Set.univ (m := arg8)) $$ H8; iintro H8
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 0 (by decide) (off3_eq n) (k0_off3_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 1 (by decide) (off4_eq n) (k0_off4_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 2 (by decide) (off5_eq n) (k0_off5_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 3 (by decide) (off6_eq n) (k0_off6_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 4 (by decide) (off7_eq n) (k0_off7_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 5 (by decide) (off8_eq n) (k0_off8_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 6 (by decide) (off9_eq n) (k0_off9_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 7 (by decide) (off10_eq n) (k0_off10_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 8 (by decide) (off11_eq n) (k0_off11_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 9 (by decide) (off12_eq n) (k0_off12_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 10 (by decide) (off13_eq n) (k0_off13_inb i n h1) (k0_off1_inb i n h1) (k0_off2_inb i n h1) (by decide))) $$ H12; iintro H12
  iapply (Own.load (defs₀ (F := F)) 𝒱₀ c none Set.univ (m := arg15)) $$ H15; iintro H15
  iapply (Own.load (defs₀ (F := F)) 𝒱₀ c none Set.univ (m := arg12)) $$ H12; iintro H12
  iapply (Own.store_to (defs₀ (F := F)) 𝒱₀ c none Set.univ (m := arg12)
    (xtile xq xs X0 n 11 (by decide) (off14_eq n) (k0_off14_inb i n h1) (k0_off1_inb i n h1) (k0_off2_inb i n h1) (by decide))) $$ H12; iintro H12
  rw [wp_ret]; imodintro
  rw [fillX_next]
  iframe
  isplitl [H15]
  · iexists _; iexact H15
  iexists _; iexact HO

section Split

set_option cleanup.letToHave false

/-- The first step's setup; it hands on the matrix unit. -/
def init3 (i : grid0.Coords) (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole) : Prog (TpuEff nD τ sig (Elt F) (Λ₀ F) .tc) (Mxu F) :=
  if k0_h1 : k0_cond1 i = 1#1 then do
      let v3097_r0 : Elt F .i32 ← smemLoad arg19 (Rect.unit (s := S1) ![0] S1.size inb_S1_S1_0) numel1_S1 rfl
      Prog.lift (.store arg19 (Rect.unit (s := S1) ![0] S1.size inb_S1_S1_0) (fun _ => 0#32) Finset.univ (View.stores_smem_one rfl numel1_S1) (.inl rfl))
      let v3099_r0 : Vec F S3072x1536 .f32 ← Prog.lift (.load arg11 (Rect.unit (s := S3072x1536) ![0, 0] S3072x1536.size inb_S3072x1536_S3072x1536_0_0).toLoadRect (View.loadsAt_vmem h_S3072x1536))
      Prog.lift (.store arg11 (Rect.unit (s := S3072x1536) ![0, 0] S3072x1536.size inb_S3072x1536_S3072x1536_0_0) (k0_pay10 (F := F)) Finset.univ (View.stores_vmem_bits_univ h_S3072x1536 rfl) (.inl rfl))
      have k0_mxu1 : Mxu F := Mxu.init
      have k0_mxu3 : Mxu F := k0_mxu1.pop 0 0 256 fits_0_256
      have k0_mxu4 : Mxu F := k0_mxu3.pop 0 64 256 fits_64_256
      have k0_mxu5 : Mxu F := k0_mxu4.pop 0 128 256 fits_128_256
      have k0_mxu6 : Mxu F := k0_mxu5.pop 0 192 256 fits_192_256
      have k0_mxu7 : Mxu F := k0_mxu6.pop 1 0 256 fits_0_256
      have k0_mxu8 : Mxu F := k0_mxu7.pop 1 64 256 fits_64_256
      have k0_mxu9 : Mxu F := k0_mxu8.pop 1 128 256 fits_128_256
      have k0_mxu10 : Mxu F := k0_mxu9.pop 1 192 256 fits_192_256
      Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 k0_h1)
      pure k0_mxu10
    else do
      pure (Mxu.init : Mxu F)

/-- The first block of the gradient's scales, and the words the next block starts from. -/
def rest3 (i : grid0.Coords) (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole) (k0_mxu2 : Mxu F) : Prog (TpuEff nD τ sig (Elt F) (Λ₀ F) .tc) (Σ' (arg0 : BitVec 32) (k0_mxu2 : Mxu F) (v33_r0 : BitVec 32) (v34_r0 : BitVec 32), BitVec 1)  := do
  let arg0 : BitVec 32 := BitVec.ofNat 32 (i 0).val
  let v18_r0 : Vec F S256x128 .f32 ← Prog.lift (.load arg4 (Rect.unit (s := S3072x128) ![0, 0] S256x128.size inb_S3072x128_S256x128_0_0).toLoadRect (View.loadsAt_vmem h_S256x128))
  let v29_r0 : Vec F S256x128 .bf16 ← Prog.lift (.load arg13 (Rect.unit (s := S3072x128) ![0, 0] S256x128.size inb_S3072x128_S256x128_0_0).toLoadRect (View.loadsAt_vmem h_S256x128))
  Prog.lift (.store arg13 (Rect.unit (s := S3072x128) ![0, 0] S256x128.size inb_S3072x128_S256x128_0_0) (k0_pay15 i v18_r0) Finset.univ (View.stores_vmem h_S256x128 (harg13.storeExact_slice rfl _ packedbf16_S3072x128_S256x128_0_0) (fun _ => rfl)) (.inl rfl))
  let v32_r0 : BitVec 1 := Scalar.cmpi .eq 128#32 0#32
  let v33_r0 : BitVec 32 := Scalar.select v32_r0 1#32 128#32
  let v34_r0 : BitVec 32 := Scalar.remsi arg0 v33_r0
  let v35_r0 : BitVec 1 := Scalar.cmpi .ne v34_r0 0#32
  let v36_r0 : BitVec 1 := Scalar.cmpi .slt v34_r0 0#32
  let v37_r0 : BitVec 1 := Scalar.cmpi .slt v33_r0 0#32
  let v38_r0 : BitVec 1 := Scalar.xori v36_r0 v37_r0
  let v39_r0 : BitVec 1 := Scalar.andi v38_r0 v35_r0
  pure ⟨arg0, k0_mxu2, v33_r0, v34_r0, v39_r0⟩

theorem assoc {β γ δ : Type} (p : Prog (TpuEff nD τ sig (Elt F) (Λ₀ F) .tc) β) (f : β → Prog (TpuEff nD τ sig (Elt F) (Λ₀ F) .tc) γ)
    (g : γ → Prog (TpuEff nD τ sig (Elt F) (Λ₀ F) .tc) δ) : (p >>= f) >>= g = p >>= (fun a => f a >>= g) := bassoc p f g

theorem part3_eq : k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 = (init3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19) >>= (rest3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19) := by
  rw [k0_part3_eq_skeleton]; unfold k0_part3_skel init3 rest3
  by_cases h1 : k0_cond1 i = 1#1
  · simp only [dif_pos h1, Prog.lift, Prog.bind_op, Prog.bind_ret, Prog.pure_eq_ret, assoc, smemLoad, smemLoadElt]
  · simp only [dif_neg h1, Prog.lift, Prog.bind_op, Prog.bind_ret, Prog.pure_eq_ret]

end Split

/-- The unit with nothing in flight: what the first step's unused pops leave, and every step's start. -/
def Idle (m : Mxu F) : Prop := ∀ e : Env F, MRel e m SS.init

theorem Idle.init : Idle (Mxu.init : Mxu F) := fun e => MRel.init e

theorem Idle.pop {m : Mxu F} (h : Idle m) (u : Fin 2) (a : Fin 4) : Idle (m.pop u (64 * a.val) 256 (fitsA a)) := fun e => by
  have := MRel.pp e (h e) u a []
  have hs : SS.init.slot.set u ((SS.init.slot.get u).set a []) = SS.init.slot := by
    match u, a with
    | 0, 0 => rfl | 0, 1 => rfl | 0, 2 => rfl | 0, 3 => rfl
    | 1, 0 => rfl | 1, 1 => rfl | 1, 2 => rfl | 1, 3 => rfl
  rw [hs] at this
  exact this

/-- The second result's block at the start of a step's passes. -/
def yIn (i : grid0.Coords) (Y : Vec F S3072x1536 .f32) : Vec F S3072x1536 .f32 := if k0_cond1 i = 1#1 then k0_pay10 else Y
/-- The transposed activations at the start of a step's passes. -/
def xIn (i : grid0.Coords) (X : Vec F S1536x3072 .bf16) : Vec F S1536x3072 .bf16 := if k0_cond1 i = 1#1 then XT xq xs else X
/-- The pointer at the start of a step's additions. -/
def pIn (i : grid0.Coords) (P : Vec F S1 .i32) : Vec F S1 .i32 := if k0_cond1 i = 1#1 then fun _ => 0#32 else P

theorem zeroY (Y : Vec F S3072x1536 .f32) : upd Y (Rect.unit (s := S3072x1536) ![0, 0] S3072x1536.size inb_S3072x1536_S3072x1536_0_0) k0_pay10 = k0_pay10 :=
  upd_eq (fun _ => rfl) fun b hb => absurd (ext2 (by show 0 + 1 * (b 0).val = (b 0).val; omega) (by show 0 + 1 * (b 1).val = (b 1).val; omega)) (hb b)

theorem storeP (P : Vec F S1 .i32) (w : BitVec 32) : upd P (Rect.unit (s := S1) ![0] S1.size inb_S1_S1_0) (fun _ => w) = fun _ => w :=
  upd_eq (fun _ => rfl) fun b hb => absurd (ext1 (by show 0 + 1 * (b 0).val = (b 0).val; omega)) (hb b)

/-- What the prelude reads and writes, held. -/
def heldP (X : Vec F S1536x3072 .bf16) (S : Vec F S3072x128 .bf16) (T : Vec F S768x128 .bf16) (Y : Vec F S3072x1536 .f32) (P : Vec F S1 .i32) : sProp 𝕄 :=
  iprop(owns (c : Thread nD τ) arg4 fullShare gs ∗ owns (c : Thread nD τ) arg6 fullShare ws ∗ owns (c : Thread nD τ) arg13 fullShare S
    ∗ owns (c : Thread nD τ) arg14 fullShare T ∗ owns (c : Thread nD τ) arg11 fullShare Y ∗ owns (c : Thread nD τ) arg19 fullShare P
    ∗ heldX c q7 arg7 arg8 arg12 arg15 arg18 xq xs X)

/-- The prelude. -/
theorem pre_wp (X : Vec F S1536x3072 .bf16) (S : Vec F S3072x128 .bf16) (T : Vec F S768x128 .bf16) (Y : Vec F S3072x1536 .f32) (P : Vec F S1 .i32) :
    heldP c q7 arg4 arg6 arg7 arg8 arg11 arg12 arg13 arg14 arg15 arg18 arg19 xq xs gs ws X S T Y P
      ⊢ wp frame (wpE (defs₀ (F := F)) 𝒱₀ (c : Thread nD τ) none) Set.univ
        (Align.pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19)
        fun m => iprop(⌜Idle m⌝ ∗ heldP c q7 arg4 arg6 arg7 arg8 arg11 arg12 arg13 arg14 arg15 arg18 arg19 xq xs gs ws (xIn xq xs i X) (GS i gs) (WS i ws)
          (yIn i Y) (pIn i P)) := by
  unfold Align.pre heldP
  rw [part3_eq, assoc]
  rw [wp_bind]
  iintro ⟨H4, H6, H13, H14, H11, H19, HX⟩
  iapply (wp_wand_r frame (wpE (defs₀ (F := F)) 𝒱₀ (c : Thread nD τ) none) Set.univ (Q := fun m => iprop(⌜Idle m⌝
    ∗ owns (c : Thread nD τ) arg11 fullShare (yIn i Y) ∗ owns (c : Thread nD τ) arg19 fullShare (pIn i P)
    ∗ heldX c q7 arg7 arg8 arg12 arg15 arg18 xq xs (xIn xq xs i X))))
  isplitl [H11 H19 HX]
  · unfold yIn pIn xIn init3
    by_cases h1 : k0_cond1 i = 1#1
    · rw [dif_pos h1, if_pos h1, if_pos h1, if_pos h1]
      unfold smemLoad smemLoadElt
      simp only [Prog.lift, Prog.bind_op, Prog.bind_ret, Prog.pure_eq_ret]
      iapply (Own.load (defs₀ (F := F)) 𝒱₀ c none Set.univ (m := arg19)) $$ H19; iintro H19
      iapply (Own.store_to (defs₀ (F := F)) 𝒱₀ c none Set.univ (m := arg19) (storeP _ _)) $$ H19; iintro H19
      iapply (Own.load (defs₀ (F := F)) 𝒱₀ c none Set.univ (m := arg11)) $$ H11; iintro H11
      iapply (Own.store_to (defs₀ (F := F)) 𝒱₀ c none Set.univ (m := arg11) (zeroY _)) $$ H11; iintro H11
      iapply (Scf.wp_for_bind frame (wpE (defs₀ (F := F)) 𝒱₀ (c : Thread nD τ) none) Set.univ _ _ _ _ _ _
        (fun n _ => heldX c q7 arg7 arg8 arg12 arg15 arg18 xq xs (fillX xq xs X n 0))
        (fun n _ => trip c i q7 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 xq xs h1 X n)) $$ [HX]
      · rw [fillX_zero]; iexact HX
      iintro %_ HX
      rw [wp_ret]; imodintro
      isplitr
      · ipureintro
        exact (((((((Idle.init.pop 0 0).pop 0 1).pop 0 2).pop 0 3).pop 1 0).pop 1 1).pop 1 2).pop 1 3
      isplitl [H11]; · iexact H11
      isplitl [H19]; · iexact H19
      rw [show fillX xq xs X (Scf.trips k0_t1_loop.1 k0_t1_loop.2 k0_t1_loop.3) 0 = XT xq xs from fillX_all xq xs X]
      iexact HX
    · rw [dif_neg h1, if_neg h1, if_neg h1, if_neg h1, Prog.pure_eq_ret]
      rw [wp_ret]; imodintro
      isplitr
      · ipureintro; exact Idle.init
      isplitl [H11]; · iexact H11
      isplitl [H19]; · iexact H19
      iexact HX
  iintro %m ⟨%hm, H11, H19, HX⟩
  rw [k0_part4_eq_skeleton, k0_part5_eq_skeleton, k0_part6_eq_skeleton, k0_part7_eq_skeleton, k0_part8_eq_skeleton, k0_part9_eq_skeleton,
    k0_part10_eq_skeleton, k0_part11_eq_skeleton]
  unfold rest3 k0_part4_skel k0_part5_skel k0_part6_skel k0_part7_skel k0_part8_skel k0_part9_skel k0_part10_skel k0_part11_skel Align.pre12
  simp only [Prog.lift, Prog.bind_op, Prog.bind_ret, Prog.pure_eq_ret]
  rw [← fillG_zero i gs S, ← fillW_zero i ws T]
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 0 inb_S3072x128_S256x128_0_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 1 inb_S3072x128_S256x128_256_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 2 inb_S3072x128_S256x128_512_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 3 inb_S3072x128_S256x128_768_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 4 inb_S3072x128_S256x128_1024_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 5 inb_S3072x128_S256x128_1280_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 6 inb_S3072x128_S256x128_1536_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 7 inb_S3072x128_S256x128_1792_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 8 inb_S3072x128_S256x128_2048_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 9 inb_S3072x128_S256x128_2304_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 10 inb_S3072x128_S256x128_2560_0)) $$ H13; iintro H13
  iapply (Own.load (defs₀ (F := F)) 𝒱₀ c none Set.univ (m := arg4)) $$ H4; iintro H4
  iapply (Own.load (defs₀ (F := F)) 𝒱₀ c none Set.univ (m := arg13)) $$ H13; iintro H13
  iapply (Own.store_to (defs₀ (F := F)) 𝒱₀ c none Set.univ (m := arg13) (gtile i gs S 11 inb_S3072x128_S256x128_2816_0)) $$ H13; iintro H13
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 0 (by decide) inb_S768x128_S128x128_0_0 (k0_off15_inb i 0))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 1 (by decide) inb_S768x128_S128x128_128_0 (k0_off15_inb i 1))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 2 (by decide) inb_S768x128_S128x128_256_0 (k0_off15_inb i 2))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 3 (by decide) inb_S768x128_S128x128_384_0 (k0_off15_inb i 3))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 4 (by decide) inb_S768x128_S128x128_512_0 (k0_off15_inb i 4))) $$ H14; iintro H14
  iapply (Own.load (defs₀ (F := F)) 𝒱₀ c none Set.univ (m := arg6)) $$ H6; iintro H6
  iapply (Own.load (defs₀ (F := F)) 𝒱₀ c none Set.univ (m := arg14)) $$ H14; iintro H14
  iapply (Own.store_to (defs₀ (F := F)) 𝒱₀ c none Set.univ (m := arg14) (wtile i ws T 5 (by decide) inb_S768x128_S128x128_640_0 (k0_off15_inb i 5))) $$ H14; iintro H14
  rw [wp_ret]; imodintro
  isplitr
  · ipureintro; exact hm
  isplitl [H4]; · iexact H4
  isplitl [H6]; · iexact H6
  isplitl [H13]
  · rw [← fillG_all i gs S]; iexact H13
  isplitl [H14]
  · rw [← fillW_all i ws T]; iexact H14
  isplitl [H11]; · iexact H11
  isplitl [H19]; · iexact H19
  iexact HX

end Cert.KernelIdeal.Pre

end
-- ==== Proof.Ideal.Body.lean ====
/-
  One grid step of the kernel's body: what it reads, and what it leaves in the two results' blocks and in the scratch it
  carries on to the next step.
-/
module

public import proofs.«01_k».proof.Proof.Ideal.Pre
public import proofs.«01_k».proof.Proof.Mid

@[expose] public section

set_option maxRecDepth 100000
set_option maxHeartbeats 4000000

noncomputable section

namespace Cert.KernelIdeal.Body

open Cert.KernelIdeal Cert.KernelIdeal.Gen Cert.Idx Cert.Own Cert.Mach Cert.KernelIdeal.Fill Cert.KernelIdeal.Pre
open Cert.KernelIdeal.While (𝒱₀ EfOk go below row held)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] [Facts]

local notation "𝕄" => MT nD τ sig Unit (Elt F) ℕ (Pipeline.UD sig nD τ) ℕ

section Pure

variable (ids : Vec F S3072 .i32) (sc : Vec F S3072 .f32) (e : Vec F S3072x1536 .fp8e5m2) (xq : Vec F S3072x1536 .fp8e4m3)
  (xs : Vec F S3072x1 .f32) (g : Vec F S3072x768 .fp8e5m2) (gs : Vec F S3072x128 .f32) (w : Vec F S768x1536 .fp8e4m3)
  (ws : Vec F S1002x128 .f32) (i : grid0.Coords)

/-- The contents the passes read. -/
def env (xq : Vec F S3072x1536 .fp8e4m3) (xs : Vec F S3072x1 .f32) (g : Vec F S3072x768 .fp8e5m2) (gs : Vec F S3072x128 .f32)
    (w : Vec F S768x1536 .fp8e4m3) (ws : Vec F S1002x128 .f32) (i : grid0.Coords) (X : Vec F S1536x3072 .bf16) (Y : Vec F S3072x1536 .f32) : Env F :=
  ⟨g, w, xIn xq xs i X, GS i gs, WS i ws, yIn i Y⟩

/-- The counter the additions start from. -/
def pAt (i : grid0.Coords) (p : ℕ) : ℕ := if k0_cond1 i = 1#1 then 0 else p

/-- The counter the additions end at. -/
def pOut (p : ℕ) (X : Vec F S1536x3072 .bf16) (Y : Vec F S3072x1536 .f32) : ℕ :=
  (go ids e sc i (3072 - pAt i p) (pAt i p) (env xq xs g gs w ws i X Y).dval).1

/-- The first result's block. -/
def dOut (p : ℕ) (X : Vec F S1536x3072 .bf16) (Y : Vec F S3072x1536 .f32) : Vec F S768x1536 .f32 :=
  (go ids e sc i (3072 - pAt i p) (pAt i p) (env xq xs g gs w ws i X Y).dval).2

end Pure

variable (c : Dev nD) (i : grid0.Coords) (q1 q7 q9 : PosShare TreeShare)
  (arg1 : Memref sig .tc .smem S3072 .i32) (harg1 : arg1.IsWhole) (arg2 : Memref sig .tc .smem S3072 .f32) (harg2 : arg2.IsWhole) (arg3 : Memref sig .tc .vmem S3072x768 .fp8e5m2) (harg3 : arg3.IsWhole) (arg4 : Memref sig .tc .vmem S3072x128 .f32) (harg4 : arg4.IsWhole) (arg5 : Memref sig .tc .vmem S768x1536 .fp8e4m3) (harg5 : arg5.IsWhole) (arg6 : Memref sig .tc .vmem S1002x128 .f32) (harg6 : arg6.IsWhole) (arg7 : Memref sig .tc .hbm S3072x1536 .fp8e4m3) (harg7 : arg7.IsWhole) (arg8 : Memref sig .tc .vmem S3072x1 .f32) (harg8 : arg8.IsWhole) (arg9 : Memref sig .tc .hbm S3072x1536 .fp8e5m2) (harg9 : arg9.IsWhole) (arg10 : Memref sig .tc .vmem S768x1536 .f32) (harg10 : arg10.IsWhole) (arg11 : Memref sig .tc .vmem S3072x1536 .f32) (harg11 : arg11.IsWhole) (arg12 : Memref sig .tc .vmem S1536x3072 .bf16) (harg12 : arg12.IsWhole) (arg13 : Memref sig .tc .vmem S3072x128 .bf16) (harg13 : arg13.IsWhole) (arg14 : Memref sig .tc .vmem S768x128 .bf16) (harg14 : arg14.IsWhole) (arg15 : Memref sig .tc .vmem S256x1536 .fp8e4m3) (harg15 : arg15.IsWhole) (arg16 : Memref sig .tc .vmem S32x1536 .fp8e5m2) (harg16 : arg16.IsWhole) (arg17 : Memref sig .tc .vmem S32x1536 .f32) (harg17 : arg17.IsWhole) (arg18 : DmaSems sig S_) (arg19 : Memref sig .tc .smem S1 .i32) (harg19 : arg19.IsWhole)
  (ids : Vec F S3072 .i32) (sc : Vec F S3072 .f32) (e : Vec F S3072x1536 .fp8e5m2) (xq : Vec F S3072x1536 .fp8e4m3)
  (xs : Vec F S3072x1 .f32) (g : Vec F S3072x768 .fp8e5m2) (gs : Vec F S3072x128 .f32) (w : Vec F S768x1536 .fp8e4m3)
  (ws : Vec F S1002x128 .f32)

/-- The operands, which a step only reads. -/
def ins : sProp 𝕄 :=
  iprop(owns (c : Thread nD τ) arg1 q1 ids ∗ owns (c : Thread nD τ) arg2 fullShare sc ∗ owns (c : Thread nD τ) arg3 fullShare g
    ∗ owns (c : Thread nD τ) arg4 fullShare gs ∗ owns (c : Thread nD τ) arg5 fullShare w ∗ owns (c : Thread nD τ) arg6 fullShare ws
    ∗ owns (c : Thread nD τ) arg7 q7 xq ∗ owns (c : Thread nD τ) arg8 fullShare xs ∗ owns (c : Thread nD τ) arg9 q9 e)

/-- The scratch whose contents a step does not carry on, and the copies' semaphore. -/
def tmp : sProp 𝕄 :=
  iprop((∃ Z, owns (c : Thread nD τ) arg13 fullShare Z) ∗ (∃ Z, owns (c : Thread nD τ) arg14 fullShare Z) ∗ (∃ Z, owns (c : Thread nD τ) arg15 fullShare Z)
    ∗ (∃ Z, owns (c : Thread nD τ) arg16 fullShare Z) ∗ semVal ((c : Thread nD τ), SemLoc.dma arg18.sem) 0)

/-- The scratch a step carries on: the transposed activations, the widened gradient rows of the counter's group, the counter. -/
def kept (ok : Prop) (X : Vec F S1536x3072 .bf16) (p : ℕ) : sProp 𝕄 :=
  iprop(owns (c : Thread nD τ) arg12 fullShare X ∗ (∃ Y, ⌜ok → EfOk e p Y⌝ ∗ owns (c : Thread nD τ) arg17 fullShare Y)
    ∗ ∃ P, ⌜ok → P = fun _ => BitVec.ofNat 32 p⌝ ∗ owns (c : Thread nD τ) arg19 fullShare P)

/-- After the passes: the rows gathered are added, the counter is stored, the unit is let go. -/
theorem tail_wp (m : Mxu F) (hD : m.Drained) (D : Vec F S768x1536 .f32) (p : ℕ) (hp : p ≤ 3072)
    (hr : ∀ q : Fin 3072, p ≤ q.val → below ids i q → row ids i q < 768) (Z : Vec F S32x1536 .f32) (hZ : EfOk e p Z) :
    iprop(owns (c : Thread nD τ) arg19 fullShare (fun _ => BitVec.ofNat 32 p) ∗ held c ids e sc q1 q9 arg1 arg9 arg16 arg18 arg17 arg10 arg2 p D)
      ⊢ wp frame (wpE (defs₀ (F := F)) 𝒱₀ (c : Thread nD τ) none) Set.univ
        (Align.tail (F := F) i arg1 harg1 arg2 harg2 arg9 harg9 arg10 harg10 arg16 harg16 arg17 harg17 arg18 arg19 m)
        fun _ => iprop(owns (c : Thread nD τ) arg19 fullShare (fun _ => BitVec.ofNat 32 (go ids e sc i (3072 - p) p D).1)
          ∗ held c ids e sc q1 q9 arg1 arg9 arg16 arg18 arg17 arg10 arg2 (go ids e sc i (3072 - p) p D).1 (go ids e sc i (3072 - p) p D).2) := by
  unfold Align.tail smemLoad smemLoadElt
  simp only [Prog.lift, Prog.bind_op, Prog.bind_ret, Prog.pure_eq_ret]
  iintro ⟨H19, H⟩
  iapply (Own.load (defs₀ (F := F)) 𝒱₀ c none Set.univ (m := arg19)) $$ H19; iintro H19
  iapply (wp_call_spec 𝒱₀ (c : Thread nD τ) none Set.univ
    (While.spec c ids e sc i q1 q9 arg1 arg9 arg16 arg18 arg17 arg10 arg2 (3072 - p) p D) (3072 - p)
    (fun u hu => nomatch hu)
    (While.spec_le c ids e sc i q1 q9 arg1 harg1 arg9 harg9 arg16 harg16 arg18 arg17 harg17 arg10 harg10 arg2 harg2 (3072 - p) p (by omega)
      hr D))
  rw [While.spec_apply]
  isplitl [H]; · iexact H
  iintro %r %hr' H
  iapply (Own.load (defs₀ (F := F)) 𝒱₀ c none Set.univ (m := arg19)) $$ H19; iintro H19
  iapply (Own.store_to (defs₀ (F := F)) 𝒱₀ c none Set.univ (m := arg19) (storeP _ _)) $$ H19; iintro H19
  iapply (Mxu.wp_exit hD)
  rw [wp_ret]; imodintro
  rw [hr']
  isplitl [H19]; · iexact H19
  iexact H

attribute [local irreducible] all Align.tail Align.pre

theorem body_wp (X : Vec F S1536x3072 .bf16) (Y : Vec F S3072x1536 .f32) (p : ℕ) (hp : p ≤ 3072)
    (hr : ∀ q : Fin 3072, pAt i p ≤ q.val → below ids i q → row ids i q < 768) :
    iprop(ins c q1 q7 q9 arg1 arg2 arg3 arg4 arg5 arg6 arg7 arg8 arg9 ids sc e xq xs g gs w ws ∗ tmp (F := F) c arg13 arg14 arg15 arg16 arg18
        ∗ kept c arg12 arg17 arg19 e (¬ k0_cond1 i = 1#1) X p ∗ (∃ D, owns (c : Thread nD τ) arg10 fullShare D) ∗ owns (c : Thread nD τ) arg11 fullShare Y
        ∗ ∃ W, owes (c : Thread nD τ) 0 W)
      ⊢ wp frame (wpE (defs₀ (F := F)) 𝒱₀ (c : Thread nD τ) none) Set.univ (cc0_tied_grad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19)
        fun _ => iprop(ins c q1 q7 q9 arg1 arg2 arg3 arg4 arg5 arg6 arg7 arg8 arg9 ids sc e xq xs g gs w ws ∗ tmp (F := F) c arg13 arg14 arg15 arg16 arg18
          ∗ kept c arg12 arg17 arg19 e True (xIn xq xs i X) (pOut ids sc e xq xs g gs w ws i p X Y)
          ∗ owns (c : Thread nD τ) arg10 fullShare (dOut ids sc e xq xs g gs w ws i p X Y)
          ∗ owns (c : Thread nD τ) arg11 fullShare (env xq xs g gs w ws i X Y).yval ∗ ∃ W, owes (c : Thread nD τ) 0 W) := by
  rw [Align.body_eq]
  show _ ⊢ wp _ _ _ (_ >>= _) _
  rw [wp_bind]
  unfold ins tmp kept
  iintro ⟨⟨H1, H2, H3, H4, H5, H6, H7, H8, H9⟩, ⟨⟨%S, H13⟩, ⟨%T, H14⟩, H15, H16, Hs⟩, ⟨H12, ⟨%Z, %hZ, H17⟩, ⟨%P, %hP, H19⟩⟩, H10, H11, HO⟩
  ihave H := (pre_wp c i q7 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 xq xs gs ws X S T Y P) $$ [H4 H6 H13 H14 H11 H19 H7 H8 H15 H12 Hs HO]
  · unfold heldP heldX
    iframe
  iapply (wp_wand_r frame (wpE (defs₀ (F := F)) 𝒱₀ (c : Thread nD τ) none) Set.univ)
  isplitl [H]; · iexact H
  unfold heldP heldX
  iintro %m ⟨%hm, H4, H6, H13, H14, H11, H19, H7, H8, H15, H12, Hs, HO⟩
  obtain ⟨σ, hσ, hd⟩ := sx_all
  iapply (mid_wp (defs₀ (F := F)) 𝒱₀ c none Set.univ (Align.refs arg3 arg5 arg10 arg11 arg12 arg13 arg14) all σ hσ hd m hm (env xq xs g gs w ws i X Y)) $$ [H3 H5 H12 H13 H14 H10 H11]
  · unfold reads
    isplitl [H3 H5 H12 H13 H14]
    · isplitl [H3]; · iexact H3
      isplitl [H5]; · iexact H5
      isplitl [H12]; · iexact H12
      isplitl [H13]; · iexact H13
      iexact H14
    isplitl [H10]; · iexact H10
    iexact H11
  iintro %s %hD
  unfold reads
  iintro ⟨⟨H3, H5, H12, H13, H14⟩, H10, H11⟩
  have hPin : pIn (F := F) i P = fun _ => BitVec.ofNat 32 (pAt i p) := by
    unfold pIn pAt
    by_cases h1 : k0_cond1 i = 1#1
    · rw [if_pos h1, if_pos h1]
    · rw [if_neg h1, if_neg h1]; exact hP h1
  have hZin : EfOk e (pAt i p) Z := by
    unfold pAt
    by_cases h1 : k0_cond1 i = 1#1
    · rw [if_pos h1]; intro h; exact absurd rfl h
    · rw [if_neg h1]; exact hZ h1
  have hle : pAt i p ≤ 3072 := by unfold pAt; split <;> omega
  rw [hPin]
  iapply (wp_wand_r frame (wpE (defs₀ (F := F)) 𝒱₀ (c : Thread nD τ) none) Set.univ)
  isplitl [H1 H9 H16 H17 H10 H2 Hs HO H19]
  · iapply (tail_wp c i q1 q9 arg1 harg1 arg2 harg2 arg9 harg9 arg10 harg10 arg16 harg16 arg17 harg17 arg18 arg19 ids sc e s.m hD (env xq xs g gs w ws i X Y).dval (pAt i p) hle hr Z hZin)
    isplitl [H19]; · iexact H19
    unfold While.held
    isplitl [H1]; · iexact H1
    isplitl [H9]; · iexact H9
    isplitl [H16]; · iexact H16
    isplitl [H17]
    · iexists Z
      isplitr; · ipureintro; exact hZin
      iexact H17
    isplitl [H10]; · iexact H10
    isplitl [H2]; · iexact H2
    isplitl [Hs]; · iexact Hs
    iexact HO
  unfold While.held
  iintro %u ⟨H19, H1, H9, H16, ⟨%Z', %hZ', H17⟩, H10, H2, Hs, HO⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H13 H14 H15 H16 Hs]
  · isplitl [H13]; · iexists _; iexact H13
    isplitl [H14]; · iexists _; iexact H14
    isplitl [H15]; · iexact H15
    isplitl [H16]; · iexact H16
    iexact Hs
  isplitl [H12 H17 H19]
  · isplitl [H12]; · iexact H12
    isplitl [H17]
    · iexists Z'
      isplitr; · ipureintro; exact fun _ => hZ'
      iexact H17
    · iexists _
      isplitr
      rotate_left
      · iexact H19
      · ipureintro; intro _; rfl
  isplitl [H10]; · iexact H10
  isplitl [H11]; · iexact H11
  iexact HO

end Cert.KernelIdeal.Body

end
-- ==== Proof.Ideal.Ptr.lean ====
/-
  The counter of the additions over the grid's steps, when the identifiers are sorted.
-/
module

public import proofs.«01_k».proof.Proof.Ideal.While

@[expose] public section

noncomputable section

namespace Cert.KernelIdeal.Ptr

open Cert.KernelIdeal Cert.KernelIdeal.While Cert.Idx
open Idealize.ShloMosaic Idealize.ShloMosaic.TcCoe

variable {F : FTy → Type} [FloatOps F] [∀ e, Nonempty (Elt F e)] [Facts]

/-- The identifiers are sorted and not negative. -/
def Sorted (ids : Vec F S3072 .i32) : Prop :=
  (∀ p : Fin 3072, (show BitVec 32 from ids (ix1 p)).toNat < 2 ^ 31)
    ∧ ∀ p q : Fin 3072, p ≤ q → (show BitVec 32 from ids (ix1 p)).toNat ≤ (show BitVec 32 from ids (ix1 q)).toNat

variable (ids : Vec F S3072 .i32) (e : Vec F S3072x1536 .fp8e5m2) (sc : Vec F S3072 .f32) (i : grid0.Coords)

/-- The identifier at `p`. -/
def idN (p : Fin 3072) : ℕ := (show BitVec 32 from ids (ix1 p)).toNat

theorem lo_toNat : (lo i).toNat = 768 * (i 0).val := by
  have h : (i 0).val < 167 := (i 0).isLt
  show ((BitVec.ofNat 32 (i 0).val) * 768#32).toNat = _
  rw [BitVec.toNat_mul, BitVec.toNat_ofNat, BitVec.toNat_ofNat]
  omega

theorem slt_iff (x y : BitVec 32) (hx : x.toNat < 2 ^ 31) (hy : y.toNat < 2 ^ 31) : Scalar.cmpi .slt x y = 1#1 ↔ x.toNat < y.toNat := by
  have h4 : x.slt y = decide (x.toNat < y.toNat) := by
    rw [BitVec.slt, BitVec.toInt_eq_toNat_of_lt (by omega), BitVec.toInt_eq_toNat_of_lt (by omega)]
    simp
  show (BitVec.ofBool (x.slt y)) = 1#1 ↔ _
  rw [h4]
  by_cases h : x.toNat < y.toNat
  · rw [decide_eq_true h]; exact ⟨fun _ => h, fun _ => rfl⟩
  · rw [decide_eq_false h]; exact ⟨fun h' => absurd h' (by decide), fun h' => absurd h' h⟩

theorem hi_toNat : (Scalar.addi (lo i) 768#32).toNat = 768 * ((i 0).val + 1) := by
  have h : (i 0).val < 167 := (i 0).isLt
  show ((lo i) + 768#32).toNat = _
  rw [BitVec.toNat_add, lo_toNat, BitVec.toNat_ofNat]
  omega

theorem below_iff (hs : Sorted ids) (p : Fin 3072) : below (F := F) ids i p ↔ idN ids p < 768 * ((i 0).val + 1) := by
  have h : (i 0).val < 167 := (i 0).isLt
  have h3 := hi_toNat i
  have := slt_iff (ids (ix1 p)) (Scalar.addi (lo i) 768#32) (hs.1 p) (by rw [h3]; omega)
  rw [h3] at this
  exact this

theorem subi_toNat (x y : BitVec 32) (h : y.toNat ≤ x.toNat) : (Scalar.subi x y).toNat = x.toNat - y.toNat := by
  show (x - y).toNat = _
  rw [BitVec.toNat_sub]
  have := x.isLt
  have := y.isLt
  omega

theorem row_eq (hs : Sorted ids) (p : Fin 3072) (h0 : 768 * (i 0).val ≤ idN ids p) : row (F := F) ids i p = idN ids p - 768 * (i 0).val := by
  have h2 := lo_toNat i
  have := subi_toNat (ids (ix1 p)) (lo i) (by rw [h2]; exact h0)
  rw [h2] at this
  exact this

/-- Where the loop stops, entered at `p` with at most `k` trips to run. -/
def stop : ℕ → ℕ → ℕ
  | 0, p => p
  | k + 1, p => if ∃ hp : p < 3072, below (F := F) ids i ⟨p, hp⟩ then stop k (p + 1) else p

theorem go_fst (k p : ℕ) (X : Vec F S768x1536 .f32) : (go ids e sc i k p X).1 = stop ids i k p := by
  induction k generalizing p X with
  | zero => rfl
  | succ k ih =>
    unfold go stop
    split
    · exact ih _ _
    · rfl

/-- Counter `p` parts the identifiers below row `768 n` from the others. -/
def Good (n p : ℕ) : Prop := p ≤ 3072 ∧ ∀ q : Fin 3072, (q.val < p → idN ids q < 768 * n) ∧ (p ≤ q.val → 768 * n ≤ idN ids q)

theorem stop_good (hs : Sorted ids) (k p : ℕ) (hk : k = 3072 - p) (hp : p ≤ 3072) (h : ∀ q : Fin 3072, q.val < p → idN ids q < 768 * ((i 0).val + 1)) :
    Good ids ((i 0).val + 1) (stop ids i k p) := by
  induction k generalizing p with
  | zero => exact ⟨hp, fun q => ⟨h q, fun hq => absurd q.isLt (by
      have : p ≤ q.val := hq
      omega)⟩⟩
  | succ k ih =>
    unfold stop
    split
    · rename_i hb
      obtain ⟨hp', hb⟩ := hb
      refine ih (p + 1) (by omega) (by omega) fun q hq => ?_
      rcases Nat.lt_or_ge q.val p with hlt | hge
      · exact h q hlt
      · have : q = ⟨p, hp'⟩ := Fin.ext (by show q.val = p; omega)
        rw [this]
        exact (below_iff ids i hs _).1 hb
    · rename_i hb
      refine ⟨hp, fun q => ⟨h q, fun hq => ?_⟩⟩
      have hp' : p < 3072 := by omega
      by_contra hlt
      refine hb ⟨hp', (below_iff ids i hs _).2 ?_⟩
      have := hs.2 ⟨p, hp'⟩ q hq
      unfold idN at hlt ⊢
      omega

/-- The counter before step `n`. -/
def P : ℕ → ℕ
  | 0 => 0
  | n + 1 => if h : n < grid0.N then stop ids (grid0.coords ⟨n, h⟩) (3072 - P n) (P n) else P n

theorem coords_val : ∀ t : Fin grid0.N, ((grid0.coords t) 0).val = t.val := by decide +kernel

theorem P_good (hs : Sorted ids) (n : ℕ) (hn : n ≤ grid0.N) : Good ids n (P ids n) := by
  induction n with
  | zero => exact ⟨Nat.zero_le _, fun q => ⟨fun h => absurd h (Nat.not_lt_zero _), fun _ => by omega⟩⟩
  | succ n ih =>
    have ih := ih (by omega)
    unfold P
    rw [dif_pos (by omega : n < grid0.N)]
    have hc := coords_val ⟨n, by omega⟩
    have := stop_good ids (grid0.coords ⟨n, by omega⟩) hs (3072 - P ids n) (P ids n) rfl ih.1 fun q hq => by
      have := (ih.2 q).1 hq
      rw [hc]; show _ < 768 * (n + 1); omega
    rw [hc] at this
    exact this

/-- The rows the loop of step `t` names are rows of the block. -/
theorem row_lt (hs : Sorted ids) (t : Fin grid0.N) (q : Fin 3072) (hq : P ids t.val ≤ q.val) (hb : below (F := F) ids (grid0.coords t) q) :
    row (F := F) ids (grid0.coords t) q < 768 := by
  have hg := P_good ids hs t.val (by omega)
  have hc := coords_val t
  have h0 := (hg.2 q).2 hq
  have h1 := (below_iff ids _ hs q).1 hb
  rw [row_eq ids _ hs q (by rw [hc]; exact h0), hc]
  rw [hc] at h1
  omega

end Cert.KernelIdeal.Ptr

end
-- ==== Proof.Ideal.Region.lean ====
/-
  The kernel's grid loop: what is held between two steps, the obligation of one step, and the launch.
-/
module

public import proofs.«01_k».proof.Proof.Ideal.Body
public import proofs.«01_k».proof.Proof.Ideal.Ptr
public import proofs.«01_k».proof.Proof.Gen.KernelIdeal.Launch
public import Idealize.ShloMosaic.Lib.Pipeline.Frame
public import Idealize.ShloMosaic.Lib.Pipeline.FrameSuffix
public import Idealize.ShloMosaic.Lib.Transfers

@[expose] public section

noncomputable section

namespace Cert.KernelIdeal.Region

open Cert.KernelIdeal Cert.KernelIdeal.Gen Cert.Idx Cert.Own Cert.Mach Cert.KernelIdeal.Fill Cert.KernelIdeal.Pre Cert.KernelIdeal.Body Cert.KernelIdeal.Ptr
open Cert.KernelIdeal.While (𝒱₀ EfOk go below row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ)

/-- What the kernel's call finds: the memory after the reshapes before it. -/
abbrev V₀ (c : Dev nD) : Valuation τ sig (Elt F) := StableHlo.after [hostOps0].flatten (fun b => m (c, b))
/-- The same, at a reference. -/
abbrev V (c : Dev nD) (b : Ref sig .tc) : Buf (Elt F) ((c : Thread nD τ).loc b) := V₀ m c (Proc.devRef .tc b)

/-- The prefetched table's contents. -/
def adm : (pcfg0 (F := F)).Adm := ⟨fun k => m (((0 : Dev nD) : Thread nD τ).loc (pre0.ref k)), trivial⟩

/-- The pipeline at these contents. -/
abbrev cfgA : Pipeline.Cfg sig (Λ₀ F) := cfg0 (adm m)

/-- The identifiers. -/
abbrev ids (c : Dev nD) : Vec F S3072 .i32 := V m c main_arg6
/-- The gradient rows. -/
abbrev eW (c : Dev nD) : Vec F S3072x1536 .fp8e5m2 := V m c main_arg4
/-- The activations. -/
abbrev xqW (c : Dev nD) : Vec F S3072x1536 .fp8e4m3 := V m c main_v2

/-- The blocks a step is handed. -/
abbrev scB (c : Dev nD) (t : Fin grid0.N) : Vec F S3072 .f32 := (((cfgA m).win (0 : Fin 8)).blk t).view.read (Elt F) (V m c main_arg5)
abbrev gB (c : Dev nD) (t : Fin grid0.N) : Vec F S3072x768 .fp8e5m2 := (((cfgA m).win (1 : Fin 8)).blk t).view.read (Elt F) (V m c main_v0)
abbrev gsD (c : Dev nD) (t : Fin grid0.N) (d : Vec F S3072x128 .f32) : Vec F S3072x128 .f32 :=
  ((cfgA m).win (2 : Fin 8)).fill (grid0.coords t) d ((((cfgA m).win (2 : Fin 8)).blk t).view.read (Elt F) (V m c main_v1))
abbrev wB (c : Dev nD) (t : Fin grid0.N) : Vec F S768x1536 .fp8e4m3 := (((cfgA m).win (3 : Fin 8)).blk t).view.read (Elt F) (V m c main_arg7)
abbrev wsB (c : Dev nD) (t : Fin grid0.N) : Vec F S1002x128 .f32 := (((cfgA m).win (4 : Fin 8)).blk t).view.read (Elt F) (V m c main_v4)
abbrev xsB (c : Dev nD) (t : Fin grid0.N) : Vec F S3072x1 .f32 := (((cfgA m).win (5 : Fin 8)).blk t).view.read (Elt F) (V m c main_v3)

/-- Contents of no matter. -/
abbrev any {s : Shape} {e : EltTy} : Vec F s e := fun _ => Classical.arbitrary _

/-- The scales' block as a step finds it, on the part the copies move. -/
abbrev gsB (c : Dev nD) (t : Fin grid0.N) : Vec F S3072x128 .f32 := gsD m c t any

/-- The transposed activations held from the first step on. -/
abbrev XX (c : Dev nD) : Vec F S1536x3072 .bf16 := XT (xqW m c) (xsB m c ⟨0, by decide⟩)

/-- What the passes of step `t` read, the second result's block at `Y`. -/
abbrev envT (c : Dev nD) (t : Fin grid0.N) (Y : Vec F S3072x1536 .f32) : Env F :=
  env (xqW m c) (xsB m c t) (gB m c t) (gsB m c t) (wB m c t) (wsB m c t) (grid0.coords t) (XX m c) Y

/-- The second result's block before step `n`. -/
def Y (c : Dev nD) : ℕ → Vec F S3072x1536 .f32
  | 0 => any
  | n + 1 => if h : n < grid0.N then (envT m c ⟨n, h⟩ (Y c n)).yval else Y c n

/-- The first result's block after step `t`. -/
def D (c : Dev nD) (t : Fin grid0.N) : Vec F S768x1536 .f32 :=
  dOut (ids m c) (scB m c t) (eW m c) (xqW m c) (xsB m c t) (gB m c t) (gsB m c t) (wB m c t) (wsB m c t) (grid0.coords t)
    (P (ids m c) t.val) (XX m c) (Y m c t.val)

theorem Y_succ (c : Dev nD) (t : Fin grid0.N) : Y m c (t.val + 1) = (envT m c t (Y m c t.val)).yval := by
  conv_lhs => unfold Y
  rw [dif_pos t.isLt]

theorem P_succ (x : Vec F S3072 .i32) (t : Fin grid0.N) : P x (t.val + 1) = Ptr.stop x (grid0.coords t) (3072 - P x t.val) (P x t.val) := by
  conv_lhs => unfold P
  rw [dif_pos t.isLt]

theorem cond1_iff : ∀ t : Fin grid0.N, k0_cond1 (grid0.coords t) = 1#1 ↔ t.val = 0 := by decide +kernel

/-- The copies' semaphore, by its number. -/
abbrev osem0 : Fin 1 → SemLoc sig := fun _ => SemLoc.dma 12
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch6.sem) 0 := by
  rw [Pipeline.ownSems0_eq_of_list c osem0 [0] (by decide) (by decide)]; rfl

/-- The arrays the kernel copies from itself. -/
def H0 : Finset (Ref sig .tc) := {main_v2, main_arg4}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(owns (c : Thread nD τ) (Memref.whole main_v2) fullShare (xqW m c) ∗ owns (c : Thread nD τ) (Memref.whole main_arg4) fullShare (eW m c)) := by
  rw [BI.bigSep_eq_bigSepL_of_eq [main_v2, main_arg4] (by decide) (by decide), owns_whole, owns_whole]; rfl

theorem tab_eq (c : Dev nD) :
    (Pipeline.ΦT (U := Pipeline.UD sig nD τ) pre0 (adm m).1 c : sProp 𝕄) = owns (c : Thread nD τ) (Memref.whole main_arg6) fullShare.right (ids m c) := by
  obtain rfl : c = 0 := Subsingleton.elim _ _
  unfold Pipeline.ΦT Pipeline.prefHeld
  rw [show (Finset.univ : Finset (Fin 1)) = {0} from by decide, bigSep_singleton, owns_whole]
  rfl

/-- What is held before step `n`. -/
def Phi (c : Dev nD) (n : ℕ) : sProp 𝕄 :=
  iprop((∃ X, ⌜n ≠ 0 → X = XX m c⌝ ∗ kept (F := F) c (Memref.whole cc0_scratch0) (Memref.whole cc0_scratch5) (Memref.whole cc0_scratch7) (eW m c) (n ≠ 0) X (P (ids m c) n))
    ∗ tmp (F := F) c (Memref.whole cc0_scratch1) (Memref.whole cc0_scratch2) (Memref.whole cc0_scratch3) (Memref.whole cc0_scratch4) cc0_scratch6
    ∗ (∃ r, prngReg c r)
    ∗ (owns (c : Thread nD τ) (Memref.whole main_v2) fullShare (xqW m c) ∗ owns (c : Thread nD τ) (Memref.whole main_arg4) fullShare (eW m c))
    ∗ owns (c : Thread nD τ) (Memref.whole main_arg6) fullShare.right (ids m c))

/-- The proof data of the call on core `c`. -/
def dats (_ : Fin 1) (c : Dev nD) : Dat τ (Elt F) Unit ℕ (Pipeline.UD sig nD τ) ℕ (cfgA m) c where
  A w := V m c (Pipeline.arrRef spec0 w)
  after w t := match w with
    | ⟨0, _⟩ => scB m c t
    | ⟨1, _⟩ => gB m c t
    | ⟨2, _⟩ => gsB m c t
    | ⟨3, _⟩ => wB m c t
    | ⟨4, _⟩ => wsB m c t
    | ⟨5, _⟩ => xsB m c t
    | ⟨6, _⟩ => D m c t
    | ⟨7, _⟩ => Y m c (t.val + 1)
    | ⟨n + 8, h⟩ => absurd h (Nat.not_lt.2 (Nat.le_add_left _ _))
  Φ t := Phi m c t.val
  q _ := fullShare
  owed _ := 0

theorem A_eq (c : Dev nD) (w : Fin (cfgA m).W) : (dats m 0 c).A w = V₀ m c (Proc.devRef .tc (Pipeline.arrRef spec0 w)) := by dsimp only [dats]

/-- The body at step `t`, on what the pipeline hands it. -/
abbrev bodyAt0 (t : Fin grid0.N) : Prog (TpuEff nD τ sig (Elt F) (Λ₀ F) .tc) PUnit :=
  cc0_tied_grad (grid0.coords t) (Memref.whole main_arg6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (Memref.whole main_v2) (Memref.isWhole_whole _) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _)

theorem defs₀_row (t : Fin (cfgA m).N) : defs₀ (F := F) .tc (cfgA m).body ((cfgA m).bodyArgs t ((cfgA m).slots t)) = bodyAt0 m t := by
  unfold defs₀; rw [Defs.onTc_tc]

/-! ## What each window's buffer holds as a step finds it -/

theorem before_0 (c : Dev nD) (t : Fin (cfgA m).N) (d) : (dats m 0 c).before (0 : Fin 8) t d = scB m c t :=
  ((dats m 0 c).before_in_eq_fetched (0 : Fin 8) rfl (fun _ => rfl) (fun _ _ _ => rfl) (fun _ => rfl) t d).trans rfl
theorem before_1 (c : Dev nD) (t : Fin (cfgA m).N) (d) : (dats m 0 c).before (1 : Fin 8) t d = gB m c t :=
  ((dats m 0 c).before_in_eq_fetched (1 : Fin 8) rfl (fun _ => rfl) (fun _ _ _ => rfl) (fun _ => rfl) t d).trans rfl
theorem clip_2 (t t' : Fin (cfgA m).N) (h : ((cfgA m).win (2 : Fin 8)).index t = ((cfgA m).win (2 : Fin 8)).index t') :
    ((cfgA m).win (2 : Fin 8)).clip ((cfgA m).grid.coords t) = ((cfgA m).win (2 : Fin 8)).clip ((cfgA m).grid.coords t') := by
  have h' : cc0_transform_2 (grid0.coords t) = cc0_transform_2 (grid0.coords t') := h
  show (fun a => Pipeline.Clip.of (cc0_transform_2 (grid0.coords t) a) (S3072x128.size a) (S3072x167.size a)) = fun a => Pipeline.Clip.of (cc0_transform_2 (grid0.coords t') a) (S3072x128.size a) (S3072x167.size a)
  rw [h']
theorem before_2 (c : Dev nD) (t : Fin (cfgA m).N) (d) : (dats m 0 c).before (2 : Fin 8) t d = gsD m c t d :=
  ((dats m 0 c).before_in_eq_fetched (2 : Fin 8) rfl (fun _ => rfl) (clip_2 m) (fun t => by
    dsimp only [dats]
    exact Pipeline.Window.cut_fill _ _ _ _) t d).trans rfl
theorem before_3 (c : Dev nD) (t : Fin (cfgA m).N) (d) : (dats m 0 c).before (3 : Fin 8) t d = wB m c t :=
  ((dats m 0 c).before_in_eq_fetched (3 : Fin 8) rfl (fun _ => rfl) (fun _ _ _ => rfl) (fun _ => rfl) t d).trans rfl
theorem before_4 (c : Dev nD) (t : Fin (cfgA m).N) (d) : (dats m 0 c).before (4 : Fin 8) t d = wsB m c t :=
  ((dats m 0 c).before_in_eq_fetched (4 : Fin 8) rfl (fun _ => rfl) (fun _ _ _ => rfl) (fun _ => rfl) t d).trans rfl
theorem before_5 (c : Dev nD) (t : Fin (cfgA m).N) (d) : (dats m 0 c).before (5 : Fin 8) t d = xsB m c t :=
  ((dats m 0 c).before_in_eq_fetched (5 : Fin 8) rfl (fun _ => rfl) (fun _ _ _ => rfl) (fun _ => rfl) t d).trans rfl

theorem flush_7 (t : Fin (cfgA m).N) (h : t.val + 1 ≠ grid0.N) : ((cfgA m).win (7 : Fin 8)).flush t = false := by
  unfold Pipeline.Window.flush
  rw [decide_eq_false (by exact h), decide_eq_false (by rintro ⟨_, h⟩; exact h rfl)]
  rfl

theorem before_7 (c : Dev nD) (t : Fin (cfgA m).N) (ht : t.val ≠ 0) (d) : (dats m 0 c).before (7 : Fin 8) t d = Y m c t.val := by
  rw [(dats m 0 c).before_out_kept (7 : Fin 8) rfl t ht (flush_7 m _ (by
    have : t.val < grid0.N := t.isLt
    show t.val - 1 + 1 ≠ grid0.N
    omega)) (fun _ => rfl) (fun _ _ => rfl) d]
  dsimp only [dats]
  show Y m c (t.val - 1 + 1) = _
  congr 1
  omega

/-- The first step overwrites the second result's block, so what it found there does not matter. -/
theorem yIn_any (t : Fin grid0.N) (A B : Vec F S3072x1536 .f32) (h : t.val ≠ 0 → A = B) : yIn (grid0.coords t) A = yIn (grid0.coords t) B := by
  by_cases h0 : t.val = 0
  · unfold yIn; rw [if_pos ((cond1_iff t).2 h0), if_pos ((cond1_iff t).2 h0)]
  · rw [h h0]

/-- The transposed activations after the first block of a step. -/
theorem xIn_eq (c : Dev nD) (t : Fin grid0.N) (X : Vec F S1536x3072 .bf16) (h : t.val ≠ 0 → X = XX m c) :
    xIn (xqW m c) (xsB m c t) (grid0.coords t) X = XX m c := by
  by_cases h0 : t.val = 0
  · unfold xIn; rw [if_pos ((cond1_iff t).2 h0)]
    obtain rfl : t = ⟨0, by decide⟩ := Fin.ext h0
    rfl
  · unfold xIn; rw [if_neg (fun h' => h0 ((cond1_iff t).1 h')), h h0]

theorem ext_2 : ∀ t : Fin grid0.N, ((grid0.coords t) 0).val % 128 < (clip0_2 (grid0.coords t) 1).extent 128 ∧ 3072 ≤ (clip0_2 (grid0.coords t) 0).extent 3072 := by
  decide +kernel

/-- The column of scales a step takes lies in the part of the block the copy moved. -/
theorem GS_any (c : Dev nD) (t : Fin grid0.N) (d d' : Vec F S3072x128 .f32) : GS (grid0.coords t) (gsD m c t d) = GS (grid0.coords t) (gsD m c t d') := by
  funext b
  show FloatOps.truncf _ _ (((cfgA m).win (2 : Fin 8)).fill _ d _ _) = FloatOps.truncf _ _ (((cfgA m).win (2 : Fin 8)).fill _ d' _ _)
  have hm : ∀ j : S3072x128.Idx, (j 1).val = ((grid0.coords t) 0).val % 128 → ((cfgA m).win (2 : Fin 8)).moved (grid0.coords t) j = true := fun j hj =>
    (((cfgA m).win (2 : Fin 8)).moved_iff _ _).mpr (by
      intro a
      match a with
      | ⟨0, _⟩ => exact Nat.lt_of_lt_of_le (j 0).isLt (ext_2 t).2
      | ⟨1, _⟩ => exact hj.trans_lt (ext_2 t).1)
  unfold Pipeline.Window.fill
  rw [dif_pos (hm _ rfl), dif_pos (hm _ rfl)]

theorem env_any (c : Dev nD) (t : Fin grid0.N) (d : Vec F S3072x128 .f32) (X : Vec F S1536x3072 .bf16) (A : Vec F S3072x1536 .f32)
    (hX : t.val ≠ 0 → X = XX m c) (hA : t.val ≠ 0 → A = Y m c t.val) :
    env (xqW m c) (xsB m c t) (gB m c t) (gsD m c t d) (wB m c t) (wsB m c t) (grid0.coords t) X A = envT m c t (Y m c t.val) := by
  unfold envT env
  rw [xIn_eq m c t X hX, xIn_eq m c t (XX m c) (fun _ => rfl), yIn_any t A _ hA, GS_any m c t d any]

theorem pAt_eq (c : Dev nD) (t : Fin grid0.N) : pAt (grid0.coords t) (P (ids m c) t.val) = P (ids m c) t.val := by
  unfold pAt
  split
  · rename_i h; rw [(cond1_iff t).1 h]; rfl
  · rfl

theorem pOut_eq (c : Dev nD) (t : Fin grid0.N) (gs : Vec F S3072x128 .f32) (X : Vec F S1536x3072 .bf16) (A : Vec F S3072x1536 .f32) :
    pOut (ids m c) (scB m c t) (eW m c) (xqW m c) (xsB m c t) (gB m c t) gs (wB m c t) (wsB m c t) (grid0.coords t) (P (ids m c) t.val) X A
      = P (ids m c) (t.val + 1) := by
  unfold pOut
  rw [pAt_eq, go_fst, P_succ]

theorem dOut_eq (c : Dev nD) (t : Fin grid0.N) (d : Vec F S3072x128 .f32) (X : Vec F S1536x3072 .bf16) (A : Vec F S3072x1536 .f32)
    (hX : t.val ≠ 0 → X = XX m c) (hA : t.val ≠ 0 → A = Y m c t.val) :
    dOut (ids m c) (scB m c t) (eW m c) (xqW m c) (xsB m c t) (gB m c t) (gsD m c t d) (wB m c t) (wsB m c t) (grid0.coords t) (P (ids m c) t.val) X A
      = D m c t := by
  unfold D dOut
  rw [env_any m c t d X A hX hA, env_any m c t any (XX m c) (Y m c t.val) (fun _ => rfl) (fun _ => rfl)]

theorem kept_mono (c : Dev nD) (a12 : Memref sig .tc .vmem S1536x3072 .bf16) (a17 : Memref sig .tc .vmem S32x1536 .f32) (a19 : Memref sig .tc .smem S1 .i32)
    (e : Vec F S3072x1536 .fp8e5m2) (ok ok' : Prop) (h : ok' → ok) (X : Vec F S1536x3072 .bf16) (p : ℕ) :
    kept (F := F) c a12 a17 a19 e ok X p ⊢ kept (F := F) c a12 a17 a19 e ok' X p := by
  unfold kept
  iintro ⟨H1, ⟨%Z, %hZ, H2⟩, ⟨%Q, %hQ, H3⟩⟩
  isplitl [H1]; · iexact H1
  isplitl [H2]
  · iexists Z; isplitr; · ipureintro; exact fun o => hZ (h o)
    iexact H2
  iexists Q; isplitr; · ipureintro; exact fun o => hQ (h o)
  iexact H3

/-- One step: from what is held before it and the windows' buffers, to what is held after it. -/
theorem sound_body (hs : ∀ c, Sorted (ids m c)) (c : Dev nD) (t : Fin (cfgA m).N) :
    iprop(Phi m c t.val ∗ (∃ W, owes (c : Thread nD τ) 0 W)
        ∗ (∃ d, owns (c : Thread nD τ) (spec0_0.stage ((cfgA m).slots t 0)) fullShare ((dats m 0 c).before (0 : Fin 8) t d))
        ∗ (∃ d, owns (c : Thread nD τ) (spec0_1.stage ((cfgA m).slots t 1)) fullShare ((dats m 0 c).before (1 : Fin 8) t d))
        ∗ (∃ d, owns (c : Thread nD τ) (spec0_2.stage ((cfgA m).slots t 2)) fullShare ((dats m 0 c).before (2 : Fin 8) t d))
        ∗ (∃ d, owns (c : Thread nD τ) (spec0_3.stage ((cfgA m).slots t 3)) fullShare ((dats m 0 c).before (3 : Fin 8) t d))
        ∗ (∃ d, owns (c : Thread nD τ) (spec0_4.stage ((cfgA m).slots t 4)) fullShare ((dats m 0 c).before (4 : Fin 8) t d))
        ∗ (∃ d, owns (c : Thread nD τ) (spec0_5.stage ((cfgA m).slots t 5)) fullShare ((dats m 0 c).before (5 : Fin 8) t d))
        ∗ (∃ d, owns (c : Thread nD τ) (spec0_6.stage ((cfgA m).slots t 6)) fullShare ((dats m 0 c).before (6 : Fin 8) t d))
        ∗ (∃ d, owns (c : Thread nD τ) (spec0_7.stage ((cfgA m).slots t 7)) fullShare ((dats m 0 c).before (7 : Fin 8) t d)))
      ⊢ wp frame (wpE (defs₀ (F := F)) 𝒱₀ (c : Thread nD τ) none) Set.univ (bodyAt0 m t) fun _ =>
        iprop(Phi m c (t.val + 1) ∗ (∃ W, owes (c : Thread nD τ) 0 W)
        ∗ owns (c : Thread nD τ) (spec0_0.stage ((cfgA m).slots t 0)) fullShare (scB m c t)
        ∗ owns (c : Thread nD τ) (spec0_1.stage ((cfgA m).slots t 1)) fullShare (gB m c t)
        ∗ (∃ d, owns (c : Thread nD τ) (spec0_2.stage ((cfgA m).slots t 2)) fullShare (gsD m c t d))
        ∗ owns (c : Thread nD τ) (spec0_3.stage ((cfgA m).slots t 3)) fullShare (wB m c t)
        ∗ owns (c : Thread nD τ) (spec0_4.stage ((cfgA m).slots t 4)) fullShare (wsB m c t)
        ∗ owns (c : Thread nD τ) (spec0_5.stage ((cfgA m).slots t 5)) fullShare (xsB m c t)
        ∗ owns (c : Thread nD τ) (spec0_6.stage ((cfgA m).slots t 6)) fullShare (D m c t)
        ∗ owns (c : Thread nD τ) (spec0_7.stage ((cfgA m).slots t 7)) fullShare (Y m c (t.val + 1))) := by
  have hg := P_good (ids m c) (hs c) t.val (Nat.le_of_lt t.isLt)
  have hr : ∀ q : Fin 3072, pAt (grid0.coords t) (P (ids m c) t.val) ≤ q.val → below (F := F) (ids m c) (grid0.coords t) q → row (F := F) (ids m c) (grid0.coords t) q < 768 :=
    fun q hq hb => row_lt (ids m c) (hs c) t q (by rw [pAt_eq] at hq; exact hq) hb
  simp only [before_0, before_1, before_2, before_3, before_4, before_5]
  unfold Phi
  iintro ⟨⟨⟨%X, %hX, HK⟩, HT, Hp, ⟨Hq, He⟩, Hi⟩, HO, ⟨%d0, H0⟩, ⟨%d1, H1⟩, ⟨%d2, H2⟩, ⟨%d3, H3⟩, ⟨%d4, H4⟩, ⟨%d5, H5⟩, ⟨%d6, H6⟩, ⟨%d7, H7⟩⟩
  have hA : t.val ≠ 0 → (dats m 0 c).before (7 : Fin 8) t d7 = Y m c t.val := fun h => before_7 m c t h d7
  generalize (dats m 0 c).before (7 : Fin 8) t d7 = A at hA
  ihave HK := (kept_mono c (Memref.whole cc0_scratch0) (Memref.whole cc0_scratch5) (Memref.whole cc0_scratch7) (eW m c) (t.val ≠ 0) (¬ k0_cond1 (grid0.coords t) = 1#1)
    (fun h h0 => h ((cond1_iff t).2 h0)) X (P (ids m c) t.val)) $$ HK
  iapply (wp_wand_r frame (wpE (defs₀ (F := F)) 𝒱₀ (c : Thread nD τ) none) Set.univ)
  isplitr [Hp]
  · iapply (body_wp (F := F) c (grid0.coords t) fullShare.right fullShare fullShare (Memref.whole main_arg6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (Memref.whole main_v2) (Memref.isWhole_whole _) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _) (ids m c) (scB m c t) (eW m c) (xqW m c) (xsB m c t) (gB m c t) (gsD m c t d2) (wB m c t) (wsB m c t) X A (P (ids m c) t.val) hg.1 hr)
    unfold ins
    isplitl [Hi H0 H1 H2 H3 H4 Hq H5 He]; · iframe
    isplitl [HT]; · iexact HT
    isplitl [HK]; · iexact HK
    isplitl [H6]; · iexists _; iexact H6
    isplitl [H7]; · iexact H7
    iexact HO
  unfold ins
  iintro %_ ⟨⟨Hi, H0, H1, H2, H3, H4, Hq, H5, He⟩, HT, HK, H6, H7, HO⟩
  rw [pOut_eq m c t, dOut_eq m c t d2 X A hX hA, env_any m c t d2 X A hX hA, xIn_eq m c t X hX, ← Y_succ m c t]
  isplitl [HK HT Hp Hq He Hi]
  · isplitl [HK]
    · iexists XX m c; isplitr; · ipureintro; exact fun _ => rfl
      iapply (kept_mono c (Memref.whole cc0_scratch0) (Memref.whole cc0_scratch5) (Memref.whole cc0_scratch7) (eW m c) True (t.val + 1 ≠ 0) (fun _ => trivial))
      iexact HK
    isplitl [HT]; · iexact HT
    isplitl [Hp]; · iexact Hp
    isplitl [Hq He]; · iframe
    iexact Hi
  isplitl [HO]; · iexact HO
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  iexact H7

theorem owesAt_out (c : Dev nD) (n : Fin ((cfgA m).N + 1)) : ((dats m 0 c).owesAt () n : sProp 𝕄) ⊢ iprop(∃ W, owes (c : Thread nD τ) 0 W) := by
  unfold Dat.owesAt Pipeline.owesWithin
  rw [show (dats m 0 c).owed n = 0 from rfl]
  iintro ⟨%W, %_, H⟩
  iexists W; iexact H
theorem owesAt_in (c : Dev nD) (n : Fin ((cfgA m).N + 1)) : iprop(∃ W, owes (c : Thread nD τ) 0 W) ⊢ ((dats m 0 c).owesAt () n : sProp 𝕄) := by
  unfold Dat.owesAt Pipeline.owesWithin
  rw [show (dats m 0 c).owed n = 0 from rfl]
  iintro ⟨%W, H⟩
  iexists W
  isplitr; · ipureintro; exact fun _ _ => Or.inl trivial
  iexact H

/-- The scales' block is left as it was found. -/
theorem leaves_2 (c : Dev nD) (t : Fin (cfgA m).N) :
    iprop(∃ d, owns (c : Thread nD τ) (spec0_2.stage ((cfgA m).slots t 2)) fullShare (gsD m c t d))
      ⊢ (iprop(∃ d, owns (c : Thread nD τ) (((cfgA m).win (2 : Fin 8)).stage ((cfgA m).slots t (2 : Fin 8))) fullShare
          (((cfgA m).win (2 : Fin 8)).fill ((cfgA m).grid.coords t) d (((cfgA m).win (2 : Fin 8)).cut ((cfgA m).grid.coords t) ((dats m 0 c).after (2 : Fin 8) t)))) : sProp 𝕄) := by
  iintro ⟨%d, H⟩
  iexists d
  rw [show ((cfgA m).win (2 : Fin 8)).cut ((cfgA m).grid.coords t) ((dats m 0 c).after (2 : Fin 8) t)
    = (((cfgA m).win (2 : Fin 8)).blk t).view.read (Elt F) (V m c main_v1) from by
      dsimp only [dats]
      exact Pipeline.Window.cut_fill _ _ _ _]
  iexact H

theorem body_obligation (hs : ∀ c, Sorted (ids m c)) (c : Dev nD) :
    BodyObligationLoose (dats m 0 c) (defs₀ (F := F)) 𝒱₀ () Set.univ := fun t => by
  rw [bigSep_W0, bigSep_W0, defs₀_row]
  refine triple_restated (sound_body m hs c t) rfl ?_ fun _ => ?_
  · show iprop(Phi m c t.val ∗ (dats m 0 c).owesAt () t.castSucc ∗ _) ⊢ _
    iintro ⟨H, HO, HW⟩
    ihave HO := (owesAt_out m c t.castSucc) $$ HO
    isplitl [H]; · iexact H
    isplitl [HO]; · iexact HO
    iexact HW
  · show _ ⊢ iprop(Phi m c (t.val + 1) ∗ (dats m 0 c).owesAt () t.succ ∗ _ ∗ _ ∗ _ ∗ _ ∗ _ ∗ _ ∗ _ ∗ _)
    iintro ⟨H, HO, H0, H1, H2, H3, H4, H5, H6, H7⟩
    ihave HO := (owesAt_in m c t.succ) $$ HO
    ihave H2 := (leaves_2 m c t) $$ H2
    isplitl [H]; · iexact H
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The launch -/

theorem hin (c : Dev nD) : iprop(Pipeline.ΦD (Val := Elt F) osem0 spec0 H0 (fun c b => V₀ m c (Proc.devRef .tc b)) c ∗ Pipeline.ΦT (U := Pipeline.UD sig nD τ) pre0 (adm m).1 c)
    ⊢ ((dats m 0 c).Φ 0 : sProp 𝕄) := by
  show _ ⊢ Phi m c 0
  rw [Pipeline.ΦD_eq, scopedRest0_eq, ownSems00_eq, hbmPts0_eq, tab_eq]
  unfold Phi kept tmp
  iintro ⟨⟨⟨⟨%f0, H0⟩, ⟨%f1, H1⟩, ⟨%f2, H2⟩, ⟨%f3, H3⟩, ⟨%f4, H4⟩, ⟨%f5, H5⟩, ⟨%f7, H7⟩⟩, Hp, Hs, Hh⟩, Hi⟩
  simp only [owns_whole]
  isplitl [H0 H5 H7]
  · iexists f0; isplitr; · ipureintro; exact fun h => absurd rfl h
    isplitl [H0]; · iexact H0
    isplitl [H5]
    · iexists f5; isplitr; · ipureintro; exact fun h => absurd rfl h
      iexact H5
    iexists f7; isplitr; · ipureintro; exact fun h => absurd rfl h
    iexact H7
  isplitl [H1 H2 H3 H4 Hs]
  · isplitl [H1]; · iexists f1; iexact H1
    isplitl [H2]; · iexists f2; iexact H2
    isplitl [H3]; · iexists f3; iexact H3
    isplitl [H4]; · iexists f4; iexact H4
    iexact Hs
  isplitl [Hp]; · iexact Hp
  isplitl [Hh]; · iexact Hh
  iexact Hi

theorem hout (c : Dev nD) : ((dats m 0 c).Φ (Fin.last (cfgA m).N) : sProp 𝕄)
    ⊢ Pipeline.ΦD (Val := Elt F) osem0 spec0 H0 (fun c b => V₀ m c (Proc.devRef .tc b)) c := by
  show Phi m c grid0.N ⊢ _
  rw [Pipeline.ΦD_eq, scopedRest0_eq, ownSems00_eq, hbmPts0_eq]
  unfold Phi kept tmp
  iintro ⟨⟨%f0, %_, H0, ⟨%f5, %_, H5⟩, ⟨%f7, %_, H7⟩⟩, ⟨⟨%f1, H1⟩, ⟨%f2, H2⟩, ⟨%f3, H3⟩, ⟨%f4, H4⟩, Hs⟩, Hp, Hh, Hi⟩
  simp only [owns_whole]
  isplitl [H0 H1 H2 H3 H4 H5 H7]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists f7; iexact H7
  isplitl [Hp]; · iexact Hp
  isplitl [Hs]; · iexact Hs
  iexact Hh

theorem hmain : Pipeline.HMainPK (Ix := Unit) (Name := ℕ) (U := Pipeline.UD sig nD τ) (Lvl := ℕ) (pcfgs (F := F)) 0 defs₀ 𝒱₀ m main
    (fun c b => V₀ m c (Proc.devRef .tc b)) (fun _ => Pipeline.chain ([hostOps1].map StableHlo.seq)) :=
  Pipeline.hmainP_around pcfgs 0 defs₀ 𝒱₀ m main [hostOps0] [hostOps1] hostOps0_sub ⟨rfl, rfl, rfl, rfl, rfl⟩
    fun c => (main_chain c).trans rfl

theorem hpf (c : Dev nD) (k : Fin 1) : V₀ m c (Proc.devRef .tc (pre0.ref k)) = (adm m).1 k := by
  obtain rfl : c = 0 := Subsingleton.elim _ _
  obtain rfl : k = 0 := Subsingleton.elim _ _
  rfl

theorem tail_sub : ({Proc.devRef .tc main_v5_1, Proc.devRef .tc main_v6} : Finset (DevRef τ sig)) ⊆ Pipeline.tailRefsBut sig pre0 spec0 H0 := by decide
theorem tail_keep : ∀ w : Fin 8, Proc.devRef .tc (Pipeline.arrRef spec0 w) ∉ ({Proc.devRef .tc main_v6} : Finset (DevRef τ sig)) := by decide

set_option backward.isDefEq.respectTransparency.types false in
/-- Every run of the program from a memory whose identifiers are sorted ends, the semaphores at zero, the call's arrays
    as the steps leave them, every other array as the host's lines leave it. -/
theorem run_main (hs : ∀ c, Sorted (ids m c)) (ρ : Dev nD → PrngReg) :
    θ_run defs (onTc (τ := τ) (main (F := F))) (s₀ m ρ)
      (fun r => Pipeline.FramePost (Pipeline.pin pcfgs fun _ => adm m) (dats m) 0 (Pipeline.afterTail pcfgs (fun _ => adm m) (dats m) 0 (V₀ m) [hostOps1]) r
        ∧ r.2.sem = fun _ => 0) :=
  Pipeline.θ_run_frameP_dma_around (Q' := _) pcfgs (fun _ => adm m) (dats m) (0 : Fin 1) launch0 osem0 defs₀ 𝒱₀ ownSemFacts0 H0 H0_sub m ρ main
    (hbody := body_obligation m hs) (hshare := fun c => (dats m 0 c).share_full fun _ => rfl) (howed := fun _ _ => rfl)
    (V₀ := V₀ m) (opss := [hostOps1])
    (hsub := fun ops ho op h => by
      obtain rfl := List.mem_singleton.1 ho
      obtain rfl := List.mem_singleton.1 h
      exact tail_sub)
    (hfresh := fun ops ho op h => by
      obtain rfl := List.mem_singleton.1 ho
      obtain rfl := List.mem_singleton.1 h
      rfl)
    (hkeep := fun ops ho op h => by
      obtain rfl := List.mem_singleton.1 ho
      obtain rfl := List.mem_singleton.1 h
      exact tail_keep)
    (hmain := hmain m) (hA := A_eq m) (hpf := hpf m) (hin := hin m) (hout := hout m)

/-- An array no reshape writes is what the launch held. -/
theorem V_arg (c : Dev nD) (b : Ref sig .tc) (hb : b ∉ [main_v0, main_v1, main_v2, main_v3, main_v4]) : V m c b = m ((c : Thread nD τ).loc b) :=
  StableHlo.after_of_writes_sub (W := [main_v0, main_v1, main_v2, main_v3, main_v4]) _ _
    ⟨(by decide : ({Proc.devRef .tc main_v0} : Finset (DevRef τ sig)) ⊆ _), (by decide : ({Proc.devRef .tc main_v1} : Finset (DevRef τ sig)) ⊆ _),
      (by decide : ({Proc.devRef .tc main_v2} : Finset (DevRef τ sig)) ⊆ _), (by decide : ({Proc.devRef .tc main_v3} : Finset (DevRef τ sig)) ⊆ _),
      (by decide : ({Proc.devRef .tc main_v4} : Finset (DevRef τ sig)) ⊆ _)⟩ hb

/-- An array that is neither the call's nor the last reshape's is what the call found. -/
theorem tail_arg (c : Dev nD) (b : Ref sig .tc) (hb : b ∉ [main_v6]) (hw : ∀ w, Pipeline.arrRef spec0 w ≠ b) :
    Pipeline.afterTail pcfgs (fun _ => adm m) (dats m) 0 (V₀ m) [hostOps1] c b = V m c b :=
  (StableHlo.after_of_writes_sub (W := [main_v6]) _ _ (by decide : ({Proc.devRef .tc main_v6} : Finset (DevRef τ sig)) ⊆ _) hb).trans
    (Pipeline.withArrays_of_ne spec0 c (V₀ m c) _ b hw)

/-- The second result, reshaped. -/
theorem tail_v6 (c : Dev nD) :
    Pipeline.afterTail pcfgs (fun _ => adm m) (dats m) 0 (V₀ m) [hostOps1] c main_v6
      = shapeCast S3x1024x1536 (show Vec F S3072x1536 .f32 from (dats m 0 c).arrAt (7 : Fin 8) (cfgA m).N) shapeCasts_S3072x1536_S3x1024x1536 := by
  unfold Pipeline.afterTail
  rw [show [hostOps1 (F := F)].flatten = hostOps1 from rfl, StableHlo.after_cons, StableHlo.after_nil, StableHlo.reshape_result]
  have h := Pipeline.withArrays_arr spec0 winFacts0.arr_inj c (V₀ m c) (fun w => (dats m 0 c).arrAt w (cfgA m).N) (7 : Fin 8)
  funext i
  exact congrArg (fun X : Vec F S3072x1536 .f32 => shapeCast S3x1024x1536 X shapeCasts_S3072x1536_S3x1024x1536 i) h

/-- What the program's runs leave: the arguments as they were, the two results as the steps leave them. -/
theorem run_frame (hs : ∀ c, Sorted (ids m c)) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
      ∧ (∀ c : Dev nD, r.2.mem ((c : Thread nD τ).loc main_v5_0) = (dats m 0 c).arrAt (6 : Fin 8) (cfgA m).N
        ∧ r.2.mem ((c : Thread nD τ).loc main_v6)
          = shapeCast S3x1024x1536 (show Vec F S3072x1536 .f32 from (dats m 0 c).arrAt (7 : Fin 8) (cfgA m).N) shapeCasts_S3072x1536_S3x1024x1536)
      ∧ r.2.sem = fun _ => 0) := by
  refine (θ_run defs (onTc (τ := τ) (main (F := F))) (s₀ m ρ)).mono (fun r h => ?_) (run_main m hs ρ)
  obtain ⟨h, hsem⟩ := h
  have hw6 : ∀ w : Fin 8, Pipeline.arrRef spec0 w ≠ main_v6 := by decide
  have ha : ∀ (c : Dev nD) (b : Ref sig .tc), b ∉ [main_v6] → (∀ w, Pipeline.arrRef spec0 w ≠ b) → b.isScoped = false → b ∉ [main_v0, main_v1, main_v2, main_v3, main_v4] →
      r.2.mem ((c : Thread nD τ).loc b) = m ((c : Thread nD τ).loc b) := fun c b h6 hw hsc h0 =>
    ((h c).2 b (Pipeline.mem_restRefs_of b hsc hw)).trans ((tail_arg m c b h6 hw).trans (V_arg m c b h0))
  refine ⟨fun c => ⟨ha c _ (by decide) (by decide) (by decide) (by decide), ha c _ (by decide) (by decide) (by decide) (by decide),
    ha c _ (by decide) (by decide) (by decide) (by decide), ha c _ (by decide) (by decide) (by decide) (by decide),
    ha c _ (by decide) (by decide) (by decide) (by decide), ?_, ha c _ (by decide) (by decide) (by decide) (by decide), ?_,
    ha c _ (by decide) (by decide) (by decide) (by decide)⟩, fun c => ⟨(h c).1 (6 : Fin 8), ?_⟩, hsem⟩
  · exact ((h c).1 (0 : Fin 8)).trans (((dats m 0 c).arrAt_in (0 : Fin 8) rfl _).trans ((A_eq m c (0 : Fin 8)).trans (V_arg m c main_arg5 (by decide))))
  · exact ((h c).1 (3 : Fin 8)).trans (((dats m 0 c).arrAt_in (3 : Fin 8) rfl _).trans ((A_eq m c (3 : Fin 8)).trans (V_arg m c main_arg7 (by decide))))
  · exact ((h c).2 main_v6 (Pipeline.mem_restRefs_of main_v6 (by decide) hw6)).trans (tail_v6 m c)

end Cert.KernelIdeal.Region

end
-- ==== Proof.Sums.lean ====
/-
  Sums over blocks, and what the passes of the matrix unit add up to where arithmetic is exact.
-/
module

public import proofs.«01_k».proof.Proof.Out
public import Idealize.ShloMosaic.PureOps.Ideal
public import Idealize.ShloMosaic.PureOps.Ideal.Laws
public import Idealize.ShloMosaic.Lib.MatmulPlain

@[expose] public section

noncomputable section

namespace Cert.Sums

open Idealize.ShloMosaic Cert.Mach Cert.Idx

/-- A sum over `n` blocks of `m` is the sum over all `n * m`. -/
theorem sum_blocks {M : Type*} [AddCommMonoid M] (n m N : ℕ) (h : n * m = N) (f : Fin N → M)
    (hlt : ∀ (p : Fin n) (k : Fin m), m * p.val + k.val < N) :
    ∑ p : Fin n, ∑ k : Fin m, f ⟨m * p.val + k.val, hlt p k⟩ = ∑ q : Fin N, f q := by
  subst h
  rw [← Fintype.sum_prod_type' (fun (p : Fin n) (k : Fin m) => f ⟨m * p.val + k.val, hlt p k⟩)]
  refine Fintype.sum_equiv finProdFinEquiv _ _ fun x => ?_
  congr 1
  exact Fin.ext (by show m * x.1.val + x.2.val = x.2.val + m * x.1.val; omega)

/-- The sum over a list of all positions, newest first, is the sum over the positions. -/
theorem sum_finRange {M : Type*} [AddCommMonoid M] (n : ℕ) (f : Fin n → M) : ((List.finRange n).reverse.map f).sum = ∑ p : Fin n, f p := by
  rw [List.map_reverse, List.sum_reverse, ← List.ofFn_eq_map, List.sum_ofFn]

variable (e : Env Ideal)

/-- One pass at an index. -/
theorem pass_apply (p : Tile × Tile) (r c : Fin 256) :
    (e.stg p.2).pass (e.tile p.1) (ix2 (n := 256) (m := 256) r c)
      = ∑ k : Fin 256, (e.tile p.1 (ix2 (n := 256) (m := 256) r k) * e.tile p.2 (ix2 (n := 256) (m := 256) k c) : EReal) := by
  have h := Ideal.matmul_plain_apply (M := 256) (K := 256) (N := 256) (φ₁ := .bf16) (φ₂ := .bf16) none (e.tile p.1) (e.tile p.2) (fun _ => (0 : EReal)) r c
  have hx : ∀ r c : Fin 256, ix2 (n := 256) (m := 256) r c = ValueIdx.ix2 r c := fun r c => ext2 rfl rfl
  simp only [hx]
  refine Eq.trans ?_ (h.trans (zero_add _))
  exact (zero_add _).symm

/-- The passes accumulated, at an index: their sum. -/
theorem acc_apply (l : Acc) (a : T2.Idx) : e.acc l a = (l.map fun p => ((e.stg p.2).pass (e.tile p.1) a : EReal)).sum := by
  induction l with
  | nil => exact Ideal.ofBits_zero_f32
  | cons p l ih =>
    cases l with
    | nil => exact (add_zero _).symm
    | cons q l =>
      show (e.acc (q :: l) a + (e.stg p.2).pass (e.tile p.1) a : EReal) = _
      rw [ih, List.map_cons (l := q :: l), List.sum_cons (l := List.map _ (q :: l)), add_comm]

/-- Two copies of the same half tile side by side, where each row of it is one value. -/
theorem cat_apply (v : Th.Idx → EReal) (S : Fin 256 → EReal) (h : ∀ b, v b = S (b 0)) (a : T2.Idx) :
    concatenate T2 1 [⟨Th, v⟩, ⟨Th, v⟩] catT2 a = S (a 0) := by
  have a0 : (a 0).val < 256 := (a 0).isLt
  have a1 : (a 1).val < 256 := (a 1).isLt
  by_cases hc : (a 1).val < 128
  · rw [concatenate_pair_apply_left 1 v v catT2 a rfl (ix2 (n := 256) (m := 128) (a 0) ⟨(a 1).val, hc⟩) (fun b => by fin_cases b <;> rfl), h]
    rfl
  · rw [concatenate_pair_apply_right 1 v v catT2 a rfl rfl (ix2 (n := 256) (m := 128) (a 0) ⟨(a 1).val - 128, by omega⟩)
      (fun b hb => by
        fin_cases b
        · rfl
        · exact absurd rfl hb)
      (by show (a 1).val - 128 + 128 = (a 1).val; omega), h]
    rfl

section Closed

variable (S : Fin 3072 → EReal) (hS : ∀ b, e.s b = S (b 0)) (T : Fin 768 → EReal) (hT : ∀ b, e.t b = T (b 0))
include hS

theorem tile_g (i : Fin 12) (j : Fin 3) (a : T2.Idx) :
    e.tile (.g i j) a = (e.g ((rG i j).emb a) * S ((rG i j).emb a 0) : EReal) := by
  show (e.g ((rG i j).emb a) * e.cs i a : EReal) = _
  congr 1
  exact cat_apply (e.ss i) (fun r => S ⟨256 * i.val + 1 * r.val, by have := i.isLt; have := r.isLt; omega⟩) (fun b => hS _) a

/-- The first result's block. -/
theorem dval_apply (b : SW.Idx) :
    e.dval b = ∑ q : Fin 3072, (e.x (ix2 (n := 1536) (m := 3072) (b 1) q) * (e.g (ix2 (n := 3072) (m := 768) q (b 0)) * S q) : EReal) := by
  have b0 : (b 0).val < 768 := (b 0).isLt
  have b1 : (b 1).val < 1536 := (b 1).isLt
  unfold Env.dval dAcc
  rw [acc_apply, List.map_map, sum_finRange,
    ← sum_blocks 12 256 3072 rfl (fun q => (e.x (ix2 (n := 1536) (m := 3072) (b 1) q) * (e.g (ix2 (n := 3072) (m := 768) q (b 0)) * S q) : EReal))
      (fun p k => by have := p.isLt; have := k.isLt; omega)]
  refine Finset.sum_congr rfl fun p _ => ?_
  refine (pass_apply e _ _ _).trans (Finset.sum_congr rfl fun k _ => ?_)
  rw [tile_g e S hS]
  congr 1
  · refine congrArg e.x (ext2 ?_ ?_)
    · show 256 * ((b 1).val / 256) + 1 * ((b 1).val % 256) = (b 1).val
      omega
    · show 256 * p.val + 1 * k.val = 256 * p.val + k.val
      omega
  · congr 1
    · refine congrArg e.g (ext2 ?_ ?_)
      · show 256 * p.val + 1 * k.val = 256 * p.val + k.val
        omega
      · show 256 * ((b 0).val / 256) + 1 * ((b 0).val % 256) = (b 0).val
        omega
    · refine congrArg S (Fin.ext ?_)
      show 256 * p.val + 1 * k.val = 256 * p.val + k.val
      omega

include hT

theorem tile_w (i : Fin 3) (j : Fin 6) (a : T2.Idx) :
    e.tile (.w i j) a = (e.w ((rW i j).emb a) * T ((rW i j).emb a 0) : EReal) := by
  show (e.w ((rW i j).emb a) * e.ct i a : EReal) = _
  congr 1
  exact cat_apply (e.st i) (fun r => T ⟨256 * i.val + 1 * r.val, by have := i.isLt; have := r.isLt; omega⟩) (fun b => hT _) a

/-- The second result's block. -/
theorem yval_apply (b : SX.Idx) :
    e.yval b = (e.y b + ∑ v : Fin 768, (e.g (ix2 (n := 3072) (m := 768) (b 0) v) * S (b 0)) * (e.w (ix2 (n := 768) (m := 1536) v (b 1)) * T v) : EReal) := by
  have b0 : (b 0).val < 3072 := (b 0).isLt
  have b1 : (b 1).val < 1536 := (b 1).isLt
  unfold Env.yval yAcc
  rw [acc_apply, List.map_map, sum_finRange,
    ← sum_blocks 3 256 768 rfl (fun v => ((e.g (ix2 (n := 3072) (m := 768) (b 0) v) * S (b 0)) * (e.w (ix2 (n := 768) (m := 1536) v (b 1)) * T v) : EReal))
      (fun p k => by have := p.isLt; have := k.isLt; omega)]
  refine congrArg (fun z : EReal => (e.y b + z : EReal)) (Finset.sum_congr rfl fun p _ => ?_)
  refine (pass_apply e _ _ _).trans (Finset.sum_congr rfl fun k _ => ?_)
  rw [tile_g e S hS, tile_w e S hS T hT]
  congr 1
  · congr 1
    · refine congrArg e.g (ext2 ?_ ?_)
      · show 256 * ((b 0).val / 256) + 1 * ((b 0).val % 256) = (b 0).val
        omega
      · show 256 * p.val + 1 * k.val = 256 * p.val + k.val
        omega
    · refine congrArg S (Fin.ext ?_)
      show 256 * ((b 0).val / 256) + 1 * ((b 0).val % 256) = (b 0).val
      omega
  · congr 1
    · refine congrArg e.w (ext2 ?_ ?_)
      · show 256 * p.val + 1 * k.val = 256 * p.val + k.val
        omega
      · show 256 * ((b 1).val / 256) + 1 * ((b 1).val % 256) = (b 1).val
        omega
    · refine congrArg T (Fin.ext ?_)
      show 256 * p.val + 1 * k.val = 256 * p.val + k.val
      omega

end Closed

end Cert.Sums

end
-- ==== Proof.Ideal.Gather.lean ====
/-
  Where arithmetic is exact: what the accumulation loop adds, as a sum over the gradient rows.
-/
module

public import proofs.«01_k».proof.Proof.Ideal.Region
public import proofs.«01_k».proof.Proof.Sums

@[expose] public section

noncomputable section

namespace Cert.KernelIdeal.Gather

open Cert.KernelIdeal Cert.KernelIdeal.Gen Cert.Idx Cert.KernelIdeal.Ptr Cert.KernelIdeal.Region
open Cert.KernelIdeal.While (go below row step)
open Idealize.ShloMosaic Idealize.ShloMosaic.TcCoe

variable (ids : Vec Ideal S3072 .i32) (e : Vec Ideal S3072x1536 .fp8e5m2) (sc : Vec Ideal S3072 .f32) (i : grid0.Coords)

/-- The loop entered at `p` with all its trips: it adds to row `b 0` the scaled gradient rows from `p` on whose identifier
    names that row. -/
theorem go_apply (hs : Sorted ids) (b : S768x1536.Idx) : ∀ (k p : ℕ) (X : Vec Ideal S768x1536 .f32), k = 3072 - p → p ≤ 3072 →
    (∀ q : Fin 3072, p ≤ q.val → 768 * (i 0).val ≤ idN ids q) →
    (go ids e sc i k p X).2 b
      = (X b + ∑ q : Fin 3072, if p ≤ q.val ∧ idN ids q = 768 * (i 0).val + (b 0).val then (e (ix2 q (b 1)) * sc (ix1 q) : EReal) else 0 : EReal) := by
  have b0 : (b 0).val < 768 := (b 0).isLt
  intro k
  induction k with
  | zero =>
    intro p X hk hp hlo
    have h0 : (∑ q : Fin 3072, if p ≤ q.val ∧ idN ids q = 768 * (i 0).val + (b 0).val then (e (ix2 q (b 1)) * sc (ix1 q) : EReal) else 0) = 0 :=
      Finset.sum_eq_zero fun q _ => if_neg fun h => by have := q.isLt; omega
    rw [h0]
    exact (add_zero (X b : EReal)).symm
  | succ k ih =>
    intro p X hk hp hlo
    have hp' : p < 3072 := by omega
    unfold go
    by_cases hb : below (F := Ideal) ids i ⟨p, hp'⟩
    · rw [dif_pos ⟨hp', hb⟩, ih (p + 1) _ (by omega) (by omega) (fun q hq => hlo q (by omega))]
      have hst : (step ids e sc i ⟨p, hp'⟩ X b : EReal)
          = X b + (if idN ids ⟨p, hp'⟩ = 768 * (i 0).val + (b 0).val then (e (ix2 ⟨p, hp'⟩ (b 1)) * sc (ix1 ⟨p, hp'⟩) : EReal) else 0) := by
        have hr := row_eq ids i hs ⟨p, hp'⟩ (hlo ⟨p, hp'⟩ (Nat.le_refl _))
        have h1 := hlo ⟨p, hp'⟩ (Nat.le_refl _)
        unfold step
        by_cases hc : row (F := Ideal) ids i ⟨p, hp'⟩ = (b 0).val
        · rw [if_pos hc, if_pos (by omega)]
          rfl
        · rw [if_neg hc, if_neg (by omega)]
          exact (add_zero (X b : EReal)).symm
      rw [hst, add_assoc]
      congr 1
      have hsplit : ∀ q : Fin 3072, (if p ≤ q.val ∧ idN ids q = 768 * (i 0).val + (b 0).val then (e (ix2 q (b 1)) * sc (ix1 q) : EReal) else 0)
          = (if q = ⟨p, hp'⟩ then (if idN ids ⟨p, hp'⟩ = 768 * (i 0).val + (b 0).val then (e (ix2 ⟨p, hp'⟩ (b 1)) * sc (ix1 ⟨p, hp'⟩) : EReal) else 0) else 0)
            + (if p + 1 ≤ q.val ∧ idN ids q = 768 * (i 0).val + (b 0).val then (e (ix2 q (b 1)) * sc (ix1 q) : EReal) else 0) := by
        intro q
        by_cases hq : q = ⟨p, hp'⟩
        · subst hq
          rw [if_pos rfl, if_neg (c := p + 1 ≤ p ∧ _) (fun h => by have := h.1; omega), add_zero]
          by_cases hc : idN ids ⟨p, hp'⟩ = 768 * (i 0).val + (b 0).val
          · rw [if_pos ⟨Nat.le_refl _, hc⟩, if_pos hc]
          · rw [if_neg (fun h => hc h.2), if_neg hc]
        · have hne : q.val ≠ p := fun h => hq (Fin.ext h)
          rw [if_neg hq, zero_add]
          by_cases hc : idN ids q = 768 * (i 0).val + (b 0).val ∧ p ≤ q.val
          · rw [if_pos ⟨hc.2, hc.1⟩, if_pos ⟨by omega, hc.1⟩]
          · rw [if_neg (fun h => hc ⟨h.2, h.1⟩), if_neg (fun h => hc ⟨h.2, by omega⟩)]
      rw [Finset.sum_congr rfl fun q _ => hsplit q, Finset.sum_add_distrib, Finset.sum_ite_eq' Finset.univ (⟨p, hp'⟩ : Fin 3072),
        if_pos (Finset.mem_univ _)]
    · rw [dif_neg (fun h => hb h.2)]
      have hb' : ¬ idN ids ⟨p, hp'⟩ < 768 * ((i 0).val + 1) := fun h => hb ((below_iff ids i hs ⟨p, hp'⟩).2 h)
      have h0 : (∑ q : Fin 3072, if p ≤ q.val ∧ idN ids q = 768 * (i 0).val + (b 0).val then (e (ix2 q (b 1)) * sc (ix1 q) : EReal) else 0) = 0 :=
        Finset.sum_eq_zero fun q _ => if_neg fun h => by
          have := hs.2 ⟨p, hp'⟩ q h.1
          have h2 : idN ids ⟨p, hp'⟩ ≤ idN ids q := this
          omega
      rw [h0]
      exact (add_zero (X b : EReal)).symm

variable (m : (ℓ : Loc nD τ sig) → Buf (Elt Ideal) ℓ)

/-- The first result's block after a step: the sum of products the passes leave, and the gradient rows its identifiers name. -/
theorem D_apply (hs : ∀ c, Sorted (Region.ids m c)) (c : Dev nD) (t : Fin grid0.N) (b : S768x1536.Idx) :
    D m c t b = ((envT m c t (Y m c t.val)).dval b
      + ∑ q : Fin 3072, if idN (Region.ids m c) q = 768 * t.val + (b 0).val then (eW m c (ix2 q (b 1)) * scB m c t (ix1 q) : EReal) else 0 : EReal) := by
  have hg := P_good (Region.ids m c) (hs c) t.val (Nat.le_of_lt t.isLt)
  unfold D Body.dOut
  rw [pAt_eq, go_apply _ _ _ _ (hs c) b _ _ _ rfl hg.1 (fun q hq => by rw [coords_val]; exact (hg.2 q).2 hq)]
  congr 1
  refine Finset.sum_congr rfl fun q _ => ?_
  rw [coords_val]
  by_cases hc : idN (Region.ids m c) q = 768 * t.val + (b 0).val
  · have hq : P (Region.ids m c) t.val ≤ q.val := by
      by_contra hq
      have := (hg.2 q).1 (by omega)
      omega
    rw [if_pos hc, if_pos ⟨hq, hc⟩]
  · rw [if_neg hc, if_neg (fun h => hc h.2)]

end Cert.KernelIdeal.Gather

end
-- ==== Proof.Spec.lean ====
/-
  The two results as sums over the arguments, where arithmetic is exact.
-/
module

public import proofs.«01_k».proof.Proof.Idx
public import Idealize.ShloMosaic.PureOps.Ideal

@[expose] public section

noncomputable section

namespace Cert.Spec

open Idealize.ShloMosaic Cert.Idx

/-- Three coordinates. -/
def ix3 {n k a : Nat} (x : Fin n) (y : Fin k) (z : Fin a) : (⟨3, ![n, k, a]⟩ : Shape).Idx := fun
  | ⟨0, _⟩ => x
  | ⟨1, _⟩ => y
  | ⟨2, _⟩ => z

/-- Row `q` of a matrix of `3072` rows is row `lo q` of block `hi q`. -/
abbrev hi (q : Fin 3072) : Fin 3 := ⟨q.val / 1024, by have := q.isLt; omega⟩
abbrev lo (q : Fin 3072) : Fin 1024 := ⟨q.val % 1024, Nat.mod_lt _ (by decide)⟩

/-- The group of scales an entry of the vocabulary is in. -/
abbrev grp (v : Fin 128256) : Fin 167 := ⟨v.val / 768, by have := v.isLt; omega⟩

variable (a0 : (⟨3, ![3, 1024, 128256]⟩ : Shape).Idx → EReal) (a1 : (⟨3, ![3, 1024, 167]⟩ : Shape).Idx → EReal)
  (a2 : (⟨3, ![3, 1024, 1536]⟩ : Shape).Idx → EReal) (a3 : (⟨2, ![3, 1024]⟩ : Shape).Idx → EReal)
  (a4 : (⟨2, ![3072, 1536]⟩ : Shape).Idx → EReal) (a5 : (⟨1, ![3072]⟩ : Shape).Idx → EReal) (a6 : (⟨1, ![3072]⟩ : Shape).Idx → BitVec 32)
  (a7 : (⟨2, ![128256, 1536]⟩ : Shape).Idx → EReal) (a8 : (⟨1, ![128256]⟩ : Shape).Idx → EReal)

/-- The logits' gradient of token `q` at entry `v` of the vocabulary: its code times the scale of its group. -/
def gk (q : Fin 3072) (v : Fin 128256) : EReal := a0 (ix3 (hi q) (lo q) v) * a1 (ix3 (hi q) (lo q) (grp v))

/-- The activation of token `q` at feature `d`. -/
def xk (q : Fin 3072) (d : Fin 1536) : EReal := a2 (ix3 (hi q) (lo q) d) * a3 (ix2 (hi q) (lo q))

/-- The weight of entry `v` of the vocabulary at feature `d`. -/
def wk (v : Fin 128256) (d : Fin 1536) : EReal := a7 (ix2 v d) * a8 (ix1 v)

/-- The embedding's gradient row `q` at feature `d`. -/
def ek (q : Fin 3072) (d : Fin 1536) : EReal := a4 (ix2 q d) * a5 (ix1 q)

/-- The identifier of row `q`. -/
def idk (q : Fin 3072) : ℕ := (a6 (ix1 q)).toNat

/-- The first result: the sum over tokens, and the gradient rows whose identifier names the row. -/
def dW (v : Fin 128256) (d : Fin 1536) : EReal :=
  ∑ q : Fin 3072, xk a2 a3 q d * gk a0 a1 q v + ∑ q : Fin 3072, if idk a6 q = v.val then ek a4 a5 q d else 0

/-- The second result: the sum over the vocabulary. -/
def dX (q : Fin 3072) (d : Fin 1536) : EReal := ∑ v : Fin 128256, gk a0 a1 q v * wk a7 a8 v d

/-- The second result, the tokens in their blocks. -/
def dX3 : (⟨3, ![3, 1024, 1536]⟩ : Shape).Idx → EReal := fun b =>
  dX a0 a1 a7 a8 ⟨1024 * (b 0).val + (b 1).val, by have h0 : (b 0).val < 3 := (b 0).isLt; have h1 : (b 1).val < 1024 := (b 1).isLt; omega⟩ (b 2)

end Cert.Spec

end
-- ==== Proof.Ideal.Blocks.lean ====
/-
  The blocks a step is handed, at their coordinates in the arrays they are read from.
-/
module

public import proofs.«01_k».proof.Proof.Ideal.Region
public import proofs.«01_k».proof.Proof.Spec

@[expose] public section

noncomputable section

namespace Cert.KernelIdeal.Blocks

open Cert.KernelIdeal Cert.KernelIdeal.Gen Cert.Idx Cert.Spec Cert.KernelIdeal.Region
open Idealize.ShloMosaic Idealize.ShloMosaic.TcCoe

variable {F : FTy → Type} [FloatOps F] [∀ e, Nonempty (Elt F e)]
variable (m : (ℓ : Loc nD τ sig) → Buf (Elt F) ℓ)

theorem tr0 : ∀ t : Fin grid0.N, cc0_transform_0 (grid0.coords t) = ![0] := by decide +kernel
theorem tr1 : ∀ t : Fin grid0.N, cc0_transform_1 (grid0.coords t) = ![0, t.val] := by decide +kernel
theorem tr2 : ∀ t : Fin grid0.N, cc0_transform_2 (grid0.coords t) = ![0, t.val / 128] := by decide +kernel
theorem tr3 : ∀ t : Fin grid0.N, cc0_transform_3 (grid0.coords t) = ![t.val, 0] := by decide +kernel
theorem tr4 : ∀ t : Fin grid0.N, cc0_transform_4 (grid0.coords t) = ![0, 0] := by decide +kernel
theorem tr6 : ∀ t : Fin grid0.N, cc0_transform_6 (grid0.coords t) = ![0, 0] := by decide +kernel
theorem tr8 : ∀ t : Fin grid0.N, cc0_transform_8 (grid0.coords t) = ![t.val, 0] := by decide +kernel
theorem tr9 : ∀ t : Fin grid0.N, cc0_transform_9 (grid0.coords t) = ![0, 0] := by decide +kernel

/-- The scales of the gradient rows: all of them at every step. -/
theorem scB_apply (c : Dev nD) (t : Fin grid0.N) (q : Fin 3072) : scB m c t (ix1 q) = V m c main_arg5 (ix1 (n := 3072) q) := by
  refine congrArg (V m c main_arg5) (ext1 (n := 3072) ?_)
  show cc0_transform_0 (grid0.coords t) 0 * 3072 + 1 * q.val = q.val
  rw [tr0]
  show 0 * 3072 + 1 * q.val = q.val
  omega

/-- The codes' block: the step's columns. -/
theorem gB_apply (c : Dev nD) (t : Fin grid0.N) (q : Fin 3072) (v : Fin 768) :
    gB m c t (ix2 (n := 3072) (m := 768) q v)
      = V m c main_v0 (ix2 (n := 3072) (m := 128256) q ⟨768 * t.val + v.val, by have : t.val < 167 := t.isLt; have := v.isLt; omega⟩) := by
  refine congrArg (V m c main_v0) (ext2 (n := 3072) (m := 128256) ?_ ?_)
  · show cc0_transform_1 (grid0.coords t) 0 * 3072 + 1 * q.val = q.val
    rw [tr1]
    show 0 * 3072 + 1 * q.val = q.val
    omega
  · show cc0_transform_1 (grid0.coords t) 1 * 768 + 1 * v.val = 768 * t.val + v.val
    rw [tr1]
    show t.val * 768 + 1 * v.val = 768 * t.val + v.val
    omega

/-- The weights' block: the step's rows. -/
theorem wB_apply (c : Dev nD) (t : Fin grid0.N) (v : Fin 768) (d : Fin 1536) :
    wB m c t (ix2 (n := 768) (m := 1536) v d)
      = V m c main_arg7 (ix2 (n := 128256) (m := 1536) ⟨768 * t.val + v.val, by have : t.val < 167 := t.isLt; have := v.isLt; omega⟩ d) := by
  refine congrArg (V m c main_arg7) (ext2 (n := 128256) (m := 1536) ?_ ?_)
  · show cc0_transform_3 (grid0.coords t) 0 * 768 + 1 * v.val = 768 * t.val + v.val
    rw [tr3]
    show t.val * 768 + 1 * v.val = 768 * t.val + v.val
    omega
  · show cc0_transform_3 (grid0.coords t) 1 * 1536 + 1 * d.val = d.val
    rw [tr3]
    show 0 * 1536 + 1 * d.val = d.val
    omega

/-- The weights' scales: all of them at every step. -/
theorem wsB_apply (c : Dev nD) (t : Fin grid0.N) (r : Fin 1002) (l : Fin 128) :
    wsB m c t (ix2 (n := 1002) (m := 128) r l) = V m c main_v4 (ix2 (n := 1002) (m := 128) r l) := by
  refine congrArg (V m c main_v4) (ext2 (n := 1002) (m := 128) ?_ ?_)
  · show cc0_transform_4 (grid0.coords t) 0 * 1002 + 1 * r.val = r.val
    rw [tr4]
    show 0 * 1002 + 1 * r.val = r.val
    omega
  · show cc0_transform_4 (grid0.coords t) 1 * 128 + 1 * l.val = l.val
    rw [tr4]
    show 0 * 128 + 1 * l.val = l.val
    omega

/-- The activations' scales: all of them at every step. -/
theorem xsB_apply (c : Dev nD) (t : Fin grid0.N) (q : Fin 3072) :
    xsB m c t (ix2 (n := 3072) (m := 1) q 0) = V m c main_v3 (ix2 (n := 3072) (m := 1) q 0) := by
  refine congrArg (V m c main_v3) (ext2 (n := 3072) (m := 1) ?_ ?_)
  · show cc0_transform_6 (grid0.coords t) 0 * 3072 + 1 * q.val = q.val
    rw [tr6]
    show 0 * 3072 + 1 * q.val = q.val
    omega
  · show cc0_transform_6 (grid0.coords t) 1 * 1 + 1 * 0 = 0
    rw [tr6]
    rfl

/-- The column of the codes' scales a step takes, inside the block it is handed: that step's column of the array. -/
theorem gsB_apply (c : Dev nD) (t : Fin grid0.N) (q : Fin 3072) (l : Fin 128) (hl : l.val = t.val % 128) :
    gsB m c t (ix2 (n := 3072) (m := 128) q l) = V m c main_v1 (ix2 (n := 3072) (m := 167) q t) := by
  have ht : t.val < 167 := t.isLt
  have hm : ((cfgA m).win (2 : Fin 8)).moved (grid0.coords t) (ix2 (n := 3072) (m := 128) q l) = true :=
    (((cfgA m).win (2 : Fin 8)).moved_iff _ _).mpr (by
      intro a
      match a with
      | ⟨0, _⟩ => exact Nat.lt_of_lt_of_le q.isLt (ext_2 t).2
      | ⟨1, _⟩ => exact (show l.val = ((grid0.coords t) 0).val % 128 by rw [Ptr.coords_val]; exact hl).trans_lt (ext_2 t).1)
  show ((cfgA m).win (2 : Fin 8)).fill (grid0.coords t) any _ _ = _
  unfold Pipeline.Window.fill
  rw [dif_pos hm]
  refine congrArg (V m c main_v1) (ext2 (n := 3072) (m := 167) ?_ ?_)
  · show cc0_transform_2 (grid0.coords t) 0 * 3072 + 1 * q.val = q.val
    rw [tr2]
    show 0 * 3072 + 1 * q.val = q.val
    omega
  · show cc0_transform_2 (grid0.coords t) 1 * 128 + 1 * l.val = t.val
    rw [tr2]
    show t.val / 128 * 128 + 1 * l.val = t.val
    omega

theorem V_v0 (c : Dev nD) : V m c main_v0 = shapeCast S3072x128256 (m ((c : Thread nD τ).loc main_arg0)) shapeCasts_S3x1024x128256_S3072x128256 := by
  unfold Region.V V₀
  rw [show [hostOps0 (F := F)].flatten = hostOps0 from rfl]
  unfold hostOps0
  after_results
  rfl
theorem V_v1 (c : Dev nD) : V m c main_v1 = shapeCast S3072x167 (m ((c : Thread nD τ).loc main_arg1)) shapeCasts_S3x1024x167_S3072x167 := by
  unfold Region.V V₀
  rw [show [hostOps0 (F := F)].flatten = hostOps0 from rfl]
  unfold hostOps0
  after_results
  rfl
theorem V_v2 (c : Dev nD) : V m c main_v2 = shapeCast S3072x1536 (m ((c : Thread nD τ).loc main_arg2)) shapeCasts_S3x1024x1536_S3072x1536 := by
  unfold Region.V V₀
  rw [show [hostOps0 (F := F)].flatten = hostOps0 from rfl]
  unfold hostOps0
  after_results
  rfl
theorem V_v3 (c : Dev nD) : V m c main_v3 = shapeCast S3072x1 (m ((c : Thread nD τ).loc main_arg3)) shapeCasts_S3x1024_S3072x1 := by
  unfold Region.V V₀
  rw [show [hostOps0 (F := F)].flatten = hostOps0 from rfl]
  unfold hostOps0
  after_results
  rfl
theorem V_v4 (c : Dev nD) : V m c main_v4 = shapeCast S1002x128 (m ((c : Thread nD τ).loc main_arg8)) shapeCasts_S128256_S1002x128 := by
  unfold Region.V V₀
  rw [show [hostOps0 (F := F)].flatten = hostOps0 from rfl]
  unfold hostOps0
  after_results
  rfl

theorem v0_apply (c : Dev nD) (q : Fin 3072) (V' : Fin 128256) :
    V m c main_v0 (ix2 (n := 3072) (m := 128256) q V') = m ((c : Thread nD τ).loc main_arg0) (ix3 (n := 3) (k := 1024) (a := 128256) (Spec.hi q) (Spec.lo q) V') := by
  rw [V_v0]
  refine shapeCast_apply (s := S3x1024x128256) (t := S3072x128256) _ _ _ (ix3 (n := 3) (k := 1024) (a := 128256) (Spec.hi q) (Spec.lo q) V') ?_
  rw [Shape.rowMajor_val_two, Shape.rowMajor_val_three]
  show (q.val / 1024 * 1024 + q.val % 1024) * 128256 + V'.val = q.val * 128256 + V'.val
  omega
theorem v1_apply (c : Dev nD) (q : Fin 3072) (t : Fin 167) :
    V m c main_v1 (ix2 (n := 3072) (m := 167) q t) = m ((c : Thread nD τ).loc main_arg1) (ix3 (n := 3) (k := 1024) (a := 167) (Spec.hi q) (Spec.lo q) t) := by
  rw [V_v1]
  refine shapeCast_apply (s := S3x1024x167) (t := S3072x167) _ _ _ (ix3 (n := 3) (k := 1024) (a := 167) (Spec.hi q) (Spec.lo q) t) ?_
  rw [Shape.rowMajor_val_two, Shape.rowMajor_val_three]
  show (q.val / 1024 * 1024 + q.val % 1024) * 167 + t.val = q.val * 167 + t.val
  omega
theorem v2_apply (c : Dev nD) (q : Fin 3072) (d : Fin 1536) :
    V m c main_v2 (ix2 (n := 3072) (m := 1536) q d) = m ((c : Thread nD τ).loc main_arg2) (ix3 (n := 3) (k := 1024) (a := 1536) (Spec.hi q) (Spec.lo q) d) := by
  rw [V_v2]
  refine shapeCast_apply (s := S3x1024x1536) (t := S3072x1536) _ _ _ (ix3 (n := 3) (k := 1024) (a := 1536) (Spec.hi q) (Spec.lo q) d) ?_
  rw [Shape.rowMajor_val_two, Shape.rowMajor_val_three]
  show (q.val / 1024 * 1024 + q.val % 1024) * 1536 + d.val = q.val * 1536 + d.val
  omega
theorem v3_apply (c : Dev nD) (q : Fin 3072) :
    V m c main_v3 (ix2 (n := 3072) (m := 1) q 0) = m ((c : Thread nD τ).loc main_arg3) (ix2 (n := 3) (m := 1024) (Spec.hi q) (Spec.lo q)) := by
  rw [V_v3]
  refine shapeCast_apply (s := S3x1024) (t := S3072x1) _ _ _ (ix2 (n := 3) (m := 1024) (Spec.hi q) (Spec.lo q)) ?_
  rw [Shape.rowMajor_val_two, Shape.rowMajor_val_two]
  show q.val / 1024 * 1024 + q.val % 1024 = q.val * 1 + 0
  omega
theorem v4_apply (c : Dev nD) (V' : Fin 128256) (r : Fin 1002) (l : Fin 128) (h : 128 * r.val + l.val = V'.val) :
    V m c main_v4 (ix2 (n := 1002) (m := 128) r l) = m ((c : Thread nD τ).loc main_arg8) (ix1 (n := 128256) V') := by
  rw [V_v4]
  refine shapeCast_apply (s := S128256) (t := S1002x128) _ _ _ (ix1 (n := 128256) V') ?_
  rw [Shape.rowMajor_val_two, Shape.rowMajor_val_one]
  show V'.val = r.val * 128 + l.val
  omega

end Cert.KernelIdeal.Blocks

end
-- ==== Proof.Ideal.Value.lean ====
/-
  Where arithmetic is exact: the two arrays the kernel leaves, as sums over the arguments.
-/
module

public import proofs.«01_k».proof.Proof.Ideal.Gather
public import proofs.«01_k».proof.Proof.Ideal.Blocks
public import Idealize.ShloMosaic.Lib.Pipeline.ValueKit.Geometry

@[expose] public section

set_option maxRecDepth 100000

noncomputable section

namespace Cert.KernelIdeal.Value

open Cert.KernelIdeal Cert.KernelIdeal.Gen Cert.Idx Cert.Spec Cert.Mach Cert.KernelIdeal.Ptr Cert.KernelIdeal.Region Cert.KernelIdeal.Blocks Cert.KernelIdeal.Gather
open Cert.KernelIdeal.Fill Cert.KernelIdeal.Pre Cert.KernelIdeal.Body
open Idealize.ShloMosaic Idealize.ShloMosaic.TcCoe

variable (m : (ℓ : Loc nD τ sig) → Buf (Elt Ideal) ℓ) (c : Dev nD)

/-- The arguments, as arrays of extended reals. -/
abbrev A0 : (⟨3, ![3, 1024, 128256]⟩ : Shape).Idx → EReal := m ((c : Thread nD τ).loc main_arg0)
abbrev A1 : (⟨3, ![3, 1024, 167]⟩ : Shape).Idx → EReal := m ((c : Thread nD τ).loc main_arg1)
abbrev A2 : (⟨3, ![3, 1024, 1536]⟩ : Shape).Idx → EReal := m ((c : Thread nD τ).loc main_arg2)
abbrev A3 : (⟨2, ![3, 1024]⟩ : Shape).Idx → EReal := m ((c : Thread nD τ).loc main_arg3)
abbrev A4 : (⟨2, ![3072, 1536]⟩ : Shape).Idx → EReal := m ((c : Thread nD τ).loc main_arg4)
abbrev A5 : (⟨1, ![3072]⟩ : Shape).Idx → EReal := m ((c : Thread nD τ).loc main_arg5)
abbrev A6 : (⟨1, ![3072]⟩ : Shape).Idx → BitVec 32 := m ((c : Thread nD τ).loc main_arg6)
abbrev A7 : (⟨2, ![128256, 1536]⟩ : Shape).Idx → EReal := m ((c : Thread nD τ).loc main_arg7)
abbrev A8 : (⟨1, ![128256]⟩ : Shape).Idx → EReal := m ((c : Thread nD τ).loc main_arg8)

theorem at_lt (t : Fin grid0.N) (v : Fin 768) : 768 * t.val + v.val < 128256 := by
  have : t.val < 167 := t.isLt
  have := v.isLt
  omega

variable (t : Fin grid0.N) (A : Vec Ideal S3072x1536 .f32)

theorem mod_coords : ((grid0.coords t) 0).val % 128 = t.val % 128 := by rw [coords_val]

theorem GS_ideal (i : grid0.Coords) (gs : Vec Ideal S3072x128 .f32) (b : (⟨2, ![3072, 128]⟩ : Shape).Idx) :
    (GS i gs b : EReal) = gs (ix2 (n := 3072) (m := 128) (b 0) ⟨(i 0).val % 128, Nat.mod_lt _ (by decide)⟩) := rfl

theorem env_s (b : (⟨2, ![3072, 128]⟩ : Shape).Idx) :
    (envT m c t A).s b = A1 m c (ix3 (n := 3) (k := 1024) (a := 167) (Spec.hi (b 0)) (Spec.lo (b 0)) t) := by
  have h1 : (envT m c t A).s b = gsB m c t (ix2 (n := 3072) (m := 128) (b 0) ⟨((grid0.coords t) 0).val % 128, Nat.mod_lt _ (by decide)⟩) := GS_ideal (grid0.coords t) (gsB m c t) b
  have h2 := gsB_apply m c t (b 0) ⟨((grid0.coords t) 0).val % 128, Nat.mod_lt _ (by decide)⟩ (mod_coords t)
  have h3 : V m c main_v1 (ix2 (n := 3072) (m := 167) (b 0) t) = A1 m c (ix3 (n := 3) (k := 1024) (a := 167) (Spec.hi (b 0)) (Spec.lo (b 0)) t) :=
    v1_apply m c (b 0) t
  exact h1.trans (h2.trans h3)

theorem env_t (b : (⟨2, ![768, 128]⟩ : Shape).Idx) :
    (envT m c t A).t b = A8 m c (ix1 (n := 128256) ⟨768 * t.val + (b 0).val, at_lt t (b 0)⟩) := by
  have b0 : (b 0).val < 768 := (b 0).isLt
  have hr : 6 * ((grid0.coords t) 0).val + (b 0).val / 128 < 1002 := by
    have := coords_val t
    have h1 : t.val < 167 := t.isLt
    omega
  have h : 128 * (6 * ((grid0.coords t) 0).val + (b 0).val / 128) + (b 0).val % 128 = 768 * t.val + (b 0).val := by
    have := coords_val t
    omega
  exact (wsB_apply m c t ⟨_, hr⟩ ⟨_, Nat.mod_lt _ (by decide)⟩).trans (v4_apply m c ⟨768 * t.val + (b 0).val, at_lt t (b 0)⟩ ⟨_, hr⟩ ⟨_, Nat.mod_lt _ (by decide)⟩ h)

theorem g_eq (q : Fin 3072) (v : Fin 768) :
    ((envT m c t A).g (ix2 (n := 3072) (m := 768) q v) * (A1 m c (ix3 (n := 3) (k := 1024) (a := 167) (Spec.hi q) (Spec.lo q) t) : EReal) : EReal)
      = gk (A0 m c) (A1 m c) q ⟨768 * t.val + v.val, at_lt t v⟩ := by
  unfold gk
  congr 1
  · exact (gB_apply m c t q v).trans (v0_apply m c q _)
  · congr 2
    refine Fin.ext ?_
    show t.val = (768 * t.val + v.val) / 768
    have := v.isLt
    omega

theorem x_eq (q : Fin 3072) (d : Fin 1536) : ((envT m c t A).x (ix2 (n := 1536) (m := 3072) d q) : EReal) = xk (A2 m c) (A3 m c) q d := by
  have h : (envT m c t A).x = XX m c := xIn_eq m c t (XX m c) (fun _ => rfl)
  rw [h]
  unfold xk
  show ((xqW m c (ix2 q d) : EReal) * (xsB m c ⟨0, by decide⟩ (ix2 q 0) : EReal) : EReal) = _
  congr 1
  · exact v2_apply m c q d
  · exact (xsB_apply m c _ q).trans (v3_apply m c q)

theorem w_eq (v : Fin 768) (d : Fin 1536) :
    ((envT m c t A).w (ix2 (n := 768) (m := 1536) v d) * (A8 m c (ix1 (n := 128256) ⟨768 * t.val + v.val, at_lt t v⟩) : EReal) : EReal)
      = wk (A7 m c) (A8 m c) ⟨768 * t.val + v.val, at_lt t v⟩ d := by
  unfold wk
  congr 1
  exact (wB_apply m c t v d).trans (congrFun (V_arg m c main_arg7 (by decide)) _)

/-- The first result's block after step `t`. -/
theorem D_val (hs : ∀ c, Sorted (Region.ids m c)) (b : S768x1536.Idx) : D m c t b = dW (A0 m c) (A1 m c) (A2 m c) (A3 m c) (A4 m c) (A5 m c) (A6 m c) ⟨768 * t.val + (b 0).val, at_lt t (b 0)⟩ (b 1) := by
  rw [D_apply m hs c t b, Sums.dval_apply _ (fun q => A1 m c (ix3 (n := 3) (k := 1024) (a := 167) (Spec.hi q) (Spec.lo q) t)) (env_s m c t _)]
  unfold dW
  refine congrArg₂ (fun x y : EReal => (x + y : EReal)) ?_ ?_
  · refine Finset.sum_congr rfl fun q _ => ?_
    exact congrArg₂ (fun x y : EReal => (x * y : EReal)) (x_eq m c t _ q (b 1)) (g_eq m c t _ q (b 0))
  · refine Finset.sum_congr rfl fun q _ => ?_
    have hi : idN (Region.ids m c) q = idk (A6 m c) q := by
      exact congrArg (fun z : Vec Ideal S3072 .i32 => (show BitVec 32 from z (ix1 q)).toNat) (V_arg m c main_arg6 (by decide))
    rw [hi]
    by_cases h : idk (A6 m c) q = 768 * t.val + (b 0).val
    · rw [if_pos h, if_pos h]
      unfold ek
      refine congrArg₂ (fun x y : EReal => (x * y : EReal)) ?_ ?_
      · exact congrFun (V_arg m c main_arg4 (by decide)) _
      · exact (scB_apply m c t q).trans (congrFun (V_arg m c main_arg5 (by decide)) _)
    · rw [if_neg h, if_neg h]

/-- What step `s` adds to the second result. -/
def part (b : S3072x1536.Idx) (s : ℕ) : EReal :=
  if h : s < grid0.N then ∑ v : Fin 768, gk (A0 m c) (A1 m c) (b 0) ⟨768 * s + v.val, at_lt ⟨s, h⟩ v⟩ * wk (A7 m c) (A8 m c) ⟨768 * s + v.val, at_lt ⟨s, h⟩ v⟩ (b 1) else 0

theorem Y_step (b : S3072x1536.Idx) : (Y m c (t.val + 1) b : EReal) = yIn (grid0.coords t) (Y m c t.val) b + part m c b t.val := by
  rw [Y_succ, Sums.yval_apply _ (fun q => A1 m c (ix3 (n := 3) (k := 1024) (a := 167) (Spec.hi q) (Spec.lo q) t)) (env_s m c t _)
    (fun v => A8 m c (ix1 (n := 128256) ⟨768 * t.val + v.val, at_lt t v⟩)) (env_t m c t _)]
  unfold part
  rw [dif_pos t.isLt]
  congr 1
  refine Finset.sum_congr rfl fun v _ => ?_
  exact congrArg₂ (fun x y : EReal => (x * y : EReal)) (g_eq m c t _ (b 0) v) (w_eq m c t _ v (b 1))

theorem Y_val (b : S3072x1536.Idx) : ∀ n : ℕ, n < grid0.N → (Y m c (n + 1) b : EReal) = ∑ s ∈ Finset.range (n + 1), part m c b s := by
  intro n
  induction n with
  | zero =>
    intro h
    rw [Y_step m c ⟨0, h⟩ b, Finset.sum_range_one]
    have h0 : (yIn (grid0.coords ⟨0, h⟩) (Y m c 0) b : EReal) = 0 := by
      unfold yIn
      rw [if_pos ((cond1_iff ⟨0, h⟩).2 rfl)]
      exact Ideal.ofBits_zero_f32
    exact (congrArg (fun z : EReal => z + part m c b 0) h0).trans (zero_add _)
  | succ n ih =>
    intro h
    rw [Y_step m c ⟨n + 1, h⟩ b, Finset.sum_range_succ, ← ih (Nat.lt_of_succ_lt h)]
    unfold yIn
    rw [if_neg (fun h' => absurd ((cond1_iff ⟨n + 1, h⟩).1 h') (Nat.succ_ne_zero n))]

/-- The second result's block after the last step. -/
theorem Y_all (b : S3072x1536.Idx) : (Y m c (166 + 1) b : EReal) = dX (A0 m c) (A1 m c) (A7 m c) (A8 m c) (b 0) (b 1) := by
  rw [Y_val m c b 166 (by decide), Finset.sum_range]
  unfold dX
  rw [← Sums.sum_blocks 167 768 128256 rfl (fun v => gk (A0 m c) (A1 m c) (b 0) v * wk (A7 m c) (A8 m c) v (b 1)) (fun p k => at_lt p k)]
  refine Finset.sum_congr rfl fun p _ => ?_
  unfold part
  exact dif_pos p.isLt

/-- Contents of the table of no matter. -/
def adm₀ : (pcfg0 (F := Ideal)).Adm := adm fun _ _ => Classical.arbitrary _
theorem cov6 : ((cfg0 adm₀).win (6 : Fin 8)).Covers := by decide +kernel
theorem whole7 : ((cfg0 adm₀).win (7 : Fin 8)).WholeAt (⟨166, by decide⟩ : Fin grid0.N) := by decide +kernel

/-- The first result's array. -/
theorem arr6 (hs : ∀ c, Sorted (Region.ids m c)) :
    (dats m 0 c).arrAt (6 : Fin 8) (cfgA m).N = (fun b : S128256x1536.Idx => dW (A0 m c) (A1 m c) (A2 m c) (A3 m c) (A4 m c) (A5 m c) (A6 m c) (b 0) (b 1) : Vec Ideal S128256x1536 .f32) := by
  refine (dats m 0 c).arrAt_eq_of_covers (6 : Fin 8) _ cov6 fun t hf y => ?_
  have he : ((((cfgA m).win (6 : Fin 8)).blk t).view.emb y : S128256x1536.Idx)
      = ix2 (n := 128256) (m := 1536) ⟨768 * t.val + (y (0 : Fin 2)).val, at_lt t (y (0 : Fin 2))⟩ (y (1 : Fin 2)) := by
    refine ext2 (n := 128256) (m := 1536) ?_ ?_
    · show cc0_transform_8 (grid0.coords t) 0 * 768 + 1 * (y (0 : Fin 2)).val = 768 * t.val + (y (0 : Fin 2)).val
      rw [tr8]
      show t.val * 768 + 1 * (y (0 : Fin 2)).val = 768 * t.val + (y (0 : Fin 2)).val
      omega
    · show cc0_transform_8 (grid0.coords t) 1 * 1536 + 1 * (y (1 : Fin 2)).val = (y (1 : Fin 2)).val
      rw [tr8]
      show 0 * 1536 + 1 * (y (1 : Fin 2)).val = (y (1 : Fin 2)).val
      omega
  rw [he]
  exact D_val m c t hs y

/-- The second result's array. -/
theorem arr7 : (dats m 0 c).arrAt (7 : Fin 8) (cfgA m).N = (fun b : S3072x1536.Idx => dX (A0 m c) (A1 m c) (A7 m c) (A8 m c) (b 0) (b 1) : Vec Ideal S3072x1536 .f32) := by
  refine (dats m 0 c).arrAt_eq_of_after_last (7 : Fin 8) (⟨166, by decide⟩ : Fin grid0.N) whole7 _ fun j => ?_
  exact Y_all m c j

/-- The second result. -/
theorem res7 : shapeCast S3x1024x1536 (show Vec Ideal S3072x1536 .f32 from (dats m 0 c).arrAt (7 : Fin 8) (cfgA m).N) shapeCasts_S3072x1536_S3x1024x1536
    = (dX3 (A0 m c) (A1 m c) (A7 m c) (A8 m c) : Vec Ideal S3x1024x1536 .f32) := by
  funext b
  have h0 : (b (0 : Fin 3)).val < 3 := (b (0 : Fin 3)).isLt
  have h1 : (b (1 : Fin 3)).val < 1024 := (b (1 : Fin 3)).isLt
  refine (shapeCast_apply (s := S3072x1536) (t := S3x1024x1536) _ _ b (ix2 (n := 3072) (m := 1536) ⟨1024 * (b (0 : Fin 3)).val + (b (1 : Fin 3)).val, by omega⟩ (b (2 : Fin 3))) ?_).trans ?_
  · rw [Shape.rowMajor_val_two, Shape.rowMajor_val_three]
    show (1024 * (b (0 : Fin 3)).val + (b (1 : Fin 3)).val) * 1536 + (b (2 : Fin 3)).val = ((b (0 : Fin 3)).val * 1024 + (b (1 : Fin 3)).val) * 1536 + (b (2 : Fin 3)).val
    omega
  · exact congrFun (arr7 m c) (ix2 (n := 3072) (m := 1536) ⟨1024 * (b (0 : Fin 3)).val + (b (1 : Fin 3)).val, by omega⟩ (b (2 : Fin 3)))

end Cert.KernelIdeal.Value

end
-- ==== Proof.RefSum.lean ====
/-
  Where arithmetic is exact: the reference's operations on the host, read at an index.
-/
module

public import proofs.«01_k».proof.ReferenceIdeal
public import proofs.«01_k».proof.Proof.Spec
public import proofs.«01_k».proof.Proof.Sums
public import Idealize.ShloMosaic.Lib.Pipeline.Value
public import Idealize.ShloMosaic.Lib.Pointwise
public import Idealize.ShloMosaic.PureOps.Ideal.Laws

@[expose] public section

set_option maxRecDepth 100000

noncomputable section

namespace Cert.ReferenceIdeal.Sum

open Cert.ReferenceIdeal Cert.ReferenceIdeal.Facts₀ Cert.ReferenceIdeal.Facts Cert.Spec
open Idealize.ShloMosaic

variable [Facts]

/-- Four coordinates. -/
def ix4 {n k a b : Nat} (x : Fin n) (y : Fin k) (z : Fin a) (w : Fin b) : (⟨4, ![n, k, a, b]⟩ : Shape).Idx := fun
  | ⟨0, _⟩ => x
  | ⟨1, _⟩ => y
  | ⟨2, _⟩ => z
  | ⟨3, _⟩ => w

theorem ext3 {n k a : Nat} {x y : (⟨3, ![n, k, a]⟩ : Shape).Idx} (h0 : (x 0).val = (y 0).val) (h1 : (x 1).val = (y 1).val) (h2 : (x 2).val = (y 2).val) : x = y := by
  funext p
  match p with
  | ⟨0, _⟩ => exact Fin.ext h0
  | ⟨1, _⟩ => exact Fin.ext h1
  | ⟨2, _⟩ => exact Fin.ext h2

/-- The gradient of the logits: codes times the scale of their group. -/
abbrev G (a0 : FVec Ideal S3x1024x128256 .bf16) (a1 : FVec Ideal S3x1024x167 .bf16) : FVec Ideal S3x1024x128256 .bf16 :=
  shapeCast _ (mulf (shapeCast _ a0 shapeCasts_S3x1024x128256_S3x1024x167x768) (broadcastInDim S3x1024x167x768 ![0, 1, 2, 3] bcast_S3x1024x167x1_S3x1024x167x768_0_1_2_3 (broadcastInDim S3x1024x167x1 ![0, 1, 2] bcast_S3x1024x167_S3x1024x167x1_0_1_2 a1))) shapeCasts_S3x1024x167x768_S3x1024x128256

/-- The activations: codes times the scale of their row. -/
abbrev X (a2 : FVec Ideal S3x1024x1536 .bf16) (a3 : FVec Ideal S3x1024 .bf16) : FVec Ideal S3x1024x1536 .bf16 :=
  mulf a2 (broadcastInDim S3x1024x1536 ![0, 1, 2] bcast_S3x1024x1_S3x1024x1536_0_1_2 (broadcastInDim S3x1024x1 ![0, 1] bcast_S3x1024_S3x1024x1_0_1 a3))

/-- The rows of the embedding's gradient: codes times the scale of their row. -/
abbrev E (a4 : FVec Ideal S3072x1536 .f32) (a5 : FVec Ideal S3072 .f32) : FVec Ideal S3072x1536 .f32 :=
  mulf a4 (broadcastInDim S3072x1536 ![0, 1] bcast_S3072x1_S3072x1536_0_1 (broadcastInDim S3072x1 ![0] bcast_S3072_S3072x1_0 a5))

/-- The weights: codes times the scale of their row. -/
abbrev W (a7 : FVec Ideal S128256x1536 .bf16) (a8 : FVec Ideal S128256 .bf16) : FVec Ideal S128256x1536 .bf16 :=
  mulf a7 (broadcastInDim S128256x1536 ![0, 1] bcast_S128256x1_S128256x1536_0_1 (broadcastInDim S128256x1 ![0] bcast_S128256_S128256x1_0 a8))

theorem G_apply (a0 : FVec Ideal S3x1024x128256 .bf16) (a1 : FVec Ideal S3x1024x167 .bf16) (x : Fin 3) (y : Fin 1024) (v : Fin 128256) :
    (G a0 a1 (Spec.ix3 (n := 3) (k := 1024) (a := 128256) x y v) : EReal)
      = (a0 (Spec.ix3 (n := 3) (k := 1024) (a := 128256) x y v) : EReal) * (a1 (Spec.ix3 (n := 3) (k := 1024) (a := 167) x y (grp v)) : EReal) := by
  have hr : ((⟨4, ![3, 1024, 167, 768]⟩ : Shape).rowMajor (ix4 (n := 3) (k := 1024) (a := 167) (b := 768) x y (grp v) ⟨v.val % 768, Nat.mod_lt _ (by decide)⟩)).val
      = ((⟨3, ![3, 1024, 128256]⟩ : Shape).rowMajor (Spec.ix3 (n := 3) (k := 1024) (a := 128256) x y v)).val := by
    rw [Shape.rowMajor_val_four, Shape.rowMajor_val_three]
    show ((x.val * 1024 + y.val) * 167 + v.val / 768) * 768 + v.val % 768 = (x.val * 1024 + y.val) * 128256 + v.val
    omega
  refine (shapeCast_apply (s := S3x1024x167x768) (t := S3x1024x128256) _ _ _ (ix4 (n := 3) (k := 1024) (a := 167) (b := 768) x y (grp v) ⟨v.val % 768, Nat.mod_lt _ (by decide)⟩) hr).trans ?_
  refine congrArg₂ (fun x y : EReal => (x * y : EReal)) ?_ ?_
  · exact shapeCast_apply (s := S3x1024x128256) (t := S3x1024x167x768) _ _ _ (Spec.ix3 (n := 3) (k := 1024) (a := 128256) x y v) hr.symm
  · refine (broadcastInDim_apply (s := S3x1024x167x1) (t := S3x1024x167x768) _ _ _ _ (ix4 (n := 3) (k := 1024) (a := 167) (b := 1) x y (grp v) 0) ?_).trans ?_
    · intro a
      fin_cases a <;> rfl
    · refine broadcastInDim_apply (s := S3x1024x167) (t := S3x1024x167x1) _ _ _ _ (Spec.ix3 (n := 3) (k := 1024) (a := 167) x y (grp v)) ?_
      intro a
      fin_cases a <;> rfl

theorem X_apply (a2 : FVec Ideal S3x1024x1536 .bf16) (a3 : FVec Ideal S3x1024 .bf16) (x : Fin 3) (y : Fin 1024) (d : Fin 1536) :
    (X a2 a3 (Spec.ix3 (n := 3) (k := 1024) (a := 1536) x y d) : EReal)
      = (a2 (Spec.ix3 (n := 3) (k := 1024) (a := 1536) x y d) : EReal) * (a3 (Cert.Idx.ix2 (n := 3) (m := 1024) x y) : EReal) := by
  refine congrArg₂ (fun x y : EReal => (x * y : EReal)) rfl ?_
  refine (broadcastInDim_apply (s := S3x1024x1) (t := S3x1024x1536) _ _ _ _ (Spec.ix3 (n := 3) (k := 1024) (a := 1) x y 0) ?_).trans ?_
  · intro a
    fin_cases a <;> rfl
  · refine broadcastInDim_apply (s := S3x1024) (t := S3x1024x1) _ _ _ _ (Cert.Idx.ix2 (n := 3) (m := 1024) x y) ?_
    intro a
    fin_cases a <;> rfl

theorem E_apply (a4 : FVec Ideal S3072x1536 .f32) (a5 : FVec Ideal S3072 .f32) (q : Fin 3072) (d : Fin 1536) :
    (E a4 a5 (Cert.Idx.ix2 (n := 3072) (m := 1536) q d) : EReal)
      = (a4 (Cert.Idx.ix2 (n := 3072) (m := 1536) q d) : EReal) * (a5 (Cert.Idx.ix1 (n := 3072) q) : EReal) := by
  refine congrArg₂ (fun x y : EReal => (x * y : EReal)) rfl ?_
  refine (broadcastInDim_apply (s := S3072x1) (t := S3072x1536) _ _ _ _ (Cert.Idx.ix2 (n := 3072) (m := 1) q 0) ?_).trans ?_
  · intro a
    fin_cases a <;> rfl
  · refine broadcastInDim_apply (s := S3072) (t := S3072x1) _ _ _ _ (Cert.Idx.ix1 (n := 3072) q) ?_
    intro a
    fin_cases a; rfl

theorem W_apply (a7 : FVec Ideal S128256x1536 .bf16) (a8 : FVec Ideal S128256 .bf16) (q : Fin 128256) (d : Fin 1536) :
    (W a7 a8 (Cert.Idx.ix2 (n := 128256) (m := 1536) q d) : EReal)
      = (a7 (Cert.Idx.ix2 (n := 128256) (m := 1536) q d) : EReal) * (a8 (Cert.Idx.ix1 (n := 128256) q) : EReal) := by
  refine congrArg₂ (fun x y : EReal => (x * y : EReal)) rfl ?_
  refine (broadcastInDim_apply (s := S128256x1) (t := S128256x1536) _ _ _ _ (Cert.Idx.ix2 (n := 128256) (m := 1) q 0) ?_).trans ?_
  · intro a
    fin_cases a <;> rfl
  · refine broadcastInDim_apply (s := S128256) (t := S128256x1) _ _ _ _ (Cert.Idx.ix1 (n := 128256) q) ?_
    intro a
    fin_cases a; rfl

/-- The second product, read at an index. -/
theorem dX_apply (g : FVec Ideal S3x1024x128256 .bf16) (w : FVec Ideal S128256x1536 .bf16) (x : Fin 3) (y : Fin 1024) (d : Fin 1536) :
    (Host.dotGeneral dot_S3x1024x128256_S128256x1536_S3x1024x1536_2_0_01_1_n_n none g w (Spec.ix3 (n := 3) (k := 1024) (a := 1536) x y d) : EReal)
      = ∑ v : Fin 128256, (g (Spec.ix3 (n := 3) (k := 1024) (a := 128256) x y v) : EReal) * (w (Cert.Idx.ix2 (n := 128256) (m := 1536) v d) : EReal) := by
  simp only [Host.dotGeneral]
  refine (Ideal.dotGeneral_apply dot_S3x1024x128256_S128256x1536_S3x1024x1536_2_0_01_1_n_n none HostSchedule.single g w _).trans ?_
  refine (DotDims.sum_contr₁ _ (a := 2) (K := 128256) rfl rfl _).trans ?_
  refine Finset.sum_congr rfl fun v _ => ?_
  refine congrArg₂ (fun x y : EReal => (x * y : EReal)) (congrArg g ?_) (congrArg w ?_)
  · exact ext3 rfl rfl rfl
  · exact Cert.Idx.ext2 rfl rfl

/-- The first product, read at an index. -/
theorem dW_apply (g : FVec Ideal S3x1024x128256 .bf16) (w : FVec Ideal S3x1024x1536 .bf16) (v : Fin 128256) (d : Fin 1536) :
    (Host.dotGeneral dot_S3x1024x128256_S3x1024x1536_S128256x1536_01_01_2_2_n_n none g w (Cert.Idx.ix2 (n := 128256) (m := 1536) v d) : EReal)
      = ∑ x : Fin 3, ∑ y : Fin 1024, (g (Spec.ix3 (n := 3) (k := 1024) (a := 128256) x y v) : EReal) * (w (Spec.ix3 (n := 3) (k := 1024) (a := 1536) x y d) : EReal) := by
  simp only [Host.dotGeneral]
  refine (Ideal.dotGeneral_apply dot_S3x1024x128256_S3x1024x1536_S128256x1536_01_01_2_2_n_n none HostSchedule.single g w _).trans ?_
  refine (DotDims.sum_contr₂ _ (a := 0) (b := 1) (K₁ := 3) (K₂ := 1024) rfl rfl rfl _).trans ?_
  refine Finset.sum_congr rfl fun x _ => Finset.sum_congr rfl fun y _ => ?_
  refine congrArg₂ (fun x y : EReal => (x * y : EReal)) (congrArg g ?_) (congrArg w ?_)
  · exact ext3 rfl rfl rfl
  · exact ext3 rfl rfl rfl

section Scatter

variable (idx : IVec S3072x1 32) (q : Fin 3072) (e : Fin 1536)

theorem start0 : ScatterDims.start scatter_S128256x1536_S3072x1_S3072x1536_1_0_0_1 (Cert.Idx.ix2 (n := 3072) (m := 1536) q e) idx (0 : Fin 2) = (idx (Cert.Idx.ix2 (n := 3072) (m := 1) q 0)).toInt := by
  unfold ScatterDims.start
  refine (dif_pos (show (0 : Fin 2) ∈ ScatterDims.scatterDimsToOperandDims scatter_S128256x1536_S3072x1_S3072x1536_1_0_0_1 from List.mem_singleton.2 rfl)).trans ?_
  refine congrArg (fun a => (idx a).toInt) ?_
  exact Cert.Idx.ext2 rfl rfl

theorem start1 : ScatterDims.start scatter_S128256x1536_S3072x1_S3072x1536_1_0_0_1 (Cert.Idx.ix2 (n := 3072) (m := 1536) q e) idx (1 : Fin 2) = 0 := by
  unfold ScatterDims.start
  exact dif_neg (show ¬ (1 : Fin 2) ∈ ScatterDims.scatterDimsToOperandDims scatter_S128256x1536_S3072x1_S3072x1536_1_0_0_1 from fun h => absurd (List.mem_singleton.1 h) (by decide))

theorem window0 : ScatterDims.window scatter_S128256x1536_S3072x1_S3072x1536_1_0_0_1 (Cert.Idx.ix2 (n := 3072) (m := 1536) q e) (0 : Fin 2) = 0 := by
  unfold ScatterDims.window
  exact dif_neg (show ¬ (0 : Fin 2) ∈ ScatterDims.sKept scatter_S128256x1536_S3072x1_S3072x1536_1_0_0_1 from (by decide : ¬ (0 : Fin 2) ∈ S128256x1536.kept [(0 : Fin 2)]))

theorem window1 : ScatterDims.window scatter_S128256x1536_S3072x1_S3072x1536_1_0_0_1 (Cert.Idx.ix2 (n := 3072) (m := 1536) q e) (1 : Fin 2) = e.val := by
  unfold ScatterDims.window
  exact (dif_pos (show (1 : Fin 2) ∈ ScatterDims.sKept scatter_S128256x1536_S3072x1_S3072x1536_1_0_0_1 from (by decide : (1 : Fin 2) ∈ S128256x1536.kept [(0 : Fin 2)]))).trans rfl

/-- Update row `q` lands at the row its identifier names. -/
theorem lands (h : (idx (Cert.Idx.ix2 (n := 3072) (m := 1) q 0)).toNat < 2 ^ 31) (v : Fin 128256) (d : Fin 1536) :
    ScatterDims.resultIdx? scatter_S128256x1536_S3072x1_S3072x1536_1_0_0_1 (Cert.Idx.ix2 (n := 3072) (m := 1536) q e) idx = some (Cert.Idx.ix2 (n := 128256) (m := 1536) v d)
      ↔ (idx (Cert.Idx.ix2 (n := 3072) (m := 1) q 0)).toNat = v.val ∧ e = d := by
  have hi : (idx (Cert.Idx.ix2 (n := 3072) (m := 1) q 0)).toInt = (idx (Cert.Idx.ix2 (n := 3072) (m := 1) q 0)).toNat := by
    rw [BitVec.toInt_eq_toNat_cond, if_pos (by omega)]
  have hv := v.isLt
  have hd := e.isLt
  unfold ScatterDims.resultIdx?
  constructor
  · intro hr
    split at hr
    · have hj := Option.some.inj hr
      have h0 := congrArg Fin.val (congrFun hj (0 : Fin 2))
      have h1 := congrArg Fin.val (congrFun hj (1 : Fin 2))
      have h0' : (ScatterDims.start scatter_S128256x1536_S3072x1_S3072x1536_1_0_0_1 (Cert.Idx.ix2 (n := 3072) (m := 1536) q e) idx (0 : Fin 2) + ScatterDims.window scatter_S128256x1536_S3072x1_S3072x1536_1_0_0_1 (Cert.Idx.ix2 (n := 3072) (m := 1536) q e) (0 : Fin 2)).toNat = v.val := h0
      have h1' : (ScatterDims.start scatter_S128256x1536_S3072x1_S3072x1536_1_0_0_1 (Cert.Idx.ix2 (n := 3072) (m := 1536) q e) idx (1 : Fin 2) + ScatterDims.window scatter_S128256x1536_S3072x1_S3072x1536_1_0_0_1 (Cert.Idx.ix2 (n := 3072) (m := 1536) q e) (1 : Fin 2)).toNat = d.val := h1
      rw [start0, window0, hi] at h0'
      rw [start1, window1] at h1'
      exact ⟨by omega, Fin.ext (by omega)⟩
    · exact absurd hr (by simp)
  · rintro ⟨hq, rfl⟩
    rw [dif_pos]
    · refine congrArg some (Cert.Idx.ext2 ?_ ?_)
      · show (ScatterDims.start scatter_S128256x1536_S3072x1_S3072x1536_1_0_0_1 (Cert.Idx.ix2 (n := 3072) (m := 1536) q e) idx (0 : Fin 2) + ScatterDims.window scatter_S128256x1536_S3072x1_S3072x1536_1_0_0_1 (Cert.Idx.ix2 (n := 3072) (m := 1536) q e) (0 : Fin 2)).toNat = v.val
        rw [start0, window0, hi]
        omega
      · show (ScatterDims.start scatter_S128256x1536_S3072x1_S3072x1536_1_0_0_1 (Cert.Idx.ix2 (n := 3072) (m := 1536) q e) idx (1 : Fin 2) + ScatterDims.window scatter_S128256x1536_S3072x1_S3072x1536_1_0_0_1 (Cert.Idx.ix2 (n := 3072) (m := 1536) q e) (1 : Fin 2)).toNat = e.val
        rw [start1, window1]
        omega
    · intro a
      match a with
      | ⟨0, _⟩ =>
        show 0 ≤ ScatterDims.start scatter_S128256x1536_S3072x1_S3072x1536_1_0_0_1 (Cert.Idx.ix2 (n := 3072) (m := 1536) q e) idx (0 : Fin 2) + ScatterDims.window scatter_S128256x1536_S3072x1_S3072x1536_1_0_0_1 (Cert.Idx.ix2 (n := 3072) (m := 1536) q e) (0 : Fin 2)
          ∧ ScatterDims.start scatter_S128256x1536_S3072x1_S3072x1536_1_0_0_1 (Cert.Idx.ix2 (n := 3072) (m := 1536) q e) idx (0 : Fin 2) + ScatterDims.window scatter_S128256x1536_S3072x1_S3072x1536_1_0_0_1 (Cert.Idx.ix2 (n := 3072) (m := 1536) q e) (0 : Fin 2) < ((128256 : ℕ) : ℤ)
        rw [start0, window0, hi]
        omega
      | ⟨1, _⟩ =>
        show 0 ≤ ScatterDims.start scatter_S128256x1536_S3072x1_S3072x1536_1_0_0_1 (Cert.Idx.ix2 (n := 3072) (m := 1536) q e) idx (1 : Fin 2) + ScatterDims.window scatter_S128256x1536_S3072x1_S3072x1536_1_0_0_1 (Cert.Idx.ix2 (n := 3072) (m := 1536) q e) (1 : Fin 2)
          ∧ ScatterDims.start scatter_S128256x1536_S3072x1_S3072x1536_1_0_0_1 (Cert.Idx.ix2 (n := 3072) (m := 1536) q e) idx (1 : Fin 2) + ScatterDims.window scatter_S128256x1536_S3072x1_S3072x1536_1_0_0_1 (Cert.Idx.ix2 (n := 3072) (m := 1536) q e) (1 : Fin 2) < ((1536 : ℕ) : ℤ)
        rw [start1, window1]
        omega

/-- The added rows, read at an index. -/
theorem scatter_apply (a6 : IVec S3072 32) (h : ∀ q : Fin 3072, (a6 (Cert.Idx.ix1 (n := 3072) q)).toNat < 2 ^ 31) (u : FVec Ideal S3072x1536 .f32) (v : Fin 128256) (d : Fin 1536) :
    (Host.scatterAdd scatter_S128256x1536_S3072x1_S3072x1536_1_0_0_1 (broadcastInDim S128256x1536 ![] bcast_S_S128256x1536 (constant S_ .f32 0x00000000#32)) (broadcastInDim S3072x1 ![0] bcast_S3072_S3072x1_0 a6) u
        (Cert.Idx.ix2 (n := 128256) (m := 1536) v d) : EReal)
      = ∑ q : Fin 3072, if (a6 (Cert.Idx.ix1 (n := 3072) q)).toNat = v.val then (u (Cert.Idx.ix2 (n := 3072) (m := 1536) q d) : EReal) else 0 := by
  have hx : ∀ q : Fin 3072, broadcastInDim S3072x1 ![0] bcast_S3072_S3072x1_0 a6 (Cert.Idx.ix2 (n := 3072) (m := 1) q 0) = a6 (Cert.Idx.ix1 (n := 3072) q) := by
    intro q
    refine broadcastInDim_apply (s := S3072) (t := S3072x1) _ _ _ _ (Cert.Idx.ix1 (n := 3072) q) ?_
    intro a
    fin_cases a; rfl
  generalize broadcastInDim S3072x1 ![0] bcast_S3072_S3072x1_0 a6 = idx at hx
  have hz : (broadcastInDim S128256x1536 ![] bcast_S_S128256x1536 (constant S_ .f32 0x00000000#32 : FVec Ideal S_ .f32) (Cert.Idx.ix2 (n := 128256) (m := 1536) v d) : EReal) = 0 := Ideal.ofBits_zero_f32
  refine (congrArg (fun z : EReal => z + ∑ j ∈ Finset.univ.filter (fun j => ScatterDims.resultIdx? scatter_S128256x1536_S3072x1_S3072x1536_1_0_0_1 j idx = some (Cert.Idx.ix2 (n := 128256) (m := 1536) v d)), (u j : EReal)) hz).trans ?_
  rw [zero_add, Finset.sum_filter]
  have he : ∑ j : S3072x1536.Idx, (if ScatterDims.resultIdx? scatter_S128256x1536_S3072x1_S3072x1536_1_0_0_1 j idx = some (Cert.Idx.ix2 (n := 128256) (m := 1536) v d) then (u j : EReal) else 0)
      = ∑ q : Fin 3072, ∑ e : Fin 1536, if ScatterDims.resultIdx? scatter_S128256x1536_S3072x1_S3072x1536_1_0_0_1 (Cert.Idx.ix2 (n := 3072) (m := 1536) q e) idx = some (Cert.Idx.ix2 (n := 128256) (m := 1536) v d) then (u (Cert.Idx.ix2 (n := 3072) (m := 1536) q e) : EReal) else 0 := by
    rw [← Fintype.sum_prod_type' (fun (q : Fin 3072) (e : Fin 1536) => if ScatterDims.resultIdx? scatter_S128256x1536_S3072x1_S3072x1536_1_0_0_1 (Cert.Idx.ix2 (n := 3072) (m := 1536) q e) idx = some (Cert.Idx.ix2 (n := 128256) (m := 1536) v d) then (u (Cert.Idx.ix2 (n := 3072) (m := 1536) q e) : EReal) else 0)]
    refine (Fintype.sum_equiv (⟨fun p => Cert.Idx.ix2 p.1 p.2, fun j => (j 0, j 1), fun _ => rfl, fun j => Cert.Idx.eta2 j⟩ : Fin 3072 × Fin 1536 ≃ S3072x1536.Idx) _ _ fun p => ?_).symm
    rfl
  refine he.trans (Finset.sum_congr rfl fun q _ => ?_)
  have hl := fun e => lands idx q e (by rw [hx]; exact h q) v d
  simp only [hl, hx]
  by_cases hq : (a6 (Cert.Idx.ix1 (n := 3072) q)).toNat = v.val
  · simp only [hq, true_and, if_true]
    exact Finset.sum_ite_eq' Finset.univ d (fun e => (u (Cert.Idx.ix2 (n := 3072) (m := 1536) q e) : EReal)) |>.trans (if_pos (Finset.mem_univ d))
  · simp only [hq, false_and, if_false]
    exact Finset.sum_const_zero

end Scatter

/-- The first result. -/
theorem first (a0 : FVec Ideal S3x1024x128256 .bf16) (a1 : FVec Ideal S3x1024x167 .bf16) (a2 : FVec Ideal S3x1024x1536 .bf16) (a3 : FVec Ideal S3x1024 .bf16)
    (a4 : FVec Ideal S3072x1536 .f32) (a5 : FVec Ideal S3072 .f32) (a6 : IVec S3072 32) (h : ∀ q : Fin 3072, (a6 (Cert.Idx.ix1 (n := 3072) q)).toNat < 2 ^ 31) :
    addf (Host.dotGeneral dot_S3x1024x128256_S3x1024x1536_S128256x1536_01_01_2_2_n_n none (G a0 a1) (X a2 a3))
        (Host.scatterAdd scatter_S128256x1536_S3072x1_S3072x1536_1_0_0_1 (broadcastInDim S128256x1536 ![] bcast_S_S128256x1536 (constant S_ .f32 0x00000000#32))
          (broadcastInDim S3072x1 ![0] bcast_S3072_S3072x1_0 a6) (E a4 a5))
      = (fun b => dW a0 a1 a2 a3 a4 a5 a6 (b 0) (b 1) : FVec Ideal S128256x1536 .f32) := by
  funext b
  obtain ⟨v, d, rfl⟩ : ∃ v d, b = Cert.Idx.ix2 (n := 128256) (m := 1536) v d := ⟨b 0, b 1, (Cert.Idx.eta2 b).symm⟩
  refine congrArg₂ (fun x y : EReal => (x + y : EReal)) ?_ ?_
  · refine (dW_apply _ _ v d).trans ?_
    show _ = (∑ q : Fin 3072, xk a2 a3 q d * gk a0 a1 q v : EReal)
    rw [← Sums.sum_blocks 3 1024 3072 rfl (fun q => xk a2 a3 q d * gk a0 a1 q v) (fun x y => by have := x.isLt; have := y.isLt; omega)]
    refine Finset.sum_congr rfl fun x _ => Finset.sum_congr rfl fun y _ => ?_
    have hx : Spec.hi ⟨1024 * x.val + y.val, by have := x.isLt; have := y.isLt; omega⟩ = x := Fin.ext (by show (1024 * x.val + y.val) / 1024 = x.val; have := y.isLt; omega)
    have hy : Spec.lo ⟨1024 * x.val + y.val, by have := x.isLt; have := y.isLt; omega⟩ = y := Fin.ext (by show (1024 * x.val + y.val) % 1024 = y.val; have := y.isLt; omega)
    unfold xk gk
    rw [hx, hy, mul_comm]
    exact congrArg₂ (fun x y : EReal => (x * y : EReal)) (X_apply a2 a3 x y d) (G_apply a0 a1 x y v)
  · refine (scatter_apply a6 h _ v d).trans (Finset.sum_congr rfl fun q _ => ?_)
    exact if_congr Iff.rfl (E_apply a4 a5 q d) rfl

/-- The second result, at token `q`. -/
theorem second (a0 : FVec Ideal S3x1024x128256 .bf16) (a1 : FVec Ideal S3x1024x167 .bf16) (a7 : FVec Ideal S128256x1536 .bf16) (a8 : FVec Ideal S128256 .bf16) (q : Fin 3072) (d : Fin 1536) :
    (Host.dotGeneral dot_S3x1024x128256_S128256x1536_S3x1024x1536_2_0_01_1_n_n none (G a0 a1) (W a7 a8) (Spec.ix3 (n := 3) (k := 1024) (a := 1536) (Spec.hi q) (Spec.lo q) d) : EReal)
      = dX a0 a1 a7 a8 q d := by
  refine (dX_apply _ _ _ _ d).trans (Finset.sum_congr rfl fun v _ => ?_)
  exact congrArg₂ (fun x y : EReal => (x * y : EReal)) (G_apply a0 a1 _ _ v) (W_apply a7 a8 v d)

end Cert.ReferenceIdeal.Sum

end
-- ==== Proof.RefValue.lean ====
/-
  Where arithmetic is exact: what the reference's programme leaves, as sums over the arguments.
-/
module

public import proofs.«01_k».proof.Proof.Gen.ReferenceIdeal.Run
public import proofs.«01_k».proof.Proof.RefSum
public import Idealize.ShloMosaic.Lib.Pipeline.ValueKit.Geometry

@[expose] public section

set_option maxRecDepth 100000

noncomputable section

namespace Cert.ReferenceIdeal.Value

open Cert.ReferenceIdeal Cert.ReferenceIdeal.Gen Cert.Spec
open Idealize.ShloMosaic Idealize.ShloMosaic.TcCoe

variable (m : (ℓ : Loc nD τ sig) → Buf (Elt Ideal) ℓ) (c : Dev nD)

theorem whole4 : ((cfg0).win (4 : Fin 8)).WholeAt (⟨0, by decide⟩ : Fin cfg0.N) := by decide +kernel

theorem reg0 : (reg_main_v0_0 m c : FVec Ideal S3x1024x128256 .bf16) = m ((c.tc : Thread nD τ).loc main_arg0) := by
  unfold reg_main_v0_0
  refine (dats m 0 c).arrAt_eq_of_after_last (4 : Fin 8) (⟨0, by decide⟩ : Fin cfg0.N) whole4 _ fun j => ?_
  have hr : r0_0.emb j = j := funext fun a => Fin.ext (by
    match a with
    | ⟨0, _⟩ =>
      show 0 + 1 * (j (0 : Fin 3)).val = (j (0 : Fin 3)).val
      omega
    | ⟨1, _⟩ =>
      show 0 + 1 * (j (1 : Fin 3)).val = (j (1 : Fin 3)).val
      omega
    | ⟨2, _⟩ =>
      show 0 + 1 * (j (2 : Fin 3)).val = (j (2 : Fin 3)).val
      omega)
  show ((dats m 0 c).after (4 : Fin 8) (⟨0, by decide⟩ : Fin cfg0.N) j : EReal) = _
  rw [after0_4]
  unfold out0_4
  refine (congrArg (View.canon _) hr.symm).trans ((View.canon_cons_emb r0_0 _ [] j).trans ?_)
  refine congrArg (m ((c.tc : Thread nD τ).loc main_arg0)) ?_
  refine funext fun a => Fin.ext ?_
  match a with
  | ⟨0, _⟩ =>
    show 0 + 1 * (0 + 1 * (j (0 : Fin 3)).val) = (j (0 : Fin 3)).val
    omega
  | ⟨1, _⟩ =>
    show 0 + 1 * (0 + 1 * (j (1 : Fin 3)).val) = (j (1 : Fin 3)).val
    omega
  | ⟨2, _⟩ =>
    show 0 * 128256 + 1 * (0 + 1 * (j (2 : Fin 3)).val) = (j (2 : Fin 3)).val
    omega

theorem whole5 : ((cfg0).win (5 : Fin 8)).WholeAt (⟨0, by decide⟩ : Fin cfg0.N) := by decide +kernel

theorem reg1 : (reg_main_v0_1 m c : FVec Ideal S3x1024x1536 .bf16) = m ((c.tc : Thread nD τ).loc main_arg2) := by
  unfold reg_main_v0_1
  refine (dats m 0 c).arrAt_eq_of_after_last (5 : Fin 8) (⟨0, by decide⟩ : Fin cfg0.N) whole5 _ fun j => ?_
  have hr : r0_1.emb j = j := funext fun a => Fin.ext (by
    match a with
    | ⟨0, _⟩ =>
      show 0 + 1 * (j (0 : Fin 3)).val = (j (0 : Fin 3)).val
      omega
    | ⟨1, _⟩ =>
      show 0 + 1 * (j (1 : Fin 3)).val = (j (1 : Fin 3)).val
      omega
    | ⟨2, _⟩ =>
      show 0 + 1 * (j (2 : Fin 3)).val = (j (2 : Fin 3)).val
      omega)
  show ((dats m 0 c).after (5 : Fin 8) (⟨0, by decide⟩ : Fin cfg0.N) j : EReal) = _
  rw [after0_5]
  unfold out0_5
  refine (congrArg (View.canon _) hr.symm).trans ((View.canon_cons_emb r0_1 _ [] j).trans ?_)
  refine congrArg (m ((c.tc : Thread nD τ).loc main_arg2)) ?_
  refine funext fun a => Fin.ext ?_
  match a with
  | ⟨0, _⟩ =>
    show 0 + 1 * (0 + 1 * (j (0 : Fin 3)).val) = (j (0 : Fin 3)).val
    omega
  | ⟨1, _⟩ =>
    show 0 + 1 * (0 + 1 * (j (1 : Fin 3)).val) = (j (1 : Fin 3)).val
    omega
  | ⟨2, _⟩ =>
    show 0 + 1 * (0 + 1 * (j (2 : Fin 3)).val) = (j (2 : Fin 3)).val
    omega

theorem whole6 : ((cfg0).win (6 : Fin 8)).WholeAt (⟨0, by decide⟩ : Fin cfg0.N) := by decide +kernel

theorem reg2 : (reg_main_v0_2 m c : FVec Ideal S3072x1536 .f32) = m ((c.tc : Thread nD τ).loc main_arg4) := by
  unfold reg_main_v0_2
  refine (dats m 0 c).arrAt_eq_of_after_last (6 : Fin 8) (⟨0, by decide⟩ : Fin cfg0.N) whole6 _ fun j => ?_
  have hr : r0_2.emb j = j := funext fun a => Fin.ext (by
    match a with
    | ⟨0, _⟩ =>
      show 0 + 1 * (j (0 : Fin 2)).val = (j (0 : Fin 2)).val
      omega
    | ⟨1, _⟩ =>
      show 0 + 1 * (j (1 : Fin 2)).val = (j (1 : Fin 2)).val
      omega)
  show ((dats m 0 c).after (6 : Fin 8) (⟨0, by decide⟩ : Fin cfg0.N) j : EReal) = _
  rw [after0_6]
  unfold out0_6
  refine (congrArg (View.canon _) hr.symm).trans ((View.canon_cons_emb r0_2 _ [] j).trans ?_)
  refine congrArg (m ((c.tc : Thread nD τ).loc main_arg4)) ?_
  refine funext fun a => Fin.ext ?_
  match a with
  | ⟨0, _⟩ =>
    show 0 + 1 * (0 + 1 * (j (0 : Fin 2)).val) = (j (0 : Fin 2)).val
    omega
  | ⟨1, _⟩ =>
    show 0 + 1 * (0 + 1 * (j (1 : Fin 2)).val) = (j (1 : Fin 2)).val
    omega

theorem whole7 : ((cfg0).win (7 : Fin 8)).WholeAt (⟨0, by decide⟩ : Fin cfg0.N) := by decide +kernel

theorem reg3 : (reg_main_v0_3 m c : FVec Ideal S128256x1536 .bf16) = m ((c.tc : Thread nD τ).loc main_arg7) := by
  unfold reg_main_v0_3
  refine (dats m 0 c).arrAt_eq_of_after_last (7 : Fin 8) (⟨0, by decide⟩ : Fin cfg0.N) whole7 _ fun j => ?_
  have hr : r0_3.emb j = j := funext fun a => Fin.ext (by
    match a with
    | ⟨0, _⟩ =>
      show 0 + 1 * (j (0 : Fin 2)).val = (j (0 : Fin 2)).val
      omega
    | ⟨1, _⟩ =>
      show 0 + 1 * (j (1 : Fin 2)).val = (j (1 : Fin 2)).val
      omega)
  show ((dats m 0 c).after (7 : Fin 8) (⟨0, by decide⟩ : Fin cfg0.N) j : EReal) = _
  rw [after0_7]
  unfold out0_7
  refine (congrArg (View.canon _) hr.symm).trans ((View.canon_cons_emb r0_3 _ [] j).trans ?_)
  refine congrArg (m ((c.tc : Thread nD τ).loc main_arg7)) ?_
  refine funext fun a => Fin.ext ?_
  match a with
  | ⟨0, _⟩ =>
    show 0 * 128256 + 1 * (0 + 1 * (j (0 : Fin 2)).val) = (j (0 : Fin 2)).val
    omega
  | ⟨1, _⟩ =>
    show 0 + 1 * (0 + 1 * (j (1 : Fin 2)).val) = (j (1 : Fin 2)).val
    omega

/-- The arguments, as arrays of extended reals. -/
abbrev A0 : (⟨3, ![3, 1024, 128256]⟩ : Shape).Idx → EReal := m ((c.tc : Thread nD τ).loc main_arg0)
abbrev A1 : (⟨3, ![3, 1024, 167]⟩ : Shape).Idx → EReal := m ((c.tc : Thread nD τ).loc main_arg1)
abbrev A2 : (⟨3, ![3, 1024, 1536]⟩ : Shape).Idx → EReal := m ((c.tc : Thread nD τ).loc main_arg2)
abbrev A3 : (⟨2, ![3, 1024]⟩ : Shape).Idx → EReal := m ((c.tc : Thread nD τ).loc main_arg3)
abbrev A4 : (⟨2, ![3072, 1536]⟩ : Shape).Idx → EReal := m ((c.tc : Thread nD τ).loc main_arg4)
abbrev A5 : (⟨1, ![3072]⟩ : Shape).Idx → EReal := m ((c.tc : Thread nD τ).loc main_arg5)
abbrev A6 : (⟨1, ![3072]⟩ : Shape).Idx → BitVec 32 := m ((c.tc : Thread nD τ).loc main_arg6)
abbrev A7 : (⟨2, ![128256, 1536]⟩ : Shape).Idx → EReal := m ((c.tc : Thread nD τ).loc main_arg7)
abbrev A8 : (⟨1, ![128256]⟩ : Shape).Idx → EReal := m ((c.tc : Thread nD τ).loc main_arg8)

theorem val1 (h : ∀ q : Fin 3072, (A6 m c (Cert.Idx.ix1 (n := 3072) q)).toNat < 2 ^ 31) :
    Pipeline.afterTail₀ cfgs (Gen.dats m) 0 (Gen.V0 m) [Gen.hostOps1] c main_v18
      = (fun b => dW (A0 m c) (A1 m c) (A2 m c) (A3 m c) (A4 m c) (A5 m c) (A6 m c) (b 0) (b 1) : FVec Ideal S128256x1536 .f32) := by
  refine (fin_main_v18 m c).trans ?_
  refine (Sum.first (reg_main_v0_0 m c) (truncf .bf16 (m ((c.tc : Thread nD τ).loc main_arg1)) bitsLt_bf16_f32) (reg_main_v0_1 m c)
    (truncf .bf16 (m ((c.tc : Thread nD τ).loc main_arg3)) bitsLt_bf16_f32) (reg_main_v0_2 m c) (m ((c.tc : Thread nD τ).loc main_arg5)) (A6 m c) h).trans ?_
  rw [reg0, reg1, reg2]
  rfl

theorem val2 :
    Pipeline.afterTail₀ cfgs (Gen.dats m) 0 (Gen.V0 m) [Gen.hostOps1] c main_v23
      = (dX3 (A0 m c) (A1 m c) (A7 m c) (A8 m c) : FVec Ideal S3x1024x1536 .f32) := by
  refine (fin_main_v23 m c).trans ?_
  funext b
  have h0 : (b 0).val < 3 := (b 0).isLt
  have h1 : (b 1).val < 1024 := (b 1).isLt
  have hb : b = Spec.ix3 (n := 3) (k := 1024) (a := 1536) (Spec.hi ⟨1024 * (b 0).val + (b 1).val, by omega⟩) (Spec.lo ⟨1024 * (b 0).val + (b 1).val, by omega⟩) (b 2) :=
    Sum.ext3 (n := 3) (k := 1024) (a := 1536) (by show (b 0).val = (1024 * (b 0).val + (b 1).val) / 1024; omega)
      (by show (b 1).val = (1024 * (b 0).val + (b 1).val) % 1024; omega) rfl
  refine (congrArg _ hb).trans ?_
  refine (Sum.second (reg_main_v0_0 m c) (truncf .bf16 (m ((c.tc : Thread nD τ).loc main_arg1)) bitsLt_bf16_f32) (reg_main_v0_3 m c)
    (truncf .bf16 (m ((c.tc : Thread nD τ).loc main_arg8)) bitsLt_bf16_f32) ⟨1024 * (b 0).val + (b 1).val, by omega⟩ (b 2)).trans ?_
  rw [reg0, reg3]
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_ids_sorted
public import proofs.«01_k».proof.Proof.PreSorted
public import proofs.«01_k».proof.Proof.Region
public import proofs.«01_k».proof.Proof.Ideal.Region
public import proofs.«01_k».proof.Proof.Ideal.Value
public import proofs.«01_k».proof.Proof.RefValue
public import Idealize.ShloMosaic.Adequacy
public import Idealize.ShloMosaic.Init

@[expose] public section

noncomputable section

namespace Cert.Proof

open Idealize.ShloMosaic Idealize.SL.Sem

/-- Under the precondition the kernel's ids are sorted. -/
theorem sorted_kernel (m : (ℓ : Loc Kernel.nD Kernel.τ Kernel.sig) → Buf (Elt Bits) ℓ) (h : Pre_Kernel m) (c : Dev Kernel.nD) :
    Kernel.Ptr.Sorted (Kernel.Region.ids m c) := by
  have e : Kernel.Region.ids m c = m ((c.tc : Thread Kernel.nD Kernel.τ).loc Kernel.main_arg6) :=
    Kernel.Region.V_arg m c Kernel.main_arg6 (by decide)
  rw [e]
  exact PreSorted.sorted _ (h c)

/-- Under the precondition the idealized kernel's ids are sorted. -/
theorem sorted_ideal (m : (ℓ : Loc KernelIdeal.nD KernelIdeal.τ KernelIdeal.sig) → Buf (Elt Ideal) ℓ) (h : Pre_KernelIdeal m) (c : Dev KernelIdeal.nD) :
    KernelIdeal.Ptr.Sorted (KernelIdeal.Region.ids m c) := by
  have e : KernelIdeal.Region.ids m c = m ((c.tc : Thread KernelIdeal.nD KernelIdeal.τ).loc KernelIdeal.main_arg6) :=
    KernelIdeal.Region.V_arg m c KernelIdeal.main_arg6 (by decide)
  rw [e]
  exact PreSorted.sorted _ (h c)

/-- The kernel runs, leaves its arguments and every semaphore as they were. -/
theorem quiescent_kernel : quiescent_Kernel := fun m g h =>
  (θ_run _ _ _).mono (fun _ hr => ⟨hr.1, hr.2.2⟩) (Kernel.Region.run_frame m (sorted_kernel m h) g)

/-- So does its idealization. -/
theorem quiescent_ideal : quiescent_KernelIdeal := fun m g h =>
  (θ_run _ _ _).mono (fun _ hr => ⟨hr.1, hr.2.2⟩) (KernelIdeal.Region.run_frame m (sorted_ideal m h) g)

theorem dW_congr {a0 b0 : (⟨3, ![3, 1024, 128256]⟩ : Shape).Idx → EReal} {a1 b1 : (⟨3, ![3, 1024, 167]⟩ : Shape).Idx → EReal}
    {a2 b2 : (⟨3, ![3, 1024, 1536]⟩ : Shape).Idx → EReal} {a3 b3 : (⟨2, ![3, 1024]⟩ : Shape).Idx → EReal}
    {a4 b4 : (⟨2, ![3072, 1536]⟩ : Shape).Idx → EReal} {a5 b5 : (⟨1, ![3072]⟩ : Shape).Idx → EReal} {a6 b6 : (⟨1, ![3072]⟩ : Shape).Idx → BitVec 32}
    (h0 : a0 = b0) (h1 : a1 = b1) (h2 : a2 = b2) (h3 : a3 = b3) (h4 : a4 = b4) (h5 : a5 = b5) (h6 : a6 = b6) :
    Spec.dW a0 a1 a2 a3 a4 a5 a6 = Spec.dW b0 b1 b2 b3 b4 b5 b6 := by
  rw [h0, h1, h2, h3, h4, h5, h6]

theorem dX_congr {a0 b0 : (⟨3, ![3, 1024, 128256]⟩ : Shape).Idx → EReal} {a1 b1 : (⟨3, ![3, 1024, 167]⟩ : Shape).Idx → EReal}
    {a7 b7 : (⟨2, ![128256, 1536]⟩ : Shape).Idx → EReal} {a8 b8 : (⟨1, ![128256]⟩ : Shape).Idx → EReal}
    (h0 : a0 = b0) (h1 : a1 = b1) (h7 : a7 = b7) (h8 : a8 = b8) :
    Spec.dX3 a0 a1 a7 a8 = Spec.dX3 b0 b1 b7 b8 := by
  rw [h0, h1, h7, h8]

/-- Under the precondition no id is negative. -/
theorem small (m : (ℓ : Loc KernelIdeal.nD KernelIdeal.τ KernelIdeal.sig) → Buf (Elt Ideal) ℓ) (h : Pre_KernelIdeal m) (c : Dev KernelIdeal.nD) (q : Fin 3072) :
    (KernelIdeal.Value.A6 m c (Idx.ix1 (n := 3072) q)).toNat < 2 ^ 31 :=
  (PreSorted.sorted _ (h c)).1 q

/-- Where arithmetic is exact the kernel and the reference leave the same two arrays. -/
theorem algebraic : algebraic_KernelIdeal_ReferenceIdeal := by
  intro m g m' g' h ha
  refine ⟨fun c => (fun b => Spec.dW (KernelIdeal.Value.A0 m c) (KernelIdeal.Value.A1 m c) (KernelIdeal.Value.A2 m c) (KernelIdeal.Value.A3 m c)
      (KernelIdeal.Value.A4 m c) (KernelIdeal.Value.A5 m c) (KernelIdeal.Value.A6 m c) (b 0) (b 1) : Vec Ideal KernelIdeal.S128256x1536 .f32),
    fun c => (Spec.dX3 (KernelIdeal.Value.A0 m c) (KernelIdeal.Value.A1 m c) (KernelIdeal.Value.A7 m c) (KernelIdeal.Value.A8 m c) : Vec Ideal KernelIdeal.S3x1024x1536 .f32), ?_, ?_⟩
  · refine (θ_run _ _ _).mono (fun r hr c => ?_) (KernelIdeal.Region.run_frame m (sorted_ideal m h) g)
    exact ⟨((hr.2.1 c).1).trans (KernelIdeal.Value.arr6 m c (sorted_ideal m h)), ((hr.2.1 c).2).trans (KernelIdeal.Value.res7 m c), hr.1 c⟩
  · refine (θ_run _ _ _).mono (fun r hr c => ?_) (ReferenceIdeal.Value.run m' g')
    obtain ⟨e0, e1, e2, e3, e4, e5, e6, e7, e8⟩ := ha c
    obtain ⟨r1, r2, rest⟩ := hr c
    refine ⟨?_, ?_, rest⟩
    · refine (r1.trans (ReferenceIdeal.Value.fin_main_v18 m' c).symm).trans ((ReferenceIdeal.Value.val1 m' c fun q => ?_).trans ?_)
      · exact (congrArg (fun x : (⟨1, ![3072]⟩ : Shape).Idx → BitVec 32 => (x (Idx.ix1 (n := 3072) q)).toNat) e6).trans_lt (small m h c q)
      · exact funext fun b => congrFun (congrFun (dW_congr e0 e1 e2 e3 e4 e5 e6) (b (0 : Fin 2))) (b (1 : Fin 2))
    · exact (r2.trans (ReferenceIdeal.Value.fin_main_v23 m' c).symm).trans ((ReferenceIdeal.Value.val2 m' c).trans (dX_congr e0 e1 e7 e8))

theorem claim : Cert.Claim :=
  ⟨Cert.Kernel.Gen.facts, Cert.KernelIdeal.Gen.facts, Cert.ReferenceIdeal.Gen.facts, Cert.Pre_ids_sorted.Gen.facts,
    quiescent_kernel, quiescent_ideal, fun m g _ => Cert.ReferenceIdeal.Gen.frame m g, fun m g _ => Cert.ReferenceIdeal.Gen.frame m g, trivial, algebraic⟩

end Cert.Proof

end
